-- ==== Defs.lean ====
def Pre_Kernel [hPre_distinct_slots : Cert.Pre_distinct_slots.Facts] (m : (ℓ : Loc Cert.Kernel.nD Cert.Kernel.τ Cert.Kernel.sig) → Buf (Elt Bits) ℓ) : Prop :=
  ∀ c : Dev Cert.Kernel.nD,
    (Cert.Pre_distinct_slots.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_distinct_slots : Cert.Pre_distinct_slots.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_slots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_slots [hPre_distinct_slots : Cert.Pre_distinct_slots.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_slots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_distinct_slots : Cert.Pre_distinct_slots.Facts] (m : (ℓ : Loc Cert.Reference.nD Cert.Reference.τ Cert.Reference.sig) → Buf (Elt Bits) ℓ) : Prop :=
  ∀ c : Dev Cert.Reference.nD,
    (Cert.Pre_distinct_slots.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Experts [hPre_expert_tables : Cert.Pre_expert_tables.Facts] (m : (ℓ : Loc Cert.Experts.nD Cert.Experts.τ Cert.Experts.sig) → Buf (Elt Bits) ℓ) : Prop :=
  ∀ c : Dev Cert.Experts.nD,
    (Cert.Pre_expert_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_expert_tables : Cert.Pre_expert_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsReferenceIdeal [hPre_expert_tables : Cert.Pre_expert_tables.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_expert_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_EvenProject (m : (ℓ : Loc Cert.EvenProject.nD Cert.EvenProject.τ Cert.EvenProject.sig) → Buf (Elt Bits) ℓ) : Prop :=
  True

def Pre_EvenProjectIdeal (m : (ℓ : Loc Cert.EvenProjectIdeal.nD Cert.EvenProjectIdeal.τ Cert.EvenProjectIdeal.sig) → Buf (Elt Ideal) ℓ) : Prop :=
  True

def Pre_EvenProjectReferenceIdeal (m : (ℓ : Loc Cert.EvenProjectReferenceIdeal.nD Cert.EvenProjectReferenceIdeal.τ Cert.EvenProjectReferenceIdeal.sig) → Buf (Elt Ideal) ℓ) : Prop :=
  True

def Pre_FirstProject (m : (ℓ : Loc Cert.FirstProject.nD Cert.FirstProject.τ Cert.FirstProject.sig) → Buf (Elt Bits) ℓ) : Prop :=
  True

def Pre_FirstProjectIdeal (m : (ℓ : Loc Cert.FirstProjectIdeal.nD Cert.FirstProjectIdeal.τ Cert.FirstProjectIdeal.sig) → Buf (Elt Ideal) ℓ) : Prop :=
  True

def Pre_FirstProjectReferenceIdeal (m : (ℓ : Loc Cert.FirstProjectReferenceIdeal.nD Cert.FirstProjectReferenceIdeal.τ Cert.FirstProjectReferenceIdeal.sig) → Buf (Elt Ideal) ℓ) : Prop :=
  True

def quiescent_Kernel [hKernel : Cert.Kernel.Facts] [hPre_distinct_slots : Cert.Pre_distinct_slots.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_distinct_slots : Cert.Pre_distinct_slots.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_distinct_slots [hReferenceIdeal : Cert.ReferenceIdeal.Facts] [hPre_distinct_slots : Cert.Pre_distinct_slots.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_slots m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_distinct_slots : Cert.Pre_distinct_slots.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Experts [hExperts : Cert.Experts.Facts] [hPre_expert_tables : Cert.Pre_expert_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsReferenceIdeal [hExpertsReferenceIdeal : Cert.ExpertsReferenceIdeal.Facts] [hPre_expert_tables : Cert.Pre_expert_tables.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6))
      ∧ r.2.sem = fun _ => 0)

def quiescent_EvenProject [hEvenProject : Cert.EvenProject.Facts] : Prop :=
  ∀ (m : (ℓ : Loc Cert.EvenProject.nD Cert.EvenProject.τ Cert.EvenProject.sig) → Buf (Elt Bits) ℓ) (g : Dev Cert.EvenProject.nD → PrngReg), Pre_EvenProject m →
    θ_run (Cert.EvenProject.defs (F := Bits)) (onTc (τ := Cert.EvenProject.τ) (Cert.EvenProject.main (F := Bits))) ⟨m, fun _ => 0, g⟩ (fun r => (∀ c : Dev Cert.EvenProject.nD,
      r.2.mem ((c.tc : Thread Cert.EvenProject.nD Cert.EvenProject.τ).loc Cert.EvenProject.main_arg0) = m ((c.tc : Thread Cert.EvenProject.nD Cert.EvenProject.τ).loc Cert.EvenProject.main_arg0)
      ∧ r.2.mem ((c.tc : Thread Cert.EvenProject.nD Cert.EvenProject.τ).loc Cert.EvenProject.main_arg1) = m ((c.tc : Thread Cert.EvenProject.nD Cert.EvenProject.τ).loc Cert.EvenProject.main_arg1)
      ∧ r.2.mem ((c.tc : Thread Cert.EvenProject.nD Cert.EvenProject.τ).loc Cert.EvenProject.main_arg2) = m ((c.tc : Thread Cert.EvenProject.nD Cert.EvenProject.τ).loc Cert.EvenProject.main_arg2)
      ∧ r.2.mem ((c.tc : Thread Cert.EvenProject.nD Cert.EvenProject.τ).loc Cert.EvenProject.main_arg3) = m ((c.tc : Thread Cert.EvenProject.nD Cert.EvenProject.τ).loc Cert.EvenProject.main_arg3)
      ∧ r.2.mem ((c.tc : Thread Cert.EvenProject.nD Cert.EvenProject.τ).loc Cert.EvenProject.main_arg4) = m ((c.tc : Thread Cert.EvenProject.nD Cert.EvenProject.τ).loc Cert.EvenProject.main_arg4)
      ∧ r.2.mem ((c.tc : Thread Cert.EvenProject.nD Cert.EvenProject.τ).loc Cert.EvenProject.main_arg5) = m ((c.tc : Thread Cert.EvenProject.nD Cert.EvenProject.τ).loc Cert.EvenProject.main_arg5)
      ∧ r.2.mem ((c.tc : Thread Cert.EvenProject.nD Cert.EvenProject.τ).loc Cert.EvenProject.main_arg6) = m ((c.tc : Thread Cert.EvenProject.nD Cert.EvenProject.τ).loc Cert.EvenProject.main_arg6))
      ∧ r.2.sem = fun _ => 0)

def quiescent_EvenProjectIdeal [hEvenProjectIdeal : Cert.EvenProjectIdeal.Facts] : Prop :=
  ∀ (m : (ℓ : Loc Cert.EvenProjectIdeal.nD Cert.EvenProjectIdeal.τ Cert.EvenProjectIdeal.sig) → Buf (Elt Ideal) ℓ) (g : Dev Cert.EvenProjectIdeal.nD → PrngReg), Pre_EvenProjectIdeal m →
    θ_run (Cert.EvenProjectIdeal.defs (F := Ideal)) (onTc (τ := Cert.EvenProjectIdeal.τ) (Cert.EvenProjectIdeal.main (F := Ideal))) ⟨m, fun _ => 0, g⟩ (fun r => (∀ c : Dev Cert.EvenProjectIdeal.nD,
      r.2.mem ((c.tc : Thread Cert.EvenProjectIdeal.nD Cert.EvenProjectIdeal.τ).loc Cert.EvenProjectIdeal.main_arg0) = m ((c.tc : Thread Cert.EvenProjectIdeal.nD Cert.EvenProjectIdeal.τ).loc Cert.EvenProjectIdeal.main_arg0)
      ∧ r.2.mem ((c.tc : Thread Cert.EvenProjectIdeal.nD Cert.EvenProjectIdeal.τ).loc Cert.EvenProjectIdeal.main_arg1) = m ((c.tc : Thread Cert.EvenProjectIdeal.nD Cert.EvenProjectIdeal.τ).loc Cert.EvenProjectIdeal.main_arg1)
      ∧ r.2.mem ((c.tc : Thread Cert.EvenProjectIdeal.nD Cert.EvenProjectIdeal.τ).loc Cert.EvenProjectIdeal.main_arg2) = m ((c.tc : Thread Cert.EvenProjectIdeal.nD Cert.EvenProjectIdeal.τ).loc Cert.EvenProjectIdeal.main_arg2)
      ∧ r.2.mem ((c.tc : Thread Cert.EvenProjectIdeal.nD Cert.EvenProjectIdeal.τ).loc Cert.EvenProjectIdeal.main_arg3) = m ((c.tc : Thread Cert.EvenProjectIdeal.nD Cert.EvenProjectIdeal.τ).loc Cert.EvenProjectIdeal.main_arg3)
      ∧ r.2.mem ((c.tc : Thread Cert.EvenProjectIdeal.nD Cert.EvenProjectIdeal.τ).loc Cert.EvenProjectIdeal.main_arg4) = m ((c.tc : Thread Cert.EvenProjectIdeal.nD Cert.EvenProjectIdeal.τ).loc Cert.EvenProjectIdeal.main_arg4)
      ∧ r.2.mem ((c.tc : Thread Cert.EvenProjectIdeal.nD Cert.EvenProjectIdeal.τ).loc Cert.EvenProjectIdeal.main_arg5) = m ((c.tc : Thread Cert.EvenProjectIdeal.nD Cert.EvenProjectIdeal.τ).loc Cert.EvenProjectIdeal.main_arg5)
      ∧ r.2.mem ((c.tc : Thread Cert.EvenProjectIdeal.nD Cert.EvenProjectIdeal.τ).loc Cert.EvenProjectIdeal.main_arg6) = m ((c.tc : Thread Cert.EvenProjectIdeal.nD Cert.EvenProjectIdeal.τ).loc Cert.EvenProjectIdeal.main_arg6))
      ∧ r.2.sem = fun _ => 0)

def quiescent_EvenProjectReferenceIdeal [hEvenProjectReferenceIdeal : Cert.EvenProjectReferenceIdeal.Facts] : Prop :=
  ∀ (m : (ℓ : Loc Cert.EvenProjectReferenceIdeal.nD Cert.EvenProjectReferenceIdeal.τ Cert.EvenProjectReferenceIdeal.sig) → Buf (Elt Ideal) ℓ) (g : Dev Cert.EvenProjectReferenceIdeal.nD → PrngReg), Pre_EvenProjectReferenceIdeal m →
    θ_run (Cert.EvenProjectReferenceIdeal.defs (F := Ideal)) (onTc (τ := Cert.EvenProjectReferenceIdeal.τ) (Cert.EvenProjectReferenceIdeal.main (F := Ideal))) ⟨m, fun _ => 0, g⟩ (fun r => (∀ c : Dev Cert.EvenProjectReferenceIdeal.nD,
      r.2.mem ((c.tc : Thread Cert.EvenProjectReferenceIdeal.nD Cert.EvenProjectReferenceIdeal.τ).loc Cert.EvenProjectReferenceIdeal.main_arg0) = m ((c.tc : Thread Cert.EvenProjectReferenceIdeal.nD Cert.EvenProjectReferenceIdeal.τ).loc Cert.EvenProjectReferenceIdeal.main_arg0)
      ∧ r.2.mem ((c.tc : Thread Cert.EvenProjectReferenceIdeal.nD Cert.EvenProjectReferenceIdeal.τ).loc Cert.EvenProjectReferenceIdeal.main_arg1) = m ((c.tc : Thread Cert.EvenProjectReferenceIdeal.nD Cert.EvenProjectReferenceIdeal.τ).loc Cert.EvenProjectReferenceIdeal.main_arg1)
      ∧ r.2.mem ((c.tc : Thread Cert.EvenProjectReferenceIdeal.nD Cert.EvenProjectReferenceIdeal.τ).loc Cert.EvenProjectReferenceIdeal.main_arg2) = m ((c.tc : Thread Cert.EvenProjectReferenceIdeal.nD Cert.EvenProjectReferenceIdeal.τ).loc Cert.EvenProjectReferenceIdeal.main_arg2)
      ∧ r.2.mem ((c.tc : Thread Cert.EvenProjectReferenceIdeal.nD Cert.EvenProjectReferenceIdeal.τ).loc Cert.EvenProjectReferenceIdeal.main_arg3) = m ((c.tc : Thread Cert.EvenProjectReferenceIdeal.nD Cert.EvenProjectReferenceIdeal.τ).loc Cert.EvenProjectReferenceIdeal.main_arg3)
      ∧ r.2.mem ((c.tc : Thread Cert.EvenProjectReferenceIdeal.nD Cert.EvenProjectReferenceIdeal.τ).loc Cert.EvenProjectReferenceIdeal.main_arg4) = m ((c.tc : Thread Cert.EvenProjectReferenceIdeal.nD Cert.EvenProjectReferenceIdeal.τ).loc Cert.EvenProjectReferenceIdeal.main_arg4)
      ∧ r.2.mem ((c.tc : Thread Cert.EvenProjectReferenceIdeal.nD Cert.EvenProjectReferenceIdeal.τ).loc Cert.EvenProjectReferenceIdeal.main_arg5) = m ((c.tc : Thread Cert.EvenProjectReferenceIdeal.nD Cert.EvenProjectReferenceIdeal.τ).loc Cert.EvenProjectReferenceIdeal.main_arg5)
      ∧ r.2.mem ((c.tc : Thread Cert.EvenProjectReferenceIdeal.nD Cert.EvenProjectReferenceIdeal.τ).loc Cert.EvenProjectReferenceIdeal.main_arg6) = m ((c.tc : Thread Cert.EvenProjectReferenceIdeal.nD Cert.EvenProjectReferenceIdeal.τ).loc Cert.EvenProjectReferenceIdeal.main_arg6))
      ∧ r.2.sem = fun _ => 0)

def quiescent_FirstProject [hFirstProject : Cert.FirstProject.Facts] : Prop :=
  ∀ (m : (ℓ : Loc Cert.FirstProject.nD Cert.FirstProject.τ Cert.FirstProject.sig) → Buf (Elt Bits) ℓ) (g : Dev Cert.FirstProject.nD → PrngReg), Pre_FirstProject m →
    θ_run (Cert.FirstProject.defs (F := Bits)) (onTc (τ := Cert.FirstProject.τ) (Cert.FirstProject.main (F := Bits))) ⟨m, fun _ => 0, g⟩ (fun r => (∀ c : Dev Cert.FirstProject.nD,
      r.2.mem ((c.tc : Thread Cert.FirstProject.nD Cert.FirstProject.τ).loc Cert.FirstProject.main_arg0) = m ((c.tc : Thread Cert.FirstProject.nD Cert.FirstProject.τ).loc Cert.FirstProject.main_arg0)
      ∧ r.2.mem ((c.tc : Thread Cert.FirstProject.nD Cert.FirstProject.τ).loc Cert.FirstProject.main_arg1) = m ((c.tc : Thread Cert.FirstProject.nD Cert.FirstProject.τ).loc Cert.FirstProject.main_arg1)
      ∧ r.2.mem ((c.tc : Thread Cert.FirstProject.nD Cert.FirstProject.τ).loc Cert.FirstProject.main_arg2) = m ((c.tc : Thread Cert.FirstProject.nD Cert.FirstProject.τ).loc Cert.FirstProject.main_arg2)
      ∧ r.2.mem ((c.tc : Thread Cert.FirstProject.nD Cert.FirstProject.τ).loc Cert.FirstProject.main_arg3) = m ((c.tc : Thread Cert.FirstProject.nD Cert.FirstProject.τ).loc Cert.FirstProject.main_arg3))
      ∧ r.2.sem = fun _ => 0)

def quiescent_FirstProjectIdeal [hFirstProjectIdeal : Cert.FirstProjectIdeal.Facts] : Prop :=
  ∀ (m : (ℓ : Loc Cert.FirstProjectIdeal.nD Cert.FirstProjectIdeal.τ Cert.FirstProjectIdeal.sig) → Buf (Elt Ideal) ℓ) (g : Dev Cert.FirstProjectIdeal.nD → PrngReg), Pre_FirstProjectIdeal m →
    θ_run (Cert.FirstProjectIdeal.defs (F := Ideal)) (onTc (τ := Cert.FirstProjectIdeal.τ) (Cert.FirstProjectIdeal.main (F := Ideal))) ⟨m, fun _ => 0, g⟩ (fun r => (∀ c : Dev Cert.FirstProjectIdeal.nD,
      r.2.mem ((c.tc : Thread Cert.FirstProjectIdeal.nD Cert.FirstProjectIdeal.τ).loc Cert.FirstProjectIdeal.main_arg0) = m ((c.tc : Thread Cert.FirstProjectIdeal.nD Cert.FirstProjectIdeal.τ).loc Cert.FirstProjectIdeal.main_arg0)
      ∧ r.2.mem ((c.tc : Thread Cert.FirstProjectIdeal.nD Cert.FirstProjectIdeal.τ).loc Cert.FirstProjectIdeal.main_arg1) = m ((c.tc : Thread Cert.FirstProjectIdeal.nD Cert.FirstProjectIdeal.τ).loc Cert.FirstProjectIdeal.main_arg1)
      ∧ r.2.mem ((c.tc : Thread Cert.FirstProjectIdeal.nD Cert.FirstProjectIdeal.τ).loc Cert.FirstProjectIdeal.main_arg2) = m ((c.tc : Thread Cert.FirstProjectIdeal.nD Cert.FirstProjectIdeal.τ).loc Cert.FirstProjectIdeal.main_arg2)
      ∧ r.2.mem ((c.tc : Thread Cert.FirstProjectIdeal.nD Cert.FirstProjectIdeal.τ).loc Cert.FirstProjectIdeal.main_arg3) = m ((c.tc : Thread Cert.FirstProjectIdeal.nD Cert.FirstProjectIdeal.τ).loc Cert.FirstProjectIdeal.main_arg3))
      ∧ r.2.sem = fun _ => 0)

def quiescent_FirstProjectReferenceIdeal [hFirstProjectReferenceIdeal : Cert.FirstProjectReferenceIdeal.Facts] : Prop :=
  ∀ (m : (ℓ : Loc Cert.FirstProjectReferenceIdeal.nD Cert.FirstProjectReferenceIdeal.τ Cert.FirstProjectReferenceIdeal.sig) → Buf (Elt Ideal) ℓ) (g : Dev Cert.FirstProjectReferenceIdeal.nD → PrngReg), Pre_FirstProjectReferenceIdeal m →
    θ_run (Cert.FirstProjectReferenceIdeal.defs (F := Ideal)) (onTc (τ := Cert.FirstProjectReferenceIdeal.τ) (Cert.FirstProjectReferenceIdeal.main (F := Ideal))) ⟨m, fun _ => 0, g⟩ (fun r => (∀ c : Dev Cert.FirstProjectReferenceIdeal.nD,
      r.2.mem ((c.tc : Thread Cert.FirstProjectReferenceIdeal.nD Cert.FirstProjectReferenceIdeal.τ).loc Cert.FirstProjectReferenceIdeal.main_arg0) = m ((c.tc : Thread Cert.FirstProjectReferenceIdeal.nD Cert.FirstProjectReferenceIdeal.τ).loc Cert.FirstProjectReferenceIdeal.main_arg0)
      ∧ r.2.mem ((c.tc : Thread Cert.FirstProjectReferenceIdeal.nD Cert.FirstProjectReferenceIdeal.τ).loc Cert.FirstProjectReferenceIdeal.main_arg1) = m ((c.tc : Thread Cert.FirstProjectReferenceIdeal.nD Cert.FirstProjectReferenceIdeal.τ).loc Cert.FirstProjectReferenceIdeal.main_arg1)
      ∧ r.2.mem ((c.tc : Thread Cert.FirstProjectReferenceIdeal.nD Cert.FirstProjectReferenceIdeal.τ).loc Cert.FirstProjectReferenceIdeal.main_arg2) = m ((c.tc : Thread Cert.FirstProjectReferenceIdeal.nD Cert.FirstProjectReferenceIdeal.τ).loc Cert.FirstProjectReferenceIdeal.main_arg2)
      ∧ r.2.mem ((c.tc : Thread Cert.FirstProjectReferenceIdeal.nD Cert.FirstProjectReferenceIdeal.τ).loc Cert.FirstProjectReferenceIdeal.main_arg3) = m ((c.tc : Thread Cert.FirstProjectReferenceIdeal.nD Cert.FirstProjectReferenceIdeal.τ).loc Cert.FirstProjectReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_distinct_slots : Cert.Pre_distinct_slots.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_distinct_slots : Cert.Pre_distinct_slots.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v8)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v8) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v63) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v35) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v2_0)) (v1 : (c : Dev Cert.ProjectIdeal.nD) → Buf (Elt Ideal) ((c.tc : Thread Cert.ProjectIdeal.nD Cert.ProjectIdeal.τ).loc Cert.ProjectIdeal.main_v2_1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v2_0) = v0 c
          ∧ r.2.mem ((c.tc : Thread Cert.ProjectIdeal.nD Cert.ProjectIdeal.τ).loc Cert.ProjectIdeal.main_v2_1) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v22) = v0 c
          ∧ r.2.mem ((c.tc : Thread Cert.ProjectReferenceIdeal.nD Cert.ProjectReferenceIdeal.τ).loc Cert.ProjectReferenceIdeal.main_v49) = v1 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6))

def preserves_EvenProject_EvenProjectIdeal : Prop :=
  True

def algebraic_EvenProjectIdeal_EvenProjectReferenceIdeal [hEvenProjectIdeal : Cert.EvenProjectIdeal.Facts] [hEvenProjectReferenceIdeal : Cert.EvenProjectReferenceIdeal.Facts] : Prop :=
  ∀ (m : (ℓ : Loc Cert.EvenProjectIdeal.nD Cert.EvenProjectIdeal.τ Cert.EvenProjectIdeal.sig) → Buf (Elt Ideal) ℓ) (g : Dev Cert.EvenProjectIdeal.nD → PrngReg)
    (m' : (ℓ : Loc Cert.EvenProjectReferenceIdeal.nD Cert.EvenProjectReferenceIdeal.τ Cert.EvenProjectReferenceIdeal.sig) → Buf (Elt Ideal) ℓ) (g' : Dev Cert.EvenProjectReferenceIdeal.nD → PrngReg), Pre_EvenProjectIdeal m →
    (∀ c : Dev Cert.EvenProjectIdeal.nD,
      m' ((c.tc : Thread Cert.EvenProjectReferenceIdeal.nD Cert.EvenProjectReferenceIdeal.τ).loc Cert.EvenProjectReferenceIdeal.main_arg0) = m ((c.tc : Thread Cert.EvenProjectIdeal.nD Cert.EvenProjectIdeal.τ).loc Cert.EvenProjectIdeal.main_arg0)
      ∧ m' ((c.tc : Thread Cert.EvenProjectReferenceIdeal.nD Cert.EvenProjectReferenceIdeal.τ).loc Cert.EvenProjectReferenceIdeal.main_arg1) = m ((c.tc : Thread Cert.EvenProjectIdeal.nD Cert.EvenProjectIdeal.τ).loc Cert.EvenProjectIdeal.main_arg1)
      ∧ m' ((c.tc : Thread Cert.EvenProjectReferenceIdeal.nD Cert.EvenProjectReferenceIdeal.τ).loc Cert.EvenProjectReferenceIdeal.main_arg2) = m ((c.tc : Thread Cert.EvenProjectIdeal.nD Cert.EvenProjectIdeal.τ).loc Cert.EvenProjectIdeal.main_arg2)
      ∧ m' ((c.tc : Thread Cert.EvenProjectReferenceIdeal.nD Cert.EvenProjectReferenceIdeal.τ).loc Cert.EvenProjectReferenceIdeal.main_arg3) = m ((c.tc : Thread Cert.EvenProjectIdeal.nD Cert.EvenProjectIdeal.τ).loc Cert.EvenProjectIdeal.main_arg3)
      ∧ m' ((c.tc : Thread Cert.EvenProjectReferenceIdeal.nD Cert.EvenProjectReferenceIdeal.τ).loc Cert.EvenProjectReferenceIdeal.main_arg4) = m ((c.tc : Thread Cert.EvenProjectIdeal.nD Cert.EvenProjectIdeal.τ).loc Cert.EvenProjectIdeal.main_arg4)
      ∧ m' ((c.tc : Thread Cert.EvenProjectReferenceIdeal.nD Cert.EvenProjectReferenceIdeal.τ).loc Cert.EvenProjectReferenceIdeal.main_arg5) = m ((c.tc : Thread Cert.EvenProjectIdeal.nD Cert.EvenProjectIdeal.τ).loc Cert.EvenProjectIdeal.main_arg5)
      ∧ m' ((c.tc : Thread Cert.EvenProjectReferenceIdeal.nD Cert.EvenProjectReferenceIdeal.τ).loc Cert.EvenProjectReferenceIdeal.main_arg6) = m ((c.tc : Thread Cert.EvenProjectIdeal.nD Cert.EvenProjectIdeal.τ).loc Cert.EvenProjectIdeal.main_arg6)) →
    ∃ (v0 : (c : Dev Cert.EvenProjectIdeal.nD) → Buf (Elt Ideal) ((c.tc : Thread Cert.EvenProjectIdeal.nD Cert.EvenProjectIdeal.τ).loc Cert.EvenProjectIdeal.main_v8_0)) (v1 : (c : Dev Cert.EvenProjectIdeal.nD) → Buf (Elt Ideal) ((c.tc : Thread Cert.EvenProjectIdeal.nD Cert.EvenProjectIdeal.τ).loc Cert.EvenProjectIdeal.main_v8_1)) (v2 : (c : Dev Cert.EvenProjectIdeal.nD) → Buf (Elt Ideal) ((c.tc : Thread Cert.EvenProjectIdeal.nD Cert.EvenProjectIdeal.τ).loc Cert.EvenProjectIdeal.main_v8_2)),
      θ_run (Cert.EvenProjectIdeal.defs (F := Ideal)) (onTc (τ := Cert.EvenProjectIdeal.τ) (Cert.EvenProjectIdeal.main (F := Ideal))) ⟨m, fun _ => 0, g⟩ (fun r => ∀ c : Dev Cert.EvenProjectIdeal.nD,
          r.2.mem ((c.tc : Thread Cert.EvenProjectIdeal.nD Cert.EvenProjectIdeal.τ).loc Cert.EvenProjectIdeal.main_v8_0) = v0 c
          ∧ r.2.mem ((c.tc : Thread Cert.EvenProjectIdeal.nD Cert.EvenProjectIdeal.τ).loc Cert.EvenProjectIdeal.main_v8_1) = v1 c
          ∧ r.2.mem ((c.tc : Thread Cert.EvenProjectIdeal.nD Cert.EvenProjectIdeal.τ).loc Cert.EvenProjectIdeal.main_v8_2) = v2 c
          ∧ r.2.mem ((c.tc : Thread Cert.EvenProjectIdeal.nD Cert.EvenProjectIdeal.τ).loc Cert.EvenProjectIdeal.main_arg0) = m ((c.tc : Thread Cert.EvenProjectIdeal.nD Cert.EvenProjectIdeal.τ).loc Cert.EvenProjectIdeal.main_arg0)
          ∧ r.2.mem ((c.tc : Thread Cert.EvenProjectIdeal.nD Cert.EvenProjectIdeal.τ).loc Cert.EvenProjectIdeal.main_arg1) = m ((c.tc : Thread Cert.EvenProjectIdeal.nD Cert.EvenProjectIdeal.τ).loc Cert.EvenProjectIdeal.main_arg1)
          ∧ r.2.mem ((c.tc : Thread Cert.EvenProjectIdeal.nD Cert.EvenProjectIdeal.τ).loc Cert.EvenProjectIdeal.main_arg2) = m ((c.tc : Thread Cert.EvenProjectIdeal.nD Cert.EvenProjectIdeal.τ).loc Cert.EvenProjectIdeal.main_arg2)
          ∧ r.2.mem ((c.tc : Thread Cert.EvenProjectIdeal.nD Cert.EvenProjectIdeal.τ).loc Cert.EvenProjectIdeal.main_arg3) = m ((c.tc : Thread Cert.EvenProjectIdeal.nD Cert.EvenProjectIdeal.τ).loc Cert.EvenProjectIdeal.main_arg3)
          ∧ r.2.mem ((c.tc : Thread Cert.EvenProjectIdeal.nD Cert.EvenProjectIdeal.τ).loc Cert.EvenProjectIdeal.main_arg4) = m ((c.tc : Thread Cert.EvenProjectIdeal.nD Cert.EvenProjectIdeal.τ).loc Cert.EvenProjectIdeal.main_arg4)
          ∧ r.2.mem ((c.tc : Thread Cert.EvenProjectIdeal.nD Cert.EvenProjectIdeal.τ).loc Cert.EvenProjectIdeal.main_arg5) = m ((c.tc : Thread Cert.EvenProjectIdeal.nD Cert.EvenProjectIdeal.τ).loc Cert.EvenProjectIdeal.main_arg5)
          ∧ r.2.mem ((c.tc : Thread Cert.EvenProjectIdeal.nD Cert.EvenProjectIdeal.τ).loc Cert.EvenProjectIdeal.main_arg6) = m ((c.tc : Thread Cert.EvenProjectIdeal.nD Cert.EvenProjectIdeal.τ).loc Cert.EvenProjectIdeal.main_arg6))
      ∧ θ_run (Cert.EvenProjectReferenceIdeal.defs (F := Ideal)) (onTc (τ := Cert.EvenProjectReferenceIdeal.τ) (Cert.EvenProjectReferenceIdeal.main (F := Ideal))) ⟨m', fun _ => 0, g'⟩ (fun r => ∀ c : Dev Cert.EvenProjectReferenceIdeal.nD,
          r.2.mem ((c.tc : Thread Cert.EvenProjectReferenceIdeal.nD Cert.EvenProjectReferenceIdeal.τ).loc Cert.EvenProjectReferenceIdeal.main_v22) = v0 c
          ∧ r.2.mem ((c.tc : Thread Cert.EvenProjectReferenceIdeal.nD Cert.EvenProjectReferenceIdeal.τ).loc Cert.EvenProjectReferenceIdeal.main_v50) = v1 c
          ∧ r.2.mem ((c.tc : Thread Cert.EvenProjectReferenceIdeal.nD Cert.EvenProjectReferenceIdeal.τ).loc Cert.EvenProjectReferenceIdeal.main_v52) = v2 c
          ∧ r.2.mem ((c.tc : Thread Cert.EvenProjectReferenceIdeal.nD Cert.EvenProjectReferenceIdeal.τ).loc Cert.EvenProjectReferenceIdeal.main_arg0) = m' ((c.tc : Thread Cert.EvenProjectReferenceIdeal.nD Cert.EvenProjectReferenceIdeal.τ).loc Cert.EvenProjectReferenceIdeal.main_arg0)
          ∧ r.2.mem ((c.tc : Thread Cert.EvenProjectReferenceIdeal.nD Cert.EvenProjectReferenceIdeal.τ).loc Cert.EvenProjectReferenceIdeal.main_arg1) = m' ((c.tc : Thread Cert.EvenProjectReferenceIdeal.nD Cert.EvenProjectReferenceIdeal.τ).loc Cert.EvenProjectReferenceIdeal.main_arg1)
          ∧ r.2.mem ((c.tc : Thread Cert.EvenProjectReferenceIdeal.nD Cert.EvenProjectReferenceIdeal.τ).loc Cert.EvenProjectReferenceIdeal.main_arg2) = m' ((c.tc : Thread Cert.EvenProjectReferenceIdeal.nD Cert.EvenProjectReferenceIdeal.τ).loc Cert.EvenProjectReferenceIdeal.main_arg2)
          ∧ r.2.mem ((c.tc : Thread Cert.EvenProjectReferenceIdeal.nD Cert.EvenProjectReferenceIdeal.τ).loc Cert.EvenProjectReferenceIdeal.main_arg3) = m' ((c.tc : Thread Cert.EvenProjectReferenceIdeal.nD Cert.EvenProjectReferenceIdeal.τ).loc Cert.EvenProjectReferenceIdeal.main_arg3)
          ∧ r.2.mem ((c.tc : Thread Cert.EvenProjectReferenceIdeal.nD Cert.EvenProjectReferenceIdeal.τ).loc Cert.EvenProjectReferenceIdeal.main_arg4) = m' ((c.tc : Thread Cert.EvenProjectReferenceIdeal.nD Cert.EvenProjectReferenceIdeal.τ).loc Cert.EvenProjectReferenceIdeal.main_arg4)
          ∧ r.2.mem ((c.tc : Thread Cert.EvenProjectReferenceIdeal.nD Cert.EvenProjectReferenceIdeal.τ).loc Cert.EvenProjectReferenceIdeal.main_arg5) = m' ((c.tc : Thread Cert.EvenProjectReferenceIdeal.nD Cert.EvenProjectReferenceIdeal.τ).loc Cert.EvenProjectReferenceIdeal.main_arg5)
          ∧ r.2.mem ((c.tc : Thread Cert.EvenProjectReferenceIdeal.nD Cert.EvenProjectReferenceIdeal.τ).loc Cert.EvenProjectReferenceIdeal.main_arg6) = m' ((c.tc : Thread Cert.EvenProjectReferenceIdeal.nD Cert.EvenProjectReferenceIdeal.τ).loc Cert.EvenProjectReferenceIdeal.main_arg6))

def preserves_FirstProject_FirstProjectIdeal : Prop :=
  True

def algebraic_FirstProjectIdeal_FirstProjectReferenceIdeal [hFirstProjectIdeal : Cert.FirstProjectIdeal.Facts] [hFirstProjectReferenceIdeal : Cert.FirstProjectReferenceIdeal.Facts] : Prop :=
  ∀ (m : (ℓ : Loc Cert.FirstProjectIdeal.nD Cert.FirstProjectIdeal.τ Cert.FirstProjectIdeal.sig) → Buf (Elt Ideal) ℓ) (g : Dev Cert.FirstProjectIdeal.nD → PrngReg)
    (m' : (ℓ : Loc Cert.FirstProjectReferenceIdeal.nD Cert.FirstProjectReferenceIdeal.τ Cert.FirstProjectReferenceIdeal.sig) → Buf (Elt Ideal) ℓ) (g' : Dev Cert.FirstProjectReferenceIdeal.nD → PrngReg), Pre_FirstProjectIdeal m →
    (∀ c : Dev Cert.FirstProjectIdeal.nD,
      m' ((c.tc : Thread Cert.FirstProjectReferenceIdeal.nD Cert.FirstProjectReferenceIdeal.τ).loc Cert.FirstProjectReferenceIdeal.main_arg0) = m ((c.tc : Thread Cert.FirstProjectIdeal.nD Cert.FirstProjectIdeal.τ).loc Cert.FirstProjectIdeal.main_arg0)
      ∧ m' ((c.tc : Thread Cert.FirstProjectReferenceIdeal.nD Cert.FirstProjectReferenceIdeal.τ).loc Cert.FirstProjectReferenceIdeal.main_arg1) = m ((c.tc : Thread Cert.FirstProjectIdeal.nD Cert.FirstProjectIdeal.τ).loc Cert.FirstProjectIdeal.main_arg1)
      ∧ m' ((c.tc : Thread Cert.FirstProjectReferenceIdeal.nD Cert.FirstProjectReferenceIdeal.τ).loc Cert.FirstProjectReferenceIdeal.main_arg2) = m ((c.tc : Thread Cert.FirstProjectIdeal.nD Cert.FirstProjectIdeal.τ).loc Cert.FirstProjectIdeal.main_arg2)
      ∧ m' ((c.tc : Thread Cert.FirstProjectReferenceIdeal.nD Cert.FirstProjectReferenceIdeal.τ).loc Cert.FirstProjectReferenceIdeal.main_arg3) = m ((c.tc : Thread Cert.FirstProjectIdeal.nD Cert.FirstProjectIdeal.τ).loc Cert.FirstProjectIdeal.main_arg3)) →
    ∃ (v0 : (c : Dev Cert.FirstProjectIdeal.nD) → Buf (Elt Ideal) ((c.tc : Thread Cert.FirstProjectIdeal.nD Cert.FirstProjectIdeal.τ).loc Cert.FirstProjectIdeal.main_v8_0)) (v1 : (c : Dev Cert.FirstProjectIdeal.nD) → Buf (Elt Ideal) ((c.tc : Thread Cert.FirstProjectIdeal.nD Cert.FirstProjectIdeal.τ).loc Cert.FirstProjectIdeal.main_v8_1)),
      θ_run (Cert.FirstProjectIdeal.defs (F := Ideal)) (onTc (τ := Cert.FirstProjectIdeal.τ) (Cert.FirstProjectIdeal.main (F := Ideal))) ⟨m, fun _ => 0, g⟩ (fun r => ∀ c : Dev Cert.FirstProjectIdeal.nD,
          r.2.mem ((c.tc : Thread Cert.FirstProjectIdeal.nD Cert.FirstProjectIdeal.τ).loc Cert.FirstProjectIdeal.main_v8_0) = v0 c
          ∧ r.2.mem ((c.tc : Thread Cert.FirstProjectIdeal.nD Cert.FirstProjectIdeal.τ).loc Cert.FirstProjectIdeal.main_v8_1) = v1 c
          ∧ r.2.mem ((c.tc : Thread Cert.FirstProjectIdeal.nD Cert.FirstProjectIdeal.τ).loc Cert.FirstProjectIdeal.main_arg0) = m ((c.tc : Thread Cert.FirstProjectIdeal.nD Cert.FirstProjectIdeal.τ).loc Cert.FirstProjectIdeal.main_arg0)
          ∧ r.2.mem ((c.tc : Thread Cert.FirstProjectIdeal.nD Cert.FirstProjectIdeal.τ).loc Cert.FirstProjectIdeal.main_arg1) = m ((c.tc : Thread Cert.FirstProjectIdeal.nD Cert.FirstProjectIdeal.τ).loc Cert.FirstProjectIdeal.main_arg1)
          ∧ r.2.mem ((c.tc : Thread Cert.FirstProjectIdeal.nD Cert.FirstProjectIdeal.τ).loc Cert.FirstProjectIdeal.main_arg2) = m ((c.tc : Thread Cert.FirstProjectIdeal.nD Cert.FirstProjectIdeal.τ).loc Cert.FirstProjectIdeal.main_arg2)
          ∧ r.2.mem ((c.tc : Thread Cert.FirstProjectIdeal.nD Cert.FirstProjectIdeal.τ).loc Cert.FirstProjectIdeal.main_arg3) = m ((c.tc : Thread Cert.FirstProjectIdeal.nD Cert.FirstProjectIdeal.τ).loc Cert.FirstProjectIdeal.main_arg3))
      ∧ θ_run (Cert.FirstProjectReferenceIdeal.defs (F := Ideal)) (onTc (τ := Cert.FirstProjectReferenceIdeal.τ) (Cert.FirstProjectReferenceIdeal.main (F := Ideal))) ⟨m', fun _ => 0, g'⟩ (fun r => ∀ c : Dev Cert.FirstProjectReferenceIdeal.nD,
          r.2.mem ((c.tc : Thread Cert.FirstProjectReferenceIdeal.nD Cert.FirstProjectReferenceIdeal.τ).loc Cert.FirstProjectReferenceIdeal.main_v27) = v0 c
          ∧ r.2.mem ((c.tc : Thread Cert.FirstProjectReferenceIdeal.nD Cert.FirstProjectReferenceIdeal.τ).loc Cert.FirstProjectReferenceIdeal.main_v29) = v1 c
          ∧ r.2.mem ((c.tc : Thread Cert.FirstProjectReferenceIdeal.nD Cert.FirstProjectReferenceIdeal.τ).loc Cert.FirstProjectReferenceIdeal.main_arg0) = m' ((c.tc : Thread Cert.FirstProjectReferenceIdeal.nD Cert.FirstProjectReferenceIdeal.τ).loc Cert.FirstProjectReferenceIdeal.main_arg0)
          ∧ r.2.mem ((c.tc : Thread Cert.FirstProjectReferenceIdeal.nD Cert.FirstProjectReferenceIdeal.τ).loc Cert.FirstProjectReferenceIdeal.main_arg1) = m' ((c.tc : Thread Cert.FirstProjectReferenceIdeal.nD Cert.FirstProjectReferenceIdeal.τ).loc Cert.FirstProjectReferenceIdeal.main_arg1)
          ∧ r.2.mem ((c.tc : Thread Cert.FirstProjectReferenceIdeal.nD Cert.FirstProjectReferenceIdeal.τ).loc Cert.FirstProjectReferenceIdeal.main_arg2) = m' ((c.tc : Thread Cert.FirstProjectReferenceIdeal.nD Cert.FirstProjectReferenceIdeal.τ).loc Cert.FirstProjectReferenceIdeal.main_arg2)
          ∧ r.2.mem ((c.tc : Thread Cert.FirstProjectReferenceIdeal.nD Cert.FirstProjectReferenceIdeal.τ).loc Cert.FirstProjectReferenceIdeal.main_arg3) = m' ((c.tc : Thread Cert.FirstProjectReferenceIdeal.nD Cert.FirstProjectReferenceIdeal.τ).loc Cert.FirstProjectReferenceIdeal.main_arg3))

def Claim : Prop :=
  ∃ (hKernel : Cert.Kernel.Facts) (hKernelIdeal : Cert.KernelIdeal.Facts) (hReferenceIdeal : Cert.ReferenceIdeal.Facts) (hReference : Cert.Reference.Facts) (hExperts : Cert.Experts.Facts) (hExpertsIdeal : Cert.ExpertsIdeal.Facts) (hExpertsReferenceIdeal : Cert.ExpertsReferenceIdeal.Facts) (hFinal : Cert.Final.Facts) (hFinalIdeal : Cert.FinalIdeal.Facts) (hFinalReferenceIdeal : Cert.FinalReferenceIdeal.Facts) (hProject : Cert.Project.Facts) (hProjectIdeal : Cert.ProjectIdeal.Facts) (hProjectReferenceIdeal : Cert.ProjectReferenceIdeal.Facts) (hEvenProject : Cert.EvenProject.Facts) (hEvenProjectIdeal : Cert.EvenProjectIdeal.Facts) (hEvenProjectReferenceIdeal : Cert.EvenProjectReferenceIdeal.Facts) (hFirstProject : Cert.FirstProject.Facts) (hFirstProjectIdeal : Cert.FirstProjectIdeal.Facts) (hFirstProjectReferenceIdeal : Cert.FirstProjectReferenceIdeal.Facts) (hPre_distinct_slots : Cert.Pre_distinct_slots.Facts) (hPre_expert_tables : Cert.Pre_expert_tables.Facts),
    quiescent_Kernel (hKernel := hKernel) (hPre_distinct_slots := hPre_distinct_slots)
    ∧ quiescent_KernelIdeal (hKernelIdeal := hKernelIdeal) (hPre_distinct_slots := hPre_distinct_slots)
    ∧ quiescent_ReferenceIdeal (hReferenceIdeal := hReferenceIdeal)
    ∧ quiescent_ReferenceIdeal_pre_distinct_slots (hReferenceIdeal := hReferenceIdeal) (hPre_distinct_slots := hPre_distinct_slots)
    ∧ quiescent_Reference (hReference := hReference) (hPre_distinct_slots := hPre_distinct_slots)
    ∧ quiescent_Experts (hExperts := hExperts) (hPre_expert_tables := hPre_expert_tables)
    ∧ quiescent_ExpertsIdeal (hExpertsIdeal := hExpertsIdeal) (hPre_expert_tables := hPre_expert_tables)
    ∧ quiescent_ExpertsReferenceIdeal (hExpertsReferenceIdeal := hExpertsReferenceIdeal) (hPre_expert_tables := hPre_expert_tables)
    ∧ quiescent_Final (hFinal := hFinal)
    ∧ quiescent_FinalIdeal (hFinalIdeal := hFinalIdeal)
    ∧ quiescent_FinalReferenceIdeal (hFinalReferenceIdeal := hFinalReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_EvenProject (hEvenProject := hEvenProject)
    ∧ quiescent_EvenProjectIdeal (hEvenProjectIdeal := hEvenProjectIdeal)
    ∧ quiescent_EvenProjectReferenceIdeal (hEvenProjectReferenceIdeal := hEvenProjectReferenceIdeal)
    ∧ quiescent_FirstProject (hFirstProject := hFirstProject)
    ∧ quiescent_FirstProjectIdeal (hFirstProjectIdeal := hFirstProjectIdeal)
    ∧ quiescent_FirstProjectReferenceIdeal (hFirstProjectReferenceIdeal := hFirstProjectReferenceIdeal)
    ∧ preserves_Kernel_KernelIdeal
    ∧ algebraic_KernelIdeal_ReferenceIdeal (hKernelIdeal := hKernelIdeal) (hReferenceIdeal := hReferenceIdeal) (hPre_distinct_slots := hPre_distinct_slots)
    ∧ bitexact_Kernel_Reference (hKernel := hKernel) (hReference := hReference) (hPre_distinct_slots := hPre_distinct_slots)
    ∧ preserves_Experts_ExpertsIdeal
    ∧ algebraic_ExpertsIdeal_ExpertsReferenceIdeal (hExpertsIdeal := hExpertsIdeal) (hExpertsReferenceIdeal := hExpertsReferenceIdeal) (hPre_expert_tables := hPre_expert_tables)
    ∧ preserves_Final_FinalIdeal
    ∧ algebraic_FinalIdeal_FinalReferenceIdeal (hFinalIdeal := hFinalIdeal) (hFinalReferenceIdeal := hFinalReferenceIdeal)
    ∧ preserves_Project_ProjectIdeal
    ∧ algebraic_ProjectIdeal_ProjectReferenceIdeal (hProjectIdeal := hProjectIdeal) (hProjectReferenceIdeal := hProjectReferenceIdeal)
    ∧ preserves_EvenProject_EvenProjectIdeal
    ∧ algebraic_EvenProjectIdeal_EvenProjectReferenceIdeal (hEvenProjectIdeal := hEvenProjectIdeal) (hEvenProjectReferenceIdeal := hEvenProjectReferenceIdeal)
    ∧ preserves_FirstProject_FirstProjectIdeal
    ∧ algebraic_FirstProjectIdeal_FirstProjectReferenceIdeal (hFirstProjectIdeal := hFirstProjectIdeal) (hFirstProjectReferenceIdeal := hFirstProjectReferenceIdeal)
-- ==== Pre_distinct_slots.lean ====
abbrev S32768x256 : Shape := ⟨2, ![32768, 256]⟩
abbrev S65536 : Shape := ⟨1, ![65536]⟩
abbrev S_ : Shape := ⟨0, ![]⟩
abbrev S81920 : Shape := ⟨1, ![81920]⟩
abbrev S65536x1 : Shape := ⟨2, ![65536, 1]⟩

class Facts : Prop where
  bcast_S_S65536 : S_.BroadcastsInDim S65536 (![] : Fin 0 → Fin S65536.rank)
  bcast_S_S81920 : S_.BroadcastsInDim S81920 (![] : Fin 0 → Fin S81920.rank)
  bcast_S65536_S65536x1_0 : S65536.BroadcastsInDim S65536x1 (![0] : Fin 1 → Fin S65536x1.rank)
  scatter_S81920_S65536x1_S65536_n_0_0_1_wf : ScatterDims.WF S81920 S65536x1 S65536 [] [0] [0] 1
  gather_S81920_S65536x1_S65536_n_0_n_n_0_1_1_wf : GatherDims.WF S81920 S65536x1 S65536 [] [0] [] [0] [] 1 ![1]

variable [Facts]

def scatter_S81920_S65536x1_S65536_n_0_0_1 : ScatterDims S81920 S65536x1 S65536 where
  updateWindowDims := []
  insertedWindowDims := [0]
  scatterDimsToOperandDims := [0]
  indexVectorDim := 1
  wf := scatter_S81920_S65536x1_S65536_n_0_0_1_wf
def gather_S81920_S65536x1_S65536_n_0_n_n_0_1_1 : GatherDims S81920 S65536x1 S65536 where
  offsetDims := []
  collapsedSliceDims := [0]
  operandBatchingDims := []
  startIndicesBatchingDims := []
  startIndexMap := [0]
  indexVectorDim := 1
  sliceSizes := ![1]
  wf := gather_S81920_S65536x1_S65536_n_0_n_n_0_1_1_wf
def fn_part1 {F : FTy → Type} [FloatOps F] (main_arg1 : IVec S65536 32) (main_v4 : IVec S65536 1) (main_v5 : IVec S65536 32) (main_v13 : IVec S81920 32) (main_v15 : IVec S65536 1) (main_v16 : IVec S65536 32) : IVec S65536 1 :=
  let main_v17 : IVec S65536 32 := addi main_arg1 main_v16
  let main_v18 : IVec S65536 32 := select main_v15 main_v17 main_arg1
  let main_v19 : IVec S65536x1 32 := broadcastInDim S65536x1 ![0] bcast_S65536_S65536x1_0 main_v18
  let main_v20 : IVec S65536 32 := (fun x i => Host.gather gather_S81920_S65536x1_S65536_n_0_n_n_0_1_1 x i) main_v13 main_v19
  let main_v21 : IVec S65536 1 := cmpi .eq main_v20 main_v5
  let main_v22 : IVec S65536 1 := andi main_v4 main_v21
  main_v22

def fn {F : FTy → Type} [FloatOps F] (main_arg0 : IVec S32768x256 32) (main_arg1 : IVec S65536 32) : IVec S65536 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 81920#32
  let main_v2 : IVec S65536 32 := broadcastInDim S65536 ![] bcast_S_S65536 main_c_0
  let main_v3 : IVec S65536 1 := cmpi .slt main_arg1 main_v2
  let main_v4 : IVec S65536 1 := andi main_v1 main_v3
  let main_v5 : IVec S65536 32 := iotaInDim S65536 32 0
  let main_c_1 : IVec S_ 32 := constantI S_ 32 0#32
  let main_v6 : IVec S81920 32 := broadcastInDim S81920 ![] bcast_S_S81920 main_c_1
  let main_c_2 : IVec S_ 32 := constantI S_ 32 0#32
  let main_v7 : IVec S65536 32 := broadcastInDim S65536 ![] bcast_S_S65536 main_c_2
  let main_v8 : IVec S65536 1 := cmpi .slt main_arg1 main_v7
  let main_c_3 : IVec S_ 32 := constantI S_ 32 81920#32
  let main_v9 : IVec S65536 32 := broadcastInDim S65536 ![] bcast_S_S65536 main_c_3
  let main_v10 : IVec S65536 32 := addi main_arg1 main_v9
  let main_v11 : IVec S65536 32 := select main_v8 main_v10 main_arg1
  let main_v12 : IVec S65536x1 32 := broadcastInDim S65536x1 ![0] bcast_S65536_S65536x1_0 main_v11
  let main_v13 : IVec S81920 32 := (fun x i u => Host.scatter scatter_S81920_S65536x1_S65536_n_0_0_1 (fun _ b => b) x i u) main_v6 main_v12 main_v5
  let main_c_4 : IVec S_ 32 := constantI S_ 32 0#32
  let main_v14 : IVec S65536 32 := broadcastInDim S65536 ![] bcast_S_S65536 main_c_4
  let main_v15 : IVec S65536 1 := cmpi .slt main_arg1 main_v14
  let main_c_5 : IVec S_ 32 := constantI S_ 32 81920#32
  let main_v16 : IVec S65536 32 := broadcastInDim S65536 ![] bcast_S_S65536 main_c_5
  fn_part1 (F := F) main_arg1 main_v4 main_v5 main_v13 main_v15 main_v16
-- ==== Pre_expert_tables.lean ====
abbrev S81920x256 : Shape := ⟨2, ![81920, 256]⟩
abbrev S160 : Shape := ⟨1, ![160]⟩
abbrev S1 : Shape := ⟨1, ![1]⟩
abbrev S4x32x1024x512 : Shape := ⟨4, ![4, 32, 1024, 512]⟩
abbrev S4x32x512x1024 : Shape := ⟨4, ![4, 32, 512, 1024]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S81920x256 32) (main_arg1 : IVec S81920x256 32) (main_arg2 : IVec S160 32) (main_arg3 : IVec S160 32) (main_arg4 : IVec S1 32) (main_arg5 : FVec F S4x32x1024x512 .f32) (main_arg6 : FVec F S4x32x1024x512 .f32) (main_arg7 : FVec F S4x32x512x1024 .f32) : IVec S160 1 :=
  let main_c : IVec S_ 32 := constantI S_ 32 0#32
  let main_v0 : IVec S160 32 := broadcastInDim S160 ![] bcast_S_S160 main_c
  let main_v1 : IVec S160 1 := cmpi .sge main_arg2 main_v0
  let main_c_0 : IVec S_ 32 := constantI S_ 32 32#32
  let main_v2 : IVec S160 32 := broadcastInDim S160 ![] bcast_S_S160 main_c_0
  let main_v3 : IVec S160 1 := cmpi .slt main_arg2 main_v2
  let main_v4 : IVec S160 1 := andi main_v1 main_v3
  main_v4
-- ==== Kernel.lean ====
abbrev S32768x256 : Shape := ⟨2, ![32768, 256]⟩
abbrev S65536 : Shape := ⟨1, ![65536]⟩
abbrev S1x65536 : Shape := ⟨2, ![1, 65536]⟩
abbrev S81920x256 : Shape := ⟨2, ![81920, 256]⟩
abbrev S2x128x256 : Shape := ⟨3, ![2, 128, 256]⟩
abbrev S2 : Shape := ⟨1, ![2]⟩
abbrev S2x1x128 : Shape := ⟨3, ![2, 1, 128]⟩
abbrev S1x128x256 : Shape := ⟨3, ![1, 128, 256]⟩
abbrev S128x256 : Shape := ⟨2, ![128, 256]⟩
abbrev S1 : Shape := ⟨1, ![1]⟩
abbrev S_ : Shape := ⟨0, ![]⟩
abbrev S1x1x128 : Shape := ⟨3, ![1, 1, 128]⟩
abbrev S1x128 : Shape := ⟨2, ![1, 128]⟩
abbrev S128x128 : Shape := ⟨2, ![128, 128]⟩
abbrev S128 : Shape := ⟨1, ![128]⟩
abbrev S81920x128 : Shape := ⟨2, ![81920, 128]⟩
abbrev S65536x1 : Shape := ⟨2, ![65536, 1]⟩
abbrev S65536x256 : Shape := ⟨2, ![65536, 256]⟩

abbrev nBuf : Table → Nat
  | .hbm => 13
  | .local .scVector .vmem => 2
  | _ => 0

abbrev bufTy : (tb : Table) → Fin (nBuf tb) → BufTy
  | .hbm, ⟨0, _⟩ => ⟨S32768x256, .i32⟩
  | .hbm, ⟨1, _⟩ => ⟨S65536, .i32⟩
  | .hbm, ⟨2, _⟩ => ⟨S1x65536, .i32⟩
  | .hbm, ⟨3, _⟩ => ⟨S81920x256, .i32⟩
  | .hbm, ⟨4, _⟩ => ⟨S_, .i32⟩
  | .hbm, ⟨5, _⟩ => ⟨S65536, .i32⟩
  | .hbm, ⟨6, _⟩ => ⟨S65536, .i1⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536, .i32⟩
  | .hbm, ⟨11, _⟩ => ⟨S65536x1, .i32⟩
  | .hbm, ⟨12, _⟩ => ⟨S65536x256, .i32⟩
  | .local .scVector .vmem, ⟨0, _⟩ => ⟨S2x128x256, .i32⟩
  | .local .scVector .vmem, ⟨1, _⟩ => ⟨S2x1x128, .i32⟩
  | _, _ => ⟨S32768x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_r0 : BitVec 32 := 2#32
  let v21_r0 : BitVec 32 := Scalar.remui c0_i32_14_r0 c2_i32_r0
  let c0_i32_20_r0 : BitVec 32 := 0#32
  let c0_i32_21_r0 : BitVec 32 := 0#32
  ![v21_r0.toNat, 0, 0]
def k0_off2 (i : grid0.Coords) : Fin 2 → Nat :=
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let c256_i32_r0 : BitVec 32 := 256#32
  let c0_i32_15_r0 : BitVec 32 := 0#32
  let v22_r0 : BitVec 1 := Scalar.cmpi .eq c256_i32_r0 c0_i32_15_r0
  let c1_i32_16_r0 : BitVec 32 := 1#32
  let v23_r0 : BitVec 32 := Scalar.select v22_r0 c1_i32_16_r0 c256_i32_r0
  let v24_r0 : BitVec 32 := Scalar.remsi v7_r0 v23_r0
  let c0_i32_18_r0 : BitVec 32 := 0#32
  let v26_r0 : BitVec 1 := Scalar.cmpi .slt v24_r0 c0_i32_18_r0
  let c0_i32_19_r0 : BitVec 32 := 0#32
  let v27_r0 : BitVec 1 := Scalar.cmpi .slt v23_r0 c0_i32_19_r0
  let v28_r0 : BitVec 1 := Scalar.xori v26_r0 v27_r0
  let c0_i32_17_r0 : BitVec 32 := 0#32
  let v25_r0 : BitVec 1 := Scalar.cmpi .ne v24_r0 c0_i32_17_r0
  let v29_r0 : BitVec 1 := Scalar.andi v28_r0 v25_r0
  let v30_r0 : BitVec 32 := Scalar.addi v24_r0 v23_r0
  let v31_r0 : BitVec 32 := Scalar.select v29_r0 v30_r0 v24_r0
  let v32_r0 : BitVec 32 := Scalar.muli c128_i32_r0 v31_r0
  let c0_i32_22_r0 : BitVec 32 := 0#32
  ![v32_r0.toNat, 0]
def k0_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
def k0_off4 : Fin 3 → Nat :=
  let c0_i32_28_r0 : BitVec 32 := 0#32
  let c2_i32_29_r0 : BitVec 32 := 2#32
  let v42_r0 : BitVec 32 := Scalar.remui c0_i32_28_r0 c2_i32_29_r0
  let c0_i32_31_r0 : BitVec 32 := 0#32
  let c0_i32_32_r0 : BitVec 32 := 0#32
  ![v42_r0.toNat, 0, 0]
def k0_off5 (i : grid0.Coords) : Fin 2 → Nat :=
  let c0_i32_33_r0 : BitVec 32 := 0#32
  let c128_i32_30_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v43_r0 : BitVec 32 := Scalar.muli c128_i32_30_r0 v7_r0
  ![0, v43_r0.toNat]
@[reducible] def k0_t1_loop : Scf.Loop 32 :=
  let c0_i32_42_r0 : BitVec 32 := 0#32
  let c16_i32_43_r0 : BitVec 32 := 16#32
  let v53_r0 : BitVec 32 := Scalar.addi c0_i32_42_r0 c16_i32_43_r0
  let c1_i32_44_r0 : BitVec 32 := 1#32
  ⟨c0_i32_42_r0, v53_r0, c1_i32_44_r0⟩
def k0_off6 (arg6_r0 : BitVec 32) : Fin 3 → Nat :=
  let c2_i32_129_r0 : BitVec 32 := 2#32
  let v191_r0 : BitVec 32 := Scalar.remui arg6_r0 c2_i32_129_r0
  let c0_i32_137_r0 : BitVec 32 := 0#32
  let c0_i32_138_r0 : BitVec 32 := 0#32
  ![v191_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v77_r0 : BitVec 32 := Scalar.addi arg10_r0 v4
  let c256_i32_76_r0 : BitVec 32 := 256#32
  let c0_i32_77_r0 : BitVec 32 := 0#32
  let v93_r0 : BitVec 1 := Scalar.cmpi .eq c256_i32_76_r0 c0_i32_77_r0
  let c1_i32_78_r0 : BitVec 32 := 1#32
  let v94_r0 : BitVec 32 := Scalar.select v93_r0 c1_i32_78_r0 c256_i32_76_r0
  let v95_r0 : BitVec 32 := Scalar.remsi v77_r0 v94_r0
  let c0_i32_80_r0 : BitVec 32 := 0#32
  let v97_r0 : BitVec 1 := Scalar.cmpi .slt v95_r0 c0_i32_80_r0
  let c0_i32_81_r0 : BitVec 32 := 0#32
  let v98_r0 : BitVec 1 := Scalar.cmpi .slt v94_r0 c0_i32_81_r0
  let v99_r0 : BitVec 1 := Scalar.xori v97_r0 v98_r0
  let c0_i32_79_r0 : BitVec 32 := 0#32
  let v96_r0 : BitVec 1 := Scalar.cmpi .ne v95_r0 c0_i32_79_r0
  let v100_r0 : BitVec 1 := Scalar.andi v99_r0 v96_r0
  let v101_r0 : BitVec 32 := Scalar.addi v95_r0 v94_r0
  let v102_r0 : BitVec 32 := Scalar.select v100_r0 v101_r0 v95_r0
  let true_69_r0 : BitVec 1 := 1#1
  let c1_i32_68_r0 : BitVec 32 := 1#32
  let v83_r0 : BitVec 32 := Scalar.addi arg10_r0 c1_i32_68_r0
  let v84_r0 : BitVec 32 := Scalar.select true_69_r0 v83_r0 arg10_r0
  let c16_i32_70_r0 : BitVec 32 := 16#32
  let v85_r0 : BitVec 1 := Scalar.cmpi .eq v84_r0 c16_i32_70_r0
  let c0_i32_71_r0 : BitVec 32 := 0#32
  let v86_r0 : BitVec 32 := Scalar.select v85_r0 c0_i32_71_r0 v84_r0
  let v87_r0 : BitVec 32 := Scalar.addi v86_r0 v4
  let c256_i32_82_r0 : BitVec 32 := 256#32
  let c0_i32_83_r0 : BitVec 32 := 0#32
  let v103_r0 : BitVec 1 := Scalar.cmpi .eq c256_i32_82_r0 c0_i32_83_r0
  let c1_i32_84_r0 : BitVec 32 := 1#32
  let v104_r0 : BitVec 32 := Scalar.select v103_r0 c1_i32_84_r0 c256_i32_82_r0
  let v105_r0 : BitVec 32 := Scalar.remsi v87_r0 v104_r0
  let c0_i32_86_r0 : BitVec 32 := 0#32
  let v107_r0 : BitVec 1 := Scalar.cmpi .slt v105_r0 c0_i32_86_r0
  let c0_i32_87_r0 : BitVec 32 := 0#32
  let v108_r0 : BitVec 1 := Scalar.cmpi .slt v104_r0 c0_i32_87_r0
  let v109_r0 : BitVec 1 := Scalar.xori v107_r0 v108_r0
  let c0_i32_85_r0 : BitVec 32 := 0#32
  let v106_r0 : BitVec 1 := Scalar.cmpi .ne v105_r0 c0_i32_85_r0
  let v110_r0 : BitVec 1 := Scalar.andi v109_r0 v106_r0
  let v111_r0 : BitVec 32 := Scalar.addi v105_r0 v104_r0
  let v112_r0 : BitVec 32 := Scalar.select v110_r0 v111_r0 v105_r0
  let v113_r0 : BitVec 1 := Scalar.cmpi .ne v102_r0 v112_r0
  let c0_i32_42_r0 : BitVec 32 := 0#32
  let c1_i32_44_r0 : BitVec 32 := 1#32
  let arg5_r0 : BitVec 32 := Scf.iv c0_i32_42_r0 c1_i32_44_r0 k0_t1
  let c15_i32_88_r0 : BitVec 32 := 15#32
  let v114_r0 : BitVec 1 := Scalar.cmpi .sge arg5_r0 c15_i32_88_r0
  let true_89_r0 : BitVec 1 := 1#1
  let v115_r0 : BitVec 1 := Scalar.xori v114_r0 true_89_r0
  let v116_r0 : BitVec 1 := Scalar.andi v113_r0 v115_r0
  let true_90_r0 : BitVec 1 := 1#1
  let v117_r0 : BitVec 1 := Scalar.andi v116_r0 true_90_r0
  let v118_r0 : BitVec 32 := Scalar.extui v117_r0
  let c0_i32_91_r0 : BitVec 32 := 0#32
  let v119_r0 : BitVec 1 := Scalar.cmpi .ne v118_r0 c0_i32_91_r0
  v119_r0

def k0_off7 (i : grid0.Coords) (arg10_r0 : BitVec 32) : Fin 2 → Nat :=
  let c128_i32_136_r0 : BitVec 32 := 128#32
  let true_69_r0 : BitVec 1 := 1#1
  let c1_i32_68_r0 : BitVec 32 := 1#32
  let v83_r0 : BitVec 32 := Scalar.addi arg10_r0 c1_i32_68_r0
  let v84_r0 : BitVec 32 := Scalar.select true_69_r0 v83_r0 arg10_r0
  let c16_i32_70_r0 : BitVec 32 := 16#32
  let v85_r0 : BitVec 1 := Scalar.cmpi .eq v84_r0 c16_i32_70_r0
  let c0_i32_71_r0 : BitVec 32 := 0#32
  let v86_r0 : BitVec 32 := Scalar.select v85_r0 c0_i32_71_r0 v84_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v87_r0 : BitVec 32 := Scalar.addi v86_r0 v4
  let c256_i32_130_r0 : BitVec 32 := 256#32
  let c0_i32_131_r0 : BitVec 32 := 0#32
  let v192_r0 : BitVec 1 := Scalar.cmpi .eq c256_i32_130_r0 c0_i32_131_r0
  let c1_i32_132_r0 : BitVec 32 := 1#32
  let v193_r0 : BitVec 32 := Scalar.select v192_r0 c1_i32_132_r0 c256_i32_130_r0
  let v194_r0 : BitVec 32 := Scalar.remsi v87_r0 v193_r0
  let c0_i32_134_r0 : BitVec 32 := 0#32
  let v196_r0 : BitVec 1 := Scalar.cmpi .slt v194_r0 c0_i32_134_r0
  let c0_i32_135_r0 : BitVec 32 := 0#32
  let v197_r0 : BitVec 1 := Scalar.cmpi .slt v193_r0 c0_i32_135_r0
  let v198_r0 : BitVec 1 := Scalar.xori v196_r0 v197_r0
  let c0_i32_133_r0 : BitVec 32 := 0#32
  let v195_r0 : BitVec 1 := Scalar.cmpi .ne v194_r0 c0_i32_133_r0
  let v199_r0 : BitVec 1 := Scalar.andi v198_r0 v195_r0
  let v200_r0 : BitVec 32 := Scalar.addi v194_r0 v193_r0
  let v201_r0 : BitVec 32 := Scalar.select v199_r0 v200_r0 v194_r0
  let v202_r0 : BitVec 32 := Scalar.muli c128_i32_136_r0 v201_r0
  let c0_i32_139_r0 : BitVec 32 := 0#32
  ![v202_r0.toNat, 0]
def k0_off8 (arg6_r0 : BitVec 32) : Fin 1 → Nat :=
  let c2_i32_129_r0 : BitVec 32 := 2#32
  let v191_r0 : BitVec 32 := Scalar.remui arg6_r0 c2_i32_129_r0
  ![v191_r0.toNat]
def k0_off9 (arg8_r0 : BitVec 32) : Fin 3 → Nat :=
  let c2_i32_129_r0 : BitVec 32 := 2#32
  let v191_r0 : BitVec 32 := Scalar.remui arg8_r0 c2_i32_129_r0
  let c0_i32_131_r0 : BitVec 32 := 0#32
  let c0_i32_132_r0 : BitVec 32 := 0#32
  ![v191_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v77_r0 : BitVec 32 := Scalar.addi arg10_r0 v4
  let true_69_r0 : BitVec 1 := 1#1
  let c1_i32_68_r0 : BitVec 32 := 1#32
  let v83_r0 : BitVec 32 := Scalar.addi arg10_r0 c1_i32_68_r0
  let v84_r0 : BitVec 32 := Scalar.select true_69_r0 v83_r0 arg10_r0
  let c16_i32_70_r0 : BitVec 32 := 16#32
  let v85_r0 : BitVec 1 := Scalar.cmpi .eq v84_r0 c16_i32_70_r0
  let c0_i32_71_r0 : BitVec 32 := 0#32
  let v86_r0 : BitVec 32 := Scalar.select v85_r0 c0_i32_71_r0 v84_r0
  let v87_r0 : BitVec 32 := Scalar.addi v86_r0 v4
  let v123_r0 : BitVec 1 := Scalar.cmpi .ne v77_r0 v87_r0
  let c0_i32_42_r0 : BitVec 32 := 0#32
  let c1_i32_44_r0 : BitVec 32 := 1#32
  let arg5_r0 : BitVec 32 := Scf.iv c0_i32_42_r0 c1_i32_44_r0 k0_t1
  let c15_i32_94_r0 : BitVec 32 := 15#32
  let v124_r0 : BitVec 1 := Scalar.cmpi .sge arg5_r0 c15_i32_94_r0
  let true_95_r0 : BitVec 1 := 1#1
  let v125_r0 : BitVec 1 := Scalar.xori v124_r0 true_95_r0
  let v126_r0 : BitVec 1 := Scalar.andi v123_r0 v125_r0
  let true_96_r0 : BitVec 1 := 1#1
  let v127_r0 : BitVec 1 := Scalar.andi v126_r0 true_96_r0
  let v128_r0 : BitVec 32 := Scalar.extui v127_r0
  let c0_i32_97_r0 : BitVec 32 := 0#32
  let v129_r0 : BitVec 1 := Scalar.cmpi .ne v128_r0 c0_i32_97_r0
  v129_r0

def k0_off10 (i : grid0.Coords) (arg10_r0 : BitVec 32) : Fin 2 → Nat :=
  let c0_i32_133_r0 : BitVec 32 := 0#32
  let c128_i32_130_r0 : BitVec 32 := 128#32
  let true_69_r0 : BitVec 1 := 1#1
  let c1_i32_68_r0 : BitVec 32 := 1#32
  let v83_r0 : BitVec 32 := Scalar.addi arg10_r0 c1_i32_68_r0
  let v84_r0 : BitVec 32 := Scalar.select true_69_r0 v83_r0 arg10_r0
  let c16_i32_70_r0 : BitVec 32 := 16#32
  let v85_r0 : BitVec 1 := Scalar.cmpi .eq v84_r0 c16_i32_70_r0
  let c0_i32_71_r0 : BitVec 32 := 0#32
  let v86_r0 : BitVec 32 := Scalar.select v85_r0 c0_i32_71_r0 v84_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v87_r0 : BitVec 32 := Scalar.addi v86_r0 v4
  let v192_r0 : BitVec 32 := Scalar.muli c128_i32_130_r0 v87_r0
  ![0, v192_r0.toNat]
def k0_off11 (arg8_r0 : BitVec 32) : Fin 1 → Nat :=
  let c2_i32_129_r0 : BitVec 32 := 2#32
  let v191_r0 : BitVec 32 := Scalar.remui arg8_r0 c2_i32_129_r0
  ![v191_r0.toNat]
def k0_off12 (arg7_r0 : BitVec 32) : Fin 3 → Nat :=
  let c2_i32_136_r0 : BitVec 32 := 2#32
  let v202_r0 : BitVec 32 := Scalar.remui arg7_r0 c2_i32_136_r0
  let c0_i32_137_r0 : BitVec 32 := 0#32
  let c0_i32_138_r0 : BitVec 32 := 0#32
  ![v202_r0.toNat, 0, 0]
def k0_cond3 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v77_r0 : BitVec 32 := Scalar.addi arg10_r0 v4
  let c256_i32_76_r0 : BitVec 32 := 256#32
  let c0_i32_77_r0 : BitVec 32 := 0#32
  let v93_r0 : BitVec 1 := Scalar.cmpi .eq c256_i32_76_r0 c0_i32_77_r0
  let c1_i32_78_r0 : BitVec 32 := 1#32
  let v94_r0 : BitVec 32 := Scalar.select v93_r0 c1_i32_78_r0 c256_i32_76_r0
  let v95_r0 : BitVec 32 := Scalar.remsi v77_r0 v94_r0
  let c0_i32_80_r0 : BitVec 32 := 0#32
  let v97_r0 : BitVec 1 := Scalar.cmpi .slt v95_r0 c0_i32_80_r0
  let c0_i32_81_r0 : BitVec 32 := 0#32
  let v98_r0 : BitVec 1 := Scalar.cmpi .slt v94_r0 c0_i32_81_r0
  let v99_r0 : BitVec 1 := Scalar.xori v97_r0 v98_r0
  let c0_i32_79_r0 : BitVec 32 := 0#32
  let v96_r0 : BitVec 1 := Scalar.cmpi .ne v95_r0 c0_i32_79_r0
  let v100_r0 : BitVec 1 := Scalar.andi v99_r0 v96_r0
  let v101_r0 : BitVec 32 := Scalar.addi v95_r0 v94_r0
  let v102_r0 : BitVec 32 := Scalar.select v100_r0 v101_r0 v95_r0
  let true_65_r0 : BitVec 1 := 1#1
  let c1_i32_64_r0 : BitVec 32 := 1#32
  let v78_r0 : BitVec 32 := Scalar.subi arg10_r0 c1_i32_64_r0
  let v79_r0 : BitVec 32 := Scalar.select true_65_r0 v78_r0 arg10_r0
  let c_m1_i32_66_r0 : BitVec 32 := 4294967295#32
  let v80_r0 : BitVec 1 := Scalar.cmpi .eq v79_r0 c_m1_i32_66_r0
  let c15_i32_67_r0 : BitVec 32 := 15#32
  let v81_r0 : BitVec 32 := Scalar.select v80_r0 c15_i32_67_r0 v79_r0
  let v82_r0 : BitVec 32 := Scalar.addi v81_r0 v4
  let c256_i32_100_r0 : BitVec 32 := 256#32
  let c0_i32_101_r0 : BitVec 32 := 0#32
  let v133_r0 : BitVec 1 := Scalar.cmpi .eq c256_i32_100_r0 c0_i32_101_r0
  let c1_i32_102_r0 : BitVec 32 := 1#32
  let v134_r0 : BitVec 32 := Scalar.select v133_r0 c1_i32_102_r0 c256_i32_100_r0
  let v135_r0 : BitVec 32 := Scalar.remsi v82_r0 v134_r0
  let c0_i32_104_r0 : BitVec 32 := 0#32
  let v137_r0 : BitVec 1 := Scalar.cmpi .slt v135_r0 c0_i32_104_r0
  let c0_i32_105_r0 : BitVec 32 := 0#32
  let v138_r0 : BitVec 1 := Scalar.cmpi .slt v134_r0 c0_i32_105_r0
  let v139_r0 : BitVec 1 := Scalar.xori v137_r0 v138_r0
  let c0_i32_103_r0 : BitVec 32 := 0#32
  let v136_r0 : BitVec 1 := Scalar.cmpi .ne v135_r0 c0_i32_103_r0
  let v140_r0 : BitVec 1 := Scalar.andi v139_r0 v136_r0
  let v141_r0 : BitVec 32 := Scalar.addi v135_r0 v134_r0
  let v142_r0 : BitVec 32 := Scalar.select v140_r0 v141_r0 v135_r0
  let v143_r0 : BitVec 1 := Scalar.cmpi .ne v102_r0 v142_r0
  let c0_i32_42_r0 : BitVec 32 := 0#32
  let c1_i32_44_r0 : BitVec 32 := 1#32
  let arg5_r0 : BitVec 32 := Scf.iv c0_i32_42_r0 c1_i32_44_r0 k0_t1
  let c0_i32_62_r0 : BitVec 32 := 0#32
  let v75_r0 : BitVec 1 := Scalar.cmpi .eq arg5_r0 c0_i32_62_r0
  let v144_r0 : BitVec 1 := Scalar.ori v143_r0 v75_r0
  let c0_i32_106_r0 : BitVec 32 := 0#32
  let v145_r0 : BitVec 1 := Scalar.cmpi .sge arg5_r0 c0_i32_106_r0
  let v146_r0 : BitVec 1 := Scalar.andi v144_r0 v145_r0
  let v147_r0 : BitVec 32 := Scalar.extui v146_r0
  let c0_i32_107_r0 : BitVec 32 := 0#32
  let v148_r0 : BitVec 1 := Scalar.cmpi .ne v147_r0 c0_i32_107_r0
  v148_r0

def k0_off13 (i : grid0.Coords) (arg10_r0 : BitVec 32) : Fin 2 → Nat :=
  let c128_i32_135_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v77_r0 : BitVec 32 := Scalar.addi arg10_r0 v4
  let c256_i32_129_r0 : BitVec 32 := 256#32
  let c0_i32_130_r0 : BitVec 32 := 0#32
  let v191_r0 : BitVec 1 := Scalar.cmpi .eq c256_i32_129_r0 c0_i32_130_r0
  let c1_i32_131_r0 : BitVec 32 := 1#32
  let v192_r0 : BitVec 32 := Scalar.select v191_r0 c1_i32_131_r0 c256_i32_129_r0
  let v193_r0 : BitVec 32 := Scalar.remsi v77_r0 v192_r0
  let c0_i32_133_r0 : BitVec 32 := 0#32
  let v195_r0 : BitVec 1 := Scalar.cmpi .slt v193_r0 c0_i32_133_r0
  let c0_i32_134_r0 : BitVec 32 := 0#32
  let v196_r0 : BitVec 1 := Scalar.cmpi .slt v192_r0 c0_i32_134_r0
  let v197_r0 : BitVec 1 := Scalar.xori v195_r0 v196_r0
  let c0_i32_132_r0 : BitVec 32 := 0#32
  let v194_r0 : BitVec 1 := Scalar.cmpi .ne v193_r0 c0_i32_132_r0
  let v198_r0 : BitVec 1 := Scalar.andi v197_r0 v194_r0
  let v199_r0 : BitVec 32 := Scalar.addi v193_r0 v192_r0
  let v200_r0 : BitVec 32 := Scalar.select v198_r0 v199_r0 v193_r0
  let v201_r0 : BitVec 32 := Scalar.muli c128_i32_135_r0 v200_r0
  let c0_i32_139_r0 : BitVec 32 := 0#32
  ![v201_r0.toNat, 0]
def k0_off14 (arg7_r0 : BitVec 32) : Fin 1 → Nat :=
  let c2_i32_136_r0 : BitVec 32 := 2#32
  let v202_r0 : BitVec 32 := Scalar.remui arg7_r0 c2_i32_136_r0
  ![v202_r0.toNat]
def k0_off15 (arg9_r0 : BitVec 32) : Fin 3 → Nat :=
  let c2_i32_130_r0 : BitVec 32 := 2#32
  let v192_r0 : BitVec 32 := Scalar.remui arg9_r0 c2_i32_130_r0
  let c0_i32_131_r0 : BitVec 32 := 0#32
  let c0_i32_132_r0 : BitVec 32 := 0#32
  ![v192_r0.toNat, 0, 0]
def k0_cond4 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v77_r0 : BitVec 32 := Scalar.addi arg10_r0 v4
  let true_65_r0 : BitVec 1 := 1#1
  let c1_i32_64_r0 : BitVec 32 := 1#32
  let v78_r0 : BitVec 32 := Scalar.subi arg10_r0 c1_i32_64_r0
  let v79_r0 : BitVec 32 := Scalar.select true_65_r0 v78_r0 arg10_r0
  let c_m1_i32_66_r0 : BitVec 32 := 4294967295#32
  let v80_r0 : BitVec 1 := Scalar.cmpi .eq v79_r0 c_m1_i32_66_r0
  let c15_i32_67_r0 : BitVec 32 := 15#32
  let v81_r0 : BitVec 32 := Scalar.select v80_r0 c15_i32_67_r0 v79_r0
  let v82_r0 : BitVec 32 := Scalar.addi v81_r0 v4
  let v149_r0 : BitVec 1 := Scalar.cmpi .ne v77_r0 v82_r0
  let c0_i32_42_r0 : BitVec 32 := 0#32
  let c1_i32_44_r0 : BitVec 32 := 1#32
  let arg5_r0 : BitVec 32 := Scf.iv c0_i32_42_r0 c1_i32_44_r0 k0_t1
  let c0_i32_62_r0 : BitVec 32 := 0#32
  let v75_r0 : BitVec 1 := Scalar.cmpi .eq arg5_r0 c0_i32_62_r0
  let v150_r0 : BitVec 1 := Scalar.ori v149_r0 v75_r0
  let c0_i32_108_r0 : BitVec 32 := 0#32
  let v151_r0 : BitVec 1 := Scalar.cmpi .sge arg5_r0 c0_i32_108_r0
  let v152_r0 : BitVec 1 := Scalar.andi v150_r0 v151_r0
  let v153_r0 : BitVec 32 := Scalar.extui v152_r0
  let c0_i32_109_r0 : BitVec 32 := 0#32
  let v154_r0 : BitVec 1 := Scalar.cmpi .ne v153_r0 c0_i32_109_r0
  v154_r0

def k0_off16 (i : grid0.Coords) (arg10_r0 : BitVec 32) : Fin 2 → Nat :=
  let c0_i32_133_r0 : BitVec 32 := 0#32
  let c128_i32_129_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v77_r0 : BitVec 32 := Scalar.addi arg10_r0 v4
  let v191_r0 : BitVec 32 := Scalar.muli c128_i32_129_r0 v77_r0
  ![0, v191_r0.toNat]
def k0_off17 (arg9_r0 : BitVec 32) : Fin 1 → Nat :=
  let c2_i32_130_r0 : BitVec 32 := 2#32
  let v192_r0 : BitVec 32 := Scalar.remui arg9_r0 c2_i32_130_r0
  ![v192_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off6 arg6_r0) a + S1x128x256.size a ≤ S2x128x256.size a) ∧
  (∀ (k0_h1 : k0_cond1 i k0_t1 arg10_r0 = 1#1), ∀ a, (k0_off7 i arg10_r0) a + S128x256.size a ≤ S32768x256.size a) ∧
  (∀ (k0_h1 : k0_cond1 i k0_t1 arg10_r0 = 1#1), ∀ a, (k0_off8 arg6_r0) a + S1.size a ≤ S2.size a) ∧
  (∀ (k0_h2 : k0_cond2 i k0_t1 arg10_r0 = 1#1), ∀ a, (k0_off9 arg8_r0) a + S1x1x128.size a ≤ S2x1x128.size a) ∧
  (∀ (k0_h2 : k0_cond2 i k0_t1 arg10_r0 = 1#1), ∀ a, (k0_off10 i arg10_r0) a + S1x128.size a ≤ S1x65536.size a) ∧
  (∀ (k0_h2 : k0_cond2 i k0_t1 arg10_r0 = 1#1), ∀ a, (k0_off11 arg8_r0) a + S1.size a ≤ S2.size a) ∧
  (∀ (k0_h3 : k0_cond3 i k0_t1 arg10_r0 = 1#1), ∀ a, (k0_off12 arg7_r0) a + S1x128x256.size a ≤ S2x128x256.size a) ∧
  (∀ (k0_h3 : k0_cond3 i k0_t1 arg10_r0 = 1#1), ∀ a, (k0_off13 i arg10_r0) a + S128x256.size a ≤ S32768x256.size a) ∧
  (∀ (k0_h3 : k0_cond3 i k0_t1 arg10_r0 = 1#1), ∀ a, (k0_off14 arg7_r0) a + S1.size a ≤ S2.size a) ∧
  (∀ (k0_h4 : k0_cond4 i k0_t1 arg10_r0 = 1#1), ∀ a, (k0_off15 arg9_r0) a + S1x1x128.size a ≤ S2x1x128.size a) ∧
  (∀ (k0_h4 : k0_cond4 i k0_t1 arg10_r0 = 1#1), ∀ a, (k0_off16 i arg10_r0) a + S1x128.size a ≤ S1x65536.size a) ∧
  (∀ (k0_h4 : k0_cond4 i k0_t1 arg10_r0 = 1#1), ∀ a, (k0_off17 arg9_r0) a + S1.size a ≤ S2.size a)
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1x128x256.size a ≤ S2x128x256.size a := fun i k0_t1 arg6_r0 arg7_r0 arg8_r0 arg9_r0 arg10_r0 k0_hw1 k0_h1 => k0_hw1.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off7 i arg10_r0) a + S128x256.size a ≤ S32768x256.size a := fun i k0_t1 arg6_r0 arg7_r0 arg8_r0 arg9_r0 arg10_r0 k0_hw1 k0_h1 => k0_hw1.2.1 k0_h1
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off8 arg6_r0) a + S1.size a ≤ S2.size a := fun i k0_t1 arg6_r0 arg7_r0 arg8_r0 arg9_r0 arg10_r0 k0_hw1 k0_h1 => k0_hw1.2.2.1 k0_h1
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg8_r0) a + S1x1x128.size a ≤ S2x1x128.size a := fun i k0_t1 arg6_r0 arg7_r0 arg8_r0 arg9_r0 arg10_r0 k0_hw1 k0_h2 => k0_hw1.2.2.2.1 k0_h2
theorem k0_off10_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off10 i arg10_r0) a + S1x128.size a ≤ S1x65536.size a := fun i k0_t1 arg6_r0 arg7_r0 arg8_r0 arg9_r0 arg10_r0 k0_hw1 k0_h2 => k0_hw1.2.2.2.2.1 k0_h2
theorem k0_off11_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off11 arg8_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h3 : k0_cond3 i k0_t1 arg10_r0 = 1#1), ∀ a, (k0_off12 arg7_r0) a + S1x128x256.size a ≤ S2x128x256.size a := fun i k0_t1 arg6_r0 arg7_r0 arg8_r0 arg9_r0 arg10_r0 k0_hw1 k0_h3 => k0_hw1.2.2.2.2.2.2.1 k0_h3
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h3 : k0_cond3 i k0_t1 arg10_r0 = 1#1), ∀ a, (k0_off13 i arg10_r0) a + S128x256.size a ≤ S32768x256.size a := fun i k0_t1 arg6_r0 arg7_r0 arg8_r0 arg9_r0 arg10_r0 k0_hw1 k0_h3 => k0_hw1.2.2.2.2.2.2.2.1 k0_h3
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h3 : k0_cond3 i k0_t1 arg10_r0 = 1#1), ∀ a, (k0_off14 arg7_r0) a + S1.size a ≤ S2.size a := fun i k0_t1 arg6_r0 arg7_r0 arg8_r0 arg9_r0 arg10_r0 k0_hw1 k0_h3 => k0_hw1.2.2.2.2.2.2.2.2.1 k0_h3
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h4 : k0_cond4 i k0_t1 arg10_r0 = 1#1), ∀ a, (k0_off15 arg9_r0) a + S1x1x128.size a ≤ S2x1x128.size a := fun i k0_t1 arg6_r0 arg7_r0 arg8_r0 arg9_r0 arg10_r0 k0_hw1 k0_h4 => k0_hw1.2.2.2.2.2.2.2.2.2.1 k0_h4
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h4 : k0_cond4 i k0_t1 arg10_r0 = 1#1), ∀ a, (k0_off16 i arg10_r0) a + S1x128.size a ≤ S1x65536.size a := fun i k0_t1 arg6_r0 arg7_r0 arg8_r0 arg9_r0 arg10_r0 k0_hw1 k0_h4 => k0_hw1.2.2.2.2.2.2.2.2.2.2.1 k0_h4
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h4 : k0_cond4 i k0_t1 arg10_r0 = 1#1), ∀ a, (k0_off17 arg9_r0) a + S1.size a ≤ S2.size a := fun i k0_t1 arg6_r0 arg7_r0 arg8_r0 arg9_r0 arg10_r0 k0_hw1 k0_h4 => k0_hw1.2.2.2.2.2.2.2.2.2.2.2 k0_h4

def k0_off18 (arg7_r0 : BitVec 32) : Fin 3 → Nat :=
  let c2_i32_110_r0 : BitVec 32 := 2#32
  let v155_r0 : BitVec 32 := Scalar.remui arg7_r0 c2_i32_110_r0
  let c0_i32_129_r1 : BitVec 32 := 0#32
  let c0_i32_130_r1 : BitVec 32 := 0#32
  ![v155_r0.toNat, 0, 0]

def k0_chk2 (arg7_r0 : BitVec 32) : Prop :=
  (∀ a, (k0_off18 arg7_r0) a + S1x128x256.size a ≤ S2x128x256.size a)
theorem k0_off18_inb : ∀ (arg7_r0 : BitVec 32) (k0_hw2 : k0_chk2 arg7_r0), ∀ a, (k0_off18 arg7_r0) a + S1x128x256.size a ≤ S2x128x256.size a := fun arg7_r0 k0_hw2 => k0_hw2

def k0_off19 (arg9_r0 : BitVec 32) : Fin 3 → Nat :=
  let c2_i32_111_r0 : BitVec 32 := 2#32
  let v156_r0 : BitVec 32 := Scalar.remui arg9_r0 c2_i32_111_r0
  let c0_i32_133_r1 : BitVec 32 := 0#32
  let c0_i32_134_r1 : BitVec 32 := 0#32
  ![v156_r0.toNat, 0, 0]

def k0_chk3 (arg9_r0 : BitVec 32) : Prop :=
  (∀ a, (k0_off19 arg9_r0) a + S1x1x128.size a ≤ S2x1x128.size a)
theorem k0_off19_inb : ∀ (arg9_r0 : BitVec 32) (k0_hw3 : k0_chk3 arg9_r0), ∀ a, (k0_off19 arg9_r0) a + S1x1x128.size a ≤ S2x1x128.size a := fun arg9_r0 k0_hw3 => k0_hw3

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S32768x256 : Shape := ⟨2, ![32768, 256]⟩
abbrev S65536 : Shape := ⟨1, ![65536]⟩
abbrev S65536x256 : Shape := ⟨2, ![65536, 256]⟩

abbrev nBuf : Space → Nat
  | .hbm => 3
  | .vmem => 0
  | .smem => 0
  | _ => 0

abbrev bufTy : (tb : Table) → Fin (tcTables nBuf tb) → BufTy
  | .hbm, ⟨0, _⟩ => ⟨S32768x256, .i32⟩
  | .hbm, ⟨1, _⟩ => ⟨S65536, .i32⟩
  | .hbm, ⟨2, _⟩ => ⟨S65536x256, .i32⟩
  | _, _ => ⟨S32768x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Experts.lean ====
abbrev S81920x256 : Shape := ⟨2, ![81920, 256]⟩
abbrev S160 : Shape := ⟨1, ![160]⟩
abbrev S1 : Shape := ⟨1, ![1]⟩
abbrev S4x32x1024x512 : Shape := ⟨4, ![4, 32, 1024, 512]⟩
abbrev S4x32x512x1024 : Shape := ⟨4, ![4, 32, 512, 1024]⟩
abbrev S81920x1024 : Shape := ⟨2, ![81920, 1024]⟩
abbrev S512x256 : Shape := ⟨2, ![512, 256]⟩
abbrev S1x1x1024x512 : Shape := ⟨4, ![1, 1, 1024, 512]⟩
abbrev S1x1x512x1024 : Shape := ⟨4, ![1, 1, 512, 1024]⟩
abbrev S512x1024 : Shape := ⟨2, ![512, 1024]⟩
abbrev S1024x512 : Shape := ⟨2, ![1024, 512]⟩
abbrev S128x256 : Shape := ⟨2, ![128, 256]⟩
abbrev S256x512 : Shape := ⟨2, ![256, 512]⟩
abbrev S128x512 : Shape := ⟨2, ![128, 512]⟩
abbrev S128x1024 : Shape := ⟨2, ![128, 1024]⟩

abbrev nBuf : Space → Nat
  | .hbm => 6
  | .vmem => 15
  | .smem => 3
  | _ => 0

abbrev bufTy : (tb : Table) → Fin (tcTables nBuf tb) → BufTy
  | .hbm, ⟨0, _⟩ => ⟨S81920x256, .i32⟩
  | .hbm, ⟨1, _⟩ => ⟨S81920x256, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S81920x1024, .bf16⟩
  | .local _ .vmem, ⟨0, _⟩ => ⟨S512x256, .i32⟩
  | .local _ .vmem, ⟨1, _⟩ => ⟨S512x256, .i32⟩
  | .local _ .vmem, ⟨2, _⟩ => ⟨S512x256, .i32⟩
  | .local _ .vmem, ⟨3, _⟩ => ⟨S512x256, .i32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x1024x512, .f32⟩
  | .local _ .vmem, ⟨7, _⟩ => ⟨S1x1x1024x512, .f32⟩
  | .local _ .vmem, ⟨8, _⟩ => ⟨S1x1x512x1024, .f32⟩
  | .local _ .vmem, ⟨9, _⟩ => ⟨S1x1x512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x512, .bf16⟩
  | .local _ .vmem, ⟨13, _⟩ => ⟨S1024x512, .bf16⟩
  | .local _ .vmem, ⟨14, _⟩ => ⟨S512x1024, .bf16⟩
  | .local _ .smem, ⟨0, _⟩ => ⟨S160, .i32⟩
  | .local _ .smem, ⟨1, _⟩ => ⟨S160, .i32⟩
  | .local _ .smem, ⟨2, _⟩ => ⟨S1, .i32⟩
  | _, _ => ⟨S81920x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![160], ![false]⟩

abbrev pre0 : Pipeline.Prefetch sig := ⟨3, ![main_arg2.idx, main_arg3.idx, main_arg4.idx], fun | 0 => main_arg2.names | 1 => main_arg3.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_off3 (i : grid0.Coords) : Fin 1 → Nat :=
  let arg0 : BitVec 32 := BitVec.ofNat 32 (i 0).val
  let v22 : Index := Scalar.indexCast arg0
  ![v22.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S81920x256 : Shape := ⟨2, ![81920, 256]⟩
abbrev S160 : Shape := ⟨1, ![160]⟩
abbrev S1 : Shape := ⟨1, ![1]⟩
abbrev S4x32x1024x512 : Shape := ⟨4, ![4, 32, 1024, 512]⟩
abbrev S4x32x512x1024 : Shape := ⟨4, ![4, 32, 512, 1024]⟩
abbrev S_ : Shape := ⟨0, ![]⟩
abbrev S81920x512 : Shape := ⟨2, ![81920, 512]⟩
abbrev S81920x1024 : Shape := ⟨2, ![81920, 1024]⟩
abbrev S160x512x1024 : Shape := ⟨3, ![160, 512, 1024]⟩
abbrev S512 : Shape := ⟨1, ![512]⟩
abbrev S1x512 : Shape := ⟨2, ![1, 512]⟩
abbrev S160x1 : Shape := ⟨2, ![160, 1]⟩
abbrev S160x512 : Shape := ⟨2, ![160, 512]⟩
abbrev S160x512x1 : Shape := ⟨3, ![160, 512, 1]⟩
abbrev S1x32x1024x512 : Shape := ⟨4, ![1, 32, 1024, 512]⟩
abbrev S32x1024x512 : Shape := ⟨3, ![32, 1024, 512]⟩
abbrev S160x1024x512 : Shape := ⟨3, ![160, 1024, 512]⟩
abbrev S160x512x512 : Shape := ⟨3, ![160, 512, 512]⟩
abbrev S1x32x512x1024 : Shape := ⟨4, ![1, 32, 512, 1024]⟩
abbrev S32x512x1024 : Shape := ⟨3, ![32, 512, 1024]⟩
abbrev S160x1x1 : Shape := ⟨3, ![160, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S81920x256, .i32⟩
  | .hbm, ⟨1, _⟩ => ⟨S81920x256, .i32⟩
  | .hbm, ⟨2, _⟩ => ⟨S160, .i32⟩
  | .hbm, ⟨3, _⟩ => ⟨S160, .i32⟩
  | .hbm, ⟨4, _⟩ => ⟨S1, .i32⟩
  | .hbm, ⟨5, _⟩ => ⟨S4x32x1024x512, .f32⟩
  | .hbm, ⟨6, _⟩ => ⟨S4x32x1024x512, .f32⟩
  | .hbm, ⟨7, _⟩ => ⟨S4x32x512x1024, .f32⟩
  | .hbm, ⟨8, _⟩ => ⟨S_, .i32⟩
  | .hbm, ⟨9, _⟩ => ⟨S81920x256, .i32⟩
  | .hbm, ⟨10, _⟩ => ⟨S81920x256, .i32⟩
  | .hbm, ⟨11, _⟩ => ⟨S81920x256, .f32⟩
  | .hbm, ⟨12, _⟩ => ⟨S_, .i32⟩
  | .hbm, ⟨13, _⟩ => ⟨S81920x256, .i32⟩
  | .hbm, ⟨14, _⟩ => ⟨S81920x256, .i32⟩
  | .hbm, ⟨15, _⟩ => ⟨S81920x256, .f32⟩
  | .hbm, ⟨16, _⟩ => ⟨S81920x512, .f32⟩
  | .hbm, ⟨17, _⟩ => ⟨S_, .i32⟩
  | .hbm, ⟨18, _⟩ => ⟨S81920x256, .i32⟩
  | .hbm, ⟨19, _⟩ => ⟨S81920x256, .i32⟩
  | .hbm, ⟨20, _⟩ => ⟨S81920x256, .f32⟩
  | .hbm, ⟨21, _⟩ => ⟨S_, .i32⟩
  | .hbm, ⟨22, _⟩ => ⟨S81920x256, .i32⟩
  | .hbm, ⟨23, _⟩ => ⟨S81920x256, .i32⟩
  | .hbm, ⟨24, _⟩ => ⟨S81920x256, .f32⟩
  | .hbm, ⟨25, _⟩ => ⟨S81920x512, .f32⟩
  | .hbm, ⟨26, _⟩ => ⟨S81920x1024, .f32⟩
  | .hbm, ⟨27, _⟩ => ⟨S160x512x1024, .f32⟩
  | .hbm, ⟨28, _⟩ => ⟨S512, .i32⟩
  | .hbm, ⟨29, _⟩ => ⟨S1x512, .i32⟩
  | .hbm, ⟨30, _⟩ => ⟨S160x1, .i32⟩
  | .hbm, ⟨31, _⟩ => ⟨S160x512, .i32⟩
  | .hbm, ⟨32, _⟩ => ⟨S160x512, .i32⟩
  | .hbm, ⟨33, _⟩ => ⟨S160x512, .i1⟩
  | .hbm, ⟨34, _⟩ => ⟨S160x512x1, .i1⟩
  | .hbm, ⟨35, _⟩ => ⟨S_, .f32⟩
  | .hbm, ⟨36, _⟩ => ⟨S_, .f32⟩
  | .hbm, ⟨37, _⟩ => ⟨S160x512x1024, .i1⟩
  | .hbm, ⟨38, _⟩ => ⟨S160x512x1024, .f32⟩
  | .hbm, ⟨39, _⟩ => ⟨S160x512x1024, .f32⟩
  | .hbm, ⟨40, _⟩ => ⟨S1x32x1024x512, .f32⟩
  | .hbm, ⟨41, _⟩ => ⟨S32x1024x512, .f32⟩
  | .hbm, ⟨42, _⟩ => ⟨S_, .i32⟩
  | .hbm, ⟨43, _⟩ => ⟨S160, .i32⟩
  | .hbm, ⟨44, _⟩ => ⟨S160, .i1⟩
  | .hbm, ⟨45, _⟩ => ⟨S_, .i32⟩
  | .hbm, ⟨46, _⟩ => ⟨S160, .i32⟩
  | .hbm, ⟨47, _⟩ => ⟨S160, .i32⟩
  | .hbm, ⟨48, _⟩ => ⟨S160, .i32⟩
  | .hbm, ⟨49, _⟩ => ⟨S160x1, .i32⟩
  | .hbm, ⟨50, _⟩ => ⟨S160x1024x512, .f32⟩
  | .hbm, ⟨51, _⟩ => ⟨S160x512x512, .f32⟩
  | .hbm, ⟨52, _⟩ => ⟨S160x512x512, .f32⟩
  | .hbm, ⟨53, _⟩ => ⟨S160x512x512, .f32⟩
  | .hbm, ⟨54, _⟩ => ⟨S_, .f32⟩
  | .hbm, ⟨55, _⟩ => ⟨S160x512x512, .f32⟩
  | .hbm, ⟨56, _⟩ => ⟨S160x512x512, .f32⟩
  | .hbm, ⟨57, _⟩ => ⟨S_, .f32⟩
  | .hbm, ⟨58, _⟩ => ⟨S160x512x512, .f32⟩
  | .hbm, ⟨59, _⟩ => ⟨S160x512x512, .f32⟩
  | .hbm, ⟨60, _⟩ => ⟨S160x512x512, .f32⟩
  | .hbm, ⟨61, _⟩ => ⟨S1x32x1024x512, .f32⟩
  | .hbm, ⟨62, _⟩ => ⟨S32x1024x512, .f32⟩
  | .hbm, ⟨63, _⟩ => ⟨S_, .i32⟩
  | .hbm, ⟨64, _⟩ => ⟨S160, .i32⟩
  | .hbm, ⟨65, _⟩ => ⟨S160, .i1⟩
  | .hbm, ⟨66, _⟩ => ⟨S_, .i32⟩
  | .hbm, ⟨67, _⟩ => ⟨S160, .i32⟩
  | .hbm, ⟨68, _⟩ => ⟨S160, .i32⟩
  | .hbm, ⟨69, _⟩ => ⟨S160, .i32⟩
  | .hbm, ⟨70, _⟩ => ⟨S160x1, .i32⟩
  | .hbm, ⟨71, _⟩ => ⟨S160x1024x512, .f32⟩
  | .hbm, ⟨72, _⟩ => ⟨S160x512x512, .f32⟩
  | .hbm, ⟨73, _⟩ => ⟨S160x512x512, .f32⟩
  | .hbm, ⟨74, _⟩ => ⟨S1x32x512x1024, .f32⟩
  | .hbm, ⟨75, _⟩ => ⟨S32x512x1024, .f32⟩
  | .hbm, ⟨76, _⟩ => ⟨S_, .i32⟩
  | .hbm, ⟨77, _⟩ => ⟨S160, .i32⟩
  | .hbm, ⟨78, _⟩ => ⟨S160, .i1⟩
  | .hbm, ⟨79, _⟩ => ⟨S_, .i32⟩
  | .hbm, ⟨80, _⟩ => ⟨S160, .i32⟩
  | .hbm, ⟨81, _⟩ => ⟨S160, .i32⟩
  | .hbm, ⟨82, _⟩ => ⟨S160, .i32⟩
  | .hbm, ⟨83, _⟩ => ⟨S160x1, .i32⟩
  | .hbm, ⟨84, _⟩ => ⟨S160x512x1024, .f32⟩
  | .hbm, ⟨85, _⟩ => ⟨S160x512x1024, .f32⟩
  | .hbm, ⟨86, _⟩ => ⟨S160, .i32⟩
  | .hbm, ⟨87, _⟩ => ⟨S_, .i32⟩
  | .hbm, ⟨88, _⟩ => ⟨S160, .i32⟩
  | .hbm, ⟨89, _⟩ => ⟨S160, .i1⟩
  | .hbm, ⟨90, _⟩ => ⟨S160x1x1, .i1⟩
  | .hbm, ⟨91, _⟩ => ⟨S_, .f32⟩
  | .hbm, ⟨92, _⟩ => ⟨S_, .f32⟩
  | .hbm, ⟨93, _⟩ => ⟨S160x512x1024, .i1⟩
  | .hbm, ⟨94, _⟩ => ⟨S160x512x1024, .f32⟩
  | .hbm, ⟨95, _⟩ => ⟨S160x512x1024, .f32⟩
  | .hbm, ⟨96, _⟩ => ⟨S81920x1024, .f32⟩
  | .hbm, ⟨97, _⟩ => ⟨S81920x1024, .bf16⟩
  | _, _ => ⟨S81920x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_5 : Ref sig .tc := ⟨.hbm, 63, rfl⟩
abbrev main_v37 : Ref sig .tc := ⟨.hbm, 64, rfl⟩
abbrev main_v38 : Ref sig .tc := ⟨.hbm, 65, rfl⟩
abbrev main_c_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_7 : Ref sig .tc := ⟨.hbm, 76, rfl⟩
abbrev main_v48 : Ref sig .tc := ⟨.hbm, 77, rfl⟩
abbrev main_v49 : Ref sig .tc := ⟨.hbm, 78, rfl⟩
abbrev main_c_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩

abbrev nD : Nat := 1
abbrev τ : Topo := Topo.v7x

variable {F : FTy → Type} [FloatOps F]
-- ==== Final.lean ====
abbrev S8x4096x1024 : Shape := ⟨3, ![8, 4096, 1024]⟩
abbrev S2x8x4096x1024 : Shape := ⟨4, ![2, 8, 4096, 1024]⟩
abbrev S8x4096x128 : Shape := ⟨3, ![8, 4096, 128]⟩
abbrev S8x6x1024 : Shape := ⟨3, ![8, 6, 1024]⟩
abbrev S1024 : Shape := ⟨1, ![1024]⟩
abbrev S1x1024 : Shape := ⟨2, ![1, 1024]⟩
abbrev S1x512x1024 : Shape := ⟨3, ![1, 512, 1024]⟩
abbrev S2x1x512x1024 : Shape := ⟨4, ![2, 1, 512, 1024]⟩
abbrev S1x512x128 : Shape := ⟨3, ![1, 512, 128]⟩
abbrev S1x6x1024 : Shape := ⟨3, ![1, 6, 1024]⟩
abbrev S512x1024 : Shape := ⟨2, ![512, 1024]⟩
abbrev S512x128 : Shape := ⟨2, ![512, 128]⟩
abbrev S512x1 : Shape := ⟨2, ![512, 1]⟩
abbrev S1x1x512x1024 : Shape := ⟨4, ![1, 1, 512, 1024]⟩
abbrev S1x1x1024 : Shape := ⟨3, ![1, 1, 1024]⟩
abbrev S512 : Shape := ⟨1, ![512]⟩

abbrev nBuf : Space → Nat
  | .hbm => 7
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S2x8x4096x1024, .bf16⟩
  | .hbm, ⟨2, _⟩ => ⟨S8x4096x128, .f32⟩
  | .hbm, ⟨3, _⟩ => ⟨S8x6x1024, .f32⟩
  | .hbm, ⟨4, _⟩ => ⟨S1024, .f32⟩
  | .hbm, ⟨5, _⟩ => ⟨S1x1024, .f32⟩
  | .hbm, ⟨6, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S2x1x512x1024, .bf16⟩
  | .local _ .vmem, ⟨3, _⟩ => ⟨S2x1x512x1024, .bf16⟩
  | .local _ .vmem, ⟨4, _⟩ => ⟨S1x512x128, .f32⟩
  | .local _ .vmem, ⟨5, _⟩ => ⟨S1x512x128, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FinalReferenceIdeal.lean ====
abbrev S8x4096x1024 : Shape := ⟨3, ![8, 4096, 1024]⟩
abbrev S2x8x4096x1024 : Shape := ⟨4, ![2, 8, 4096, 1024]⟩
abbrev S8x4096x128 : Shape := ⟨3, ![8, 4096, 128]⟩
abbrev S8x6x1024 : Shape := ⟨3, ![8, 6, 1024]⟩
abbrev S1024 : Shape := ⟨1, ![1024]⟩
abbrev S8x4096x1 : Shape := ⟨3, ![8, 4096, 1]⟩
abbrev S8x4096 : Shape := ⟨2, ![8, 4096]⟩
abbrev S1x8x4096x1024 : Shape := ⟨4, ![1, 8, 4096, 1024]⟩
abbrev S8x1x1024 : Shape := ⟨3, ![8, 1, 1024]⟩
abbrev S8x1024 : Shape := ⟨2, ![8, 1024]⟩
abbrev S_ : Shape := ⟨0, ![]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x8x4096x1024, .bf16⟩
  | .hbm, ⟨2, _⟩ => ⟨S8x4096x128, .f32⟩
  | .hbm, ⟨3, _⟩ => ⟨S8x6x1024, .f32⟩
  | .hbm, ⟨4, _⟩ => ⟨S1024, .f32⟩
  | .hbm, ⟨5, _⟩ => ⟨S8x4096x1, .f32⟩
  | .hbm, ⟨6, _⟩ => ⟨S8x4096, .f32⟩
  | .hbm, ⟨7, _⟩ => ⟨S8x4096x1, .f32⟩
  | .hbm, ⟨8, _⟩ => ⟨S1x8x4096x1024, .bf16⟩
  | .hbm, ⟨9, _⟩ => ⟨S8x4096x1024, .bf16⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S8x4096x1, .f32⟩
  | .hbm, ⟨14, _⟩ => ⟨S8x4096, .f32⟩
  | .hbm, ⟨15, _⟩ => ⟨S8x4096x1, .f32⟩
  | .hbm, ⟨16, _⟩ => ⟨S1x8x4096x1024, .bf16⟩
  | .hbm, ⟨17, _⟩ => ⟨S8x4096x1024, .bf16⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1, .f32⟩
  | .hbm, ⟨39, _⟩ => ⟨S8x4096x1024, .f32⟩
  | .hbm, ⟨40, _⟩ => ⟨S8x4096x1024, .f32⟩
  | .hbm, ⟨41, _⟩ => ⟨S1x1x1024, .f32⟩
  | .hbm, ⟨42, _⟩ => ⟨S8x4096x1024, .f32⟩
  | .hbm, ⟨43, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Project.lean ====
abbrev S8x4096x1024 : Shape := ⟨3, ![8, 4096, 1024]⟩
abbrev S2x8x4096x1024 : Shape := ⟨4, ![2, 8, 4096, 1024]⟩
abbrev S8x4096x128 : Shape := ⟨3, ![8, 4096, 128]⟩
abbrev S8x6x1024 : Shape := ⟨3, ![8, 6, 1024]⟩
abbrev S1024 : Shape := ⟨1, ![1024]⟩
abbrev S1024x3072 : Shape := ⟨2, ![1024, 3072]⟩
abbrev S1x1024 : Shape := ⟨2, ![1, 1024]⟩
abbrev S8x4096x3072 : Shape := ⟨3, ![8, 4096, 3072]⟩
abbrev S1x512x1024 : Shape := ⟨3, ![1, 512, 1024]⟩
abbrev S2x1x512x1024 : Shape := ⟨4, ![2, 1, 512, 1024]⟩
abbrev S1x512x128 : Shape := ⟨3, ![1, 512, 128]⟩
abbrev S1x6x1024 : Shape := ⟨3, ![1, 6, 1024]⟩
abbrev S1x512x3072 : Shape := ⟨3, ![1, 512, 3072]⟩
abbrev S1x256x1024 : Shape := ⟨3, ![1, 256, 1024]⟩
abbrev S256x1024 : Shape := ⟨2, ![256, 1024]⟩
abbrev S1x256x128 : Shape := ⟨3, ![1, 256, 128]⟩
abbrev S256x128 : Shape := ⟨2, ![256, 128]⟩
abbrev S256x1 : Shape := ⟨2, ![256, 1]⟩
abbrev S1x1x256x1024 : Shape := ⟨4, ![1, 1, 256, 1024]⟩
abbrev S1x1x1024 : Shape := ⟨3, ![1, 1, 1024]⟩
abbrev S256 : Shape := ⟨1, ![256]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 11
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S2x8x4096x1024, .bf16⟩
  | .hbm, ⟨2, _⟩ => ⟨S8x4096x128, .f32⟩
  | .hbm, ⟨3, _⟩ => ⟨S8x6x1024, .f32⟩
  | .hbm, ⟨4, _⟩ => ⟨S1024, .f32⟩
  | .hbm, ⟨5, _⟩ => ⟨S8x6x1024, .f32⟩
  | .hbm, ⟨6, _⟩ => ⟨S1024x3072, .f32⟩
  | .hbm, ⟨7, _⟩ => ⟨S1024x3072, .bf16⟩
  | .hbm, ⟨8, _⟩ => ⟨S1x1024, .f32⟩
  | .hbm, ⟨9, _⟩ => ⟨S8x4096x1024, .f32⟩
  | .hbm, ⟨10, _⟩ => ⟨S8x4096x3072, .bf16⟩
  | .local _ .vmem, ⟨0, _⟩ => ⟨S1x512x1024, .f32⟩
  | .local _ .vmem, ⟨1, _⟩ => ⟨S1x512x1024, .f32⟩
  | .local _ .vmem, ⟨2, _⟩ => ⟨S2x1x512x1024, .bf16⟩
  | .local _ .vmem, ⟨3, _⟩ => ⟨S2x1x512x1024, .bf16⟩
  | .local _ .vmem, ⟨4, _⟩ => ⟨S1x512x128, .f32⟩
  | .local _ .vmem, ⟨5, _⟩ => ⟨S1x512x128, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x6x1024, .f32⟩
  | .local _ .vmem, ⟨10, _⟩ => ⟨S1x6x1024, .f32⟩
  | .local _ .vmem, ⟨11, _⟩ => ⟨S1024x3072, .bf16⟩
  | .local _ .vmem, ⟨12, _⟩ => ⟨S1x512x1024, .f32⟩
  | .local _ .vmem, ⟨13, _⟩ => ⟨S1x512x1024, .f32⟩
  | .local _ .vmem, ⟨14, _⟩ => ⟨S1x512x3072, .bf16⟩
  | .local _ .vmem, ⟨15, _⟩ => ⟨S1x512x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjectReferenceIdeal.lean ====
abbrev S8x4096x1024 : Shape := ⟨3, ![8, 4096, 1024]⟩
abbrev S2x8x4096x1024 : Shape := ⟨4, ![2, 8, 4096, 1024]⟩
abbrev S8x4096x128 : Shape := ⟨3, ![8, 4096, 128]⟩
abbrev S8x6x1024 : Shape := ⟨3, ![8, 6, 1024]⟩
abbrev S1024 : Shape := ⟨1, ![1024]⟩
abbrev S1024x3072 : Shape := ⟨2, ![1024, 3072]⟩
abbrev S8x4096x1 : Shape := ⟨3, ![8, 4096, 1]⟩
abbrev S8x4096 : Shape := ⟨2, ![8, 4096]⟩
abbrev S1x8x4096x1024 : Shape := ⟨4, ![1, 8, 4096, 1024]⟩
abbrev S8x1x1024 : Shape := ⟨3, ![8, 1, 1024]⟩
abbrev S8x1024 : Shape := ⟨2, ![8, 1024]⟩
abbrev S_ : Shape := ⟨0, ![]⟩
abbrev S1x1x1024 : Shape := ⟨3, ![1, 1, 1024]⟩
abbrev S8x4096x3072 : Shape := ⟨3, ![8, 4096, 3072]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x8x4096x1024, .bf16⟩
  | .hbm, ⟨2, _⟩ => ⟨S8x4096x128, .f32⟩
  | .hbm, ⟨3, _⟩ => ⟨S8x6x1024, .f32⟩
  | .hbm, ⟨4, _⟩ => ⟨S1024, .f32⟩
  | .hbm, ⟨5, _⟩ => ⟨S8x6x1024, .f32⟩
  | .hbm, ⟨6, _⟩ => ⟨S1024x3072, .f32⟩
  | .hbm, ⟨7, _⟩ => ⟨S8x4096x1, .f32⟩
  | .hbm, ⟨8, _⟩ => ⟨S8x4096, .f32⟩
  | .hbm, ⟨9, _⟩ => ⟨S8x4096x1, .f32⟩
  | .hbm, ⟨10, _⟩ => ⟨S1x8x4096x1024, .bf16⟩
  | .hbm, ⟨11, _⟩ => ⟨S8x4096x1024, .bf16⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1, .f32⟩
  | .hbm, ⟨16, _⟩ => ⟨S8x4096, .f32⟩
  | .hbm, ⟨17, _⟩ => ⟨S8x4096x1, .f32⟩
  | .hbm, ⟨18, _⟩ => ⟨S1x8x4096x1024, .bf16⟩
  | .hbm, ⟨19, _⟩ => ⟨S8x4096x1024, .bf16⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S8x1x1024, .f32⟩
  | .hbm, ⟨47, _⟩ => ⟨S8x1024, .f32⟩
  | .hbm, ⟨48, _⟩ => ⟨S8x1x1024, .f32⟩
  | .hbm, ⟨49, _⟩ => ⟨S_, .f32⟩
  | .hbm, ⟨50, _⟩ => ⟨S8x1x1024, .f32⟩
  | .hbm, ⟨51, _⟩ => ⟨S8x1x1024, .f32⟩
  | .hbm, ⟨52, _⟩ => ⟨S8x4096x1024, .f32⟩
  | .hbm, ⟨53, _⟩ => ⟨S8x4096x1024, .f32⟩
  | .hbm, ⟨54, _⟩ => ⟨S8x1x1024, .f32⟩
  | .hbm, ⟨55, _⟩ => ⟨S8x1024, .f32⟩
  | .hbm, ⟨56, _⟩ => ⟨S8x1x1024, .f32⟩
  | .hbm, ⟨57, _⟩ => ⟨S8x4096x1024, .f32⟩
  | .hbm, ⟨58, _⟩ => ⟨S8x4096x1024, .f32⟩
  | .hbm, ⟨59, _⟩ => ⟨S8x4096x3072, .f32⟩
  | .hbm, ⟨60, _⟩ => ⟨S8x4096x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== EvenProject.lean ====
abbrev S8x4096x1024 : Shape := ⟨3, ![8, 4096, 1024]⟩
abbrev S2x8x4096x1024 : Shape := ⟨4, ![2, 8, 4096, 1024]⟩
abbrev S8x4096x128 : Shape := ⟨3, ![8, 4096, 128]⟩
abbrev S8x6x1024 : Shape := ⟨3, ![8, 6, 1024]⟩
abbrev S1024 : Shape := ⟨1, ![1024]⟩
abbrev S1024x3088 : Shape := ⟨2, ![1024, 3088]⟩
abbrev S1024x3072 : Shape := ⟨2, ![1024, 3072]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S1x1024 : Shape := ⟨2, ![1, 1024]⟩
abbrev S8x4096x3072 : Shape := ⟨3, ![8, 4096, 3072]⟩
abbrev S1x512x1024 : Shape := ⟨3, ![1, 512, 1024]⟩
abbrev S2x1x512x1024 : Shape := ⟨4, ![2, 1, 512, 1024]⟩
abbrev S1x512x128 : Shape := ⟨3, ![1, 512, 128]⟩
abbrev S1x6x1024 : Shape := ⟨3, ![1, 6, 1024]⟩
abbrev S1x512x3072 : Shape := ⟨3, ![1, 512, 3072]⟩
abbrev S1x256x1024 : Shape := ⟨3, ![1, 256, 1024]⟩
abbrev S256x1024 : Shape := ⟨2, ![256, 1024]⟩
abbrev S1x256x128 : Shape := ⟨3, ![1, 256, 128]⟩
abbrev S256x128 : Shape := ⟨2, ![256, 128]⟩
abbrev S256x1 : Shape := ⟨2, ![256, 1]⟩
abbrev S1x1x256x1024 : Shape := ⟨4, ![1, 1, 256, 1024]⟩
abbrev S1x1x1024 : Shape := ⟨3, ![1, 1, 1024]⟩
abbrev S256 : Shape := ⟨1, ![256]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 20
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S2x8x4096x1024, .bf16⟩
  | .hbm, ⟨2, _⟩ => ⟨S8x4096x128, .f32⟩
  | .hbm, ⟨3, _⟩ => ⟨S8x6x1024, .f32⟩
  | .hbm, ⟨4, _⟩ => ⟨S1024, .f32⟩
  | .hbm, ⟨5, _⟩ => ⟨S8x6x1024, .f32⟩
  | .hbm, ⟨6, _⟩ => ⟨S1024x3088, .f32⟩
  | .hbm, ⟨7, _⟩ => ⟨S1024x3072, .f32⟩
  | .hbm, ⟨8, _⟩ => ⟨S1024x3072, .bf16⟩
  | .hbm, ⟨9, _⟩ => ⟨S_, .bf16⟩
  | .hbm, ⟨10, _⟩ => ⟨S1024x128, .bf16⟩
  | .hbm, ⟨11, _⟩ => ⟨S1024x16, .f32⟩
  | .hbm, ⟨12, _⟩ => ⟨S1024x16, .bf16⟩
  | .hbm, ⟨13, _⟩ => ⟨S_, .i32⟩
  | .hbm, ⟨14, _⟩ => ⟨S1, .i32⟩
  | .hbm, ⟨15, _⟩ => ⟨S1024x128, .bf16⟩
  | .hbm, ⟨16, _⟩ => ⟨S1x1024, .f32⟩
  | .hbm, ⟨17, _⟩ => ⟨S8x4096x1024, .f32⟩
  | .hbm, ⟨18, _⟩ => ⟨S8x4096x3072, .bf16⟩
  | .hbm, ⟨19, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S2x1x512x1024, .bf16⟩
  | .local _ .vmem, ⟨3, _⟩ => ⟨S2x1x512x1024, .bf16⟩
  | .local _ .vmem, ⟨4, _⟩ => ⟨S1x512x128, .f32⟩
  | .local _ .vmem, ⟨5, _⟩ => ⟨S1x512x128, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x6x1024, .f32⟩
  | .local _ .vmem, ⟨10, _⟩ => ⟨S1x6x1024, .f32⟩
  | .local _ .vmem, ⟨11, _⟩ => ⟨S1024x3072, .bf16⟩
  | .local _ .vmem, ⟨12, _⟩ => ⟨S1024x128, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x3072, .bf16⟩
  | .local _ .vmem, ⟨16, _⟩ => ⟨S1x512x3072, .bf16⟩
  | .local _ .vmem, ⟨17, _⟩ => ⟨S1x512x128, .f32⟩
  | .local _ .vmem, ⟨18, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== EvenProjectReferenceIdeal.lean ====
abbrev S8x4096x1024 : Shape := ⟨3, ![8, 4096, 1024]⟩
abbrev S2x8x4096x1024 : Shape := ⟨4, ![2, 8, 4096, 1024]⟩
abbrev S8x4096x128 : Shape := ⟨3, ![8, 4096, 128]⟩
abbrev S8x6x1024 : Shape := ⟨3, ![8, 6, 1024]⟩
abbrev S1024 : Shape := ⟨1, ![1024]⟩
abbrev S1024x3088 : Shape := ⟨2, ![1024, 3088]⟩
abbrev S8x4096x1 : Shape := ⟨3, ![8, 4096, 1]⟩
abbrev S8x4096 : Shape := ⟨2, ![8, 4096]⟩
abbrev S1x8x4096x1024 : Shape := ⟨4, ![1, 8, 4096, 1024]⟩
abbrev S8x1x1024 : Shape := ⟨3, ![8, 1, 1024]⟩
abbrev S8x1024 : Shape := ⟨2, ![8, 1024]⟩
abbrev S_ : Shape := ⟨0, ![]⟩
abbrev S1x1x1024 : Shape := ⟨3, ![1, 1, 1024]⟩
abbrev S8x4096x3088 : Shape := ⟨3, ![8, 4096, 3088]⟩
abbrev S8x4096x3072 : Shape := ⟨3, ![8, 4096, 3072]⟩
abbrev S8x4096x16 : Shape := ⟨3, ![8, 4096, 16]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x8x4096x1024, .bf16⟩
  | .hbm, ⟨2, _⟩ => ⟨S8x4096x128, .f32⟩
  | .hbm, ⟨3, _⟩ => ⟨S8x6x1024, .f32⟩
  | .hbm, ⟨4, _⟩ => ⟨S1024, .f32⟩
  | .hbm, ⟨5, _⟩ => ⟨S8x6x1024, .f32⟩
  | .hbm, ⟨6, _⟩ => ⟨S1024x3088, .f32⟩
  | .hbm, ⟨7, _⟩ => ⟨S8x4096x1, .f32⟩
  | .hbm, ⟨8, _⟩ => ⟨S8x4096, .f32⟩
  | .hbm, ⟨9, _⟩ => ⟨S8x4096x1, .f32⟩
  | .hbm, ⟨10, _⟩ => ⟨S1x8x4096x1024, .bf16⟩
  | .hbm, ⟨11, _⟩ => ⟨S8x4096x1024, .bf16⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1, .f32⟩
  | .hbm, ⟨16, _⟩ => ⟨S8x4096, .f32⟩
  | .hbm, ⟨17, _⟩ => ⟨S8x4096x1, .f32⟩
  | .hbm, ⟨18, _⟩ => ⟨S1x8x4096x1024, .bf16⟩
  | .hbm, ⟨19, _⟩ => ⟨S8x4096x1024, .bf16⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S8x1x1024, .f32⟩
  | .hbm, ⟨47, _⟩ => ⟨S8x1024, .f32⟩
  | .hbm, ⟨48, _⟩ => ⟨S8x1x1024, .f32⟩
  | .hbm, ⟨49, _⟩ => ⟨S_, .f32⟩
  | .hbm, ⟨50, _⟩ => ⟨S8x1x1024, .f32⟩
  | .hbm, ⟨51, _⟩ => ⟨S8x1x1024, .f32⟩
  | .hbm, ⟨52, _⟩ => ⟨S8x4096x1024, .f32⟩
  | .hbm, ⟨53, _⟩ => ⟨S8x4096x1024, .f32⟩
  | .hbm, ⟨54, _⟩ => ⟨S8x1x1024, .f32⟩
  | .hbm, ⟨55, _⟩ => ⟨S8x1024, .f32⟩
  | .hbm, ⟨56, _⟩ => ⟨S8x1x1024, .f32⟩
  | .hbm, ⟨57, _⟩ => ⟨S8x4096x1024, .f32⟩
  | .hbm, ⟨58, _⟩ => ⟨S8x4096x1024, .f32⟩
  | .hbm, ⟨59, _⟩ => ⟨S8x4096x3088, .f32⟩
  | .hbm, ⟨60, _⟩ => ⟨S8x4096x3072, .f32⟩
  | .hbm, ⟨61, _⟩ => ⟨S8x4096x3072, .bf16⟩
  | .hbm, ⟨62, _⟩ => ⟨S8x4096x16, .f32⟩
  | .hbm, ⟨63, _⟩ => ⟨S_, .i32⟩
  | .hbm, ⟨64, _⟩ => ⟨S_, .f32⟩
  | .hbm, ⟨65, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c : Ref sig .tc := ⟨.hbm, 63, rfl⟩
abbrev main_call0_v0 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== FirstProject.lean ====
abbrev S8x4096x1024 : Shape := ⟨3, ![8, 4096, 1024]⟩
abbrev S1024 : Shape := ⟨1, ![1024]⟩
abbrev S8x6x1024 : Shape := ⟨3, ![8, 6, 1024]⟩
abbrev S1024x3088 : Shape := ⟨2, ![1024, 3088]⟩
abbrev S1024x3072 : Shape := ⟨2, ![1024, 3072]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S1x1024 : Shape := ⟨2, ![1, 1024]⟩
abbrev S8x4096x3072 : Shape := ⟨3, ![8, 4096, 3072]⟩
abbrev S8x4096x128 : Shape := ⟨3, ![8, 4096, 128]⟩
abbrev S1x512x1024 : Shape := ⟨3, ![1, 512, 1024]⟩
abbrev S1x6x1024 : Shape := ⟨3, ![1, 6, 1024]⟩
abbrev S1x512x3072 : Shape := ⟨3, ![1, 512, 3072]⟩
abbrev S1x512x128 : Shape := ⟨3, ![1, 512, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x512 : Shape := ⟨2, ![1024, 512]⟩
abbrev S256x512 : Shape := ⟨2, ![256, 512]⟩
abbrev S1x256x512 : Shape := ⟨3, ![1, 256, 512]⟩
abbrev S256x128 : Shape := ⟨2, ![256, 128]⟩
abbrev S1x256x128 : Shape := ⟨3, ![1, 256, 128]⟩

abbrev nBuf : Space → Nat
  | .hbm => 16
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x6x1024, .f32⟩
  | .hbm, ⟨3, _⟩ => ⟨S1024x3088, .f32⟩
  | .hbm, ⟨4, _⟩ => ⟨S1024x3072, .f32⟩
  | .hbm, ⟨5, _⟩ => ⟨S1024x3072, .bf16⟩
  | .hbm, ⟨6, _⟩ => ⟨S_, .bf16⟩
  | .hbm, ⟨7, _⟩ => ⟨S1024x128, .bf16⟩
  | .hbm, ⟨8, _⟩ => ⟨S1024x16, .f32⟩
  | .hbm, ⟨9, _⟩ => ⟨S1024x16, .bf16⟩
  | .hbm, ⟨10, _⟩ => ⟨S_, .i32⟩
  | .hbm, ⟨11, _⟩ => ⟨S1, .i32⟩
  | .hbm, ⟨12, _⟩ => ⟨S1024x128, .bf16⟩
  | .hbm, ⟨13, _⟩ => ⟨S1x1024, .f32⟩
  | .hbm, ⟨14, _⟩ => ⟨S8x4096x3072, .bf16⟩
  | .hbm, ⟨15, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x3072, .bf16⟩
  | .local _ .vmem, ⟨6, _⟩ => ⟨S1024x128, .bf16⟩
  | .local _ .vmem, ⟨7, _⟩ => ⟨S1x512x3072, .bf16⟩
  | .local _ .vmem, ⟨8, _⟩ => ⟨S1x512x3072, .bf16⟩
  | .local _ .vmem, ⟨9, _⟩ => ⟨S1x512x128, .f32⟩
  | .local _ .vmem, ⟨10, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FirstProjectReferenceIdeal.lean ====
abbrev S8x4096x1024 : Shape := ⟨3, ![8, 4096, 1024]⟩
abbrev S1024 : Shape := ⟨1, ![1024]⟩
abbrev S8x6x1024 : Shape := ⟨3, ![8, 6, 1024]⟩
abbrev S1024x3088 : Shape := ⟨2, ![1024, 3088]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S8x4096x3088 : Shape := ⟨3, ![8, 4096, 3088]⟩
abbrev S8x4096x3072 : Shape := ⟨3, ![8, 4096, 3072]⟩
abbrev S8x4096x16 : Shape := ⟨3, ![8, 4096, 16]⟩
abbrev S8x4096x128 : Shape := ⟨3, ![8, 4096, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x6x1024, .f32⟩
  | .hbm, ⟨3, _⟩ => ⟨S1024x3088, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x1x1024, .f32⟩
  | .hbm, ⟨21, _⟩ => ⟨S8x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S8x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x3088, .f32⟩
  | .hbm, ⟨34, _⟩ => ⟨S8x4096x3072, .f32⟩
  | .hbm, ⟨35, _⟩ => ⟨S8x4096x3072, .bf16⟩
  | .hbm, ⟨36, _⟩ => ⟨S8x4096x16, .f32⟩
  | .hbm, ⟨37, _⟩ => ⟨S_, .i32⟩
  | .hbm, ⟨38, _⟩ => ⟨S_, .f32⟩
  | .hbm, ⟨39, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_call0_v0 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.ExpertRuns.lean ====
/-
  The experts' body at one tile, on any staging buffers: what each of its four courses leaves behind.
-/
module

public import proofs.«01_k».proof.Proof.Gen.ExpertsIdeal.Launch
public import proofs.«01_k».proof.Proof.Gen.ExpertsIdeal.Skeleton
public import Idealize.ShloMosaic.Lib.Pipeline.Frame
public import Idealize.ShloMosaic.Lib.Pipeline.TableIdle
public import Idealize.ShloMosaic.Lib.VecWindow

@[expose] public section

noncomputable section

namespace Cert.Proof.Experts

open Cert.ExpertsIdeal Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables as the body is handed them. -/
abbrev tbE : Memref sig .tc .smem S160 .i32 := Memref.whole main_arg2
abbrev tbV : Memref sig .tc .smem S160 .i32 := Memref.whole main_arg3
abbrev tbN : Memref sig .tc .smem S1 .i32 := Memref.whole main_arg4

abbrev TbBuf (c : Dev nD) {S : Shape} {e : EltTy} (M : Memref sig .tc .smem S e) : Type := Buf (Elt F) (M.view.loc (c : Thread nD τ))
/-- Half of a table: the body only reads it. -/
abbrev tbPt (c : Dev nD) {S : Shape} {e : EltTy} (M : Memref sig .tc .smem S e) (f : TbBuf (F := F) c M) : sProp 𝕄 :=
  M.view.loc (c : Thread nD τ) ↦{fullShare.right} f

/-- The words a tile reads from the tables. -/
abbrev wordE (c : Dev nD) (i : grid0.Coords) (f : TbBuf (F := F) c tbE) : BitVec 32 :=
  tbE.view.readAt (Elt F) (Rect.unit (s := S160) (k0_off1 i) S1.size (k0_off1_inb i)).toLoadRect f (Shape.Idx.first (numel1_S1.symm ▸ Nat.one_pos))
abbrev wordP (c : Dev nD) (i : grid0.Coords) (f : TbBuf (F := F) c tbE) : BitVec 32 :=
  tbE.view.readAt (Elt F) (Rect.unit (s := S160) (k0_off2 i) S1.size (k0_off2_inb i)).toLoadRect f (Shape.Idx.first (numel1_S1.symm ▸ Nat.one_pos))
abbrev wordV (c : Dev nD) (i : grid0.Coords) (f : TbBuf (F := F) c tbV) : BitVec 32 :=
  tbV.view.readAt (Elt F) (Rect.unit (s := S160) (k0_off3 i) S1.size (k0_off3_inb i)).toLoadRect f (Shape.Idx.first (numel1_S1.symm ▸ Nat.one_pos))
abbrev wordN (c : Dev nD) (f : TbBuf (F := F) c tbN) : BitVec 32 :=
  tbN.view.readAt (Elt F) (Rect.unit (s := S1) ![0] S1.size inb_S1_S1_0).toLoadRect f (Shape.Idx.first (numel1_S1.symm ▸ Nat.one_pos))

/-- The weights are laid out anew at the first tile and wherever the tile's expert is not the one before's. -/
abbrev Fresh (i : grid0.Coords) (p e : BitVec 32) : Prop :=
  Scalar.cmpi .ne (Scalar.extui (Scalar.ori (Scalar.cmpi .eq (BitVec.ofNat 32 (i 0).val) 0#32) (Scalar.cmpi .ne e p))) 0#32 = 1#1

/-- A memref stored whole is owned at what was stored. -/
theorem owns_stored (c : Dev nD) {sp : Space} {sh : Shape} {e : EltTy} (M : Memref sig .tc sp sh e) (off : Fin sh.rank → ℕ)
    (inb : ∀ a, off a + sh.size a ≤ sh.size a) (f : Buf (Elt F) (M.view.loc (c : Thread nD τ))) (p : sh.Idx → Elt F e) :
    (M.view.loc (c : Thread nD τ) ↦[M.view.set]{fullShare} M.view.writes (Elt F) f [⟨Rect.unit off sh.size inb, p⟩] : sProp 𝕄)
      ⊢ owns (c : Thread nD τ) M fullShare p := by
  unfold owns
  iintro H
  iexists _
  isplitr
  swap; · iexact H
  ipureintro
  funext z
  have h := View.read_writes_cons_emb M.view f (Rect.unit off sh.size inb) p [] z
  rwa [Rect.emb_unit_full] at h

/-- The first half of a tile: the tile's expert against the one before's, and the weights laid out anew when they differ. -/
def head (i : grid0.Coords) (arg1 : Memref sig .tc .smem S160 .i32) (harg1 : arg1.IsWhole) (arg2 : Memref sig .tc .smem S160 .i32) (harg2 : arg2.IsWhole) (arg3 : Memref sig .tc .smem S1 .i32) (harg3 : arg3.IsWhole) (arg4 : Memref sig .tc .vmem S512x256 .i32) (harg4 : arg4.IsWhole) (arg5 : Memref sig .tc .vmem S512x256 .i32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) : Prog (TpuEff nD τ sig (Elt F) Λ₀ .tc) PUnit := do
  let arg0 : BitVec 32 := BitVec.ofNat 32 (i 0).val
  let v3 : Elt F .i32 ← smemLoad arg1 (Rect.unit (s := S160) (k0_off2 i) S1.size (k0_off2_inb i)) numel1_S1 rfl
  let v4 : BitVec 1 := Scalar.cmpi .eq arg0 0#32
  let v6 : Elt F .i32 ← smemLoad arg1 (Rect.unit (s := S160) (k0_off1 i) S1.size (k0_off1_inb i)) numel1_S1 rfl
  let v7 : BitVec 1 := Scalar.cmpi .ne v6 v3
  let v8 : BitVec 1 := Scalar.ori v4 v7
  let v9 : BitVec 32 := Scalar.extui v8
  let v10 : BitVec 1 := Scalar.cmpi .ne v9 0#32
  if v10 = 1#1 then do
    let v19 : Vec F S1x1x1024x512 .f32 ← Prog.lift (.load arg6 (Rect.unit (s := S1x1x1024x512) ![0, 0, 0, 0] S1x1x1024x512.size inb_S1x1x1024x512_S1x1x1024x512_0_0_0_0).toLoadRect (View.loadsAt_vmem h_S1x1x1024x512))
    let v22 : Vec F S1024x512 .bf16 ← Prog.lift (.load arg10 (Rect.unit (s := S1024x512) ![0, 0] S1024x512.size inb_S1024x512_S1024x512_0_0).toLoadRect (View.loadsAt_vmem h_S1024x512))
    Prog.lift (.store arg10 (Rect.unit (s := S1024x512) ![0, 0] S1024x512.size inb_S1024x512_S1024x512_0_0) (k0_pay1 v19) Finset.univ (View.stores_vmem h_S1024x512 (harg10.storeExact_slice rfl _ packedbf16_S1024x512_S1024x512_0_0) (fun _ => rfl)) (.inl rfl))
    let v25 : Vec F S1x1x1024x512 .f32 ← Prog.lift (.load arg7 (Rect.unit (s := S1x1x1024x512) ![0, 0, 0, 0] S1x1x1024x512.size inb_S1x1x1024x512_S1x1x1024x512_0_0_0_0).toLoadRect (View.loadsAt_vmem h_S1x1x1024x512))
    let v28 : Vec F S1024x512 .bf16 ← Prog.lift (.load arg11 (Rect.unit (s := S1024x512) ![0, 0] S1024x512.size inb_S1024x512_S1024x512_0_0).toLoadRect (View.loadsAt_vmem h_S1024x512))
    Prog.lift (.store arg11 (Rect.unit (s := S1024x512) ![0, 0] S1024x512.size inb_S1024x512_S1024x512_0_0) (k0_pay2 v25) Finset.univ (View.stores_vmem h_S1024x512 (harg11.storeExact_slice rfl _ packedbf16_S1024x512_S1024x512_0_0) (fun _ => rfl)) (.inl rfl))
    let v31 : Vec F S1x1x512x1024 .f32 ← Prog.lift (.load arg8 (Rect.unit (s := S1x1x512x1024) ![0, 0, 0, 0] S1x1x512x1024.size inb_S1x1x512x1024_S1x1x512x1024_0_0_0_0).toLoadRect (View.loadsAt_vmem h_S1x1x512x1024))
    let v34 : Vec F S512x1024 .bf16 ← Prog.lift (.load arg12 (Rect.unit (s := S512x1024) ![0, 0] S512x1024.size inb_S512x1024_S512x1024_0_0).toLoadRect (View.loadsAt_vmem h_S512x1024))
    Prog.lift (.store arg12 (Rect.unit (s := S512x1024) ![0, 0] S512x1024.size inb_S512x1024_S512x1024_0_0) (k0_pay3 v31) Finset.univ (View.stores_vmem h_S512x1024 (harg12.storeExact_slice rfl _ packedbf16_S512x1024_S512x1024_0_0) (fun _ => rfl)) (.inl rfl))
    pure ⟨⟩
  else do
    pure ⟨⟩

/-- The second half: the tile's rows through its expert, or zeros past the tiles in use. -/
def tail (i : grid0.Coords) (arg1 : Memref sig .tc .smem S160 .i32) (harg1 : arg1.IsWhole) (arg2 : Memref sig .tc .smem S160 .i32) (harg2 : arg2.IsWhole) (arg3 : Memref sig .tc .smem S1 .i32) (harg3 : arg3.IsWhole) (arg4 : Memref sig .tc .vmem S512x256 .i32) (harg4 : arg4.IsWhole) (arg5 : Memref sig .tc .vmem S512x256 .i32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) : Prog (TpuEff nD τ sig (Elt F) Λ₀ .tc) PUnit := do
  let arg0 : BitVec 32 := BitVec.ofNat 32 (i 0).val
  let v11 : Elt F .i32 ← smemLoad arg3 (Rect.unit (s := S1) ![0] S1.size inb_S1_S1_0) numel1_S1 rfl
  if k0_h2 : k0_cond2 i v11 = 1#1 then do
    let ⟨v36, v50, v54, v56, v58⟩ : Σ' (v36 : FVec F S128x256 .bf16) (v50 : FVec F S128x256 .bf16) (v54 : FVec F S128x256 .bf16) (v56 : FVec F S128x512 .f32), FVec F S128x512 .f32 ← k0_part1 i arg1 harg1 arg2 harg2 arg3 harg3 arg4 harg4 arg5 harg5 arg6 harg6 arg7 harg7 arg8 harg8 arg9 harg9 arg10 harg10 arg11 harg11 arg12 harg12 arg0
    let ⟨v73, v76, v90, v94, v95, c128_i32_39⟩ : Σ' (v73 : FVec F S128x512 .f32) (v76 : FVec F S128x512 .f32) (v90 : FVec F S128x256 .bf16) (v94 : FVec F S128x256 .bf16) (v95 : IVec S128x256 32), BitVec 32 ← k0_part2 i arg1 harg1 arg2 harg2 arg3 harg3 arg4 harg4 arg5 harg5 arg6 harg6 arg7 harg7 arg8 harg8 arg9 harg9 arg10 harg10 arg11 harg11 arg12 harg12 arg0 v36 v50 v54 v56 v58
    let ⟨v112, v125, v128, v129, cst_65⟩ : Σ' (v112 : FVec F S128x256 .bf16) (v125 : FVec F S128x512 .f32) (v128 : FVec F S128x512 .f32) (v129 : Vec F S256x512 .bf16), FVec F S128x512 .f32 ← k0_part3 i arg1 harg1 arg2 harg2 arg3 harg3 arg4 harg4 arg5 harg5 arg6 harg6 arg7 harg7 arg8 harg8 arg9 harg9 arg10 harg10 arg11 harg11 arg12 harg12 arg0 v90 v94 v95 c128_i32_39
    let ⟨v131, v134, v148, v152, v166, v170, v171, cst_82⟩ : Σ' (v131 : FVec F S128x512 .f32) (v134 : FVec F S128x512 .f32) (v148 : FVec F S128x256 .bf16) (v152 : FVec F S128x256 .bf16) (v166 : FVec F S128x256 .bf16) (v170 : FVec F S128x256 .bf16) (v171 : Vec F S256x512 .bf16), FVec F S128x512 .f32 ← k0_part4 i arg1 harg1 arg2 harg2 arg3 harg3 arg4 harg4 arg5 harg5 arg6 harg6 arg7 harg7 arg8 harg8 arg9 harg9 arg10 harg10 arg11 harg11 arg12 harg12 arg0 v112 v125 v128 v129 cst_65
    let ⟨v189, v192, v202, v205⟩ : Σ' (v189 : FVec F S128x512 .f32) (v192 : FVec F S128x512 .f32) (v202 : Vec F S128x256 .i32), FVec F S128x256 .f32 ← k0_part5 i arg1 harg1 arg2 harg2 arg3 harg3 arg4 harg4 arg5 harg5 arg6 harg6 arg7 harg7 arg8 harg8 arg9 harg9 arg10 harg10 arg11 harg11 arg12 harg12 arg0 v148 v152 v166 v170 v171 cst_82
    let ⟨v224, v228, v238, v241⟩ : Σ' (v224 : FVec F S128x256 .bf16) (v228 : FVec F S128x256 .bf16) (v238 : FVec F S128x512 .f32), FVec F S128x512 .f32 ← k0_part6 i arg1 harg1 arg2 harg2 arg3 harg3 arg4 harg4 arg5 harg5 arg6 harg6 arg7 harg7 arg8 harg8 arg9 harg9 arg10 harg10 arg11 harg11 arg12 harg12 arg0 v202 v205
    let ⟨v247, v250, v277⟩ : Σ' (v247 : FVec F S128x512 .f32) (v250 : FVec F S128x512 .f32), FVec F S128x512 .f32 ← k0_part7 i arg1 harg1 arg2 harg2 arg3 harg3 arg4 harg4 arg5 harg5 arg6 harg6 arg7 harg7 arg8 harg8 arg9 harg9 arg10 harg10 arg11 harg11 arg12 harg12 v73 v76 v131 v134 v189 v224 v228 v238 v241
    let v283 : Vec F S512x1024 .bf16 ← Prog.lift (.load arg12 (Rect.unit (s := S512x1024) ![0, 0] S512x1024.size inb_S512x1024_S512x1024_0_0).toLoadRect (View.loadsAt_vmem h_S512x1024))
    let v286 : Vec F S128x1024 .bf16 ← Prog.lift (.load arg9 (Rect.unit (s := S512x1024) ![256, 0] S128x1024.size inb_S512x1024_S128x1024_256_0).toLoadRect (View.loadsAt_vmem h_S128x1024))
    Prog.lift (.store arg9 (Rect.unit (s := S512x1024) ![256, 0] S128x1024.size inb_S512x1024_S128x1024_256_0) (k0_pay4 v189 v192 v277 v283) Finset.univ (View.stores_vmem h_S128x1024 (harg9.storeExact_slice rfl _ packedbf16_S512x1024_S128x1024_256_0) (fun _ => rfl)) (.inl rfl))
    let v295 : Vec F S512x1024 .bf16 ← Prog.lift (.load arg12 (Rect.unit (s := S512x1024) ![0, 0] S512x1024.size inb_S512x1024_S512x1024_0_0).toLoadRect (View.loadsAt_vmem h_S512x1024))
    let v298 : Vec F S128x1024 .bf16 ← Prog.lift (.load arg9 (Rect.unit (s := S512x1024) ![384, 0] S128x1024.size inb_S512x1024_S128x1024_384_0).toLoadRect (View.loadsAt_vmem h_S128x1024))
    Prog.lift (.store arg9 (Rect.unit (s := S512x1024) ![384, 0] S128x1024.size inb_S512x1024_S128x1024_384_0) (k0_pay5 v247 v250 v295) Finset.univ (View.stores_vmem h_S128x1024 (harg9.storeExact_slice rfl _ packedbf16_S512x1024_S128x1024_384_0) (fun _ => rfl)) (.inl rfl))
    pure ⟨⟩
  else do
    pure ⟨⟩
  let v15 : Elt F .i32 ← smemLoad arg3 (Rect.unit (s := S1) ![0] S1.size inb_S1_S1_0) numel1_S1 rfl
  if k0_h3 : k0_cond3 i v15 = 1#1 then do
    let v20 : Vec F S512x1024 .bf16 ← Prog.lift (.load arg9 (Rect.unit (s := S512x1024) ![0, 0] S512x1024.size inb_S512x1024_S512x1024_0_0).toLoadRect (View.loadsAt_vmem h_S512x1024))
    Prog.lift (.store arg9 (Rect.unit (s := S512x1024) ![0, 0] S512x1024.size inb_S512x1024_S512x1024_0_0) (k0_pay6 (F := F)) Finset.univ (View.stores_vmem h_S512x1024 (harg9.storeExact_slice rfl _ packedbf16_S512x1024_S512x1024_0_0) (fun _ => rfl)) (.inl rfl))
    pure ⟨⟩
  else do
    pure ⟨⟩
  pure ⟨⟩

/-- What follows a branch follows either arm. -/
theorem ite_then.{v} {E : Type → Type v} {α β : Type} (p : Prop) [Decidable p] (a b : Prog E α) (k : α → Prog E β) :
    ((if p then a else b) >>= k) = if p then a >>= k else b >>= k := by split <;> rfl

set_option maxRecDepth 65536 in
/-- A tile is its two halves. -/
theorem halves (i : grid0.Coords) (arg1 : Memref sig .tc .smem S160 .i32) (harg1 : arg1.IsWhole) (arg2 : Memref sig .tc .smem S160 .i32) (harg2 : arg2.IsWhole) (arg3 : Memref sig .tc .smem S1 .i32) (harg3 : arg3.IsWhole) (arg4 : Memref sig .tc .vmem S512x256 .i32) (harg4 : arg4.IsWhole) (arg5 : Memref sig .tc .vmem S512x256 .i32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) :
    cc0_grouped_swiglu_experts (F := F) i arg1 harg1 arg2 harg2 arg3 harg3 arg4 harg4 arg5 harg5 arg6 harg6 arg7 harg7 arg8 harg8 arg9 harg9 arg10 harg10 arg11 harg11 arg12 harg12
      = (head i arg1 harg1 arg2 harg2 arg3 harg3 arg4 harg4 arg5 harg5 arg6 harg6 arg7 harg7 arg8 harg8 arg9 harg9 arg10 harg10 arg11 harg11 arg12 harg12 >>= fun _ => tail i arg1 harg1 arg2 harg2 arg3 harg3 arg4 harg4 arg5 harg5 arg6 harg6 arg7 harg7 arg8 harg8 arg9 harg9 arg10 harg10 arg11 harg11 arg12 harg12) := by
  rw [cc0_grouped_swiglu_experts_eq_skeleton]
  unfold cc0_grouped_swiglu_experts_skel head
  simp only [bind_assoc, ite_then, pure_bind]
  rfl

set_option maxHeartbeats 4000000 in
/-- The first half where the expert is the one before's: nothing moves. -/
theorem head_keep (c : Dev nD) (i : grid0.Coords)
    (arg4 : Memref sig .tc .vmem S512x256 .i32) (harg4 : arg4.IsWhole) (arg5 : Memref sig .tc .vmem S512x256 .i32) (harg5 : arg5.IsWhole)
    (arg6 : Memref sig .tc .vmem S1x1x1024x512 .f32) (harg6 : arg6.IsWhole) (arg7 : Memref sig .tc .vmem S1x1x1024x512 .f32) (harg7 : arg7.IsWhole)
    (arg8 : Memref sig .tc .vmem S1x1x512x1024 .f32) (harg8 : arg8.IsWhole) (arg9 : Memref sig .tc .vmem S512x1024 .bf16) (harg9 : arg9.IsWhole)
    (arg10 : Memref sig .tc .vmem S1024x512 .bf16) (harg10 : arg10.IsWhole) (arg11 : Memref sig .tc .vmem S1024x512 .bf16) (harg11 : arg11.IsWhole)
    (arg12 : Memref sig .tc .vmem S512x1024 .bf16) (harg12 : arg12.IsWhole)
    (xt0 : TbBuf (F := F) c tbE) (hc1 : ¬ Fresh i (wordP c i xt0) (wordE c i xt0)) (E : Set ℕ) (K : PUnit → sProp 𝕄) :
    iprop(tbPt c tbE xt0 ∗ (tbPt c tbE xt0 -∗ K ⟨⟩))
      ⊢ wp frame (wpE (defs₀ (F := F)) Variants.none c none) E
          (head i tbE (Memref.isWhole_whole _) tbV (Memref.isWhole_whole _) tbN (Memref.isWhole_whole _)
                arg4 harg4 arg5 harg5 arg6 harg6 arg7 harg7 arg8 harg8 arg9 harg9 arg10 harg10 arg11 harg11 arg12 harg12) K := by
  unfold head
  iintro ⟨HT0, Hk⟩
  sl_exec (disch := first | sl_exact hc1)
  sl_step
  iapply Hk
  iexact HT0

set_option maxHeartbeats 4000000 in
/-- The first half where the weights are laid out anew: each scratch array then holds its narrowed block. -/
theorem head_fresh (c : Dev nD) (i : grid0.Coords)
    (arg4 : Memref sig .tc .vmem S512x256 .i32) (harg4 : arg4.IsWhole) (arg5 : Memref sig .tc .vmem S512x256 .i32) (harg5 : arg5.IsWhole)
    (arg6 : Memref sig .tc .vmem S1x1x1024x512 .f32) (harg6 : arg6.IsWhole) (arg7 : Memref sig .tc .vmem S1x1x1024x512 .f32) (harg7 : arg7.IsWhole)
    (arg8 : Memref sig .tc .vmem S1x1x512x1024 .f32) (harg8 : arg8.IsWhole) (arg9 : Memref sig .tc .vmem S512x1024 .bf16) (harg9 : arg9.IsWhole)
    (arg10 : Memref sig .tc .vmem S1024x512 .bf16) (harg10 : arg10.IsWhole) (arg11 : Memref sig .tc .vmem S1024x512 .bf16) (harg11 : arg11.IsWhole)
    (arg12 : Memref sig .tc .vmem S512x1024 .bf16) (harg12 : arg12.IsWhole)
    (x2 x3 : Vec F S1x1x1024x512 .f32) (x4 : Vec F S1x1x512x1024 .f32)
    (xt0 : TbBuf (F := F) c tbE) (hc1 : Fresh i (wordP c i xt0) (wordE c i xt0)) (E : Set ℕ) (K : PUnit → sProp 𝕄) :
    iprop(owns (c : Thread nD τ) arg6 fullShare x2 ∗ owns (c : Thread nD τ) arg7 fullShare x3 ∗ owns (c : Thread nD τ) arg8 fullShare x4
        ∗ (∃ d, owns (c : Thread nD τ) arg10 fullShare d) ∗ (∃ d, owns (c : Thread nD τ) arg11 fullShare d) ∗ (∃ d, owns (c : Thread nD τ) arg12 fullShare d) ∗ tbPt c tbE xt0
        ∗ (iprop(owns (c : Thread nD τ) arg6 fullShare x2 ∗ owns (c : Thread nD τ) arg7 fullShare x3 ∗ owns (c : Thread nD τ) arg8 fullShare x4
            ∗ owns (c : Thread nD τ) arg10 fullShare (k0_pay1 x2) ∗ owns (c : Thread nD τ) arg11 fullShare (k0_pay2 x3) ∗ owns (c : Thread nD τ) arg12 fullShare (k0_pay3 x4) ∗ tbPt c tbE xt0) -∗ K ⟨⟩))
      ⊢ wp frame (wpE (defs₀ (F := F)) Variants.none c none) E
          (head i tbE (Memref.isWhole_whole _) tbV (Memref.isWhole_whole _) tbN (Memref.isWhole_whole _)
                arg4 harg4 arg5 harg5 arg6 harg6 arg7 harg7 arg8 harg8 arg9 harg9 arg10 harg10 arg11 harg11 arg12 harg12) K := by
  unfold head
  simp only [owns_eq_rep]
  iintro ⟨H2, H3, H4, ⟨%d0, HS0⟩, ⟨%d1, HS1⟩, ⟨%d2, HS2⟩, HT0, Hk⟩
  sl_exec (disch := first | sl_exact hc1)
  sl_step
  iapply Hk
  isplitl [H2]; · iexact H2
  isplitl [H3]; · iexact H3
  isplitl [H4]; · iexact H4
  rw [show k0_pay1 (F := F) x2 = k0_pay1 (head_fresh.sl.v19 arg6 x2) from congrArg _ (View.readAt_rep_full _ x2 _).symm,
    show k0_pay2 (F := F) x3 = k0_pay2 (head_fresh.sl.v25 arg7 x3) from congrArg _ (View.readAt_rep_full _ x3 _).symm,
    show k0_pay3 (F := F) x4 = k0_pay3 (head_fresh.sl.v31 arg8 x4) from congrArg _ (View.readAt_rep_full _ x4 _).symm]
  simp only [← owns_eq_rep]
  isplitl [HS0]; · iapply (owns_stored c arg10 _ _ _ _); iexact HS0
  isplitl [HS1]; · iapply (owns_stored c arg11 _ _ _ _); iexact HS1
  isplitl [HS2]; · iapply (owns_stored c arg12 _ _ _ _); iexact HS2
  iexact HT0

set_option maxHeartbeats 4000000 in
/-- The second half of a tile in use: the output's pieces are found by the run. -/
def tail_use (c : Dev nD) (i : grid0.Coords)
    (arg4 : Memref sig .tc .vmem S512x256 .i32) (harg4 : arg4.IsWhole) (arg5 : Memref sig .tc .vmem S512x256 .i32) (harg5 : arg5.IsWhole)
    (arg6 : Memref sig .tc .vmem S1x1x1024x512 .f32) (harg6 : arg6.IsWhole) (arg7 : Memref sig .tc .vmem S1x1x1024x512 .f32) (harg7 : arg7.IsWhole)
    (arg8 : Memref sig .tc .vmem S1x1x512x1024 .f32) (harg8 : arg8.IsWhole) (arg9 : Memref sig .tc .vmem S512x1024 .bf16) (harg9 : arg9.IsWhole)
    (arg10 : Memref sig .tc .vmem S1024x512 .bf16) (harg10 : arg10.IsWhole) (arg11 : Memref sig .tc .vmem S1024x512 .bf16) (harg11 : arg11.IsWhole)
    (arg12 : Memref sig .tc .vmem S512x1024 .bf16) (harg12 : arg12.IsWhole)
    (x0 x1 : Vec F S512x256 .i32) (s0 s1 : Vec F S1024x512 .bf16) (s2 : Vec F S512x1024 .bf16)
    (xt1 : TbBuf (F := F) c tbV) (xt2 : TbBuf (F := F) c tbN)
    (hc2 : k0_cond2 i (wordN c xt2) = 1#1) (hc3 : ¬ k0_cond3 i (wordN c xt2) = 1#1) :
    { L : List (View.Piece (Elt F) S512x1024 .bf16) //
      ∀ (E : Set ℕ) (K : PUnit → sProp 𝕄),
        iprop(owns (c : Thread nD τ) arg4 fullShare x0 ∗ owns (c : Thread nD τ) arg5 fullShare x1 ∗ (∃ d, owns (c : Thread nD τ) arg9 fullShare d)
            ∗ owns (c : Thread nD τ) arg10 fullShare s0 ∗ owns (c : Thread nD τ) arg11 fullShare s1 ∗ owns (c : Thread nD τ) arg12 fullShare s2 ∗ tbPt c tbV xt1 ∗ tbPt c tbN xt2
            ∗ (iprop(owns (c : Thread nD τ) arg4 fullShare x0 ∗ owns (c : Thread nD τ) arg5 fullShare x1
                ∗ (∃ f, arg9.view.loc (c : Thread nD τ) ↦[arg9.view.set]{fullShare} arg9.view.writes (Elt F) f L)
                ∗ owns (c : Thread nD τ) arg10 fullShare s0 ∗ owns (c : Thread nD τ) arg11 fullShare s1 ∗ owns (c : Thread nD τ) arg12 fullShare s2 ∗ tbPt c tbV xt1 ∗ tbPt c tbN xt2) -∗ K ⟨⟩))
          ⊢ wp frame (wpE (defs₀ (F := F)) Variants.none c none) E
              (tail i tbE (Memref.isWhole_whole _) tbV (Memref.isWhole_whole _) tbN (Memref.isWhole_whole _)
                arg4 harg4 arg5 harg5 arg6 harg6 arg7 harg7 arg8 harg8 arg9 harg9 arg10 harg10 arg11 harg11 arg12 harg12) K } := by
  refine ⟨?_, fun E K => ?run⟩
  case run =>
    unfold tail
    simp only [k0_part1_eq_skeleton, k0_part2_eq_skeleton, k0_part3_eq_skeleton, k0_part4_eq_skeleton, k0_part5_eq_skeleton,
      k0_part6_eq_skeleton, k0_part7_eq_skeleton]
    simp only [owns_eq_rep]
    iintro ⟨H0, H1, ⟨%d5, H5⟩, HS0, HS1, HS2, HT1, HT2, Hk⟩
    sl_exec (disch := first | sl_exact hc2 | sl_exact hc3)
    sl_step
    iapply Hk
    isplitl [H0]; · iexact H0
    isplitl [H1]; · iexact H1
    isplitl [H5]; · iexists _; iexact H5
    isplitl [HS0]; · iexact HS0
    isplitl [HS1]; · iexact HS1
    isplitl [HS2]; · iexact HS2
    isplitl [HT1]; · iexact HT1
    iexact HT2

set_option maxHeartbeats 4000000 in
/-- The second half past the tiles in use: the output is zeros. -/
theorem tail_zero (c : Dev nD) (i : grid0.Coords)
    (arg4 : Memref sig .tc .vmem S512x256 .i32) (harg4 : arg4.IsWhole) (arg5 : Memref sig .tc .vmem S512x256 .i32) (harg5 : arg5.IsWhole)
    (arg6 : Memref sig .tc .vmem S1x1x1024x512 .f32) (harg6 : arg6.IsWhole) (arg7 : Memref sig .tc .vmem S1x1x1024x512 .f32) (harg7 : arg7.IsWhole)
    (arg8 : Memref sig .tc .vmem S1x1x512x1024 .f32) (harg8 : arg8.IsWhole) (arg9 : Memref sig .tc .vmem S512x1024 .bf16) (harg9 : arg9.IsWhole)
    (arg10 : Memref sig .tc .vmem S1024x512 .bf16) (harg10 : arg10.IsWhole) (arg11 : Memref sig .tc .vmem S1024x512 .bf16) (harg11 : arg11.IsWhole)
    (arg12 : Memref sig .tc .vmem S512x1024 .bf16) (harg12 : arg12.IsWhole)
    (xt2 : TbBuf (F := F) c tbN)
    (hc2 : ¬ k0_cond2 i (wordN c xt2) = 1#1) (hc3 : k0_cond3 i (wordN c xt2) = 1#1) (E : Set ℕ) (K : PUnit → sProp 𝕄) :
    iprop((∃ d, owns (c : Thread nD τ) arg9 fullShare d) ∗ tbPt c tbN xt2
        ∗ (iprop(owns (c : Thread nD τ) arg9 fullShare (k0_pay6 (F := F)) ∗ tbPt c tbN xt2) -∗ K ⟨⟩))
      ⊢ wp frame (wpE (defs₀ (F := F)) Variants.none c none) E
          (tail i tbE (Memref.isWhole_whole _) tbV (Memref.isWhole_whole _) tbN (Memref.isWhole_whole _)
                arg4 harg4 arg5 harg5 arg6 harg6 arg7 harg7 arg8 harg8 arg9 harg9 arg10 harg10 arg11 harg11 arg12 harg12) K := by
  unfold tail
  simp only [owns_eq_rep]
  iintro ⟨⟨%d5, H5⟩, HT2, Hk⟩
  sl_exec (disch := first | sl_exact hc2 | sl_exact hc3)
  sl_step
  iapply Hk
  simp only [← owns_eq_rep]
  isplitl [H5]; · iapply (owns_stored c arg9 _ _ _ _); iexact H5
  iexact HT2

end Cert.Proof.Experts

end
-- ==== Proof.ExpertFrame.lean ====
/-
  The experts' launch: at every tile the scratch arrays hold the tile's expert's weights and the output block what the
  tile's course leaves; so every run ends with its arguments as they were and the output at its blocks.
-/
module

public import proofs.«01_k».proof.Proof.ExpertRuns
public import Idealize.ShloMosaic.Lib.Pipeline.FrameBody
public import Idealize.ShloMosaic.Lib.Pipeline.Kit
public import Idealize.ShloMosaic.Lib.Pipeline.ValueKit
public import Idealize.ShloMosaic.Lib.Ring
public import Idealize.ShloMosaic.Lib.WordCmp

@[expose] public section

set_option maxRecDepth 16384

noncomputable section

namespace Cert.Proof.Experts

open Cert.ExpertsIdeal Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Words -/

/-- A bit widened and tested is the bit. -/
theorem bit_ne (b : Bool) : Scalar.cmpi .ne (Scalar.extui (BitVec.ofBool b)) 0#32 = 1#1 ↔ b = true := by
  cases b <;> decide

theorem use_iff (i : grid0.Coords) (n : BitVec 32) : k0_cond2 i n = 1#1 ↔ (BitVec.ofNat 32 (i 0).val).slt n = true := bit_ne _

theorem past_iff (i : grid0.Coords) (n : BitVec 32) : k0_cond3 i n = 1#1 ↔ n.sle (BitVec.ofNat 32 (i 0).val) = true := bit_ne _

/-- A tile is past the tiles in use exactly when it is not in use. -/
theorem past_or_use (i : grid0.Coords) (n : BitVec 32) : k0_cond3 i n = 1#1 ↔ ¬ k0_cond2 i n = 1#1 := by
  rw [use_iff, past_iff, BitVec.sle_iff_toInt_le, BitVec.slt_iff_toInt_lt, not_lt]

theorem off2_eq : ∀ i : grid0.Coords, k0_off2 i = ![(i 0).val - 1] := by decide +kernel

/-- No refill: not the first tile, and the expert is the one before's. -/
theorem not_fresh {i : grid0.Coords} {p e : BitVec 32} (h : ¬ Fresh i p e) : (i 0).val ≠ 0 ∧ e = p := by
  have key : ((BitVec.ofNat 32 (i 0).val == 0#32) || (e != p)) = false := by
    by_contra hb
    refine h ((show Fresh i p e ↔ _ from ?_).mpr (Bool.of_not_eq_false hb))
    unfold Fresh
    rw [← bit_ne]
    have : Scalar.ori (Scalar.cmpi .eq (BitVec.ofNat 32 (i 0).val) 0#32) (Scalar.cmpi .ne e p)
        = BitVec.ofBool ((BitVec.ofNat 32 (i 0).val == 0#32) || (e != p)) := by
      show BitVec.ofBool (BitVec.ofNat 32 (i 0).val == 0#32) ||| BitVec.ofBool (e != p) = _
      cases (BitVec.ofNat 32 (i 0).val == 0#32) <;> cases (e != p) <;> rfl
    rw [this]
  rw [Bool.or_eq_false_iff] at key
  refine ⟨fun h0 => ?_, by simpa using key.2⟩
  have := key.1
  rw [h0] at this
  exact absurd this (by decide)

/-- The tile's place in a table. -/
def place (n : ℕ) (h : n < 160) : S160.Idx := fun a => ⟨n, match a with | ⟨0, _⟩ => h⟩

theorem wordE_eq (c : Dev nD) (i : grid0.Coords) (f : TbBuf (F := F) c tbE) : wordE c i f = f (place (i 0).val (i 0).isLt) := by
  show f _ = f _
  congr 1
  funext a
  apply Fin.ext
  fin_cases a
  have h := congrFun (k0_off1_eq i) 0
  show k0_off1 i 0 + _ = _
  rw [h]; simp [place]

theorem wordP_eq (c : Dev nD) (i : grid0.Coords) (f : TbBuf (F := F) c tbE) :
    wordP c i f = f (place ((i 0).val - 1) (lt_of_le_of_lt (Nat.sub_le _ _) (i 0).isLt)) := by
  show f _ = f _
  congr 1
  funext a
  apply Fin.ext
  fin_cases a
  have h := congrFun (off2_eq i) 0
  show k0_off2 i 0 + _ = _
  rw [h]; simp [place]

theorem wordV_eq (c : Dev nD) (i : grid0.Coords) (f : TbBuf (F := F) c tbV) : wordV c i f = f (place (i 0).val (i 0).isLt) := by
  show f _ = f _
  congr 1
  funext a
  apply Fin.ext
  fin_cases a
  have h := congrFun (k0_off3_eq i) 0
  show k0_off3 i 0 + _ = _
  rw [h]; simp [place]

theorem place_congr {a b : ℕ} (h : a = b) (ha : a < 160) (hb : b < 160) : place a ha = place b hb := by subst h; rfl

variable (m : (ℓ : Loc nD τ sig) → Buf (Elt F) ℓ) (ρ : Dev nD → PrngReg)

/-! ## The arrays and tables as launched -/

abbrev V (c : Dev nD) (b : Ref sig .tc) : Buf (Elt F) ((c : Thread nD τ).loc b) := m ((c : Thread nD τ).loc b)

theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

def tbl : pre0.Contents (Elt F) := fun j => V m (0 : Dev nD) (pre0.ref j)

theorem V_pre (c : Dev nD) (j : Fin 3) : V m c (pre0.ref j) = tbl m j := by
  obtain rfl : c = 0 := Subsingleton.elim _ _
  rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tile's expert. -/
abbrev ex (n : ℕ) (h : n < 160) : BitVec 32 := tbl m 0 (place n h)

theorem PhiT_eq (c : Dev nD) :
    (Pipeline.ΦT pre0 (tbl m) c : sProp 𝕄) = iprop(tbPt c tbE (tbl m 0) ∗ tbPt c tbV (tbl m 1) ∗ tbPt c tbN (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

abbrev sc0 : Memref sig .tc .vmem S1024x512 .bf16 := Memref.whole cc0_scratch0
abbrev sc1 : Memref sig .tc .vmem S1024x512 .bf16 := Memref.whole cc0_scratch1
abbrev sc2 : Memref sig .tc .vmem S512x1024 .bf16 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA
  rw [scopedRest0_eq]
  simp only [sc0, sc1, sc2, owns_whole]
  try rfl

/-! ## Blocks -/

def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

theorem coord (t : Fin grid0.N) : (grid0.coords t 0).val = t.val := by
  have h : (grid0.coords t 0).val = t.val / 1 % 160 := Pipeline.Grid.coords_val t 0 (by decide) rfl
  have : t.val < 160 := lt_of_lt_of_eq t.isLt N_0
  rw [h]
  omega

theorem ex_eq (t : Fin grid0.N) :
    (tbl m).at 0 (Rect.unit (s := S160) (k0_off1 (grid0.coords t)) S1.size (k0_off1_inb (grid0.coords t))) numel1_S1
      = ex m t.val (lt_of_lt_of_eq t.isLt N_0) := by
  refine congrArg (tbl m 0) ?_
  funext a
  apply Fin.ext
  fin_cases a
  have h := congrFun (k0_off1_eq (grid0.coords t)) 0
  show k0_off1 (grid0.coords t) 0 + _ = _
  rw [h]; simp [place, coord]

/-- The tile's expert's weights, at an element. -/
theorem iblk2_apply (hO : Ok m) (c : Dev nD) (t : Fin (cfgM m hO).N) (y : S1x1x1024x512.Idx)
    (z : S4x32x1024x512.Idx) (h0 : (z 0).val = 0) (h1 : (z 1).val = (ex m t.val (lt_of_lt_of_eq t.isLt N_0)).toNat)
    (h2 : (z 2).val = (y 2).val) (h3 : (z 3).val = (y 3).val) :
    (iblk m hO c 2 t : Vec F S1x1x1024x512 .f32) y = m ((c : Thread nD τ).loc main_arg5) z := by
  have e : ((((cfgM m hO).win 2).blk t).view.emb y : S4x32x1024x512.Idx) = z := by
    have e0 : ((cfgM m hO).win 2).index t (0 : Fin 4) = 0 := rfl
    have e1 : ((cfgM m hO).win 2).index t (1 : Fin 4) = (ex m t.val (lt_of_lt_of_eq t.isLt N_0)).toNat := congrArg BitVec.toNat (ex_eq m t)
    have e2 : ((cfgM m hO).win 2).index t (2 : Fin 4) = 0 := rfl
    have e3 : ((cfgM m hO).win 2).index t (3 : Fin 4) = 0 := rfl
    funext a
    apply Fin.ext
    fin_cases a
    · blk_simp; exact e0.trans h0.symm
    · blk_simp; exact e1.trans h1.symm
    · blk_simp; rw [e2, Nat.zero_mul, Nat.zero_add]; exact h2.symm
    · blk_simp; rw [e3, Nat.zero_mul, Nat.zero_add]; exact h3.symm
  rw [← e]; rfl

/-- The tile's expert's weights, at an element. -/
theorem iblk3_apply (hO : Ok m) (c : Dev nD) (t : Fin (cfgM m hO).N) (y : S1x1x1024x512.Idx)
    (z : S4x32x1024x512.Idx) (h0 : (z 0).val = 0) (h1 : (z 1).val = (ex m t.val (lt_of_lt_of_eq t.isLt N_0)).toNat)
    (h2 : (z 2).val = (y 2).val) (h3 : (z 3).val = (y 3).val) :
    (iblk m hO c 3 t : Vec F S1x1x1024x512 .f32) y = m ((c : Thread nD τ).loc main_arg6) z := by
  have e : ((((cfgM m hO).win 3).blk t).view.emb y : S4x32x1024x512.Idx) = z := by
    have e0 : ((cfgM m hO).win 3).index t (0 : Fin 4) = 0 := rfl
    have e1 : ((cfgM m hO).win 3).index t (1 : Fin 4) = (ex m t.val (lt_of_lt_of_eq t.isLt N_0)).toNat := congrArg BitVec.toNat (ex_eq m t)
    have e2 : ((cfgM m hO).win 3).index t (2 : Fin 4) = 0 := rfl
    have e3 : ((cfgM m hO).win 3).index t (3 : Fin 4) = 0 := rfl
    funext a
    apply Fin.ext
    fin_cases a
    · blk_simp; exact e0.trans h0.symm
    · blk_simp; exact e1.trans h1.symm
    · blk_simp; rw [e2, Nat.zero_mul, Nat.zero_add]; exact h2.symm
    · blk_simp; rw [e3, Nat.zero_mul, Nat.zero_add]; exact h3.symm
  rw [← e]; rfl

/-- The tile's expert's weights, at an element. -/
theorem iblk4_apply (hO : Ok m) (c : Dev nD) (t : Fin (cfgM m hO).N) (y : S1x1x512x1024.Idx)
    (z : S4x32x512x1024.Idx) (h0 : (z 0).val = 0) (h1 : (z 1).val = (ex m t.val (lt_of_lt_of_eq t.isLt N_0)).toNat)
    (h2 : (z 2).val = (y 2).val) (h3 : (z 3).val = (y 3).val) :
    (iblk m hO c 4 t : Vec F S1x1x512x1024 .f32) y = m ((c : Thread nD τ).loc main_arg7) z := by
  have e : ((((cfgM m hO).win 4).blk t).view.emb y : S4x32x512x1024.Idx) = z := by
    have e0 : ((cfgM m hO).win 4).index t (0 : Fin 4) = 0 := rfl
    have e1 : ((cfgM m hO).win 4).index t (1 : Fin 4) = (ex m t.val (lt_of_lt_of_eq t.isLt N_0)).toNat := congrArg BitVec.toNat (ex_eq m t)
    have e2 : ((cfgM m hO).win 4).index t (2 : Fin 4) = 0 := rfl
    have e3 : ((cfgM m hO).win 4).index t (3 : Fin 4) = 0 := rfl
    funext a
    apply Fin.ext
    fin_cases a
    · blk_simp; exact e0.trans h0.symm
    · blk_simp; exact e1.trans h1.symm
    · blk_simp; rw [e2, Nat.zero_mul, Nat.zero_add]; exact h2.symm
    · blk_simp; rw [e3, Nat.zero_mul, Nat.zero_add]; exact h3.symm
  rw [← e]; rfl

/-- The tile's rows, at an element. -/
theorem iblk0_apply (hO : Ok m) (c : Dev nD) (t : Fin (cfgM m hO).N) (y : S512x256.Idx)
    (z : S81920x256.Idx) (h0 : (z 0).val = t.val * 512 + (y 0).val) (h1 : (z 1).val = (y 1).val) :
    (iblk m hO c 0 t : Vec F S512x256 .i32) y = m ((c : Thread nD τ).loc main_arg0) z := by
  have e : ((((cfgM m hO).win 0).blk t).view.emb y : S81920x256.Idx) = z := by
    have ht : t.val < 160 := lt_of_lt_of_eq t.isLt N_0
    have e0 : ((cfgM m hO).win 0).index t (0 : Fin 2) = t.val := by
      show (BitVec.ofNat 32 (grid0.coords t 0).val).toNat = _
      rw [coord, BitVec.toNat_ofNat]; omega
    have e1 : ((cfgM m hO).win 0).index t (1 : Fin 2) = 0 := rfl
    funext a
    apply Fin.ext
    fin_cases a
    · blk_simp; rw [e0]; exact h0.symm
    · blk_simp; rw [e1, Nat.zero_mul, Nat.zero_add]; exact h1.symm
  rw [← e]; rfl

/-- The tile's rows, at an element. -/
theorem iblk1_apply (hO : Ok m) (c : Dev nD) (t : Fin (cfgM m hO).N) (y : S512x256.Idx)
    (z : S81920x256.Idx) (h0 : (z 0).val = t.val * 512 + (y 0).val) (h1 : (z 1).val = (y 1).val) :
    (iblk m hO c 1 t : Vec F S512x256 .i32) y = m ((c : Thread nD τ).loc main_arg1) z := by
  have e : ((((cfgM m hO).win 1).blk t).view.emb y : S81920x256.Idx) = z := by
    have ht : t.val < 160 := lt_of_lt_of_eq t.isLt N_0
    have e0 : ((cfgM m hO).win 1).index t (0 : Fin 2) = t.val := by
      show (BitVec.ofNat 32 (grid0.coords t 0).val).toNat = _
      rw [coord, BitVec.toNat_ofNat]; omega
    have e1 : ((cfgM m hO).win 1).index t (1 : Fin 2) = 0 := rfl
    funext a
    apply Fin.ext
    fin_cases a
    · blk_simp; rw [e0]; exact h0.symm
    · blk_simp; rw [e1, Nat.zero_mul, Nat.zero_add]; exact h1.symm
  rw [← e]; rfl

/-- Two tiles of one expert have the same weights. -/
theorem ex_lt (hO : Ok m) (t : Fin grid0.N) : (ex m t.val (lt_of_lt_of_eq t.isLt N_0)).toNat < 32 := by
  obtain ⟨h, -⟩ := hO.1 (grid0.coords t)
  have h1 := h 1
  have e1 : cc0_transform_2 k0_off1_inb numel1_S1 (tbl m) (grid0.coords t) 1 = (ex m t.val (lt_of_lt_of_eq t.isLt N_0)).toNat :=
    congrArg BitVec.toNat (ex_eq m t)
  rw [e1] at h1
  have : (_ + 1) * 1 ≤ 32 := h1
  omega

theorem iblk2_same (hO : Ok m) (c : Dev nD) (t t' : Fin (cfgM m hO).N)
    (h : ex m t.val (lt_of_lt_of_eq t.isLt N_0) = ex m t'.val (lt_of_lt_of_eq t'.isLt N_0)) :
    (iblk m hO c 2 t : Vec F S1x1x1024x512 .f32) = iblk m hO c 2 t' := by
  funext y
  have hl := ex_lt m hO t
  let y' : S1x1x1024x512.Idx := y
  let z : S4x32x1024x512.Idx := ValueIdx.ix4 (⟨0, by decide⟩ : Fin 4) (⟨(ex m t.val (lt_of_lt_of_eq t.isLt N_0)).toNat, hl⟩ : Fin 32) (y' 2) (y' 3)
  exact (iblk2_apply m hO c t y' z rfl rfl rfl rfl).trans
    (iblk2_apply m hO c t' y' z rfl (congrArg BitVec.toNat h) rfl rfl).symm

theorem iblk3_same (hO : Ok m) (c : Dev nD) (t t' : Fin (cfgM m hO).N)
    (h : ex m t.val (lt_of_lt_of_eq t.isLt N_0) = ex m t'.val (lt_of_lt_of_eq t'.isLt N_0)) :
    (iblk m hO c 3 t : Vec F S1x1x1024x512 .f32) = iblk m hO c 3 t' := by
  funext y
  have hl := ex_lt m hO t
  let y' : S1x1x1024x512.Idx := y
  let z : S4x32x1024x512.Idx := ValueIdx.ix4 (⟨0, by decide⟩ : Fin 4) (⟨(ex m t.val (lt_of_lt_of_eq t.isLt N_0)).toNat, hl⟩ : Fin 32) (y' 2) (y' 3)
  exact (iblk3_apply m hO c t y' z rfl rfl rfl rfl).trans
    (iblk3_apply m hO c t' y' z rfl (congrArg BitVec.toNat h) rfl rfl).symm

theorem iblk4_same (hO : Ok m) (c : Dev nD) (t t' : Fin (cfgM m hO).N)
    (h : ex m t.val (lt_of_lt_of_eq t.isLt N_0) = ex m t'.val (lt_of_lt_of_eq t'.isLt N_0)) :
    (iblk m hO c 4 t : Vec F S1x1x512x1024 .f32) = iblk m hO c 4 t' := by
  funext y
  have hl := ex_lt m hO t
  let y' : S1x1x512x1024.Idx := y
  let z : S4x32x512x1024.Idx := ValueIdx.ix4 (⟨0, by decide⟩ : Fin 4) (⟨(ex m t.val (lt_of_lt_of_eq t.isLt N_0)).toNat, hl⟩ : Fin 32) (y' 2) (y' 3)
  exact (iblk4_apply m hO c t y' z rfl rfl rfl rfl).trans
    (iblk4_apply m hO c t' y' z rfl (congrArg BitVec.toNat h) rfl rfl).symm

/-! ## What each tile leaves -/

abbrev ms0 (hO : Ok m) (t : Fin (cfgM m hO).N) : Memref sig .tc .vmem S512x256 .i32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S512x256 .i32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024x512 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x1024x512 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x512x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S512x1024 .bf16 := spec0_5.stage ((cfgM m hO).slots t 5)
abbrev hs5 (hO : Ok m) (t : Fin (cfgM m hO).N) : (ms5 m hO t).IsWhole := hstage0_5 (((cfgM m hO).slots t 5).cast nbuf0_5)
abbrev VO : View sig .tc .vmem S512x1024 .bf16 := (Memref.whole cc0_stg5_0 : Memref sig .tc .vmem S512x1024 .bf16).view

/-- The tile's weights as the scratch arrays hold them. -/
def wG (hO : Ok m) (c : Dev nD) (t : Fin (cfgM m hO).N) : Vec F S1024x512 .bf16 := k0_pay1 (iblk m hO c 2 t)
def wU (hO : Ok m) (c : Dev nD) (t : Fin (cfgM m hO).N) : Vec F S1024x512 .bf16 := k0_pay2 (iblk m hO c 3 t)
def wD (hO : Ok m) (c : Dev nD) (t : Fin (cfgM m hO).N) : Vec F S512x1024 .bf16 := k0_pay3 (iblk m hO c 4 t)

/-- A tile in use: the pieces its rows are written in. -/
def rows (hO : Ok m) (c : Dev nD) (t : Fin (cfgM m hO).N) (h : k0_cond2 (grid0.coords t) (wordN c (tbl m 2)) = 1#1) :=
  tail_use c (grid0.coords t) (ms0 m hO t) (hs0 m hO t) (ms1 m hO t) (hs1 m hO t) (ms2 m hO t) (hs2 m hO t) (ms3 m hO t) (hs3 m hO t)
    (ms4 m hO t) (hs4 m hO t) (ms5 m hO t) (hs5 m hO t) sc0 (Memref.isWhole_whole _) sc1 (Memref.isWhole_whole _) sc2 (Memref.isWhole_whole _)
    (iblk m hO c 0 t) (iblk m hO c 1 t) (wG m hO c t) (wU m hO c t) (wD m hO c t) (tbl m 1) (tbl m 2) h
    (fun h' => (past_or_use _ _).mp h' h)

/-- The output block a tile leaves. -/
def left (hO : Ok m) (c : Dev nD) (t : Fin (cfgM m hO).N) : Vec F S512x1024 .bf16 :=
  if h : k0_cond2 (grid0.coords t) (wordN c (tbl m 2)) = 1#1 then
    VO.read (Elt F) (VO.writes (Elt F) VO.junk (rows m hO c t h).1)
  else k0_pay6 (F := F)

/-- Before a tile: nothing known of the scratch arrays at first, the weights of the tile before's expert after. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) sc0 fullShare (wG m hO c ⟨n, hn⟩) ∗ owns (c : Thread nD τ) sc1 fullShare (wU m hO c ⟨n, hn⟩)
      ∗ owns (c : Thread nD τ) sc2 fullShare (wD m hO c ⟨n, hn⟩)) ∗ (∃ r, prngReg c r)) ∗ Pipeline.ΦT pre0 (tbl m) c)

theorem PhiS_succ (hO : Ok m) (c : Dev nD) (n : ℕ) (hn : n < (cfgM m hO).N) :
    PhiS m hO c (n + 1) hn = iprop(iprop(iprop(owns (c : Thread nD τ) sc0 fullShare (wG m hO c ⟨n, hn⟩) ∗ owns (c : Thread nD τ) sc1 fullShare (wU m hO c ⟨n, hn⟩)
      ∗ owns (c : Thread nD τ) sc2 fullShare (wD m hO c ⟨n, hn⟩)) ∗ (∃ r, prngReg c r)) ∗ Pipeline.ΦT pre0 (tbl m) c) := rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => left m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]
  exact Pipeline.Dat.Φ_castSucc (PhiS m hO c) t

theorem after0 (hO : Ok m) (c : Dev nD) (t : Fin (cfgM m hO).N) : (dats m hO 0 c).after 0 t = iblk m hO c 0 t := by
  dsimp only [dats]; try rfl
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]) t d).trans
    (by unfold Dat.fetched Dat.blockOf iblk; rw [A_eq]; try rfl)
theorem after1 (hO : Ok m) (c : Dev nD) (t : Fin (cfgM m hO).N) : (dats m hO 0 c).after 1 t = iblk m hO c 1 t := by
  dsimp only [dats]; try rfl
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]) t d).trans
    (by unfold Dat.fetched Dat.blockOf iblk; rw [A_eq]; try rfl)
theorem after2 (hO : Ok m) (c : Dev nD) (t : Fin (cfgM m hO).N) : (dats m hO 0 c).after 2 t = iblk m hO c 2 t := by
  dsimp only [dats]; try rfl
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after2]; unfold Dat.blockOf iblk; rw [A_eq]) t d).trans
    (by unfold Dat.fetched Dat.blockOf iblk; rw [A_eq]; try rfl)
theorem after3 (hO : Ok m) (c : Dev nD) (t : Fin (cfgM m hO).N) : (dats m hO 0 c).after 3 t = iblk m hO c 3 t := by
  dsimp only [dats]; try rfl
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after3]; unfold Dat.blockOf iblk; rw [A_eq]) t d).trans
    (by unfold Dat.fetched Dat.blockOf iblk; rw [A_eq]; try rfl)
theorem after4 (hO : Ok m) (c : Dev nD) (t : Fin (cfgM m hO).N) : (dats m hO 0 c).after 4 t = iblk m hO c 4 t := by
  dsimp only [dats]; try rfl
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after4]; unfold Dat.blockOf iblk; rw [A_eq]) t d).trans
    (by unfold Dat.fetched Dat.blockOf iblk; rw [A_eq]; try rfl)
theorem after5 (hO : Ok m) (c : Dev nD) (t : Fin (cfgM m hO).N) : (dats m hO 0 c).after 5 t = left m hO c t := by
  dsimp only [dats]; try rfl

/-! ## One tile -/

abbrev bodyAt (hO : Ok m) (t : Fin (cfgM m hO).N) : Prog (TpuEff nD τ sig (Elt F) Λ₀ .tc) PUnit :=
  cc0_grouped_swiglu_experts (grid0.coords t) tbE (Memref.isWhole_whole _) tbV (Memref.isWhole_whole _) tbN (Memref.isWhole_whole _)
    (ms0 m hO t) (hs0 m hO t) (ms1 m hO t) (hs1 m hO t) (ms2 m hO t) (hs2 m hO t) (ms3 m hO t) (hs3 m hO t)
    (ms4 m hO t) (hs4 m hO t) (ms5 m hO t) (hs5 m hO t) sc0 (Memref.isWhole_whole _) sc1 (Memref.isWhole_whole _) sc2 (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

set_option maxHeartbeats 4000000 in
/-- The first half of a tile: whatever the scratch arrays may hold before it, they hold the tile's weights after. -/
theorem first (hO : Ok m) (c : Dev nD) (t : Fin (cfgM m hO).N) (K : PUnit → sProp 𝕄) :
    iprop((dats m hO 0 c).Φ t.castSucc
        ∗ owns (c : Thread nD τ) (ms2 m hO t) fullShare (iblk m hO c 2 t) ∗ owns (c : Thread nD τ) (ms3 m hO t) fullShare (iblk m hO c 3 t)
        ∗ owns (c : Thread nD τ) (ms4 m hO t) fullShare (iblk m hO c 4 t)
        ∗ (iprop(PhiS m hO c (t.val + 1) t.isLt
            ∗ owns (c : Thread nD τ) (ms2 m hO t) fullShare (iblk m hO c 2 t) ∗ owns (c : Thread nD τ) (ms3 m hO t) fullShare (iblk m hO c 3 t)
            ∗ owns (c : Thread nD τ) (ms4 m hO t) fullShare (iblk m hO c 4 t)) -∗ K ⟨⟩))
      ⊢ wp frame (wpE (defs₀ (F := F)) Variants.none c none) Set.univ
          (head (grid0.coords t) tbE (Memref.isWhole_whole _) tbV (Memref.isWhole_whole _) tbN (Memref.isWhole_whole _)
    (ms0 m hO t) (hs0 m hO t) (ms1 m hO t) (hs1 m hO t) (ms2 m hO t) (hs2 m hO t) (ms3 m hO t) (hs3 m hO t)
    (ms4 m hO t) (hs4 m hO t) (ms5 m hO t) (hs5 m hO t) sc0 (Memref.isWhole_whole _) sc1 (Memref.isWhole_whole _) sc2 (Memref.isWhole_whole _)) K := by
  have open_ : (dats m hO 0 c).Φ t.castSucc ⊢ iprop(iprop(iprop((∃ d, owns (c : Thread nD τ) sc0 fullShare d) ∗ (∃ d, owns (c : Thread nD τ) sc1 fullShare d)
      ∗ (∃ d, owns (c : Thread nD τ) sc2 fullShare d)) ∗ (∃ r, prngReg c r)) ∗ tbPt c tbE (tbl m 0) ∗ tbPt c tbV (tbl m 1) ∗ tbPt c tbN (tbl m 2)) := by
    rw [PhiS_castSucc]
    obtain ⟨n, hn⟩ := t
    cases n with
    | zero => unfold PhiS; rw [PhiA_eq, PhiT_eq]
    | succ n =>
      unfold PhiS; rw [PhiT_eq]
      iintro ⟨⟨⟨H0, H1, H2⟩, Hg⟩, HT⟩
      isplitr [HT]
      · isplitr [Hg]
        · isplitl [H0]; · iexists _; iexact H0
          isplitl [H1]; · iexists _; iexact H1
          iexists _; iexact H2
        iexact Hg
      iexact HT
  have close_ : iprop(iprop(iprop(owns (c : Thread nD τ) sc0 fullShare (wG m hO c t) ∗ owns (c : Thread nD τ) sc1 fullShare (wU m hO c t)
      ∗ owns (c : Thread nD τ) sc2 fullShare (wD m hO c t)) ∗ (∃ r, prngReg c r)) ∗ tbPt c tbE (tbl m 0) ∗ tbPt c tbV (tbl m 1) ∗ tbPt c tbN (tbl m 2))
      ⊢ (PhiS m hO c (t.val + 1) t.isLt : sProp 𝕄) := by
    unfold PhiS; rw [PhiT_eq]
  by_cases h1 : Fresh (grid0.coords t) (wordP c (grid0.coords t) (tbl m 0)) (wordE c (grid0.coords t) (tbl m 0))
  · iintro ⟨HP, H2, H3, H4, Hk⟩
    ihave HP' := open_ $$ HP
    icases HP' with ⟨⟨⟨HS0, HS1, HS2⟩, Hg⟩, HT0, HT1, HT2⟩
    iapply (head_fresh c (grid0.coords t) _ _ _ _ _ _ _ _ _ _ _ _ _ _ _ _ _ _ (iblk m hO c 2 t) (iblk m hO c 3 t) (iblk m hO c 4 t) (tbl m 0) h1 Set.univ K)
    isplitl [H2]; · iexact H2
    isplitl [H3]; · iexact H3
    isplitl [H4]; · iexact H4
    isplitl [HS0]; · iexact HS0
    isplitl [HS1]; · iexact HS1
    isplitl [HS2]; · iexact HS2
    isplitl [HT0]; · iexact HT0
    iintro ⟨H2, H3, H4, HS0, HS1, HS2, HT0⟩
    iapply Hk
    isplitr [H2 H3 H4]
    · iapply close_
      isplitr [HT0 HT1 HT2]
      · isplitr [Hg]
        · isplitl [HS0]; · unfold wG; iexact HS0
          isplitl [HS1]; · unfold wU; iexact HS1
          unfold wD; iexact HS2
        iexact Hg
      isplitl [HT0]; · iexact HT0
      isplitl [HT1]; · iexact HT1
      iexact HT2
    isplitl [H2]; · iexact H2
    isplitl [H3]; · iexact H3
    iexact H4
  · have keep : (dats m hO 0 c).Φ t.castSucc ⊢ (PhiS m hO c (t.val + 1) t.isLt : sProp 𝕄) := by
      rw [PhiS_castSucc]
      obtain ⟨h0, he⟩ := not_fresh h1
      have he := (wordE_eq c _ (tbl m 0)).symm.trans (he.trans (wordP_eq c _ (tbl m 0)))
      obtain ⟨n, hn⟩ := t
      cases n with
      | zero => exact absurd (coord _) h0
      | succ n =>
        have hn' : n < (cfgM m hO).N := Nat.lt_of_succ_lt hn
        have e : ex m (n + 1) (lt_of_lt_of_eq hn N_0) = ex m n (lt_of_lt_of_eq hn' N_0) := by
          have e0 : (grid0.coords ⟨n + 1, hn⟩ 0).val = n + 1 := coord _
          have a1 : place (grid0.coords ⟨n + 1, hn⟩ 0).val (grid0.coords ⟨n + 1, hn⟩ 0).isLt = place (n + 1) (lt_of_lt_of_eq hn N_0) := by
            exact place_congr e0 _ _
          have a2 : place ((grid0.coords ⟨n + 1, hn⟩ 0).val - 1) (lt_of_le_of_lt (Nat.sub_le _ _) (grid0.coords ⟨n + 1, hn⟩ 0).isLt) = place n (lt_of_lt_of_eq hn' N_0) := by
            exact place_congr (by rw [e0]; rfl) _ _
          exact (congrArg (tbl m 0) a1).symm.trans (he.trans (congrArg (tbl m 0) a2))
        have eG : wG m hO c ⟨n + 1, hn⟩ = wG m hO c ⟨n, hn'⟩ := congrArg k0_pay1 (iblk2_same m hO c ⟨n + 1, hn⟩ ⟨n, hn'⟩ e)
        have eU : wU m hO c ⟨n + 1, hn⟩ = wU m hO c ⟨n, hn'⟩ := congrArg k0_pay2 (iblk3_same m hO c ⟨n + 1, hn⟩ ⟨n, hn'⟩ e)
        have eD : wD m hO c ⟨n + 1, hn⟩ = wD m hO c ⟨n, hn'⟩ := congrArg k0_pay3 (iblk4_same m hO c ⟨n + 1, hn⟩ ⟨n, hn'⟩ e)
        show PhiS m hO c (n + 1) _ ⊢ PhiS m hO c (n + 1 + 1) _
        rw [PhiS_succ m hO c n hn', PhiS_succ m hO c (n + 1) hn, eG, eU, eD]
    iintro ⟨HP, H2, H3, H4, Hk⟩
    ihave HP' := keep $$ HP
    unfold PhiS
    rw [PhiT_eq]
    icases HP' with ⟨HS, HT0, HT1⟩
    iapply (head_keep c (grid0.coords t) _ _ _ _ _ _ _ _ _ _ _ _ _ _ _ _ _ _ (tbl m 0) h1 Set.univ K)
    isplitl [HT0]; · iexact HT0
    iintro HT0
    iapply Hk
    isplitr [H2 H3 H4]
    · isplitl [HS]; · iexact HS
      isplitl [HT0]; · iexact HT0
      iexact HT1
    isplitl [H2]; · iexact H2
    isplitl [H3]; · iexact H3
    iexact H4

set_option maxHeartbeats 4000000 in
/-- The second half of a tile: the scratch arrays stand, and the output block is what the tile leaves. -/
theorem second (hO : Ok m) (c : Dev nD) (t : Fin (cfgM m hO).N) (K : PUnit → sProp 𝕄) :
    iprop(PhiS m hO c (t.val + 1) t.isLt
        ∗ owns (c : Thread nD τ) (ms0 m hO t) fullShare (iblk m hO c 0 t) ∗ owns (c : Thread nD τ) (ms1 m hO t) fullShare (iblk m hO c 1 t)
        ∗ (∃ d, owns (c : Thread nD τ) (ms5 m hO t) fullShare d)
        ∗ (iprop(PhiS m hO c (t.val + 1) t.isLt
            ∗ owns (c : Thread nD τ) (ms0 m hO t) fullShare (iblk m hO c 0 t) ∗ owns (c : Thread nD τ) (ms1 m hO t) fullShare (iblk m hO c 1 t)
            ∗ owns (c : Thread nD τ) (ms5 m hO t) fullShare (left m hO c t)) -∗ K ⟨⟩))
      ⊢ wp frame (wpE (defs₀ (F := F)) Variants.none c none) Set.univ
          (tail (grid0.coords t) tbE (Memref.isWhole_whole _) tbV (Memref.isWhole_whole _) tbN (Memref.isWhole_whole _)
    (ms0 m hO t) (hs0 m hO t) (ms1 m hO t) (hs1 m hO t) (ms2 m hO t) (hs2 m hO t) (ms3 m hO t) (hs3 m hO t)
    (ms4 m hO t) (hs4 m hO t) (ms5 m hO t) (hs5 m hO t) sc0 (Memref.isWhole_whole _) sc1 (Memref.isWhole_whole _) sc2 (Memref.isWhole_whole _)) K := by
  unfold PhiS
  rw [PhiT_eq]
  by_cases h2 : k0_cond2 (grid0.coords t) (wordN c (tbl m 2)) = 1#1
  · have out : (iprop(∃ f, (ms5 m hO t).view.loc (c : Thread nD τ) ↦[(ms5 m hO t).view.set]{fullShare} (ms5 m hO t).view.writes (Elt F) f (rows m hO c t h2).1) : sProp 𝕄)
        ⊢ owns (c : Thread nD τ) (ms5 m hO t) fullShare (left m hO c t) := by
      rw [show left m hO c t = VO.read (Elt F) (VO.writes (Elt F) VO.junk (rows m hO c t h2).1) from dif_pos h2]
      iintro ⟨%f, H⟩
      unfold owns; iexists _; isplitr
      swap; · iexact H
      ipureintro
      exact View.read_writes_of_cover _ _ _ _ _ (View.cover_of_tiledBy _ ![128, 1024] (by sl_kernel_rfl))
    iintro ⟨⟨⟨⟨HS0, HS1, HS2⟩, Hg⟩, HT0, HT1, HT2⟩, H0, H1, H5, Hk⟩
    iapply ((rows m hO c t h2).2 Set.univ K)
    isplitl [H0]; · iexact H0
    isplitl [H1]; · iexact H1
    isplitl [H5]; · iexact H5
    isplitl [HS0]; · iexact HS0
    isplitl [HS1]; · iexact HS1
    isplitl [HS2]; · iexact HS2
    isplitl [HT1]; · iexact HT1
    isplitl [HT2]; · iexact HT2
    iintro ⟨H0, H1, H5, HS0, HS1, HS2, HT1, HT2⟩
    iapply Hk
    isplitr [H0 H1 H5]
    · isplitr [HT0 HT1 HT2]
      · isplitr [Hg]
        · isplitl [HS0]; · iexact HS0
          isplitl [HS1]; · iexact HS1
          iexact HS2
        iexact Hg
      isplitl [HT0]; · iexact HT0
      isplitl [HT1]; · iexact HT1
      iexact HT2
    isplitl [H0]; · iexact H0
    isplitl [H1]; · iexact H1
    iapply out
    iexact H5
  · rw [show left m hO c t = k0_pay6 (F := F) from dif_neg h2]
    iintro ⟨⟨HS, HT0, HT1, HT2⟩, H0, H1, H5, Hk⟩
    iapply (tail_zero c (grid0.coords t) _ _ _ _ _ _ _ _ _ _ _ _ _ _ _ _ _ _ (tbl m 2) h2 ((past_or_use _ _).mpr h2) Set.univ K)
    isplitl [H5]; · iexact H5
    isplitl [HT2]; · iexact HT2
    iintro ⟨H5, HT2⟩
    iapply Hk
    isplitr [H0 H1 H5]
    · isplitl [HS]; · iexact HS
      isplitl [HT0]; · iexact HT0
      isplitl [HT1]; · iexact HT1
      iexact HT2
    isplitl [H0]; · iexact H0
    isplitl [H1]; · iexact H1
    iexact H5

set_option maxHeartbeats 4000000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4]
  rw [show (dats m hO 0 c).owesAt () t.succ = (dats m hO 0 c).owesAt () t.castSucc from rfl,
    after0, after1, after2, after3, after4, after5,
    show (dats m hO 0 c).Φ t.succ = PhiS m hO c (t.val + 1) t.isLt from rfl]
  rw [halves, wp_bind]
  iintro ⟨HP, Ho, ⟨%d0, H0⟩, ⟨%d1, H1⟩, ⟨%d2, H2⟩, ⟨%d3, H3⟩, ⟨%d4, H4⟩, ⟨%d5, H5⟩⟩
  iapply (first m hO c t _)
  isplitl [HP]; · iexact HP
  isplitl [H2]; · iexact H2
  isplitl [H3]; · iexact H3
  isplitl [H4]; · iexact H4
  iintro ⟨HP, H2, H3, H4⟩
  iapply (second m hO c t _)
  isplitl [HP]; · iexact HP
  isplitl [H0]; · iexact H0
  isplitl [H1]; · iexact H1
  isplitl [H5]; · iexists _; iexact H5
  iintro ⟨HP, H0, H1, H5⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexact H5

theorem defs₀_row (hO : Ok m) (t : Fin (cfgM m hO).N) :
    defs₀ (F := F) .tc (cfgM m hO).body ((cfgM m hO).bodyArgs t ((cfgM m hO).slots t)) = bodyAt m hO t := by
  unfold defs₀
  rw [Defs.onTc_tc]

/-- The word the output's idleness reads is the tiles-in-use word; no tile is idle. -/
theorem never_idle (hO : Ok m) (t : Fin (cfgM m hO).N) : (cfgM m hO).idle 5 ((cfgM m hO).grid.coords t) = false := by
  show (!(k0_cond2 (grid0.coords t) _ == 1#1) && !(k0_cond3 (grid0.coords t) _ == 1#1)) = false
  generalize (tbl m).atD 2 ![0] = n
  have h := past_or_use (grid0.coords t) n
  by_cases h2 : k0_cond2 (grid0.coords t) n = 1#1
  · simp [h2]
  · simp [h.mpr h2]

theorem body_obligation (hO : Ok m) (c : Dev nD) :
    BodyObligation (dats (F := F) m hO 0 c) (defs₀ (F := F)) Variants.none () Set.univ := fun t => by
  rw [bigSep_W0, bigSep_W0, defs₀_row m hO]
  simp only [show idle0 (tbl m) 5 ((pcfg0.gridAt (tbl m)).coords t) = false from never_idle m hO t]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl]
  exact .rfl

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (159 + 1) (le_of_eq N_0.symm) from rfl, PhiA_eq]
  unfold PhiS
  iintro ⟨⟨⟨H0, H1, H2⟩, Hg⟩, -⟩
  isplitr [Hg]
  · isplitl [H0]; · iexists _; iexact H0
    isplitl [H1]; · iexists _; iexact H1
    iexists _; iexact H2
  iexact Hg

/-! ## The run -/

/-- What every run of `main` ends with. -/
def QE (hO : Ok m) (r : PUnit × MemSt nD τ sig (Elt F)) : Prop :=
  Pipeline.FramePost (Pipeline.pin pcfgs fun _ => adm m hO) (dats m hO) 0 (V m) r ∧ r.2.sem = fun _ => 0

set_option backward.isDefEq.respectTransparency.types false in
theorem run_main (hO : Ok m) : θ_run defs (onTc (τ := τ) (main (F := F))) (s₀ m ρ) (QE m hO) :=
  Pipeline.θ_run_frameP_track pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO) (Q' := QE m hO) (hQ' := fun _ h => h)

/-- The arguments are as they were. -/
theorem kept (hO : Ok m) (r : PUnit × MemSt nD τ sig (Elt F)) (h : QE m hO r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  have H := h.1
  exact ⟨H.in_eq c 0 rfl, H.in_eq c 1 rfl, H.rest_eq c main_arg2 (by decide : main_arg2 ∈ Pipeline.restRefs sig spec0), H.rest_eq c main_arg3 (by decide : main_arg3 ∈ Pipeline.restRefs sig spec0), H.rest_eq c main_arg4 (by decide : main_arg4 ∈ Pipeline.restRefs sig spec0),
    H.in_eq c 2 rfl, H.in_eq c 3 rfl, H.in_eq c 4 rfl⟩

end Cert.Proof.Experts

end
-- ==== Proof.ExpertTiles.lean ====
/-
  A tile in use, as the products its body forms: each quarter of 128 rows is two sums of four products, joined
  by the gate and multiplied by the last weights.
-/
module

public import proofs.«01_k».proof.Proof.ExpertFrame

@[expose] public section

noncomputable section

namespace Cert.Proof.Experts

open Cert.ExpertsIdeal Cert.ExpertsIdeal.Gen

open Idealize.ShloMosaic Idealize.ShloMosaic.TcCoe

variable {F : FTy → Type} [FloatOps F]

/-- The words of 128 rows, nought from the tile's count of rows on. -/
def kept_words (k w : BitVec 32) (x : Vec F S128x256 .i32) : Vec F S128x256 .i32 :=
  select (cmpi .slt (addi (iota .tc S128x256 32 [0] iota_S128x256_d0_w32) (broadcast S128x256 k)) (broadcast S128x256 w)) x
    (broadcast S128x256 0#32 : IVec S128x256 32)

/-- The lower halves of the words, as values. -/
def low (k w : BitVec 32) (x : Vec F S128x256 .i32) : FVec F S128x256 .bf16 :=
  truncf .bf16 (bitcastToFloat .f32 (shli (kept_words (F := F) k w x) (broadcast S128x256 16#32)) : FVec F S128x256 .f32) bitsLt_bf16_f32

/-- The upper halves of the words, as values. -/
def high (k w : BitVec 32) (x : Vec F S128x256 .i32) : FVec F S128x256 .bf16 :=
  truncf .bf16 (bitcastToFloat .f32 (andi (kept_words (F := F) k w x) (broadcast S128x256 4294901760#32)) : FVec F S128x256 .f32) bitsLt_bf16_f32

/-- One product of a quarter. -/
def prod (a : FVec F S128x256 .bf16) (b : Vec F S256x512 .bf16) : FVec F S128x512 .f32 :=
  matmul dot_S128x256_S256x512_S128x512_1_0_0_1_n_n none a b (constant S128x512 .f32 0x00000000#32)

/-- A quarter's rows times a weight: the four products, added from the left. -/
def rowsum (k w : BitVec 32) (x y : Vec F S128x256 .i32) (b0 b1 b2 b3 : Vec F S256x512 .bf16) : FVec F S128x512 .f32 :=
  addf (addf (addf (prod (low k w x) b0) (prod (high k w x) b1)) (prod (low k w y) b2)) (prod (high k w y) b3)

/-- A quarter's results: the gated product times the last weights. -/
def gated (g u : FVec F S128x512 .f32) (s : Vec F S512x1024 .bf16) : FVec F S128x1024 .bf16 :=
  truncf .bf16 (matmul dot_S128x512_S512x1024_S128x1024_1_0_0_1_n_n none
    (truncf .bf16 (mulf (divf g (addf (broadcast S128x512 (Scalar.ofBits .f32 0x3F800000#32 : F .f32))
      (exp (subf (broadcast S128x512 (Scalar.ofBits .f32 0x00000000#32 : F .f32)) g)))) u) bitsLt_bf16_f32) s
    (constant S128x1024 .f32 0x00000000#32)) bitsLt_bf16_f32

section
variable (c : Dev nD) (i : grid0.Coords)
    (arg4 : Memref sig .tc .vmem S512x256 .i32) (harg4 : arg4.IsWhole) (arg5 : Memref sig .tc .vmem S512x256 .i32) (harg5 : arg5.IsWhole)
    (arg6 : Memref sig .tc .vmem S1x1x1024x512 .f32) (harg6 : arg6.IsWhole) (arg7 : Memref sig .tc .vmem S1x1x1024x512 .f32) (harg7 : arg7.IsWhole)
    (arg8 : Memref sig .tc .vmem S1x1x512x1024 .f32) (harg8 : arg8.IsWhole) (arg9 : Memref sig .tc .vmem S512x1024 .bf16) (harg9 : arg9.IsWhole)
    (arg10 : Memref sig .tc .vmem S1024x512 .bf16) (harg10 : arg10.IsWhole) (arg11 : Memref sig .tc .vmem S1024x512 .bf16) (harg11 : arg11.IsWhole)
    (arg12 : Memref sig .tc .vmem S512x1024 .bf16) (harg12 : arg12.IsWhole)
    (x0 x1 : Vec F S512x256 .i32) (s0 s1 : Vec F S1024x512 .bf16) (s2 : Vec F S512x1024 .bf16)
    (xt1 : TbBuf (F := F) c tbV) (xt2 : TbBuf (F := F) c tbN)
    (hc2 : k0_cond2 i (wordN c xt2) = 1#1) (hc3 : ¬ k0_cond3 i (wordN c xt2) = 1#1)

/-- The rows of a quarter of a block of words. -/
def xrows (o : Fin 2 → ℕ) (inb : ∀ a, o a + S128x256.size a ≤ S512x256.size a) (x : Vec F S512x256 .i32) : Vec F S128x256 .i32 :=
  fun y => x ((Rect.unit (s := S512x256) o S128x256.size inb).emb y)

/-- The rows of a quarter of a weight. -/
def wrows (o : Fin 2 → ℕ) (inb : ∀ a, o a + S256x512.size a ≤ S1024x512.size a) (s : Vec F S1024x512 .bf16) : Vec F S256x512 .bf16 :=
  fun y => s ((Rect.unit (s := S1024x512) o S256x512.size inb).emb y)

/-- The four products of a quarter, of the blocks and the weight whole. -/
def wide (k : BitVec 32) (o : Fin 2 → ℕ) (inb : ∀ a, o a + S128x256.size a ≤ S512x256.size a) (w : BitVec 32)
    (x y : Vec F S512x256 .i32) (s : Vec F S1024x512 .bf16) : FVec F S128x512 .f32 :=
  rowsum k w (xrows o inb x) (xrows o inb y) (wrows ![0, 0] inb_S1024x512_S256x512_0_0 s) (wrows ![256, 0] inb_S1024x512_S256x512_256_0 s)
    (wrows ![512, 0] inb_S1024x512_S256x512_512_0 s) (wrows ![768, 0] inb_S1024x512_S256x512_768_0 s)

/-- The pieces a tile in use stores. -/
def pieces (w : BitVec 32) (x0 x1 : Vec F S512x256 .i32) (s0 s1 : Vec F S1024x512 .bf16) (s2 : Vec F S512x1024 .bf16) :
    List (View.Piece (Elt F) S512x1024 .bf16) :=
  [⟨Rect.unit ![384, 0] ![128, 1024] inb_S512x1024_S128x1024_384_0,
      gated (wide 384#32 ![384, 0] inb_S512x256_S128x256_384_0 w x0 x1 s0) (wide 384#32 ![384, 0] inb_S512x256_S128x256_384_0 w x0 x1 s1) s2⟩,
   ⟨Rect.unit ![256, 0] ![128, 1024] inb_S512x1024_S128x1024_256_0,
      gated (wide 256#32 ![256, 0] inb_S512x256_S128x256_256_0 w x0 x1 s0) (wide 256#32 ![256, 0] inb_S512x256_S128x256_256_0 w x0 x1 s1) s2⟩,
   ⟨Rect.unit ![128, 0] ![128, 1024] inb_S512x1024_S128x1024_128_0,
      gated (wide 128#32 ![128, 0] inb_S512x256_S128x256_128_0 w x0 x1 s0) (wide 128#32 ![128, 0] inb_S512x256_S128x256_128_0 w x0 x1 s1) s2⟩,
   ⟨Rect.unit ![0, 0] ![128, 1024] inb_S512x1024_S128x1024_0_0,
      gated (wide 0#32 ![0, 0] inb_S512x256_S128x256_0_0 w x0 x1 s0) (wide 0#32 ![0, 0] inb_S512x256_S128x256_0_0 w x0 x1 s1) s2⟩]

theorem gate_first : tail_use.sl.r_7 c i arg4 arg5 arg10 x0 x1 s0 xt1
    = wide (F := F) 0#32 ![0, 0] inb_S512x256_S128x256_0_0 (wordV c i xt1) x0 x1 s0 := by
  simp only [tail_use.sl.r_7, tail_use.sl.r_6, tail_use.sl.r_5, tail_use.sl.r_4, tail_use.sl.r_3, tail_use.sl.r_2, tail_use.sl.r_1, View.readAt_rep]
  rfl

theorem up_first : tail_use.sl.r_8 c i arg4 arg5 arg11 x0 x1 s1 xt1
    = wide (F := F) 0#32 ![0, 0] inb_S512x256_S128x256_0_0 (wordV c i xt1) x0 x1 s1 := by
  simp only [tail_use.sl.r_8, tail_use.sl.r_7, tail_use.sl.r_6, tail_use.sl.r_5, tail_use.sl.r_4, tail_use.sl.r_3, tail_use.sl.r_2, tail_use.sl.r_1, View.readAt_rep]
  rfl

theorem gate_second : tail_use.sl.r_15 c i arg4 arg5 arg10 x0 x1 s0 xt1
    = wide (F := F) 128#32 ![128, 0] inb_S512x256_S128x256_128_0 (wordV c i xt1) x0 x1 s0 := by
  simp only [tail_use.sl.r_15, tail_use.sl.r_14, tail_use.sl.r_13, tail_use.sl.r_12, tail_use.sl.r_11, tail_use.sl.r_10, tail_use.sl.r_9, tail_use.sl.r_8, tail_use.sl.r_7, tail_use.sl.r_6, tail_use.sl.r_5, tail_use.sl.r_4, tail_use.sl.r_3, tail_use.sl.r_2, tail_use.sl.r_1, View.readAt_rep]
  rfl

theorem up_second : tail_use.sl.r_16 c i arg4 arg5 arg11 x0 x1 s1 xt1
    = wide (F := F) 128#32 ![128, 0] inb_S512x256_S128x256_128_0 (wordV c i xt1) x0 x1 s1 := by
  simp only [tail_use.sl.r_16, tail_use.sl.r_15, tail_use.sl.r_14, tail_use.sl.r_13, tail_use.sl.r_12, tail_use.sl.r_11, tail_use.sl.r_10, tail_use.sl.r_9, tail_use.sl.r_8, tail_use.sl.r_7, tail_use.sl.r_6, tail_use.sl.r_5, tail_use.sl.r_4, tail_use.sl.r_3, tail_use.sl.r_2, tail_use.sl.r_1, View.readAt_rep]
  rfl

theorem gate_third : tail_use.sl.r_22 c i arg4 arg5 arg10 x0 x1 s0 xt1
    = wide (F := F) 256#32 ![256, 0] inb_S512x256_S128x256_256_0 (wordV c i xt1) x0 x1 s0 := by
  simp only [tail_use.sl.r_22, tail_use.sl.r_21, tail_use.sl.r_20, tail_use.sl.r_19, tail_use.sl.r_18, tail_use.sl.r_17, tail_use.sl.r_16, tail_use.sl.r_15, tail_use.sl.r_14, tail_use.sl.r_13, tail_use.sl.r_12, tail_use.sl.r_11, tail_use.sl.r_10, tail_use.sl.r_9, tail_use.sl.r_8, tail_use.sl.r_7, tail_use.sl.r_6, tail_use.sl.r_5, tail_use.sl.r_4, tail_use.sl.r_3, tail_use.sl.r_2, tail_use.sl.r_1, View.readAt_rep]
  rfl

theorem up_third : tail_use.sl.r_23 c i arg4 arg5 arg11 x0 x1 s1 xt1
    = wide (F := F) 256#32 ![256, 0] inb_S512x256_S128x256_256_0 (wordV c i xt1) x0 x1 s1 := by
  simp only [tail_use.sl.r_23, tail_use.sl.r_22, tail_use.sl.r_21, tail_use.sl.r_20, tail_use.sl.r_19, tail_use.sl.r_18, tail_use.sl.r_17, tail_use.sl.r_16, tail_use.sl.r_15, tail_use.sl.r_14, tail_use.sl.r_13, tail_use.sl.r_12, tail_use.sl.r_11, tail_use.sl.r_10, tail_use.sl.r_9, tail_use.sl.r_8, tail_use.sl.r_7, tail_use.sl.r_6, tail_use.sl.r_5, tail_use.sl.r_4, tail_use.sl.r_3, tail_use.sl.r_2, tail_use.sl.r_1, View.readAt_rep]
  rfl

theorem gate_fourth : tail_use.sl.r_30 c i arg4 arg5 arg10 x0 x1 s0 xt1
    = wide (F := F) 384#32 ![384, 0] inb_S512x256_S128x256_384_0 (wordV c i xt1) x0 x1 s0 := by
  simp only [tail_use.sl.r_30, tail_use.sl.r_29, tail_use.sl.r_28, tail_use.sl.r_27, tail_use.sl.r_26, tail_use.sl.r_25, tail_use.sl.r_24, tail_use.sl.r_23, tail_use.sl.r_22, tail_use.sl.r_21, tail_use.sl.r_20, tail_use.sl.r_19, tail_use.sl.r_18, tail_use.sl.r_17, tail_use.sl.r_16, tail_use.sl.r_15, tail_use.sl.r_14, tail_use.sl.r_13, tail_use.sl.r_12, tail_use.sl.r_11, tail_use.sl.r_10, tail_use.sl.r_9, tail_use.sl.r_8, tail_use.sl.r_7, tail_use.sl.r_6, tail_use.sl.r_5, tail_use.sl.r_4, tail_use.sl.r_3, tail_use.sl.r_2, tail_use.sl.r_1, View.readAt_rep]
  rfl

theorem up_fourth : tail_use.sl.r_31 c i arg4 arg5 arg11 x0 x1 s1 xt1
    = wide (F := F) 384#32 ![384, 0] inb_S512x256_S128x256_384_0 (wordV c i xt1) x0 x1 s1 := by
  simp only [tail_use.sl.r_31, tail_use.sl.r_30, tail_use.sl.r_29, tail_use.sl.r_28, tail_use.sl.r_27, tail_use.sl.r_26, tail_use.sl.r_25, tail_use.sl.r_24, tail_use.sl.r_23, tail_use.sl.r_22, tail_use.sl.r_21, tail_use.sl.r_20, tail_use.sl.r_19, tail_use.sl.r_18, tail_use.sl.r_17, tail_use.sl.r_16, tail_use.sl.r_15, tail_use.sl.r_14, tail_use.sl.r_13, tail_use.sl.r_12, tail_use.sl.r_11, tail_use.sl.r_10, tail_use.sl.r_9, tail_use.sl.r_8, tail_use.sl.r_7, tail_use.sl.r_6, tail_use.sl.r_5, tail_use.sl.r_4, tail_use.sl.r_3, tail_use.sl.r_2, tail_use.sl.r_1, View.readAt_rep]
  rfl

/-- The pieces the run found are those. -/
theorem pieces_eq : (tail_use c i arg4 harg4 arg5 harg5 arg6 harg6 arg7 harg7 arg8 harg8 arg9 harg9 arg10 harg10 arg11 harg11 arg12 harg12
    x0 x1 s0 s1 s2 xt1 xt2 hc2 hc3).1 = pieces (wordV c i xt1) x0 x1 s0 s1 s2 := by
  have e : View.readAt (Elt F) arg12.view (Rect.unit ![0, 0] ![512, 1024] inb_S512x1024_S512x1024_0_0).toLoadRect (arg12.view.rep s2) = s2 :=
    View.readAt_rep_full arg12.view s2 inb_S512x1024_S512x1024_0_0
  unfold tail_use
  simp only [e, tail_use.sl.r_32, gate_first, gate_second, gate_third, gate_fourth, up_first, up_second, up_third, up_fourth]
  rfl

end
end Cert.Proof.Experts
end
-- ==== Proof.ExpertValue.lean ====
/-
  What a tile in use leaves in a row, and what the launch leaves in a row of the output, over the extended reals.
-/
module

public import proofs.«01_k».proof.Proof.ExpertTiles
public import Idealize.ShloMosaic.Lib.Pointwise
public import Idealize.ShloMosaic.Lib.IdealHost

@[expose] public section

set_option maxRecDepth 16384

noncomputable section

namespace Cert.Proof.Experts

open Cert.ExpertsIdeal Cert.ExpertsIdeal.Gen

open Idealize.ShloMosaic Idealize.ShloMosaic.TcCoe

/-- The lower half of a word, as a value. -/
def lowOf (w : BitVec 32) : EReal := Ideal.ofBits .f32 (w <<< 16)
/-- The upper half of a word, as a value. -/
def highOf (w : BitVec 32) : EReal := Ideal.ofBits .f32 (w &&& 4294901760#32)

/-- A row's value where the row is kept, nought elsewhere. -/
def keep (b : BitVec 1) (v : EReal) : EReal := if b = 1#1 then v else 0

/-- A row times a column of a weight: the four quarters of the columns. -/
def dotRow (b : BitVec 1) (x y : Fin 256 → BitVec 32) (s : Fin 1024 → EReal) : EReal :=
  ((∑ k : Fin 256, keep b (lowOf (x k)) * s ⟨k.val, by omega⟩) + (∑ k : Fin 256, keep b (highOf (x k)) * s ⟨256 + k.val, by omega⟩)
    + ∑ k : Fin 256, keep b (lowOf (y k)) * s ⟨512 + k.val, by omega⟩) + ∑ k : Fin 256, keep b (highOf (y k)) * s ⟨768 + k.val, by omega⟩

/-- The gate. -/
def gate (g : EReal) : EReal := Ideal.div g (1 + Ideal.exp (-g))

/-- An entry of an expert's result for a row. -/
def outRow (b : BitVec 1) (x y : Fin 256 → BitVec 32) (s0 s1 : Fin 1024 → Fin 512 → EReal) (s2 : Fin 512 → EReal) : EReal :=
  ∑ f : Fin 512, gate (dotRow b x y fun d => s0 d f) * dotRow b x y (fun d => s1 d f) * s2 f

theorem lowOf_zero : lowOf 0#32 = 0 := by
  rw [lowOf, show (0#32 : BitVec 32) <<< 16 = 0#32 from by decide]; exact Ideal.ofBits_zero_f32
theorem highOf_zero : highOf 0#32 = 0 := by
  rw [highOf, show (0#32 : BitVec 32) &&& 4294901760#32 = 0#32 from by decide]; exact Ideal.ofBits_zero_f32

theorem lowOf_ite (b : BitVec 1) (w : BitVec 32) : lowOf (if b = 1#1 then w else 0#32) = keep b (lowOf w) := by
  unfold keep; split
  · rfl
  · exact lowOf_zero
theorem highOf_ite (b : BitVec 1) (w : BitVec 32) : highOf (if b = 1#1 then w else 0#32) = keep b (highOf w) := by
  unfold keep; split
  · rfl
  · exact highOf_zero

theorem shl16 (v : BitVec 32) : IntOp.shli .vector v 16#32 = v <<< 16 := by
  simp [IntOp.shli]

theorem low_apply (k w : BitVec 32) (x : Vec Ideal S128x256 .i32) (r : Fin 128) (d : Fin 256) :
    low (F := Ideal) k w x (ix2 r d) = keep (IntOp.cmpi .slt (BitVec.ofNat 32 r.val + k) w) (lowOf (x (ix2 r d))) := by
  rw [← lowOf_ite]
  pointwise [low, kept_words]
  exact congrArg (fun z : BitVec 32 => Ideal.ofBits .f32 z) (shl16 _)
theorem high_apply (k w : BitVec 32) (x : Vec Ideal S128x256 .i32) (r : Fin 128) (d : Fin 256) :
    high (F := Ideal) k w x (ix2 r d) = keep (IntOp.cmpi .slt (BitVec.ofNat 32 r.val + k) w) (highOf (x (ix2 r d))) := by
  rw [← highOf_ite]
  pointwise [high, kept_words]
  rfl

theorem prod_apply (a : FVec Ideal S128x256 .bf16) (b : Vec Ideal S256x512 .bf16) (r : Fin 128) (f : Fin 512) :
    prod (F := Ideal) a b (ix2 r f) = ∑ k : Fin 256, a (ix2 r k) * b (ix2 k f) := by
  pointwise [prod]

theorem rowsum_apply (k w : BitVec 32) (x y : Vec Ideal S128x256 .i32) (b0 b1 b2 b3 : Vec Ideal S256x512 .bf16) (r : Fin 128) (f : Fin 512) :
    rowsum (F := Ideal) k w x y b0 b1 b2 b3 (ix2 r f)
      = (((∑ d : Fin 256, keep (IntOp.cmpi .slt (BitVec.ofNat 32 r.val + k) w) (lowOf (x (ix2 r d))) * b0 (ix2 d f))
        + ∑ d : Fin 256, keep (IntOp.cmpi .slt (BitVec.ofNat 32 r.val + k) w) (highOf (x (ix2 r d))) * b1 (ix2 d f))
        + ∑ d : Fin 256, keep (IntOp.cmpi .slt (BitVec.ofNat 32 r.val + k) w) (lowOf (y (ix2 r d))) * b2 (ix2 d f))
        + ∑ d : Fin 256, keep (IntOp.cmpi .slt (BitVec.ofNat 32 r.val + k) w) (highOf (y (ix2 r d))) * b3 (ix2 d f) := by
  show ((prod _ _ (ix2 r f) + prod _ _ (ix2 r f)) + prod _ _ (ix2 r f)) + prod _ _ (ix2 r f) = _
  simp only [prod_apply, low_apply, high_apply]

theorem gated_apply (g u : FVec Ideal S128x512 .f32) (s : Vec Ideal S512x1024 .bf16) (r : Fin 128) (j : Fin 1024) :
    gated (F := Ideal) g u s (ix2 r j) = ∑ f : Fin 512, gate (g (ix2 r f)) * u (ix2 r f) * s (ix2 f j) := by
  pointwise [gated]
  simp only [sub_eq_add_neg, zero_add, gate]

theorem wide_apply (q : ℕ) (inb : ∀ a, (![q, 0] : Fin 2 → ℕ) a + S128x256.size a ≤ S512x256.size a) (w : BitVec 32) (x y : Vec Ideal S512x256 .i32)
    (s : Vec Ideal S1024x512 .bf16) (r : Fin 128) (f : Fin 512) (R : Fin 512) (hR : R.val = q + r.val) :
    wide (F := Ideal) (BitVec.ofNat 32 q) ![q, 0] inb w x y s (ix2 r f)
      = dotRow (IntOp.cmpi .slt (BitVec.ofNat 32 R.val) w) (fun d => x (ix2 R d)) (fun d => y (ix2 R d)) (fun d => s (ix2 d f)) := by
  have ex (v : Vec Ideal S512x256 .i32) (d : Fin 256) : xrows (F := Ideal) ![q, 0] inb v (ix2 r d) = v (ix2 R d) :=
    congrArg v (funext fun a => Fin.ext (by
      match a with
      | ⟨0, _⟩ => show q + 1 * r.val = R.val; omega
      | ⟨1, _⟩ => show 0 + 1 * d.val = d.val; omega))
  have ew (o : ℕ) (h : ∀ a, (![o, 0] : Fin 2 → ℕ) a + S256x512.size a ≤ S1024x512.size a) (d : Fin 256) (ho : o + d.val < 1024) :
      wrows (F := Ideal) ![o, 0] h s (ix2 d f) = s (ix2 ⟨o + d.val, ho⟩ f) :=
    congrArg s (funext fun a => Fin.ext (by
      match a with
      | ⟨0, _⟩ => show o + 1 * d.val = o + d.val; omega
      | ⟨1, _⟩ => show 0 + 1 * f.val = f.val; omega))
  have e0 (d : Fin 256) : wrows (F := Ideal) ![0, 0] inb_S1024x512_S256x512_0_0 s (ix2 d f) = s (ix2 ⟨d.val, by omega⟩ f) :=
    congrArg s (funext fun a => Fin.ext (by
      match a with
      | ⟨0, _⟩ => show 0 + 1 * d.val = d.val; omega
      | ⟨1, _⟩ => show 0 + 1 * f.val = f.val; omega))
  have eb : (BitVec.ofNat 32 r.val + BitVec.ofNat 32 q : BitVec 32) = BitVec.ofNat 32 R.val := by
    rw [hR, Nat.add_comm, BitVec.ofNat_add]
  unfold wide dotRow
  rw [rowsum_apply, eb]
  simp only [ex, e0]
  congr 1
  · congr 1
    · congr 1
      exact Finset.sum_congr rfl fun d _ => by rw [ew 256 _ d (by omega)]
    · exact Finset.sum_congr rfl fun d _ => by rw [ew 512 _ d (by omega)]
  · exact Finset.sum_congr rfl fun d _ => by rw [ew 768 _ d (by omega)]

/-- A quarter of a tile in use, at a row and a column. -/
theorem quarter_apply (q : ℕ) (inb : ∀ a, (![q, 0] : Fin 2 → ℕ) a + S128x256.size a ≤ S512x256.size a) (w : BitVec 32) (x y : Vec Ideal S512x256 .i32)
    (s0 s1 : Vec Ideal S1024x512 .bf16) (s2 : Vec Ideal S512x1024 .bf16) (r : Fin 128) (j : Fin 1024) (R : Fin 512) (hR : R.val = q + r.val) :
    gated (F := Ideal) (wide (BitVec.ofNat 32 q) ![q, 0] inb w x y s0) (wide (BitVec.ofNat 32 q) ![q, 0] inb w x y s1) s2 (ix2 r j)
      = outRow (IntOp.cmpi .slt (BitVec.ofNat 32 R.val) w) (fun d => x (ix2 R d)) (fun d => y (ix2 R d)) (fun d f => s0 (ix2 d f))
          (fun d f => s1 (ix2 d f)) (fun f => s2 (ix2 f j)) := by
  rw [gated_apply]
  exact Finset.sum_congr rfl fun f _ => by rw [wide_apply q inb w x y s0 r f R hR, wide_apply q inb w x y s1 r f R hR]

/-- The output block after the pieces, at a row and a column. -/
theorem pieces_apply (f0 : VO.ty.Contents (Elt Ideal)) (w : BitVec 32) (x y : Vec Ideal S512x256 .i32)
    (s0 s1 : Vec Ideal S1024x512 .bf16) (s2 : Vec Ideal S512x1024 .bf16) (R : Fin 512) (j : Fin 1024) :
    VO.read (Elt Ideal) (VO.writes (Elt Ideal) f0 (pieces (F := Ideal) w x y s0 s1 s2)) (ix2 R j)
      = outRow (IntOp.cmpi .slt (BitVec.ofNat 32 R.val) w) (fun d => x (ix2 R d)) (fun d => y (ix2 R d)) (fun d f => s0 (ix2 d f))
          (fun d f => s1 (ix2 d f)) (fun f => s2 (ix2 f j)) := by
  unfold pieces
  by_cases h3 : 384 ≤ R.val
  · rw [View.read_writes_cons_hit_of_coords VO f0 _ _ _ (ix2 (⟨R.val - 384, by omega⟩ : Fin 128) j) _ (fun a => by
      match a with
      | ⟨0, _⟩ => show R.val = 384 + 1 * (R.val - 384); omega
      | ⟨1, _⟩ => show j.val = 0 + 1 * j.val; omega)]
    exact quarter_apply 384 _ w x y s0 s1 s2 _ j R (by show R.val = 384 + (R.val - 384); omega)
  rw [View.read_writes_cons_miss_of_axis VO f0 _ _ _ (0 : Fin 2) 384 128 rfl rfl rfl (Or.inl (by show R.val < 384; omega))]
  by_cases h2 : 256 ≤ R.val
  · rw [View.read_writes_cons_hit_of_coords VO f0 _ _ _ (ix2 (⟨R.val - 256, by omega⟩ : Fin 128) j) _ (fun a => by
      match a with
      | ⟨0, _⟩ => show R.val = 256 + 1 * (R.val - 256); omega
      | ⟨1, _⟩ => show j.val = 0 + 1 * j.val; omega)]
    exact quarter_apply 256 _ w x y s0 s1 s2 _ j R (by show R.val = 256 + (R.val - 256); omega)
  rw [View.read_writes_cons_miss_of_axis VO f0 _ _ _ (0 : Fin 2) 256 128 rfl rfl rfl (Or.inl (by show R.val < 256; omega))]
  by_cases h1 : 128 ≤ R.val
  · rw [View.read_writes_cons_hit_of_coords VO f0 _ _ _ (ix2 (⟨R.val - 128, by omega⟩ : Fin 128) j) _ (fun a => by
      match a with
      | ⟨0, _⟩ => show R.val = 128 + 1 * (R.val - 128); omega
      | ⟨1, _⟩ => show j.val = 0 + 1 * j.val; omega)]
    exact quarter_apply 128 _ w x y s0 s1 s2 _ j R (by show R.val = 128 + (R.val - 128); omega)
  rw [View.read_writes_cons_miss_of_axis VO f0 _ _ _ (0 : Fin 2) 128 128 rfl rfl rfl (Or.inl (by show R.val < 128; omega))]
  rw [View.read_writes_cons_hit_of_coords VO f0 _ _ _ (ix2 (⟨R.val, by omega⟩ : Fin 128) j) _ (fun a => by
      match a with
      | ⟨0, _⟩ => show R.val = 0 + 1 * R.val; omega
      | ⟨1, _⟩ => show j.val = 0 + 1 * j.val; omega)]
  exact quarter_apply 0 _ w x y s0 s1 s2 _ j R (by show R.val = 0 + R.val; omega)

/-! ## The output of the launch -/

/-- An index of the stacked weights: the layer's, an expert's, a row and a column. -/
abbrev at4 {a b : ℕ} (e : Fin 32) (i : Fin a) (j : Fin b) : (⟨4, ![4, 32, a, b]⟩ : Shape).Idx := ix4 (0 : Fin 4) e i j

/-- The expert a word names. -/
def expertOf (w : BitVec 32) : Fin 32 := ⟨w.toNat % 32, Nat.mod_lt _ (by decide)⟩

/-- The output, index by index: the row's tile, if in use, gives the row its expert's result. -/
def spec (a0 a1 : S81920x256.Idx → BitVec 32) (te tv : S160.Idx → BitVec 32) (nu : BitVec 32)
    (wg wu : S4x32x1024x512.Idx → EReal) (wd : S4x32x512x1024.Idx → EReal) (t : Fin 160) (r : Fin 512) (R : Fin 81920) (j : Fin 1024) : EReal :=
  if IntOp.cmpi .slt (BitVec.ofNat 32 t.val) nu = 1#1 then
    outRow (IntOp.cmpi .slt (BitVec.ofNat 32 r.val) (tv (place t.val t.isLt))) (fun d => a0 (ix2 R d)) (fun d => a1 (ix2 R d))
      (fun d f => wg (at4 (expertOf (te (place t.val t.isLt))) d f)) (fun d f => wu (at4 (expertOf (te (place t.val t.isLt))) d f))
      (fun f => wd (at4 (expertOf (te (place t.val t.isLt))) f j))
  else 0

variable (m : (ℓ : Loc nD τ sig) → Buf (Elt Ideal) ℓ) (ρ : Dev nD → PrngReg)

theorem wordN_eq (c : Dev nD) (f : TbBuf (F := Ideal) c tbN) : wordN c f = f (fun a => ⟨0, match a with | ⟨0, _⟩ => Nat.one_pos⟩) := by
  show f _ = f _
  congr 1
  funext a
  apply Fin.ext
  have : ∀ x : Fin 1, x.val = 0 := fun x => by omega
  fin_cases a
  rfl

theorem use_word (i : grid0.Coords) (n : BitVec 32) : k0_cond2 i n = 1#1 ↔ IntOp.cmpi .slt (BitVec.ofNat 32 (i 0).val) n = 1#1 := by
  rw [use_iff]
  show _ ↔ BitVec.ofBool ((BitVec.ofNat 32 (i 0).val).slt n) = 1#1
  generalize (BitVec.ofNat 32 (i 0).val).slt n = b
  revert b
  decide

theorem wG_apply (hO : Ok m) (c : Dev nD) (t : Fin (cfgM m hO).N) (d : Fin 1024) (f : Fin 512) :
    wG m hO c t (ix2 d f) = m ((c : Thread nD τ).loc main_arg5) (at4 (expertOf (ex m t.val (lt_of_lt_of_eq t.isLt N_0))) d f) := by
  have h := ex_lt m hO t
  have e := iblk2_apply m hO c t (ix4 (0 : Fin 1) (0 : Fin 1) d f) (at4 (expertOf (ex m t.val (lt_of_lt_of_eq t.isLt N_0))) d f) rfl
    (Nat.mod_eq_of_lt h) rfl rfl
  rw [← e]
  unfold wG k0_pay1
  pointwise

theorem wU_apply (hO : Ok m) (c : Dev nD) (t : Fin (cfgM m hO).N) (d : Fin 1024) (f : Fin 512) :
    wU m hO c t (ix2 d f) = m ((c : Thread nD τ).loc main_arg6) (at4 (expertOf (ex m t.val (lt_of_lt_of_eq t.isLt N_0))) d f) := by
  have h := ex_lt m hO t
  have e := iblk3_apply m hO c t (ix4 (0 : Fin 1) (0 : Fin 1) d f) (at4 (expertOf (ex m t.val (lt_of_lt_of_eq t.isLt N_0))) d f) rfl
    (Nat.mod_eq_of_lt h) rfl rfl
  rw [← e]
  unfold wU k0_pay2
  pointwise

theorem wD_apply (hO : Ok m) (c : Dev nD) (t : Fin (cfgM m hO).N) (f : Fin 512) (j : Fin 1024) :
    wD m hO c t (ix2 f j) = m ((c : Thread nD τ).loc main_arg7) (at4 (expertOf (ex m t.val (lt_of_lt_of_eq t.isLt N_0))) f j) := by
  have h := ex_lt m hO t
  have e := iblk4_apply m hO c t (ix4 (0 : Fin 1) (0 : Fin 1) f j) (at4 (expertOf (ex m t.val (lt_of_lt_of_eq t.isLt N_0))) f j) rfl
    (Nat.mod_eq_of_lt h) rfl rfl
  rw [← e]
  unfold wD k0_pay3
  pointwise

theorem left_apply (hO : Ok m) (c : Dev nD) (t : Fin (cfgM m hO).N) (T : Fin 160) (hT : T.val = t.val) (r : Fin 512) (j : Fin 1024)
    (R : Fin 81920) (hR : R.val = t.val * 512 + r.val) :
    left m hO c t (ix2 r j) = spec (m ((c : Thread nD τ).loc main_arg0)) (m ((c : Thread nD τ).loc main_arg1)) (tbl m 0) (tbl m 1)
      (wordN c (tbl m 2)) (m ((c : Thread nD τ).loc main_arg5)) (m ((c : Thread nD τ).loc main_arg6)) (m ((c : Thread nD τ).loc main_arg7)) T r R j := by
  have hT' : T.val = (grid0.coords t 0).val := hT.trans (coord t).symm
  have hp : place T.val T.isLt = place t.val (lt_of_lt_of_eq t.isLt N_0) := place_congr hT _ _
  have hw : wordV c (grid0.coords t) (tbl m 1) = tbl m 1 (place T.val T.isLt) :=
    (wordV_eq c (grid0.coords t) (tbl m 1)).trans (congrArg (tbl m 1) (place_congr hT'.symm _ _))
  unfold left spec
  by_cases h : k0_cond2 (grid0.coords t) (wordN c (tbl m 2)) = 1#1
  · rw [dif_pos h, if_pos (by rw [hT']; exact (use_word _ _).mp h)]
    have hr : (rows m hO c t h).1 = pieces (F := Ideal) (wordV c (grid0.coords t) (tbl m 1)) (iblk m hO c 0 t) (iblk m hO c 1 t)
        (wG m hO c t) (wU m hO c t) (wD m hO c t) := pieces_eq ..
    refine ((congrArg (fun L => VO.read (Elt Ideal) (VO.writes (Elt Ideal) VO.junk L) (ix2 r j)) hr).trans (pieces_apply _ _ _ _ _ _ _ r j)).trans ?_
    rw [hw, hp]
    simp only [wG_apply, wU_apply, wD_apply]
    congr 1
    · exact funext fun d => iblk0_apply m hO c t (ix2 r d) (ix2 R d) hR rfl
    · exact funext fun d => iblk1_apply m hO c t (ix2 r d) (ix2 R d) hR rfl
  · rw [dif_neg h, if_neg (by rw [hT']; exact fun h' => h ((use_word _ _).mpr h'))]
    exact Ideal.ofBits_zero_bf16

set_option backward.isDefEq.respectTransparency.types false in
theorem out_arr (hO : Ok m) (c : Dev nD) (G : S81920x1024.Idx → EReal)
    (hG : ∀ (t : Fin (cfgM m hO).N) (r : Fin 512) (j : Fin 1024) (R : Fin 81920), R.val = t.val * 512 + r.val → left m hO c t (ix2 r j) = G (ix2 R j)) :
    (dats m hO 0 c).arrAt 5 (cfgM m hO).N = G := by
  refine (dats m hO 0 c).arrAt_eq_of_emb 5 G (fun t hf y => ?_) ?_
  · blk_simp
    rw [after5]
    have ht : t.val < 160 := lt_of_lt_of_eq t.isLt N_0
    let y' : S512x1024.Idx := y
    have h0 : (y' 0).val < 512 := (y' 0).isLt
    have hy : y' = ix2 (y' 0) (y' 1) := eq_ix2 y'
    have e : ((((cfgM m hO).win 5).blk t).view.emb y : S81920x1024.Idx) = ix2 (⟨t.val * 512 + (y' 0).val, by omega⟩ : Fin 81920) (y' 1) := by
      have e0 : ((cfgM m hO).win 5).index t (0 : Fin 2) = t.val := by
        show (BitVec.ofNat 32 (grid0.coords t 0).val).toNat = _
        rw [coord, BitVec.toNat_ofNat]; omega
      have e1 : ((cfgM m hO).win 5).index t (1 : Fin 2) = 0 := rfl
      funext a
      apply Fin.ext
      fin_cases a
      · blk_simp; rw [e0]; rfl
      · blk_simp; rw [e1, Nat.zero_mul, Nat.zero_add]; rfl
    exact ((congrArg (left m hO c t) hy).trans (hG t (y' 0) (y' 1) _ rfl)).trans (congrArg G e.symm)
  · intro i
    let i' : S81920x1024.Idx := i
    have h0 : (i' 0).val < 81920 := (i' 0).isLt
    have h1 : (i' 1).val < 1024 := (i' 1).isLt
    let t : Fin (cfgM m hO).N := ⟨(i' 0).val / 512, lt_of_lt_of_eq (by omega : (i' 0).val / 512 < 160) N_0.symm⟩
    refine ⟨t, (Pipeline.Window.flushOf_reads cc0_transform_5 reads0_5 hreads0_5 0 (by decide) (by decide)
      (Pipeline.Window.sep_of_coord cc0_transform_5 0 0 (fun _ => rfl) (by decide)) (P := 1) (m := 0) (by decide) rfl t).mpr (Nat.mod_one _), ?_⟩
    refine (((cfgM m hO).win 5).emb_mem_blk_iff t i' rfl).mpr fun a => ?_
    have e0 : ((cfgM m hO).win 5).index t (0 : Fin 2) = t.val := by
      show (BitVec.ofNat 32 (grid0.coords t 0).val).toNat = _
      rw [coord, BitVec.toNat_ofNat]
      have : t.val < 160 := lt_of_lt_of_eq t.isLt N_0
      omega
    match a with
    | ⟨0, _⟩ =>
      show ((cfgM m hO).win 5).index t (0 : Fin 2) * 512 ≤ (i' 0).val ∧ (i' 0).val < ((cfgM m hO).win 5).index t (0 : Fin 2) * 512 + 512
      rw [e0]
      show (i' 0).val / 512 * 512 ≤ (i' 0).val ∧ (i' 0).val < (i' 0).val / 512 * 512 + 512
      omega
    | ⟨1, _⟩ =>
      show 0 * 1024 ≤ (i' 1).val ∧ (i' 1).val < 0 * 1024 + 1024
      omega

end Cert.Proof.Experts
end
-- ==== Proof.ExpertRange.lean ====
/-
  What the precondition on the experts' tables gives.
-/
module

public import proofs.«01_k».proof.Proof.ExpertFrame
public import proofs.«01_k».proof.Proof.Gen.Pre_expert_tables

@[expose] public section

set_option maxRecDepth 16384

noncomputable section

namespace Cert.Proof.Experts

open Cert.ExpertsIdeal Cert.ExpertsIdeal.Gen

open Idealize.ShloMosaic Idealize.ShloMosaic.TcCoe

variable {F : FTy → Type} [FloatOps F]

/-- A word between nought and 32, signed, is such a number. -/
theorem expert_range {w : BitVec 32} (h : IntOp.cmpi .sge w 0#32 &&& IntOp.cmpi .slt w 32#32 = 1#1) : w.toNat < 32 := by
  have hb : ∀ a b : Bool, BitVec.ofBool a &&& BitVec.ofBool b = 1#1 → a = true ∧ b = true := by decide
  obtain ⟨h0, h1⟩ := hb _ _ h
  simp only [BitVec.sle_eq_decide, BitVec.slt_eq_decide, decide_eq_true_eq, BitVec.toInt_eq_toNat_cond,
    BitVec.toNat_ofNat, Nat.reducePow, Nat.reduceMod] at h0 h1
  have := w.isLt
  omega

variable (m : (ℓ : Loc nD τ sig) → Buf (Elt F) ℓ)

/-- The precondition, as the memory has it. -/
abbrev PreE : Prop := ∀ c : Dev nD, Cert.Pre_expert_tables.fn (F := F) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) = fun _ => 1#1

theorem experts_lt (h : PreE m) (n : S160.Idx) : (tbl m 0 n).toNat < 32 :=
  expert_range (congrFun (h 0) n)

theorem ok_of (h : PreE m) : Ok m := by
  have hx : ∀ i : grid0.Coords, ((tbl m).at 0 (Rect.unit (s := S160) (k0_off1 i) S1.size (k0_off1_inb i)) numel1_S1 : BitVec 32).toNat < 32 :=
    fun i => experts_lt m h _
  refine ⟨fun i => ⟨fun a => ?_, .inl rfl⟩, fun i => ⟨fun a => ?_, .inl rfl⟩, fun i => ⟨fun a => ?_, .inl rfl⟩⟩
  all_goals
    match a with
    | ⟨0, _⟩ => exact (by decide : (0 + 1) * 1 ≤ 4)
    | ⟨1, _⟩ => exact (Nat.mul_one _).le.trans (hx i)
    | ⟨2, _⟩ => exact (Nat.one_mul _).le
    | ⟨3, _⟩ => exact (Nat.one_mul _).le

end Cert.Proof.Experts

end
-- ==== Proof.ExpertReference.lean ====
/-
  What the plain mathematics gives for each row, over the extended reals.
-/
module

public import proofs.«01_k».proof.Proof.ExpertValue
public import proofs.«01_k».proof.Proof.ExpertRange
public import proofs.«01_k».proof.Proof.Gen.ExpertsReferenceIdeal.Run

@[expose] public section

set_option maxRecDepth 16384

noncomputable section

namespace Cert.Proof.ExpertRows

open Cert.ExpertsReferenceIdeal Cert.ExpertsReferenceIdeal.Gen Cert.Proof.Experts

open Idealize.ShloMosaic Idealize.ShloMosaic.TcCoe

/-- The rows as values: lower and upper halves of the words, side by side. -/
def halves2 (a : S81920x256.Idx → BitVec 32) : FVec Ideal S81920x512 .f32 :=
  concatenate S81920x512 1 [⟨S81920x256, (bitcastToFloat (F := Ideal) .f32 (Host.shli a (broadcastInDim S81920x256 ![] bcast_S_S81920x256 (constantI S_ 32 16#32))))⟩,
    ⟨S81920x256, (bitcastToFloat (F := Ideal) .f32 (andi a (broadcastInDim S81920x256 ![] bcast_S_S81920x256 (constantI S_ 32 4294901760#32))))⟩]
    concatenates_S81920x256_S81920x256_S81920x512_d1

/-- The rows of each tile, before the count is applied. -/
def rows3 (a0 a1 : S81920x256.Idx → BitVec 32) : FVec Ideal S160x512x1024 .f32 :=
  shapeCast S160x512x1024 (concatenate S81920x1024 1 [⟨S81920x512, halves2 a0⟩, ⟨S81920x512, halves2 a1⟩] concatenates_S81920x512_S81920x512_S81920x1024_d1)
    shapeCasts_S81920x1024_S160x512x1024

/-- Which rows of which tiles are kept. -/
def mask3 (tv : S160.Idx → BitVec 32) : IVec S160x512x1024 1 :=
  broadcastInDim S160x512x1024 ![0, 1, 2] bcast_S160x512x1_S160x512x1024_0_1_2 (broadcastInDim S160x512x1 ![0, 1] bcast_S160x512_S160x512x1_0_1
    (cmpi .slt (broadcastInDim S160x512 ![0, 1] bcast_S1x512_S160x512_0_1 (broadcastInDim S1x512 ![1] bcast_S512_S1x512_1 (iotaInDim S512 32 0)))
      (broadcastInDim S160x512 ![0, 1] bcast_S160x1_S160x512_0_1 (broadcastInDim S160x1 ![0] bcast_S160_S160x1_0 tv))))

/-- The rows. -/
def rowsOf (a0 a1 : S81920x256.Idx → BitVec 32) (tv : S160.Idx → BitVec 32) : FVec Ideal S160x512x1024 .f32 :=
  select (mask3 tv) (rows3 a0 a1) (broadcastInDim S160x512x1024 ![] bcast_S_S160x512x1024 (id (constant S_ .f32 0x00000000#32)))

/-- The tiles' experts. -/
def experts (te : S160.Idx → BitVec 32) : IVec S160x1 32 :=
  broadcastInDim S160x1 ![0] bcast_S160_S160x1_0 (select (cmpi .slt te (broadcastInDim S160 ![] bcast_S_S160 (constantI S_ 32 0#32)))
    (addi te (broadcastInDim S160 ![] bcast_S_S160 (constantI S_ 32 32#32))) te)

/-- The experts' weights, tile by tile. -/
def weights (w : S4x32x1024x512.Idx → EReal) (te : S160.Idx → BitVec 32) : FVec Ideal S160x1024x512 .f32 :=
  Host.gather gather_S32x1024x512_S160x1_S160x1024x512_12_0_n_n_0_1_11024512
    (shapeCast S32x1024x512 (extractStridedSlice S1x32x1024x512 ![0, 0, 0, 0] w slices_S4x32x1024x512_S1x32x1024x512_0_0_0_0) shapeCasts_S1x32x1024x512_S32x1024x512)
    (experts te)

/-- The experts' last weights, tile by tile. -/
def weights2 (w : S4x32x512x1024.Idx → EReal) (te : S160.Idx → BitVec 32) : FVec Ideal S160x512x1024 .f32 :=
  Host.gather gather_S32x512x1024_S160x1_S160x512x1024_12_0_n_n_0_1_15121024
    (shapeCast S32x512x1024 (extractStridedSlice S1x32x512x1024 ![0, 0, 0, 0] w slices_S4x32x512x1024_S1x32x512x1024_0_0_0_0) shapeCasts_S1x32x512x1024_S32x512x1024)
    (experts te)

/-- Rows times weights. -/
def first (x : FVec Ideal S160x512x1024 .f32) (w : FVec Ideal S160x1024x512 .f32) : FVec Ideal S160x512x512 .f32 :=
  Host.dotGeneral dot_S160x512x1024_S160x1024x512_S160x512x512_2_1_1_2_0_0 none x w

/-- The gates: a value over one and the exponential of its negative. -/
def gates (g : FVec Ideal S160x512x512 .f32) : FVec Ideal S160x512x512 .f32 :=
  mulf g (Host.divf (broadcastInDim S160x512x512 ![] bcast_S_S160x512x512 (constant S_ .f32 0x3F800000#32))
    (addf (broadcastInDim S160x512x512 ![] bcast_S_S160x512x512 (constant S_ .f32 0x3F800000#32)) (Host.exp (Host.negf g))))

/-- Which tiles are in use. -/
def used (nu : S1.Idx → BitVec 32) : IVec S160x512x1024 1 :=
  broadcastInDim S160x512x1024 ![0, 1, 2] bcast_S160x1x1_S160x512x1024_0_1_2 (broadcastInDim S160x1x1 ![0] bcast_S160_S160x1x1_0
    (cmpi .slt (iotaInDim S160 32 0) (broadcastInDim S160 ![] bcast_S_S160 (shapeCast S_ nu shapeCasts_S1_S_))))

/-- The whole. -/
def total (x : FVec Ideal S160x512x1024 .f32) (w0 w1 : FVec Ideal S160x1024x512 .f32) (w2 : FVec Ideal S160x512x1024 .f32) (nu : S1.Idx → BitVec 32) :
    FVec Ideal S81920x1024 .bf16 :=
  truncf .bf16 (shapeCast S81920x1024 (select (used nu)
    (Host.dotGeneral dot_S160x512x512_S160x512x1024_S160x512x1024_2_1_1_2_0_0 none (mulf (gates (first x w0)) (first x w1)) w2)
    (broadcastInDim S160x512x1024 ![] bcast_S_S160x512x1024 (id (constant S_ .f32 0x00000000#32)))) shapeCasts_S160x512x1024_S81920x1024) bitsLt_bf16_f32

variable (m : (ℓ : Loc nD τ sig) → Buf (Elt Ideal) ℓ)

theorem res_eq (c : Dev nD) : Value.res_out0 m c = total (rowsOf (m ((c.tc : Thread nD τ).loc main_arg0)) (m ((c.tc : Thread nD τ).loc main_arg1)) (m ((c.tc : Thread nD τ).loc main_arg3)))
    (weights (m ((c.tc : Thread nD τ).loc main_arg5)) (m ((c.tc : Thread nD τ).loc main_arg2))) (weights (m ((c.tc : Thread nD τ).loc main_arg6)) (m ((c.tc : Thread nD τ).loc main_arg2)))
    (weights2 (m ((c.tc : Thread nD τ).loc main_arg7)) (m ((c.tc : Thread nD τ).loc main_arg2))) (m ((c.tc : Thread nD τ).loc main_arg4)) := rfl

theorem first_apply (x : FVec Ideal S160x512x1024 .f32) (w : FVec Ideal S160x1024x512 .f32) (t : Fin 160) (r f : Fin 512) :
    first x w (ix3 t r f) = ∑ d : Fin 1024, x (ix3 t r d) * w (ix3 t d f) := by
  pointwise [first]

theorem gates_apply (g : FVec Ideal S160x512x512 .f32) (i : S160x512x512.Idx) :
    gates g i = g i * Ideal.div 1 (1 + Ideal.exp (-(g i))) := by
  pointwise [gates]

theorem used_apply (nu : S1.Idx → BitVec 32) (t : Fin 160) (r : Fin 512) (j : Fin 1024) :
    used nu (ix3 t r j) = IntOp.cmpi .slt (BitVec.ofNat 32 t.val) (nu (ix1 0)) := by
  pointwise [used]

theorem mask3_apply (tv : S160.Idx → BitVec 32) (t : Fin 160) (r : Fin 512) (j : Fin 1024) :
    mask3 tv (ix3 t r j) = IntOp.cmpi .slt (BitVec.ofNat 32 r.val) (tv (ix1 t)) := by
  pointwise [mask3]

theorem shl16h (v : BitVec 32) : IntOp.shli .host v 16#32 = v <<< 16 := by
  simp [IntOp.shli]

theorem halves_low (a : S81920x256.Idx → BitVec 32) (R : Fin 81920) (k : Fin 256) : halves2 a (ix2 R ⟨k.val, by omega⟩) = lowOf (a (ix2 R k)) := by
  pointwise [halves2]
  exact congrArg (fun z : BitVec 32 => Ideal.ofBits .f32 z) (shl16h _)

theorem halves_high (a : S81920x256.Idx → BitVec 32) (R : Fin 81920) (k : Fin 256) : halves2 a (ix2 R ⟨256 + k.val, by omega⟩) = highOf (a (ix2 R k)) := by
  pointwise [halves2]
  rfl

theorem rows3_apply (a0 a1 : S81920x256.Idx → BitVec 32) (t : Fin 160) (r : Fin 512) (d : Fin 1024) :
    rows3 a0 a1 (ix3 t r d) = if h : d.val < 512 then halves2 a0 (ix2 ⟨t.val * 512 + r.val, by omega⟩ ⟨d.val, h⟩)
      else halves2 a1 (ix2 ⟨t.val * 512 + r.val, by omega⟩ ⟨d.val - 512, by omega⟩) := by
  pointwise [rows3]

theorem rowsOf_apply (a0 a1 : S81920x256.Idx → BitVec 32) (tv : S160.Idx → BitVec 32) (t : Fin 160) (r : Fin 512) (d : Fin 1024) :
    rowsOf a0 a1 tv (ix3 t r d) = keep (IntOp.cmpi .slt (BitVec.ofNat 32 r.val) (tv (ix1 t))) (rows3 a0 a1 (ix3 t r d)) := by
  pointwise [rowsOf, mask3_apply, id]
  rfl

theorem total_apply (x : FVec Ideal S160x512x1024 .f32) (w0 w1 : FVec Ideal S160x1024x512 .f32) (w2 : FVec Ideal S160x512x1024 .f32) (nu : S1.Idx → BitVec 32)
    (t : Fin 160) (r : Fin 512) (j : Fin 1024) (R : Fin 81920) (hR : R.val = t.val * 512 + r.val) :
    total x w0 w1 w2 nu (ix2 R j) = if used nu (ix3 t r j) = 1#1 then ∑ f : Fin 512, gates (first x w0) (ix3 t r f) * first x w1 (ix3 t r f) * w2 (ix3 t f j) else 0 := by
  have ht : (⟨R.val / 512, by omega⟩ : Fin 160) = t := Fin.ext (by show R.val / 512 = t.val; omega)
  have hr : (⟨R.val % 512, by omega⟩ : Fin 512) = r := Fin.ext (by show R.val % 512 = r.val; omega)
  pointwise [total, id]
  rw [ht, hr]
  rfl

/-- A word between nought and 32 is not below nought. -/
theorem nonneg_word {w : BitVec 32} (h : w.toNat < 32) : ¬ IntOp.cmpi .slt w 0#32 = 1#1 := fun e => by
  simp only [IntOp.cmpi, BitVec.slt_eq_decide, BitVec.toInt_eq_toNat_cond, BitVec.toNat_ofNat, Nat.reducePow, Nat.reduceMod] at e
  rw [decide_eq_false (by omega)] at e
  exact absurd e (by decide)

theorem experts_apply (te : S160.Idx → BitVec 32) (t : Fin 160) (h : (te (ix1 t)).toNat < 32) : experts te (ix2 t (0 : Fin 1)) = te (ix1 t) := by
  pointwise [experts]
  exact if_neg (nonneg_word h)

theorem slab_apply (w : S4x32x1024x512.Idx → EReal) (e : Fin 32) (d : Fin 1024) (f : Fin 512) :
    (shapeCast S32x1024x512 (extractStridedSlice S1x32x1024x512 ![0, 0, 0, 0] w slices_S4x32x1024x512_S1x32x1024x512_0_0_0_0) shapeCasts_S1x32x1024x512_S32x1024x512)
     (ix3 e d f) = w (at4 e d f) := by
  pointwise [at4]

theorem slab2_apply (w : S4x32x512x1024.Idx → EReal) (e : Fin 32) (d : Fin 512) (f : Fin 1024) :
    (shapeCast S32x512x1024 (extractStridedSlice S1x32x512x1024 ![0, 0, 0, 0] w slices_S4x32x512x1024_S1x32x512x1024_0_0_0_0) shapeCasts_S1x32x512x1024_S32x512x1024)
     (ix3 e d f) = w (at4 e d f) := by
  pointwise [at4]

/-- One slab a start index, of `32` of them. -/
abbrev slabs (A B : ℕ) (wf : GatherDims.WF ⟨3, ![32, A, B]⟩ ⟨2, ![160, 1]⟩ ⟨3, ![160, A, B]⟩ [1, 2] [0] [] [0] [] 1 ![1, A, B]) :
    GatherDims ⟨3, ![32, A, B]⟩ ⟨2, ![160, 1]⟩ ⟨3, ![160, A, B]⟩ where
  offsetDims := [1, 2]
  collapsedSliceDims := [0]
  operandBatchingDims := []
  startIndicesBatchingDims := []
  startIndexMap := [0]
  indexVectorDim := 1
  sliceSizes := ![1, A, B]
  wf := wf

theorem slabs_apply {α : Type} (A B : ℕ) (wf : GatherDims.WF ⟨3, ![32, A, B]⟩ ⟨2, ![160, 1]⟩ ⟨3, ![160, A, B]⟩ [1, 2] [0] [] [0] [] 1 ![1, A, B])
    (x : Shape.Idx ⟨3, ![32, A, B]⟩ → α) (idx : IVec ⟨2, ![160, 1]⟩ 32) (t : Fin 160) (d : Fin A) (f : Fin B) (h : (idx (ix2 t (0 : Fin 1))).toNat < 32) :
    Host.gather (slabs A B wf) x idx (ix3 t d f) = x (ix3 (⟨(idx (ix2 t (0 : Fin 1))).toNat, h⟩ : Fin 32) d f) := by
  unfold Host.gather
  refine congrArg x (funext fun a => Fin.ext ?_)
  match a with
  | ⟨0, _⟩ =>
    show (slabs A B wf).start (ix3 t d f) idx 0 + (slabs A B wf).batchCoord (ix3 t d f) 0 + (slabs A B wf).offCoord (ix3 t d f) 0 = (idx (ix2 t (0 : Fin 1))).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabs A B wf).startIndexMap from List.mem_singleton.mpr rfl)]
    have hsi : (slabs A B wf).siIdx (ix3 t d f) ⟨List.idxOf (0 : Fin 3) (slabs A B wf).startIndexMap,
        List.idxOf_lt_length_iff.2 (List.mem_singleton.mpr rfl)⟩ = ix2 t (0 : Fin 1) := by
      funext b
      refine Fin.ext ?_
      match b with
      | ⟨0, _⟩ => rfl
      | ⟨1, _⟩ => rfl
    rw [hsi]
    show min (idx (ix2 t (0 : Fin 1))).toInt.toNat (32 - 1) = _
    rw [BitVec.toInt_eq_toNat_cond]
    omega
  | ⟨1, _⟩ =>
    show (slabs A B wf).start (ix3 t d f) idx 1 + (slabs A B wf).batchCoord (ix3 t d f) 1 + (slabs A B wf).offCoord (ix3 t d f) 1 = d.val
    rw [GatherDims.batchCoord_eq_zero _ _ _ List.not_mem_nil, Nat.add_zero]
    have h0 : (slabs A B wf).start (ix3 t d f) idx 1 = 0 := by
      unfold GatherDims.start
      exact dif_neg (show (1 : Fin 3) ∉ [(0 : Fin 3)] by decide)
    rw [h0, Nat.zero_add]
    rfl
  | ⟨2, _⟩ =>
    show (slabs A B wf).start (ix3 t d f) idx 2 + (slabs A B wf).batchCoord (ix3 t d f) 2 + (slabs A B wf).offCoord (ix3 t d f) 2 = f.val
    rw [GatherDims.batchCoord_eq_zero _ _ _ List.not_mem_nil, Nat.add_zero]
    have h0 : (slabs A B wf).start (ix3 t d f) idx 2 = 0 := by
      unfold GatherDims.start
      exact dif_neg (show (2 : Fin 3) ∉ [(0 : Fin 3)] by decide)
    rw [h0, Nat.zero_add]
    rfl

theorem weights_apply (w : S4x32x1024x512.Idx → EReal) (te : S160.Idx → BitVec 32) (t : Fin 160) (d : Fin 1024) (f : Fin 512) (h : (te (ix1 t)).toNat < 32) :
    weights w te (ix3 t d f) = w (at4 (expertOf (te (ix1 t))) d f) := by
  have e := experts_apply te t h
  refine (slabs_apply 1024 512 gather_S32x1024x512_S160x1_S160x1024x512_12_0_n_n_0_1_11024512.wf _ (experts te) t d f (by rw [e]; exact h)).trans ?_
  refine (slab_apply w _ d f).trans (congrArg (fun e => w (at4 e d f)) (Fin.ext ?_))
  show (experts te (ix2 t (0 : Fin 1))).toNat = (te (ix1 t)).toNat % 32
  rw [e, Nat.mod_eq_of_lt h]

theorem weights2_apply (w : S4x32x512x1024.Idx → EReal) (te : S160.Idx → BitVec 32) (t : Fin 160) (d : Fin 512) (f : Fin 1024) (h : (te (ix1 t)).toNat < 32) :
    weights2 w te (ix3 t d f) = w (at4 (expertOf (te (ix1 t))) d f) := by
  have e := experts_apply te t h
  refine (slabs_apply 512 1024 gather_S32x512x1024_S160x1_S160x512x1024_12_0_n_n_0_1_15121024.wf _ (experts te) t d f (by rw [e]; exact h)).trans ?_
  refine (slab2_apply w _ d f).trans (congrArg (fun e => w (at4 e d f)) (Fin.ext ?_))
  show (experts te (ix2 t (0 : Fin 1))).toNat = (te (ix1 t)).toNat % 32
  rw [e, Nat.mod_eq_of_lt h]

/-- One over a positive number, times the gate: the gate over it. -/
theorem gate_eq (g : EReal) : g * Ideal.div 1 (1 + Ideal.exp (-g)) = gate g := by
  have hd : 1 + Ideal.exp (-g) ≠ 0 := by
    have h0 : (0 : EReal) ≤ Ideal.exp (-g) := by
      generalize -g = x
      induction x with
      | bot => exact le_rfl
      | top => exact le_top
      | coe x => exact EReal.coe_nonneg.2 (Real.exp_pos x).le
    exact ne_of_gt (lt_of_lt_of_le (by simp) (le_add_of_nonneg_right h0))
  unfold gate Ideal.div
  rw [if_neg hd, if_neg hd, one_mul]

/-- The sum over a row, quarter by quarter. -/
theorem quarters (g : Fin 1024 → EReal) : ∑ d, g d = (((∑ k : Fin 256, g ⟨k.val, by omega⟩) + ∑ k : Fin 256, g ⟨256 + k.val, by omega⟩)
    + ∑ k : Fin 256, g ⟨512 + k.val, by omega⟩) + ∑ k : Fin 256, g ⟨768 + k.val, by omega⟩ := by
  rw [show ∑ d, g d = ∑ d : Fin (768 + 256), g d from rfl, Fin.sum_univ_add,
    show ∑ d : Fin 768, g (Fin.castAdd 256 d) = ∑ d : Fin (512 + 256), g (Fin.castAdd 256 d) from rfl, Fin.sum_univ_add,
    show ∑ d : Fin 512, g (Fin.castAdd 256 (Fin.castAdd 256 d)) = ∑ d : Fin (256 + 256), g (Fin.castAdd 256 (Fin.castAdd 256 d)) from rfl, Fin.sum_univ_add]
  rfl

theorem first_row (a0 a1 : S81920x256.Idx → BitVec 32) (tv : S160.Idx → BitVec 32) (w : FVec Ideal S160x1024x512 .f32) (t : Fin 160) (r f : Fin 512)
    (R : Fin 81920) (hR : R.val = t.val * 512 + r.val) :
    first (rowsOf a0 a1 tv) w (ix3 t r f)
      = dotRow (IntOp.cmpi .slt (BitVec.ofNat 32 r.val) (tv (ix1 t))) (fun d => a0 (ix2 R d)) (fun d => a1 (ix2 R d)) (fun d => w (ix3 t d f)) := by
  have hR' : (⟨t.val * 512 + r.val, by omega⟩ : Fin 81920) = R := Fin.ext hR.symm
  rw [first_apply, quarters]
  simp only [rowsOf_apply, rows3_apply, hR']
  unfold dotRow
  refine congrArg₂ _ (congrArg₂ _ (congrArg₂ _ (Finset.sum_congr rfl fun k _ => ?_) (Finset.sum_congr rfl fun k _ => ?_)) (Finset.sum_congr rfl fun k _ => ?_))
    (Finset.sum_congr rfl fun k _ => ?_)
  · rw [dif_pos (by show k.val < 512; omega)]
    exact congrArg (fun v => keep _ v * _) (halves_low a0 R k)
  · rw [dif_pos (by show 256 + k.val < 512; omega)]
    exact congrArg (fun v => keep _ v * _) (halves_high a0 R k)
  · rw [dif_neg (by show ¬ 512 + k.val < 512; omega)]
    refine congrArg (fun v => keep _ v * _) ((congrArg (fun e => halves2 a1 (ix2 R e)) (Fin.ext ?_)).trans (halves_low a1 R k))
    show 512 + k.val - 512 = k.val
    omega
  · rw [dif_neg (by show ¬ 768 + k.val < 512; omega)]
    refine congrArg (fun v => keep _ v * _) ((congrArg (fun e => halves2 a1 (ix2 R e)) (Fin.ext ?_)).trans (halves_high a1 R k))
    show 768 + k.val - 512 = 256 + k.val
    omega

/-- The plain mathematics, row by row. -/
theorem total_spec (a0 a1 : S81920x256.Idx → BitVec 32) (te tv : S160.Idx → BitVec 32) (nu : S1.Idx → BitVec 32) (wg wu : S4x32x1024x512.Idx → EReal)
    (wd : S4x32x512x1024.Idx → EReal) (t : Fin 160) (r : Fin 512) (R : Fin 81920) (j : Fin 1024) (hR : R.val = t.val * 512 + r.val) (h : (te (ix1 t)).toNat < 32) :
    total (rowsOf a0 a1 tv) (weights wg te) (weights wu te) (weights2 wd te) nu (ix2 R j) = spec a0 a1 te tv (nu (ix1 0)) wg wu wd t r R j := by
  have hp : place t.val t.isLt = ix1 t := by
    funext a
    match a with
    | ⟨0, _⟩ => rfl
  rw [total_apply _ _ _ _ _ t r j R hR, used_apply]
  unfold spec outRow
  rw [hp]
  refine if_congr Iff.rfl (Finset.sum_congr rfl fun f _ => ?_) rfl
  rw [gates_apply, gate_eq, first_row a0 a1 tv _ t r f R hR, first_row a0 a1 tv _ t r f R hR, weights2_apply wd te t f j h]
  simp only [weights_apply _ te t _ f h]

theorem total_congr {a0 b0 a1 b1 : S81920x256.Idx → BitVec 32} {te te' tv tv' : S160.Idx → BitVec 32} {nu nu' : S1.Idx → BitVec 32} {wg wg' wu wu' : S4x32x1024x512.Idx → EReal}
    {wd wd' : S4x32x512x1024.Idx → EReal} (h0 : a0 = b0) (h1 : a1 = b1) (h2 : te = te') (h3 : tv = tv') (h4 : nu = nu') (h5 : wg = wg') (h6 : wu = wu') (h7 : wd = wd') :
    total (rowsOf a0 a1 tv) (weights wg te) (weights wu te) (weights2 wd te) nu = total (rowsOf b0 b1 tv') (weights wg' te') (weights wu' te') (weights2 wd' te') nu' := by
  subst h0 h1 h2 h3 h4 h5 h6 h7
  rfl

variable (m : (ℓ : Loc Cert.ExpertsIdeal.nD Cert.ExpertsIdeal.τ Cert.ExpertsIdeal.sig) → Buf (Elt Ideal) ℓ)

/-- The plain mathematics of the kernel's arguments. -/
def outcome (c : Dev Cert.ExpertsIdeal.nD) : S81920x1024.Idx → EReal :=
  total (rowsOf (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1))
      (m ((c.tc : Thread Cert.ExpertsIdeal.nD Cert.ExpertsIdeal.τ).loc Cert.ExpertsIdeal.main_arg3)))
    (weights (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg2)))
    (weights (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg2)))
    (weights2 (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg2)))
    (m ((c.tc : Thread Cert.ExpertsIdeal.nD Cert.ExpertsIdeal.τ).loc Cert.ExpertsIdeal.main_arg4))

/-- The kernel's output is the plain mathematics. -/
theorem out_outcome (h : PreE (F := Ideal) m) (c : Dev Cert.ExpertsIdeal.nD) :
    (dats m (ok_of m h) 0 c).arrAt 5 (cfgM m (ok_of m h)).N = outcome m c := by
  obtain rfl : c = 0 := Subsingleton.elim _ _
  refine out_arr m (ok_of m h) 0 _ fun t r j R hR => ?_
  have ht : t.val < 160 := lt_of_lt_of_eq t.isLt Cert.ExpertsIdeal.Gen.N_0
  refine (left_apply m (ok_of m h) 0 t ⟨t.val, ht⟩ rfl r j R hR).trans ?_
  refine Eq.trans ?_ (total_spec _ _ _ _ _ _ _ _ ⟨t.val, ht⟩ r R j hR (experts_lt m h _)).symm
  have e : (fun a => ⟨0, match a with | ⟨0, _⟩ => Nat.one_pos⟩ : Cert.ExpertsIdeal.S1.Idx) = ix1 0 := by
    funext a
    match a with
    | ⟨0, _⟩ => rfl
  have en : wordN (0 : Dev Cert.ExpertsIdeal.nD) (tbl m 2) = m (((0 : Dev Cert.ExpertsIdeal.nD).tc : Thread Cert.ExpertsIdeal.nD Cert.ExpertsIdeal.τ).loc Cert.ExpertsIdeal.main_arg4) (ix1 0) :=
    (wordN_eq 0 (tbl m 2)).trans (congrArg (tbl m 2) e)
  exact congrArg (fun z => spec _ _ _ _ z _ _ _ _ _ _ _) en

end Cert.Proof.ExpertRows
end
-- ==== Proof.Words.lean ====
/-
  The scatter's loop in numbers. A tile's sixteen trips carry five words — two fetch counters, two use counters and the
  position within the tile's sixteen windows — and every offset and every condition of a trip is a function of the
  tile's coordinates and those words. At the words a trip finds they are what one expects: slot `t mod 2` is used while
  slot `(t + 1) mod 2` is filled with the next window, and the last trip fetches nothing.
-/
module

public import proofs.«01_k».proof.Defs
public import proofs.«01_k».proof.Proof.Gen.KernelIdeal
public import proofs.«01_k».proof.Proof.Gen.KernelIdeal.Skeleton
public import proofs.«01_k».proof.Proof.Gen.Kernel

@[expose] public section

noncomputable section

namespace Cert.Proof.Words

open Idealize.ShloMosaic
open Cert.KernelIdeal Cert.KernelIdeal.Gen

attribute [local instance] Cert.KernelIdeal.Gen.facts

/-- The fetch counters before trip `t`: one window ahead, and no further than the sixteenth. -/
def ahead (t : ℕ) : BitVec 32 := BitVec.ofNat 32 (min (t + 1) 16)
/-- The use counters before trip `t`. -/
def used (t : ℕ) : BitVec 32 := BitVec.ofNat 32 t
/-- The position before trip `t`. -/
def at_ (t : ℕ) : BitVec 32 := BitVec.ofNat 32 (t % 16)

/-- The slot trip `t` uses. -/
def sl (t : ℕ) : Fin 2 := ⟨t % 2, Nat.mod_lt _ (by decide)⟩

theorem sl_succ_ne (t : ℕ) : sl (t + 1) ≠ sl t := by
  intro h; have := congrArg Fin.val h; simp only [sl] at this; omega
theorem sl_succ_succ (t : ℕ) : sl (t + 1 + 1) = sl t := by
  apply Fin.ext; simp only [sl]; omega

abbrev Trip : Type := Fin k0_t1_loop.trips

theorem trip_lt (t : Trip) : t.val < 16 := t.isLt

theorem chk3_ok : ∀ t : Trip, k0_chk3 (used t) := by decide +kernel
theorem chk2_ok : ∀ t : Trip, k0_chk2 (used t) := by decide +kernel
theorem chk1_ok : ∀ (L : grid0.Coords) (t : Trip), k0_chk1 L t (ahead t) (used t) (ahead t) (used t) (at_ t) := by decide +kernel

theorem cond1_ok : ∀ (L : grid0.Coords) (t : Trip), k0_cond1 L t (at_ t) = 1#1 ↔ t.val < 15 := by decide +kernel
theorem cond2_ok : ∀ (L : grid0.Coords) (t : Trip), k0_cond2 L t (at_ t) = 1#1 ↔ t.val < 15 := by decide +kernel
theorem cond3_ok : ∀ (L : grid0.Coords) (t : Trip), k0_cond3 L t (at_ t) = 1#1 := by decide +kernel
theorem cond4_ok : ∀ (L : grid0.Coords) (t : Trip), k0_cond4 L t (at_ t) = 1#1 := by decide +kernel

theorem off6_ok : ∀ t : Trip, t.val < 15 → k0_off6 (ahead t) = ![(sl (t.val + 1)).val, 0, 0] := by decide +kernel
theorem off8_ok : ∀ t : Trip, t.val < 15 → k0_off8 (ahead t) = ![(sl (t.val + 1)).val] := by decide +kernel
theorem off9_ok : ∀ t : Trip, t.val < 15 → k0_off9 (ahead t) = ![(sl (t.val + 1)).val, 0, 0] := by decide +kernel
theorem off11_ok : ∀ t : Trip, t.val < 15 → k0_off11 (ahead t) = ![(sl (t.val + 1)).val] := by decide +kernel
theorem off12_ok : ∀ t : Trip, k0_off12 (used t) = ![(sl t).val, 0, 0] := by decide +kernel
theorem off14_ok : ∀ t : Trip, k0_off14 (used t) = ![(sl t).val] := by decide +kernel
theorem off15_ok : ∀ t : Trip, k0_off15 (used t) = ![(sl t).val, 0, 0] := by decide +kernel
theorem off17_ok : ∀ t : Trip, k0_off17 (used t) = ![(sl t).val] := by decide +kernel
theorem off18_ok : ∀ t : Trip, k0_off18 (used t) = ![(sl t).val, 0, 0] := by decide +kernel
theorem off19_ok : ∀ t : Trip, k0_off19 (used t) = ![(sl t).val, 0, 0] := by decide +kernel
theorem off7_ok : ∀ (L : grid0.Coords) (t : Trip), t.val < 15 → k0_off7 L (at_ t) = ![2048 * (L 1).val + 128 * (t.val + 1), 0] := by decide +kernel
theorem off10_ok : ∀ (L : grid0.Coords) (t : Trip), t.val < 15 → k0_off10 L (at_ t) = ![0, 2048 * (L 1).val + 32768 * (L 0).val + 128 * (t.val + 1)] := by decide +kernel
theorem off2_ok : ∀ (L : grid0.Coords), k0_off2 L = ![2048 * (L 1).val + 128 * 0, 0] := by decide +kernel
theorem off5_ok : ∀ (L : grid0.Coords), k0_off5 L = ![0, 2048 * (L 1).val + 32768 * (L 0).val + 128 * 0] := by decide +kernel

end Cert.Proof.Words

end
-- ==== Proof.Setup.lean ====
/-
  The scatter's launch as the library sees it, and the buffers of one vector subcore: the two slots of the row scratch
  and the two slots of the index scratch, the windows of the rows and of the indices in HBM, and the semaphores the
  transfers count on.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic

@[expose] public section

noncomputable section

namespace Cert.Proof.Dispatch

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays in HBM -/

abbrev xLoc (d : Dev nD) : Loc nD τ sig := (SparseCore.T d).loc main_arg0
abbrev pLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

abbrev xV : Memref sig .scVector .hbm S32768x256 .i32 := Memref.whole main_arg0_scv
abbrev iV : Memref sig .scVector .hbm S1x65536 .i32 := Memref.whole main_v0_scv
abbrev oV : Memref sig .scVector .hbm S81920x256 .i32 := Memref.whole main_v1_scv
abbrev aV : Memref sig .scVector .vmem S2x128x256 .i32 := Memref.whole cc0_scoped0
abbrev bV : Memref sig .scVector .vmem S2x1x128 .i32 := Memref.whole cc0_scoped2

/-! ## The slots, the windows and the cells -/

theorem inbA (p : Fin 2) : ∀ a, (![p.val, 0, 0] : Fin 3 → ℕ) a + S1x128x256.size a ≤ S2x128x256.size a := by
  revert p; decide
theorem inbB (p : Fin 2) : ∀ a, (![p.val, 0, 0] : Fin 3 → ℕ) a + S1x1x128.size a ≤ S2x1x128.size a := by
  revert p; decide
theorem inbC (p : Fin 2) : ∀ a, (![p.val] : Fin 1 → ℕ) a + S1.size a ≤ S2.size a := by
  revert p; decide
theorem inbX : ∀ (L : grid0.Coords) (t : Fin 16) (a : Fin 2),
    (![2048 * (L 1).val + 128 * t.val, 0] : Fin 2 → ℕ) a + S128x256.size a ≤ S32768x256.size a := by decide +kernel
theorem inbI : ∀ (L : grid0.Coords) (t : Fin 16) (a : Fin 2),
    (![0, 2048 * (L 1).val + 32768 * (L 0).val + 128 * t.val] : Fin 2 → ℕ) a + S1x128.size a ≤ S1x65536.size a := by
  decide +kernel

/-- Slot `p` of the row scratch: 128 rows of 256 words. -/
abbrev xs (p : Fin 2) : Memref sig .scVector .vmem S128x256 .i32 :=
  (aV.slice (Rect.unit (s := S2x128x256) ![p.val, 0, 0] S1x128x256.size (inbA p)) (fun _ => rfl)).squeeze S128x256
    squeezes_S1x128x256_S128x256
/-- Slot `p` of the index scratch: 128 row numbers. -/
abbrev is (p : Fin 2) : Memref sig .scVector .vmem S1x128 .i32 :=
  (bV.slice (Rect.unit (s := S2x1x128) ![p.val, 0, 0] S1x1x128.size (inbB p)) (fun _ => rfl)).squeeze S1x128
    squeezes_S1x1x128_S1x128
/-- The cells the two slots' fetches count on. -/
abbrev xc (p : Fin 2) : DmaSem sig :=
  ((cc0_scoped1.slice (Rect.unit (s := S2) ![p.val] S1.size (inbC p))).squeeze S_ squeezes_S1_S_).sem
abbrev ic (p : Fin 2) : DmaSem sig :=
  ((cc0_scoped3.slice (Rect.unit (s := S2) ![p.val] S1.size (inbC p))).squeeze S_ squeezes_S1_S_).sem
/-- The rows and the indices of tile `L`'s window `t`. -/
abbrev xb (L : grid0.Coords) (t : Fin 16) : Memref sig .scVector .hbm S128x256 .i32 :=
  xV.slice (Rect.unit (s := S32768x256) ![2048 * (L 1).val + 128 * t.val, 0] S128x256.size (inbX L t)) (fun _ => rfl)
abbrev ib (L : grid0.Coords) (t : Fin 16) : Memref sig .scVector .hbm S1x128 .i32 :=
  iV.slice (Rect.unit (s := S1x65536) ![0, 2048 * (L 1).val + 32768 * (L 0).val + 128 * t.val] S1x128.size (inbI L t)) (fun _ => rfl)

abbrev cV (L : grid0.Coords) : Fin τ.nSC := (L 0).castLE hcore0
abbrev jV (L : grid0.Coords) : Fin τ.nSub := (L 1).castLE hsub0
/-- Tile `L` of device `d`. -/
abbrev tl (d : Dev nD) (L : grid0.Coords) : Thread nD τ := V d (cV L) (jV L)

/-! ## A share halved for the two slots, a share dealt to several -/

/-- The half of `q` that slot `p`'s fetches read with. -/
def half (q : PosShare TreeShare) (p : Fin 2) : PosShare TreeShare := if p = 0 then q.left else q.right

theorem halves {ℓ : Loc nD τ sig} (I : Finset (Idx ℓ)) (q : PosShare TreeShare) (f : Buf (Elt F) ℓ) (p p' : Fin 2) (h : p' ≠ p) :
    (ℓ ↦[I]{q} f : sProp 𝕄) ⊣⊢ iprop((ℓ ↦[I]{half q p} f) ∗ ℓ ↦[I]{half q p'} f) := by
  have H : (ℓ ↦[I]{q} f : sProp 𝕄) ⊣⊢ iprop((ℓ ↦[I]{q.left} f) ∗ ℓ ↦[I]{q.right} f) :=
    pointsTo_share (PosShare.mem_left_op_right q)
  have C : iprop((ℓ ↦[I]{q.left} f) ∗ (ℓ ↦[I]{q.right} f)) ⊢ (iprop((ℓ ↦[I]{q.right} f) ∗ ℓ ↦[I]{q.left} f) : sProp 𝕄) := by
    iintro ⟨H1, H2⟩; isplitl [H2] <;> iassumption
  have C' : iprop((ℓ ↦[I]{q.right} f) ∗ (ℓ ↦[I]{q.left} f)) ⊢ (iprop((ℓ ↦[I]{q.left} f) ∗ ℓ ↦[I]{q.right} f) : sProp 𝕄) := by
    iintro ⟨H1, H2⟩; isplitl [H2] <;> iassumption
  rcases (show p = 0 ∧ p' = 1 ∨ p = 1 ∧ p' = 0 by omega) with ⟨rfl, rfl⟩ | ⟨rfl, rfl⟩
  · exact H
  · exact ⟨H.1.trans C, C'.trans H.2⟩

theorem bigSep_fin_succ (n : ℕ) (Φ : Fin (n + 1) → sProp 𝕄) :
    bigSep Finset.univ Φ = iprop(Φ 0 ∗ bigSep Finset.univ fun i : Fin n => Φ i.succ) := by
  rw [Fin.univ_succ, Finset.cons_eq_insert, SparseCore.bigSep_insert' (by simp), SparseCore.bigSep_map]
  rfl

/-- A share dealt to `n + 1` holders. -/
theorem exists_deal (n : ℕ) : ∀ q : PosShare TreeShare, ∃ sh : Fin (n + 1) → PosShare TreeShare,
    ∀ {F : FTy → Type} (ℓ : Loc nD τ sig) (I : Finset (Idx ℓ)) (f : Buf (Elt F) ℓ),
      (ℓ ↦[I]{q} f : sProp (MT nD τ sig (HIx 1) (Elt F) ℕ UU ℕ)) = bigSep Finset.univ fun i => ℓ ↦[I]{sh i} f := by
  induction n with
  | zero => exact fun q => ⟨fun _ => q, fun {F} ℓ I f =>
    (bigSep_univ_of_subsingleton (0 : Fin 1) (Φ := fun _ : Fin 1 => (ℓ ↦[I]{q} f : sProp (MT nD τ sig (HIx 1) (Elt F) ℕ UU ℕ)))).symm⟩
  | succ n ih =>
    intro q
    obtain ⟨sh, hsh⟩ := ih q.right
    refine ⟨Fin.cons q.left sh, fun ℓ I f => ?_⟩
    rw [bigSep_fin_succ, BI.Entails.antisymm (pointsTo_share (PosShare.mem_left_op_right q)).1 (pointsTo_share (PosShare.mem_left_op_right q)).2,
      hsh]
    rfl

/-- Holder `i`'s share of `q` dealt to `n + 1`. -/
def deal (n : ℕ) (q : PosShare TreeShare) : Fin (n + 1) → PosShare TreeShare := (exists_deal n q).choose

theorem deal_eq (n : ℕ) (q : PosShare TreeShare) (ℓ : Loc nD τ sig) (I : Finset (Idx ℓ)) (f : Buf (Elt F) ℓ) :
    (ℓ ↦[I]{q} f : sProp 𝕄) = bigSep Finset.univ fun i => ℓ ↦[I]{deal n q i} f :=
  (exists_deal n q).choose_spec ℓ I f

end Cert.Proof.Dispatch

end
-- ==== Proof.Steps.lean ====
/-
  One operation at a time: a window fetched into a slot and waited for, and half the columns of a slot's rows scattered
  to the rows its indices name and waited for.
-/
module

public import proofs.«01_k».proof.Proof.Setup

@[expose] public section

noncomputable section

namespace Cert.Proof.Dispatch

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-! ## A fetch -/

section Fetch

variable {s : Shape} (src : Memref sig .scVector .hbm s .i32) (dst : Memref sig .scVector .vmem s .i32) (sm : DmaSem sig)

/-- A slot at some contents. -/
abbrev Slot : sProp 𝕄 := iprop(∃ f, dst.view.loc (tl d L) ↦[dst.view.set]{fullShare} f)

/-- The slot holding what `src` reads of its array at `X`, and the share of the array the fetch read with. -/
abbrev Landed (q : PosShare TreeShare) (X : Buf (Elt F) (src.view.loc (tl d L))) : sProp 𝕄 :=
  iprop((∃ f, ⌜dst.view.read (Elt F) f = src.view.read (Elt F) X⌝ ∗ dst.view.loc (tl d L) ↦[dst.view.set]{fullShare} f)
    ∗ src.view.loc (tl d L) ↦{q} X)

/-- The fetch on its way. -/
abbrev Coming (q : PosShare TreeShare) (X : Buf (Elt F) (src.view.loc (tl d L))) : sProp 𝕄 :=
  Transfers.Flight countersEmb (tl d L) (.dma sm) (default : HIx 1) dst.view.dmaCredit (Landed d L src dst q X)

theorem fetch {hsrc : src.view.WordExact} {hdst : dst.view.WordExact}
    {hsem : DmaTarget.Typed (nD := nD) (p := (tl d L).2) .hbm (.dma sm) (.here dst)}
    (h0 : 0 < dst.view.dmaCredit) (q : PosShare TreeShare) (X : Buf (Elt F) (src.view.loc (tl d L))) {Q : PUnit → sProp 𝕄} :
    iprop((src.view.loc (tl d L) ↦{q} X) ∗ Slot d L dst ∗ semVal ((tl d L), SemLoc.dma sm) 0)
      ⊢ iprop((Coming d L src dst sm q X -∗ Q ⟨⟩)
        -∗ wp frame (wpE (defs₀ (F := F)) 𝒱₀ (tl d L) none) Set.univ
            (Prog.lift (.enqueueDma src (.here dst) (.dma sm) hsrc hdst hsem)) Q) := by
  iintro ⟨Hx, ⟨%f, Hs⟩, Hv⟩ HQ
  ihave Hx' := (pointsTo_split_subset (q := q) (f := X) (S := Finset.univ) (Finset.subset_univ src.view.set)).1 $$ Hx
  icases Hx' with ⟨Hx1, Hx2⟩
  iapply (Transfers.wp_dmaLocal countersEmb 𝒱₀ (tl d L) none (default : HIx 1) dst.view.dmaCredit rfl h0 subset_rfl
    (q := q) (fs := X) (fd := f)) $$ [Hx1 Hs Hv]
  · isplitl [Hx1]; · iexact Hx1
    isplitl [Hs] <;> iassumption
  iintro Hfl
  rw [wp_ret]; imodintro
  iapply HQ
  ihave Hfl' := (Transfers.Flight_frame countersEmb (tl d L)) $$ [Hx2 Hfl]
  · isplitl [Hx2]; · iexact Hx2
    iexact Hfl
  iapply (Transfers.Flight_mono countersEmb (tl d L) ?_) $$ Hfl'
  iintro ⟨Hx2, Hs, Hx1⟩
  isplitl [Hs]
  · iexists _; isplitr
    swap; · iexact Hs
    ipureintro
    exact View.read_write_univ _ _
  · iapply (pointsTo_split_subset (q := q) (f := X) (S := Finset.univ) (Finset.subset_univ src.view.set)).2
    isplitl [Hx1] <;> iassumption

/-- The wait for it: the slot filled and the share back. The wait may name any source. -/
theorem await {s' : Shape} {srcw : Memref sig .scVector .hbm s' .i32} {hsrc : srcw.view.WordExact} {hdst : dst.view.WordExact}
    (q : PosShare TreeShare) (X : Buf (Elt F) (src.view.loc (tl d L))) {O : CellTallies nD τ sig (HIx 1)} {W : Waits sig (HIx 1)}
    {Q : PUnit → sProp 𝕄} :
    iprop(Coming d L src dst sm q X ∗ owes (tl d L) O W ∗ Transfers.MayWaits (tl d L) (default : HIx 1) O)
      ⊢ iprop((iprop(Landed d L src dst q X ∗ semVal ((tl d L), SemLoc.dma sm) 0
            ∗ owes (tl d L) O (insert (SemLoc.dma sm, (default : HIx 1)) W)) -∗ Q ⟨⟩)
        -∗ wp frame (wpE (defs₀ (F := F)) 𝒱₀ (tl d L) none) Set.univ
            (Prog.lift (.waitDma2 sm srcw dst hsrc hdst)) Q) := by
  iintro ⟨Hfl, HO, Hmw⟩ HQ
  iapply (Transfers.wp_waitLocalO countersEmb 𝒱₀ (tl d L) none (default : HIx 1) (rfl : dst.view.dmaCredit = _)) $$ [Hfl HO Hmw]
  · isplitl [Hfl]; · iexact Hfl
    isplitl [HO]; · iexact HO
    iapply (Transfers.MayWaits.elim (SemLoc.dma sm)) $$ Hmw
  iintro ⟨HD, Hv, HO⟩
  rw [wp_ret]; imodintro
  iapply HQ
  isplitl [HD]; · iexact HD
  isplitl [Hv] <;> iassumption

end Fetch

end Cert.Proof.Dispatch

end
-- ==== Proof.Scatter.lean ====
/-
  One scatter of half the columns of a slot's rows: started, waited for, and what it leaves in the array, index by index.
-/
module

public import proofs.«01_k».proof.Proof.Steps
public import Idealize.ShloMosaic.Lib.Memref
public import Idealize.ShloMosaic.Lib.ValueLayout

@[expose] public section

noncomputable section

namespace Cert.Proof.Dispatch

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The three ends of the stream -/

section Ends

variable (p : Fin 2) (k : ℕ) (hi : ∀ a, (![0, k] : Fin 2 → ℕ) a + S128x128.size a ≤ S128x256.size a)
  (ho : ∀ a, (![0, k] : Fin 2 → ℕ) a + S81920x128.size a ≤ S81920x256.size a)

/-- 128 columns of a slot's rows, from column `k`. -/
abbrev colS : Memref sig .scVector .vmem S128x128 .i32 :=
  (xs p).slice (Rect.unit (s := S128x256) ![0, k] S128x128.size hi) (fun _ => rfl)
/-- 128 columns of the target, from column `k`. -/
abbrev colO : Memref sig .scVector .hbm S81920x128 .i32 :=
  oV.slice (Rect.unit (s := S81920x256) ![0, k] S81920x128.size ho) (fun _ => rfl)
/-- A slot's indices as a list. -/
abbrev lst : Memref sig .scVector .vmem S128 .i32 :=
  ((is p).slice (Rect.unit (s := S1x128) ![0, 0] S1x128.size inb_S1x128_S1x128_0_0) (fun _ => rfl)).squeeze S128
    squeezes_S1x128_S128

theorem lst_emb (x : S128.Idx) : (lst p).view.emb x = (is p).view.emb (ix2 (0 : Fin 1) (x 0)) := by
  change (is p).view.emb ((Rect.unit (s := S1x128) ![0, 0] S1x128.size inb_S1x128_S1x128_0_0).emb (Shape.reshapeEquiv _ x)) = _
  congr 1
  have h : (Shape.reshapeEquiv (s := S1x128) (s' := S128) squeezes_S1x128_S128.numel_eq x) = ix2 (0 : Fin 1) (x 0) := by
    refine Shape.reshapeEquiv_eq_of_rowMajor _ ?_
    refine ((Shape.rowMajor_val_two (d := ![1, 128]) (ix2 (0 : Fin 1) (x 0))).trans ?_).trans
      (Shape.rowMajor_val_one (d := ![128]) x).symm
    change 0 * 128 + (x 0).val = (x 0).val
    omega
  rw [h]
  funext a
  refine Fin.ext ?_
  fin_cases a
  · rfl
  · change 0 + 1 * (x 0).val = (x 0).val
    omega

theorem lst_set : (lst p).view.set = (is p).view.set := by
  ext i
  simp only [View.set, Finset.mem_map, Finset.mem_univ, true_and]
  constructor
  · rintro ⟨x, rfl⟩; exact ⟨_, (lst_emb p x).symm⟩
  · rintro ⟨y, rfl⟩
    refine ⟨ix1 (y 1), ?_⟩
    rw [lst_emb]
    congr 1
    funext a
    fin_cases a
    · exact Subsingleton.elim (α := Fin 1) _ _
    · rfl

theorem lst_read (f : (is p).view.ty.Contents (Elt F)) (x : S128.Idx) :
    (lst p).view.read (Elt F) f x = (is p).view.read (Elt F) f (ix2 (0 : Fin 1) (x 0)) := by
  change cast _ (f ((lst p).view.emb x)) = cast _ (f ((is p).view.emb _))
  rw [lst_emb]

theorem colS_read (f : (xs p).view.ty.Contents (Elt F)) (y : S128x128.Idx) (z : S128x256.Idx)
    (h0 : (z 0).val = (y 0).val) (h1 : (z 1).val = k + (y 1).val) :
    (colS p k hi).view.read (Elt F) f y = (xs p).view.read (Elt F) f z := by
  change (xs p).view.read (Elt F) f ((Rect.unit (s := S128x256) ![0, k] S128x128.size hi).emb y) = _
  congr 1
  funext a
  refine Fin.ext ?_
  fin_cases a
  · change 0 + 1 * (y 0).val = (z 0).val
    omega
  · change k + 1 * (y 1).val = (z 1).val
    omega

abbrev hg : S81920x128.Gathers 0 S128x128 := gathers_S81920x128_S128x128

theorem axis_eq : hg.axis = (0 : Fin 2) := rfl

/-- Row `r` of the target's columns, at place `y`. -/
theorem row_emb (r : Fin (S81920x128.size hg.axis)) (y : (S81920x128.rowShape hg.axis).Idx) :
    (((((colO k ho).view.slice (S81920x128.rowRect hg.axis r)).emb y : S81920x256.Idx) 0).val = r.val)
      ∧ ((((colO k ho).view.slice (S81920x128.rowRect hg.axis r)).emb y : S81920x256.Idx) 1).val = k + (y (1 : Fin 2)).val := by
  have hy : (y (0 : Fin 2)).val = 0 := by
    have := (y (0 : Fin 2)).isLt
    change _ < 1 at this
    omega
  constructor
  · change 0 + 1 * (r.val + 1 * (y (0 : Fin 2)).val) = r.val
    omega
  · change k + 1 * (0 + 1 * (y (1 : Fin 2)).val) = _
    omega

variable (J : Fin 128 → BitVec 32)

/-- What a scatter of the columns from `k` leaves: the slot's row `e` in the row entry `e` names, the rest untouched. -/
def Wrote (R : S128x256.Idx → BitVec 32) (f g : S81920x256.Idx → BitVec 32) : Prop :=
  (∀ (e : Fin 128) (i : S81920x256.Idx), (i 0).val = (J e).toNat → k ≤ (i 1).val → (i 1).val < k + 128 → g i = R (ix2 e (i 1)))
    ∧ ∀ i : S81920x256.Idx, ((i 1).val < k ∨ k + 128 ≤ (i 1).val ∨ ∀ e, (J e).toNat ≠ (i 0).val) → g i = f i

/-! ## The scatter -/

variable [FloatOps F] (d : Dev nD) (L : grid0.Coords)

theorem scatter (sm : DmaSem sig) (Tg : Finset S81920x256.Idx)
    (f : Buf (Elt F) ((xs p).view.loc (tl d L))) (fo : Buf (Elt F) ((is p).view.loc (tl d L))) (fd : Buf (Elt F) (oLoc d))
    (hJ : ∀ e, J e = (is p).view.read (Elt F) fo (ix2 (0 : Fin 1) e))
    (hin : ∀ e, (J e).toNat < 81920) (hinj : ∀ e e', (J e).toNat = (J e').toNat → e = e')
    (hT : ∀ (e : Fin 128) (i : S81920x256.Idx), (i 0).val = (J e).toNat → i ∈ Tg)
    {hp : (tl d L).2.kind = .scVector} {hn : S128.numel = S128x128.size hg.axis'} {he : EltTy.i32.bits = 32}
    {hsp : Space.hbm = .hbm ∨ Space.hbm = .shared} {hr : S81920x128.StreamRows 0}
    {hws : (colS p k hi).view.WordExact} {hwd : (colO k ho).view.WordExact}
    {O : CellTallies nD τ sig (HIx 1)} {W : Waits sig (HIx 1)} {Q : PUnit → sProp 𝕄} :
    iprop(((xs p).view.loc (tl d L) ↦[(xs p).view.set]{fullShare} f) ∗ ((is p).view.loc (tl d L) ↦[(is p).view.set]{fullShare} fo)
        ∗ (oLoc d ↦[Tg]{fullShare} fd) ∗ semVal ((tl d L), SemLoc.dma sm) 0
        ∗ owes (tl d L) O W ∗ Transfers.MayWaits (tl d L) (default : HIx 1) O)
      ⊢ iprop((iprop(((xs p).view.loc (tl d L) ↦[(xs p).view.set]{fullShare} f)
              ∗ ((is p).view.loc (tl d L) ↦[(is p).view.set]{fullShare} fo)
              ∗ (∃ g, ⌜Wrote k J ((xs p).view.read (Elt F) f) fd g⌝ ∗ (oLoc d ↦[Tg]{fullShare} g)) ∗ semVal ((tl d L), SemLoc.dma sm) 0
              ∗ owes (tl d L) O (insert (SemLoc.dma sm, (default : HIx 1)) W)) -∗ Q ⟨⟩)
          -∗ wp frame (wpE (defs₀ (F := F)) 𝒱₀ (tl d L) none) Set.univ
            (SparseCore.enqueueIndirectScatter hp (colS p k hi) (colO k ho) hg (lst p) hn sm he hsp hr)
            (fun _ => wp frame (wpE (defs₀ (F := F)) 𝒱₀ (tl d L) none) Set.univ
              (SparseCore.waitIndirectScatter sm (colS p k hi) (colO k ho) hws hwd) Q)) := by
  classical
  have hJl : ∀ x : S128.Idx, (lst p).view.read (Elt F) fo x = J (x 0) := fun x => (lst_read p fo x).trans (hJ _).symm
  have hin' : ∀ x, ((lst p).view.read (Elt F) fo x).toNat < S81920x128.size hg.axis := fun x =>
    (congrArg BitVec.toNat (hJl x)).trans_lt (hin _)
  have hrv : ∀ j, (SparseCore.rows ((lst p).view.read (Elt F) fo) hn hin' j).val = (J (j : Fin 128)).toNat := fun j => by
    have h1 := congrArg BitVec.toNat (hJl (S128.rowMajor.symm (j.cast hn.symm)))
    refine h1.trans (congrArg (fun e : Fin 128 => (J e).toNat) (Fin.ext ?_))
    have := Shape.rowMajor_val_one (d := ![128]) (S128.rowMajor.symm (j.cast hn.symm))
    exact this.symm.trans (congrArg Fin.val (S128.rowMajor.apply_symm_apply (j.cast hn.symm)))
  have hinj' : Function.Injective (SparseCore.rows ((lst p).view.read (Elt F) fo) hn hin') := fun j j' h =>
    hinj j j' ((hrv j).symm.trans ((congrArg Fin.val h).trans (hrv j')))
  set r := SparseCore.rows ((lst p).view.read (Elt F) fo) hn hin' with hr_def
  have hmem : ∀ i : S81920x256.Idx, i ∈ SparseCore.namedRows (tl d L) (colO k ho).view hg.axis r
      ↔ ∃ (e : Fin 128) (y : (S81920x128.rowShape hg.axis).Idx),
        ((colO k ho).view.slice (S81920x128.rowRect hg.axis (r e))).emb y = i := fun i => by
    rw [SparseCore.namedRows_eq, Finset.mem_biUnion]
    constructor
    · rintro ⟨e, -, he⟩
      obtain ⟨y, -, hy⟩ := Finset.mem_map.1 he
      exact ⟨e, y, hy⟩
    · rintro ⟨e, y, hy⟩
      exact ⟨e, Finset.mem_univ _, Finset.mem_map.2 ⟨y, Finset.mem_univ _, hy⟩⟩
  have hsub : SparseCore.namedRows (tl d L) (colO k ho).view hg.axis r ⊆ Tg := fun i hi => by
    obtain ⟨e, y, rfl⟩ := (hmem i).1 hi
    exact hT e _ ((row_emb k ho (r e) y).1.trans (hrv e))
  set pay := SparseCore.scatterRowPayload (tl d L) (colS p k hi) hg f with hpay
  set g := SparseCore.scatterBuf (tl d L) (colO k ho).view hg.axis r pay fd with hgd
  have hout : ∀ i : S81920x256.Idx, i ∉ SparseCore.namedRows (tl d L) (colO k ho).view hg.axis r → g i = fd i := fun i h =>
    SparseCore.scatterBuf_of_not_mem (tl d L) (colO k ho).view hg.axis r pay fd h
  have hgot : ∀ (e : Fin 128) (y : (S81920x128.rowShape hg.axis).Idx),
      g (((colO k ho).view.slice (S81920x128.rowRect hg.axis (r e))).emb y)
        = (xs p).view.read (Elt F) f (ix2 e ⟨k + (y (1 : Fin 2)).val, (row_emb k ho (r e) y).2 ▸ Fin.isLt _⟩) := fun e y => by
    refine (SparseCore.scatterBuf_of_mem (tl d L) (colO k ho).view hg.axis r hinj' pay fd (k := e) (View.emb_mem_set _ y)).trans ?_
    refine (View.write_emb_of_mem _ _ (Finset.mem_univ y)).trans ?_
    change pay e y = _
    have hrs := hg.rowShape_eq
    have h1 : pay e y = ((colS p k hi).slice (S128x128.rowRect hg.axis' e) (S128x128.stride_rowRect _ _)).view.read (Elt F) f
        ((Shape.idxEquiv hrs).symm y) := rfl
    rw [h1]
    refine colS_read p k hi f ((S128x128.rowRect hg.axis' e).emb ((Shape.idxEquiv hrs).symm y)) _ ?_ ?_
    · have hz := Shape.idxEquiv_symm_apply_val hrs y (0 : Fin 2)
      have hy : (y (0 : Fin 2)).val = 0 := by
        have := (y (0 : Fin 2)).isLt
        change _ < 1 at this
        omega
      change e.val = e.val + 1 * (((Shape.idxEquiv hrs).symm y) (0 : Fin 2)).val
      have hz' : (((Shape.idxEquiv hrs).symm y) (0 : Fin 2)).val = 0 := hz.trans hy
      omega
    · have hz : (((Shape.idxEquiv hrs).symm y) (1 : Fin 2)).val = (y (1 : Fin 2)).val :=
        Shape.idxEquiv_symm_apply_val hrs y (1 : Fin 2)
      change k + (y (1 : Fin 2)).val = k + (0 + 1 * (((Shape.idxEquiv hrs).symm y) (1 : Fin 2)).val)
      omega
  have hW : Wrote k J ((xs p).view.read (Elt F) f) fd g := by
    refine ⟨fun e i h0 h1 h2 => ?_, fun i h => hout i fun hm => ?_⟩
    · let y : (S81920x128.rowShape hg.axis).Idx := fun
        | ⟨0, _⟩ => (⟨0, Nat.one_pos⟩ : Fin 1)
        | ⟨1, _⟩ => (⟨(i 1).val - k, by omega⟩ : Fin 128)
      have hy1 : (y (1 : Fin 2)).val = (i 1).val - k := rfl
      have hi' : ((colO k ho).view.slice (S81920x128.rowRect hg.axis (r e))).emb y = i := by
        have hr := row_emb k ho (r e) y
        funext a
        refine Fin.ext ?_
        rcases (show a = (0 : Fin 2) ∨ a = (1 : Fin 2) by
            have : ∀ b : Fin 2, b = 0 ∨ b = 1 := by decide
            exact this a) with rfl | rfl
        · exact hr.1.trans ((hrv e).trans h0.symm)
        · exact hr.2.trans (by rw [hy1]; omega)
      rw [← hi', hgot]
      congr 2
      refine Fin.ext ?_
      exact (row_emb k ho (r e) y).2.symm
    · obtain ⟨e, y, rfl⟩ := (hmem i).1 hm
      have hr := row_emb k ho (r e) y
      have hlt : (y (1 : Fin 2)).val < 128 := (y (1 : Fin 2)).isLt
      rcases h with h | h | h
      · have h' := hr.2.symm.trans_lt h
        omega
      · have h' := h.trans_eq hr.2
        omega
      · exact h e ((hrv e).symm.trans hr.1.symm)
  have hsS : (colS p k hi).view.set ⊆ (xs p).view.set := View.set_slice_subset _ _
  iintro ⟨Hs, Hl, Ho, Hv, HO, Hmw⟩ HQ
  ihave Hs' := (pointsTo_split_subset (ℓ := (xs p).view.loc (tl d L)) (q := fullShare) (f := f) hsS).1 $$ Hs
  icases Hs' with ⟨Hs1, Hs2⟩
  ihave Ho' := (pointsTo_split_subset (ℓ := oLoc d) (q := fullShare) (f := fd) hsub).1 $$ Ho
  icases Ho' with ⟨Ho1, Ho2⟩
  have key := SparseCore.wp_indirectScatterLocal (F := F) countersEmb 𝒱₀ (defs := defs₀ (F := F)) (tl d L) none (default : HIx 1)
    (src := colS p k hi) (dst := colO k ho) (hg := hg) (offs := lst p) (hn := hn) (sem := sm) (hp := hp) (he := he) (hsp := hsp)
    (hr := hr) (k := fun x => pure x) (q := fullShare) (qo := fullShare) (fs := f) (fd := fd) (fo := fo)
    (Q := fun _ => wp frame (wpE (defs₀ (F := F)) 𝒱₀ (tl d L) none) Set.univ
              (SparseCore.waitIndirectScatter sm (colS p k hi) (colO k ho) hws hwd) Q)
    (colS p k hi).view.dmaCredit (by decide) hin' hinj'
    (SparseCore.sum_scatterCredit_eq_srcCredit (tl d L) (colS p k hi) (colO k ho) hg rfl r (fun _ => rfl) (fun _ => rfl))
  rw [bind_pure] at key
  iapply key $$ [Hs1 Ho1 Hl Hv]
  · isplitl [Hs1]; · iexact Hs1
    isplitl [Ho1]; · iexact Ho1
    isplitl [Hl]
    · rw [lst_set]; iexact Hl
    · iexact Hv
  iintro Hfl
  rw [wp_pure]; imodintro
  iapply (Transfers.wp_waitLocalO countersEmb 𝒱₀ (tl d L) none (default : HIx 1)
    (rfl : (colS p k hi).view.dmaCredit = _) (k := fun x => pure x)) $$ [Hfl HO Hmw]
  · isplitl [Hfl]; · iexact Hfl
    isplitl [HO]; · iexact HO
    iapply (Transfers.MayWaits.elim (SemLoc.dma sm)) $$ Hmw
  iintro ⟨⟨Ho1, Hs1, Hl⟩, Hv, HO⟩
  rw [wp_pure]; imodintro
  iapply HQ
  isplitl [Hs1 Hs2]
  · iapply (pointsTo_split_subset (ℓ := (xs p).view.loc (tl d L)) (q := fullShare) (f := f) hsS).2
    isplitl [Hs1] <;> iassumption
  isplitl [Hl]
  · rw [lst_set]; iexact Hl
  isplitl [Ho1 Ho2]
  · iexists g
    isplitr; · ipureintro; exact hW
    ihave Ho2' := (Entails.of_eq (show (oLoc d ↦[Tg \ SparseCore.namedRows (tl d L) (colO k ho).view hg.axis r]{fullShare} fd : sProp 𝕄)
      = oLoc d ↦[Tg \ SparseCore.namedRows (tl d L) (colO k ho).view hg.axis r]{fullShare} g from
      pointsTo_congr fun i hi => (hout i (Finset.mem_sdiff.1 hi).2).symm)) $$ Ho2
    iapply (pointsTo_split_subset (ℓ := oLoc d) (q := fullShare) (f := g) hsub).2
    isplitl [Ho1] <;> iassumption
  isplitl [Hv] <;> iassumption

end Ends

end Cert.Proof.Dispatch

end
-- ==== Proof.Trip.lean ====
/-
  One trip of a tile's loop: the next window's fetches started, this window's waited for, and its rows scattered to the
  rows its indices name, one half of the columns after the other.
-/
module

public import proofs.«01_k».proof.Proof.Scatter

@[expose] public section

noncomputable section

namespace Cert.Proof.Dispatch

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What a window holds -/

section Window

variable (L : grid0.Coords)

theorem bnd0 : (L 0).val < 2 := (L 0).isLt
theorem bnd1 : (L 1).val < 16 := (L 1).isLt

/-- Row `n` of tile `L`'s 2048 rows, and the place of its index. -/
def rowAt (n : ℕ) (h : n < 2048) : Fin 32768 := ⟨2048 * (L 1).val + n, by have := bnd1 L; omega⟩
def posAt (n : ℕ) (h : n < 2048) : Fin 65536 := ⟨2048 * (L 1).val + 32768 * (L 0).val + n, by have := bnd0 L; have := bnd1 L; omega⟩

theorem xb_read (t : Fin 16) (X : S32768x256.Idx → BitVec 32) (e : Fin 128) (j : Fin 256) :
    (xb L t).view.read (Elt F) X (ix2 e j) = X (ix2 (rowAt L (128 * t.val + e.val) (by omega)) j) := by
  change X ((Rect.unit (s := S32768x256) ![2048 * (L 1).val + 128 * t.val, 0] S128x256.size (inbX L t)).emb (ix2 e j)) = _
  congr 1
  funext a
  refine Fin.ext ?_
  fin_cases a
  · change 2048 * (L 1).val + 128 * t.val + 1 * e.val = 2048 * (L 1).val + (128 * t.val + e.val)
    omega
  · change 0 + 1 * j.val = j.val
    omega

theorem ib_read (t : Fin 16) (Y : S1x65536.Idx → BitVec 32) (e : Fin 128) :
    (ib L t).view.read (Elt F) Y (ix2 (0 : Fin 1) e) = Y (ix2 (0 : Fin 1) (posAt L (128 * t.val + e.val) (by omega))) := by
  change Y ((Rect.unit (s := S1x65536) ![0, 2048 * (L 1).val + 32768 * (L 0).val + 128 * t.val] S1x128.size (inbI L t)).emb
    (ix2 (0 : Fin 1) e)) = _
  congr 1
  funext a
  refine Fin.ext ?_
  fin_cases a
  · rfl
  · change 2048 * (L 1).val + 32768 * (L 0).val + 128 * t.val + 1 * e.val = 2048 * (L 1).val + 32768 * (L 0).val + (128 * t.val + e.val)
    omega

/-- The indices name rows of the target, each its own. -/
def Distinct (Y : S1x65536.Idx → BitVec 32) : Prop :=
  (∀ n : Fin 65536, (Y (ix2 (0 : Fin 1) n)).toNat < 81920)
    ∧ ∀ n n' : Fin 65536, (Y (ix2 (0 : Fin 1) n)).toNat = (Y (ix2 (0 : Fin 1) n')).toNat → n = n'

/-- The first `128 t` rows of tile `L` are where their indices say. -/
def Good (X : S32768x256.Idx → BitVec 32) (Y : S1x65536.Idx → BitVec 32) (t : ℕ) (f : S81920x256.Idx → BitVec 32) : Prop :=
  ∀ (n : ℕ) (h : n < 2048), n < 128 * t → ∀ i : S81920x256.Idx,
    (i 0).val = (Y (ix2 (0 : Fin 1) (posAt L n h))).toNat → f i = X (ix2 (rowAt L n h) (i 1))

/-- The elements tile `L` writes: those of the rows its indices name. -/
def tileSet (Y : S1x65536.Idx → BitVec 32) : Finset S81920x256.Idx :=
  Finset.univ.filter fun i => ∃ n, ∃ h : n < 2048, (i 0).val = (Y (ix2 (0 : Fin 1) (posAt L n h))).toNat

theorem mem_tileSet (Y : S1x65536.Idx → BitVec 32) (i : S81920x256.Idx) :
    i ∈ tileSet L Y ↔ ∃ n, ∃ h : n < 2048, (i 0).val = (Y (ix2 (0 : Fin 1) (posAt L n h))).toNat := by
  simp only [tileSet, Finset.mem_filter, Finset.mem_univ, true_and]

theorem Good.zero (X : S32768x256.Idx → BitVec 32) (Y : S1x65536.Idx → BitVec 32) (f : S81920x256.Idx → BitVec 32) :
    Good L X Y 0 f := fun n _ h' => absurd h' (by omega)

/-- The words of window `t`. -/
def word (Y : S1x65536.Idx → BitVec 32) (t : Fin 16) (e : Fin 128) : BitVec 32 :=
  Y (ix2 (0 : Fin 1) (posAt L (128 * t.val + e.val) (by omega)))

theorem Good.succ {X : S32768x256.Idx → BitVec 32} {Y : S1x65536.Idx → BitVec 32} (hY : Distinct Y) {t : Fin 16}
    {R : S128x256.Idx → BitVec 32} (hR : ∀ e j, R (ix2 e j) = X (ix2 (rowAt L (128 * t.val + e.val) (by omega)) j))
    {f g h : S81920x256.Idx → BitVec 32} (h0 : Good L X Y t.val f) (h1 : Wrote 0 (word L Y t) R f g)
    (h2 : Wrote 128 (word L Y t) R g h) : Good L X Y (t.val + 1) h := by
  intro n hn hlt i hi
  have hi1 : (i 1).val < 256 := (i 1).isLt
  rcases Nat.lt_or_ge n (128 * t.val) with hc | hc
  · have hno : ∀ e : Fin 128, (word L Y t e).toNat ≠ (i 0).val := fun e he => by
      have := hY.2 _ _ (he.trans hi)
      have := congrArg Fin.val this
      simp only [posAt] at this
      omega
    rw [h2.2 i (.inr (.inr hno)), h1.2 i (.inr (.inr hno))]
    exact h0 n hn hc i hi
  · have hR' := hR ⟨n - 128 * t.val, by omega⟩ (i 1)
    have hn' : 128 * t.val + (n - 128 * t.val) = n := by omega
    have hw : (word L Y t ⟨n - 128 * t.val, by omega⟩).toNat = (i 0).val := by
      rw [hi]; unfold word; simp only [hn']
    have key : R (ix2 ⟨n - 128 * t.val, by omega⟩ (i 1)) = X (ix2 (rowAt L n hn) (i 1)) := by
      rw [hR']; simp only [hn']
    rcases Nat.lt_or_ge (i 1).val 128 with hj | hj
    · rw [h2.2 i (.inl hj), h1.1 _ i hw.symm (Nat.zero_le _) (by omega)]
      exact key
    · rw [h2.1 _ i hw.symm hj (by omega)]
      exact key

end Window

/-! ## The operations at the offsets the program computes -/

theorem xs_credit (p : Fin 2) : 0 < (xs p).view.dmaCredit := by revert p; decide
theorem is_credit (p : Fin 2) : 0 < (is p).view.dmaCredit := by revert p; decide

section At

variable [FloatOps F] (d : Dev nD) (L : grid0.Coords) (p : Fin 2) (t : Fin 16)

theorem fetchX {o8 : Fin 1 → ℕ} {o6 : Fin 3 → ℕ} {o7 : Fin 2 → ℕ} (e8 : o8 = ![p.val]) (e6 : o6 = ![p.val, 0, 0])
    (e7 : o7 = ![2048 * (L 1).val + 128 * t.val, 0]) {h8 : ∀ a, o8 a + S1.size a ≤ S2.size a}
    {h6 : ∀ a, o6 a + S1x128x256.size a ≤ S2x128x256.size a} {h7 : ∀ a, o7 a + S128x256.size a ≤ S32768x256.size a}
    {hsrc : (xV.slice (Rect.unit (s := S32768x256) o7 S128x256.size h7) (fun _ => rfl)).view.WordExact}
    {hdst : ((aV.slice (Rect.unit (s := S2x128x256) o6 S1x128x256.size h6) (fun _ => rfl)).squeeze S128x256 squeezes_S1x128x256_S128x256).view.WordExact}
    {hsem : DmaTarget.Typed (nD := nD) (p := (tl d L).2) .hbm
      (.dma ((cc0_scoped1.slice (Rect.unit (s := S2) o8 S1.size h8)).squeeze S_ squeezes_S1_S_).sem)
      (.here ((aV.slice (Rect.unit (s := S2x128x256) o6 S1x128x256.size h6) (fun _ => rfl)).squeeze S128x256 squeezes_S1x128x256_S128x256))}
    (q : PosShare TreeShare) (X : Buf (Elt F) (xLoc d)) {Q : PUnit → sProp 𝕄} :
    iprop((xLoc d ↦{q} X) ∗ Slot d L (xs p) ∗ semVal ((tl d L), SemLoc.dma (xc p)) 0)
      ⊢ iprop((Coming d L (xb L t) (xs p) (xc p) q X -∗ Q ⟨⟩)
        -∗ wp frame (wpE (defs₀ (F := F)) 𝒱₀ (tl d L) none) Set.univ
            (Prog.lift (.enqueueDma (xV.slice (Rect.unit (s := S32768x256) o7 S128x256.size h7) (fun _ => rfl))
              (.here ((aV.slice (Rect.unit (s := S2x128x256) o6 S1x128x256.size h6) (fun _ => rfl)).squeeze S128x256 squeezes_S1x128x256_S128x256))
              (.dma ((cc0_scoped1.slice (Rect.unit (s := S2) o8 S1.size h8)).squeeze S_ squeezes_S1_S_).sem) hsrc hdst hsem)) Q) := by
  subst e8 e6 e7
  exact fetch d L (xb L t) (xs p) (xc p) (xs_credit p) q X

theorem fetchI {o8 : Fin 1 → ℕ} {o6 : Fin 3 → ℕ} {o7 : Fin 2 → ℕ} (e8 : o8 = ![p.val]) (e6 : o6 = ![p.val, 0, 0])
    (e7 : o7 = ![0, 2048 * (L 1).val + 32768 * (L 0).val + 128 * t.val]) {h8 : ∀ a, o8 a + S1.size a ≤ S2.size a}
    {h6 : ∀ a, o6 a + S1x1x128.size a ≤ S2x1x128.size a} {h7 : ∀ a, o7 a + S1x128.size a ≤ S1x65536.size a}
    {hsrc : (iV.slice (Rect.unit (s := S1x65536) o7 S1x128.size h7) (fun _ => rfl)).view.WordExact}
    {hdst : ((bV.slice (Rect.unit (s := S2x1x128) o6 S1x1x128.size h6) (fun _ => rfl)).squeeze S1x128 squeezes_S1x1x128_S1x128).view.WordExact}
    {hsem : DmaTarget.Typed (nD := nD) (p := (tl d L).2) .hbm
      (.dma ((cc0_scoped3.slice (Rect.unit (s := S2) o8 S1.size h8)).squeeze S_ squeezes_S1_S_).sem)
      (.here ((bV.slice (Rect.unit (s := S2x1x128) o6 S1x1x128.size h6) (fun _ => rfl)).squeeze S1x128 squeezes_S1x1x128_S1x128))}
    (q : PosShare TreeShare) (X : Buf (Elt F) (iLoc d)) {Q : PUnit → sProp 𝕄} :
    iprop((iLoc d ↦{q} X) ∗ Slot d L (is p) ∗ semVal ((tl d L), SemLoc.dma (ic p)) 0)
      ⊢ iprop((Coming d L (ib L t) (is p) (ic p) q X -∗ Q ⟨⟩)
        -∗ wp frame (wpE (defs₀ (F := F)) 𝒱₀ (tl d L) none) Set.univ
            (Prog.lift (.enqueueDma (iV.slice (Rect.unit (s := S1x65536) o7 S1x128.size h7) (fun _ => rfl))
              (.here ((bV.slice (Rect.unit (s := S2x1x128) o6 S1x1x128.size h6) (fun _ => rfl)).squeeze S1x128 squeezes_S1x1x128_S1x128))
              (.dma ((cc0_scoped3.slice (Rect.unit (s := S2) o8 S1.size h8)).squeeze S_ squeezes_S1_S_).sem) hsrc hdst hsem)) Q) := by
  subst e8 e6 e7
  exact fetch d L (ib L t) (is p) (ic p) (is_credit p) q X

theorem awaitX {o8 : Fin 1 → ℕ} {o6 : Fin 3 → ℕ} (e8 : o8 = ![p.val]) (e6 : o6 = ![p.val, 0, 0])
    {h8 : ∀ a, o8 a + S1.size a ≤ S2.size a} {h6 : ∀ a, o6 a + S1x128x256.size a ≤ S2x128x256.size a}
    {s' : Shape} {srcw : Memref sig .scVector .hbm s' .i32} {hsrc : srcw.view.WordExact}
    {hdst : ((aV.slice (Rect.unit (s := S2x128x256) o6 S1x128x256.size h6) (fun _ => rfl)).squeeze S128x256 squeezes_S1x128x256_S128x256).view.WordExact}
    (q : PosShare TreeShare) (X : Buf (Elt F) (xLoc d)) {O : CellTallies nD τ sig (HIx 1)} {W : Waits sig (HIx 1)} {Q : PUnit → sProp 𝕄} :
    iprop(Coming d L (xb L t) (xs p) (xc p) q X ∗ owes (tl d L) O W ∗ Transfers.MayWaits (tl d L) (default : HIx 1) O)
      ⊢ iprop((iprop(Landed d L (xb L t) (xs p) q X ∗ semVal ((tl d L), SemLoc.dma (xc p)) 0
            ∗ owes (tl d L) O (insert (SemLoc.dma (xc p), (default : HIx 1)) W)) -∗ Q ⟨⟩)
        -∗ wp frame (wpE (defs₀ (F := F)) 𝒱₀ (tl d L) none) Set.univ
            (Prog.lift (.waitDma2 ((cc0_scoped1.slice (Rect.unit (s := S2) o8 S1.size h8)).squeeze S_ squeezes_S1_S_).sem srcw
              ((aV.slice (Rect.unit (s := S2x128x256) o6 S1x128x256.size h6) (fun _ => rfl)).squeeze S128x256 squeezes_S1x128x256_S128x256)
              hsrc hdst)) Q) := by
  subst e8 e6
  exact await d L (xb L t) (xs p) (xc p) q X

theorem awaitI {o8 : Fin 1 → ℕ} {o6 : Fin 3 → ℕ} (e8 : o8 = ![p.val]) (e6 : o6 = ![p.val, 0, 0])
    {h8 : ∀ a, o8 a + S1.size a ≤ S2.size a} {h6 : ∀ a, o6 a + S1x1x128.size a ≤ S2x1x128.size a}
    {s' : Shape} {srcw : Memref sig .scVector .hbm s' .i32} {hsrc : srcw.view.WordExact}
    {hdst : ((bV.slice (Rect.unit (s := S2x1x128) o6 S1x1x128.size h6) (fun _ => rfl)).squeeze S1x128 squeezes_S1x1x128_S1x128).view.WordExact}
    (q : PosShare TreeShare) (X : Buf (Elt F) (iLoc d)) {O : CellTallies nD τ sig (HIx 1)} {W : Waits sig (HIx 1)} {Q : PUnit → sProp 𝕄} :
    iprop(Coming d L (ib L t) (is p) (ic p) q X ∗ owes (tl d L) O W ∗ Transfers.MayWaits (tl d L) (default : HIx 1) O)
      ⊢ iprop((iprop(Landed d L (ib L t) (is p) q X ∗ semVal ((tl d L), SemLoc.dma (ic p)) 0
            ∗ owes (tl d L) O (insert (SemLoc.dma (ic p), (default : HIx 1)) W)) -∗ Q ⟨⟩)
        -∗ wp frame (wpE (defs₀ (F := F)) 𝒱₀ (tl d L) none) Set.univ
            (Prog.lift (.waitDma2 ((cc0_scoped3.slice (Rect.unit (s := S2) o8 S1.size h8)).squeeze S_ squeezes_S1_S_).sem srcw
              ((bV.slice (Rect.unit (s := S2x1x128) o6 S1x1x128.size h6) (fun _ => rfl)).squeeze S1x128 squeezes_S1x1x128_S1x128)
              hsrc hdst)) Q) := by
  subst e8 e6
  exact await d L (ib L t) (is p) (ic p) q X

section ScatterAt

variable (k : ℕ) (hi : ∀ a, (![0, k] : Fin 2 → ℕ) a + S128x128.size a ≤ S128x256.size a)
  (ho : ∀ a, (![0, k] : Fin 2 → ℕ) a + S81920x128.size a ≤ S81920x256.size a)

theorem scatterAt {o : Fin 3 → ℕ} {o' : Fin 3 → ℕ} (e : o = ![p.val, 0, 0]) (e' : o' = ![p.val, 0, 0])
    {h : ∀ a, o a + S1x128x256.size a ≤ S2x128x256.size a} {h' : ∀ a, o' a + S1x1x128.size a ≤ S2x1x128.size a}
    (sm : DmaSem sig) (X : Buf (Elt F) (xLoc d)) (Y : Buf (Elt F) (iLoc d)) (hY : Distinct Y)
    {f : Buf (Elt F) ((xs p).view.loc (tl d L))} {fo : Buf (Elt F) ((is p).view.loc (tl d L))} {fd : Buf (Elt F) (oLoc d)}
    (hfo : (is p).view.read (Elt F) fo = (ib L t).view.read (Elt F) Y)
    {hp : (tl d L).2.kind = .scVector} {hn : S128.numel = S128x128.size hg.axis'} {he : EltTy.i32.bits = 32}
    {hsp : Space.hbm = .hbm ∨ Space.hbm = .shared} {hr : S81920x128.StreamRows 0}
    {hws : ((((aV.slice (Rect.unit (s := S2x128x256) o S1x128x256.size h) (fun _ => rfl)).squeeze S128x256 squeezes_S1x128x256_S128x256)).slice
      (Rect.unit (s := S128x256) ![0, k] S128x128.size hi) (fun _ => rfl)).view.WordExact} {hwd : (colO k ho).view.WordExact}
    {O : CellTallies nD τ sig (HIx 1)} {W : Waits sig (HIx 1)} {Q : PUnit → sProp 𝕄} :
    iprop(((xs p).view.loc (tl d L) ↦[(xs p).view.set]{fullShare} f) ∗ ((is p).view.loc (tl d L) ↦[(is p).view.set]{fullShare} fo)
        ∗ (oLoc d ↦[tileSet L Y]{fullShare} fd) ∗ semVal ((tl d L), SemLoc.dma sm) 0
        ∗ owes (tl d L) O W ∗ Transfers.MayWaits (tl d L) (default : HIx 1) O)
      ⊢ iprop((iprop(((xs p).view.loc (tl d L) ↦[(xs p).view.set]{fullShare} f)
              ∗ ((is p).view.loc (tl d L) ↦[(is p).view.set]{fullShare} fo)
              ∗ (∃ g, ⌜Wrote k (word L Y t) ((xs p).view.read (Elt F) f) fd g⌝ ∗ (oLoc d ↦[tileSet L Y]{fullShare} g))
              ∗ semVal ((tl d L), SemLoc.dma sm) 0
              ∗ owes (tl d L) O (insert (SemLoc.dma sm, (default : HIx 1)) W)) -∗ Q ⟨⟩)
          -∗ wp frame (wpE (defs₀ (F := F)) 𝒱₀ (tl d L) none) Set.univ
            (SparseCore.enqueueIndirectScatter hp
              ((((aV.slice (Rect.unit (s := S2x128x256) o S1x128x256.size h) (fun _ => rfl)).squeeze S128x256 squeezes_S1x128x256_S128x256)).slice
                (Rect.unit (s := S128x256) ![0, k] S128x128.size hi) (fun _ => rfl))
              (colO k ho) hg
              (((((bV.slice (Rect.unit (s := S2x1x128) o' S1x1x128.size h') (fun _ => rfl)).squeeze S1x128 squeezes_S1x1x128_S1x128)).slice
                (Rect.unit (s := S1x128) ![0, 0] S1x128.size inb_S1x128_S1x128_0_0) (fun _ => rfl)).squeeze S128 squeezes_S1x128_S128) hn sm he hsp hr)
            (fun _ => wp frame (wpE (defs₀ (F := F)) 𝒱₀ (tl d L) none) Set.univ
              (SparseCore.waitIndirectScatter sm
                ((((aV.slice (Rect.unit (s := S2x128x256) o S1x128x256.size h) (fun _ => rfl)).squeeze S128x256 squeezes_S1x128x256_S128x256)).slice
                (Rect.unit (s := S128x256) ![0, k] S128x128.size hi) (fun _ => rfl)) (colO k ho) hws hwd) Q)) := by
  subst e e'
  refine scatter p k hi ho (word L Y t) d L sm (tileSet L Y) f fo fd (fun x => ?_) (fun x => hY.1 _) (fun x x' hxx => ?_) (fun x i hx => ?_)
  · rw [hfo]; exact (ib_read L t Y x).symm
  · have := congrArg Fin.val (hY.2 _ _ hxx)
    simp only [posAt] at this
    exact Fin.ext (by omega)
  · exact (mem_tileSet L Y i).2 ⟨128 * t.val + x.val, by omega, hx⟩

end ScatterAt

end At

/-! ## The loop's invariant -/

section Trip

variable [FloatOps F] (d : Dev nD) (L : grid0.Coords) (q : PosShare TreeShare) (X : Buf (Elt F) (xLoc d)) (Y : Buf (Elt F) (iLoc d))
  (O : CellTallies nD τ sig (HIx 1)) (W : Waits sig (HIx 1))

/-- Slot `p` of the two scratches idle: at some contents, its cells at rest, its half of the read shares at hand. -/
def Idle (p : Fin 2) : sProp 𝕄 :=
  iprop(((xLoc d ↦{half q p} X) ∗ Slot d L (xs p) ∗ semVal ((tl d L), SemLoc.dma (xc p)) 0)
    ∗ ((iLoc d ↦{half q p} Y) ∗ Slot d L (is p) ∗ semVal ((tl d L), SemLoc.dma (ic p)) 0))

/-- Window `t` on its way to slot `p`, or past the last window the slot idle. -/
def Filling (p : Fin 2) (t : ℕ) : sProp 𝕄 :=
  if h : t < 16 then iprop(Coming d L (xb L ⟨t, h⟩) (xs p) (xc p) (half q p) X ∗ Coming d L (ib L ⟨t, h⟩) (is p) (ic p) (half q p) Y)
  else Idle d L q X Y p

abbrev Acc : Type := BitVec 32 × BitVec 32 × BitVec 32 × BitVec 32 × BitVec 32

def words (t : ℕ) : Acc := (ahead t, used t, ahead t, used t, at_ t)

/-- Everything of the tile but the target and the slots. -/
def Rest : sProp 𝕄 :=
  iprop(semVal ((tl d L), SemLoc.dma cc0_scoped4.sem) 0 ∗ semVal ((tl d L), SemLoc.dma cc0_scoped5.sem) 0
    ∗ ∃ W', ⌜∀ p ∈ W', p ∈ W ∨ p.2 = none⌝ ∗ owes (tl d L) O W')

def Inv (t : ℕ) (acc : Acc) : sProp 𝕄 :=
  iprop(⌜acc = words t⌝ ∗ Filling d L q X Y (sl t) t ∗ Idle d L q X Y (sl (t + 1))
    ∗ (∃ f, ⌜Good L X Y t f⌝ ∗ oLoc d ↦[tileSet L Y]{fullShare} f) ∗ Rest d L O W)

theorem Filling_of_lt {p : Fin 2} {t : ℕ} (h : t < 16) :
    Filling d L q X Y p t
      = iprop(Coming d L (xb L ⟨t, h⟩) (xs p) (xc p) (half q p) X ∗ Coming d L (ib L ⟨t, h⟩) (is p) (ic p) (half q p) Y) := dif_pos h
theorem Filling_of_ge {p : Fin 2} {t : ℕ} (h : ¬t < 16) : Filling d L q X Y p t = Idle d L q X Y p := dif_neg h
theorem Idle_eq (p : Fin 2) : Idle d L q X Y p
    = iprop(((xLoc d ↦{half q p} X) ∗ Slot d L (xs p) ∗ semVal ((tl d L), SemLoc.dma (xc p)) 0)
    ∗ ((iLoc d ↦{half q p} Y) ∗ Slot d L (is p) ∗ semVal ((tl d L), SemLoc.dma (ic p)) 0)) := rfl

/-- The first window's number, as the launch computes it. -/
def first : BitVec 32 :=
  Scalar.muli (Scalar.addi (Scalar.addi 0#32 (Scalar.muli (BitVec.ofNat 32 (L 1).val) 1#32)) (Scalar.muli (BitVec.ofNat 32 (L 0).val) 16#32)) 16#32

set_option maxHeartbeats 4000000 in
theorem trip (hY : Distinct Y) (t : Trip) (v7 v31 c128 : BitVec 32) (acc : Acc) :
    iprop(Transfers.MayWaits (tl d L) (default : HIx 1) O ∗ Inv d L q X Y O W t.val acc)
      ⊢ wp frame (wpE (defs₀ (F := F)) 𝒱₀ (tl d L) none) Set.univ
          (k0_t1_body L xV (Memref.isWhole_whole _) iV (Memref.isWhole_whole _) oV (Memref.isWhole_whole _)
            aV (Memref.isWhole_whole _) cc0_scoped1 bV (Memref.isWhole_whole _) cc0_scoped3 cc0_scoped4 cc0_scoped5 (first L) v7 v31 c128 t acc)
          (fun acc => iprop(Transfers.MayWaits (tl d L) (default : HIx 1) O ∗ Inv d L q X Y O W (t.val + 1) acc)) := by
  unfold Inv Rest
  iintro ⟨#Hmw, %hacc, HF, HI, Ho, HR⟩
  subst hacc
  unfold k0_t1_body words
  simp only [k0_part1_eq_skeleton, k0_part2_eq_skeleton, k0_part3_eq_skeleton, k0_part4_eq_skeleton]
  unfold k0_part1_skel k0_part2_skel k0_part3_skel k0_part4_skel
  simp only [wp_bind, ite_self]
  simp only [Prog.lift, wp_assume_of 𝒱₀ (tl d L) none Set.univ (chk1_ok L t), wp_assume_of 𝒱₀ (tl d L) none Set.univ (chk2_ok t), wp_assume_of 𝒱₀ (tl d L) none Set.univ (chk3_ok t), wp_ret, wp_pure]
  imodintro; imodintro; imodintro; imodintro
  have hc3 := cond3_ok L t
  have hc4 := cond4_ok L t
  by_cases ht : t.val < 15
  on_goal 1 =>
    simp only [dif_pos ((cond1_ok L t).2 ht), dif_pos ((cond2_ok L t).2 ht), dif_pos hc3, dif_pos hc4, wp_bind, wp_ret, wp_pure]
    ihave HI' := (Entails.of_eq (Idle_eq d L q X Y (sl (t.val + 1)))) $$ HI
    icases HI' with ⟨⟨Hx, Hs, Hv⟩, Hi, Hs2, Hv2⟩
    iapply (fetchX d L (sl (t.val + 1)) ⟨t.val + 1, by omega⟩ (off8_ok t ht) (off6_ok t ht) (off7_ok L t ht) (half q (sl (t.val + 1))) X) $$ [Hx Hs Hv]
    · isplitl [Hx]; · iexact Hx
      isplitl [Hs] <;> iassumption
    iintro HcX
    repeat imodintro
    iapply (fetchI d L (sl (t.val + 1)) ⟨t.val + 1, by omega⟩ (off11_ok t ht) (off9_ok t ht) (off10_ok L t ht) (half q (sl (t.val + 1))) Y) $$ [Hi Hs2 Hv2]
    · isplitl [Hi]; · iexact Hi
      isplitl [Hs2] <;> iassumption
    iintro HcI
    repeat imodintro
    ihave HF' := (Entails.of_eq (Filling_of_lt d L q X Y (p := sl (t.val + 1)) (show t.val + 1 < 16 by omega)).symm) $$ [HcX HcI]
    · isplitl [HcX] <;> iassumption
  on_goal 2 =>
    simp only [dif_neg (fun h => ht ((cond1_ok L t).1 h)), dif_neg (fun h => ht ((cond2_ok L t).1 h)), dif_pos hc3, dif_pos hc4, wp_bind, wp_ret, wp_pure]
    ihave HF' := (Entails.of_eq (Filling_of_ge d L q X Y (p := sl (t.val + 1)) (show ¬t.val + 1 < 16 by omega)).symm) $$ HI
  all_goals
    repeat imodintro
    ihave HF'' := (Entails.of_eq (Filling_of_lt d L q X Y (p := sl t.val) (trip_lt t))) $$ HF
    icases HF'' with ⟨HcX2, HcI2⟩
    icases Ho with ⟨%f0, %hf0, Ho⟩
    icases HR with ⟨Hv4, Hv5, %W1, %hW1, HO⟩
    iapply (awaitX d L (sl t.val) ⟨t.val, trip_lt t⟩ (off14_ok t) (off12_ok t) (half q (sl t.val)) X) $$ [HcX2 HO]
    · isplitl [HcX2]; · iexact HcX2
      isplitl [HO]; · iexact HO
      iexact Hmw
    iintro ⟨⟨⟨%f1, %hf1, Hs3⟩, Hx3⟩, Hv3, HO⟩
    repeat imodintro
    iapply (awaitI d L (sl t.val) ⟨t.val, trip_lt t⟩ (off17_ok t) (off15_ok t) (half q (sl t.val)) Y) $$ [HcI2 HO]
    · isplitl [HcI2]; · iexact HcI2
      isplitl [HO]; · iexact HO
      iexact Hmw
    iintro ⟨⟨⟨%f2, %hf2, Hs4⟩, Hi4⟩, Hv6, HO⟩
    repeat imodintro

    iapply (scatterAt d L (sl t.val) ⟨t.val, trip_lt t⟩ 0 inb_S128x256_S128x128_0_0 inb_S81920x256_S81920x128_0_0 (off18_ok t) (off19_ok t)
      cc0_scoped4.sem X Y hY hf2) $$ [Hs3 Hs4 Ho Hv4 HO]
    · isplitl [Hs3]; · iexact Hs3
      isplitl [Hs4]; · iexact Hs4
      isplitl [Ho]; · iexact Ho
      isplitl [Hv4]; · iexact Hv4
      isplitl [HO]; · iexact HO
      iexact Hmw
    iintro ⟨Hs3, Hs4, ⟨%g1, %hg1, Ho⟩, Hv4, HO⟩
    repeat imodintro
    iapply (scatterAt d L (sl t.val) ⟨t.val, trip_lt t⟩ 128 inb_S128x256_S128x128_0_128 inb_S81920x256_S81920x128_0_128 (off18_ok t) (off19_ok t)
      cc0_scoped5.sem X Y hY hf2) $$ [Hs3 Hs4 Ho Hv5 HO]
    · isplitl [Hs3]; · iexact Hs3
      isplitl [Hs4]; · iexact Hs4
      isplitl [Ho]; · iexact Ho
      isplitl [Hv5]; · iexact Hv5
      isplitl [HO]; · iexact HO
      iexact Hmw
    iintro ⟨Hs3, Hs4, ⟨%g2, %hg2, Ho⟩, Hv5, HO⟩
    repeat imodintro
    isplitr; · iexact Hmw
    isplitr
    · ipureintro
      clear * -
      revert L t
      decide +kernel
    isplitl [HF']; · iexact HF'
    isplitl [Hs3 Hs4 Hx3 Hi4 Hv3 Hv6]
    · rw [sl_succ_succ, Idle_eq]
      isplitl [Hs3 Hx3 Hv3]
      · isplitl [Hx3]; · iexact Hx3
        isplitl [Hs3]
        · iexists _; iexact Hs3
        iexact Hv3
      isplitl [Hi4]; · iexact Hi4
      isplitl [Hs4]
      · iexists _; iexact Hs4
      iexact Hv6
    isplitl [Ho]
    · iexists g2
      isplitr
      · ipureintro
        refine Good.succ L hY (t := ⟨t.val, trip_lt t⟩) (R := (xs (sl t.val)).view.read (Elt F) f1) (fun e j => ?_) hf0 hg1 hg2
        rw [hf1]; exact xb_read L _ X e j
      iexact Ho
    isplitl [Hv4]; · iexact Hv4
    isplitl [Hv5]; · iexact Hv5
    iexists _
    isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW1 p hp

end Trip

end Cert.Proof.Dispatch

end
-- ==== Proof.Tile.lean ====
/-
  One vector subcore's task: its scratch and its cells set out as slots, the first window's fetches, the sixteen trips,
  and everything back as it was, the rows its indices name written.
-/
module

public import proofs.«01_k».proof.Proof.Trip

@[expose] public section

noncomputable section

namespace Cert.Proof.Dispatch

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The two slots of a scratch are all of it -/

theorem adiv : 2 ∣ S2x128x256.size (0 : Fin 3) := ⟨1, rfl⟩
theorem bdiv : 2 ∣ S2x1x128.size (0 : Fin 3) := ⟨1, rfl⟩
abbrev apart (p : Fin 2) : Rect S2x128x256 := Rect.part (s := S2x128x256) (a₀ := (0 : Fin 3)) adiv p
abbrev bpart (p : Fin 2) : Rect S2x1x128 := Rect.part (s := S2x1x128) (a₀ := (0 : Fin 3)) bdiv p

theorem apart_eq (p : Fin 2) : Rect.unit (s := S2x128x256) ![p.val, 0, 0] S1x128x256.size (inbA p) = apart p := by
  unfold apart Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
theorem bpart_eq (p : Fin 2) : Rect.unit (s := S2x1x128) ![p.val, 0, 0] S1x1x128.size (inbB p) = bpart p := by
  unfold bpart Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem xs_set (p : Fin 2) : (xs p).view.set = (apart p).set := by
  show ((aV.view.slice (Rect.unit (s := S2x128x256) ![p.val, 0, 0] S1x128x256.size (inbA p))).reshape S128x256
    squeezes_S1x128x256_S128x256.numel_eq).set = _
  rw [View.set_reshape, View.set_slice, ← apart_eq]
  exact Finset.map_refl
theorem is_set (p : Fin 2) : (is p).view.set = (bpart p).set := by
  show ((bV.view.slice (Rect.unit (s := S2x1x128) ![p.val, 0, 0] S1x1x128.size (inbB p))).reshape S1x128
    squeezes_S1x1x128_S1x128.numel_eq).set = _
  rw [View.set_reshape, View.set_slice, ← bpart_eq]
  exact Finset.map_refl

theorem pair_eq (Φ : Fin 2 → sProp 𝕄) : bigSep Finset.univ Φ = iprop(Φ 0 ∗ Φ 1) := by
  rw [bigSep_fin_succ]
  congr 1
  exact bigSep_univ_of_subsingleton (0 : Fin 1)

section

variable (d : Dev nD) (L : grid0.Coords)

theorem aSplit (f : Buf (Elt F) ((tl d L).loc cc0_scoped0)) :
    ((tl d L).loc cc0_scoped0 ↦{fullShare} f : sProp 𝕄) ⊢ iprop(Slot d L (xs 0) ∗ Slot d L (xs 1)) := by
  have h : ((tl d L).loc cc0_scoped0 ↦{fullShare} f : sProp 𝕄)
      = bigSep Finset.univ fun p : Fin 2 => (tl d L).loc cc0_scoped0 ↦[(apart p).set]{fullShare} f := by
    rw [← pointsTo_biUnion Finset.univ (ℓ := (tl d L).loc cc0_scoped0) (fun p : Fin 2 => (apart p).set)
      (fun i _ j _ hij => Rect.part_disjoint adiv hij), Rect.biUnion_part adiv]
  rw [h, pair_eq]
  iintro ⟨H0, H1⟩
  isplitl [H0]
  · iexists f; rw [xs_set]; iexact H0
  · iexists f; rw [xs_set]; iexact H1

theorem bSplit (f : Buf (Elt F) ((tl d L).loc cc0_scoped2)) :
    ((tl d L).loc cc0_scoped2 ↦{fullShare} f : sProp 𝕄) ⊢ iprop(Slot d L (is 0) ∗ Slot d L (is 1)) := by
  have h : ((tl d L).loc cc0_scoped2 ↦{fullShare} f : sProp 𝕄)
      = bigSep Finset.univ fun p : Fin 2 => (tl d L).loc cc0_scoped2 ↦[(bpart p).set]{fullShare} f := by
    rw [← pointsTo_biUnion Finset.univ (ℓ := (tl d L).loc cc0_scoped2) (fun p : Fin 2 => (bpart p).set)
      (fun i _ j _ hij => Rect.part_disjoint bdiv hij), Rect.biUnion_part bdiv]
  rw [h, pair_eq]
  iintro ⟨H0, H1⟩
  isplitl [H0]
  · iexists f; rw [is_set]; iexact H0
  · iexists f; rw [is_set]; iexact H1

theorem aJoin : iprop(Slot d L (xs 0) ∗ Slot d L (xs 1)) ⊢ (iprop(∃ f, (tl d L).loc cc0_scoped0 ↦{fullShare} f) : sProp 𝕄) := by
  iintro ⟨⟨%f0, H0⟩, %f1, H1⟩
  have J := pointsTo_biUnion_join (ℓ := (tl d L).loc cc0_scoped0) (q := fullShare) (Val := Elt F) (Ix := HIx 1) (Name := ℕ) (U := UU) (Lvl := ℕ)
    (Finset.univ : Finset (Fin 2))
    (fun p : Fin 2 => (apart p).set) (fun p : Fin 2 => if p = 0 then f0 else f1) f0 (fun i _ j _ hij => Rect.part_disjoint adiv hij)
  rw [pair_eq] at J
  ihave H := J $$ [H0 H1]
  · isplitl [H0]
    · rw [← xs_set]; iexact H0
    · rw [← xs_set]; iexact H1
  icases H with ⟨%g, -, Hg⟩
  rw [Rect.biUnion_part adiv]
  iexists g; iexact Hg

theorem bJoin : iprop(Slot d L (is 0) ∗ Slot d L (is 1)) ⊢ (iprop(∃ f, (tl d L).loc cc0_scoped2 ↦{fullShare} f) : sProp 𝕄) := by
  iintro ⟨⟨%f0, H0⟩, %f1, H1⟩
  have J := pointsTo_biUnion_join (ℓ := (tl d L).loc cc0_scoped2) (q := fullShare) (Val := Elt F) (Ix := HIx 1) (Name := ℕ) (U := UU) (Lvl := ℕ)
    (Finset.univ : Finset (Fin 2))
    (fun p : Fin 2 => (bpart p).set) (fun p : Fin 2 => if p = 0 then f0 else f1) f0 (fun i _ j _ hij => Rect.part_disjoint bdiv hij)
  rw [pair_eq] at J
  ihave H := J $$ [H0 H1]
  · isplitl [H0]
    · rw [← is_set]; iexact H0
    · rw [← is_set]; iexact H1
  icases H with ⟨%g, -, Hg⟩
  rw [Rect.biUnion_part bdiv]
  iexists g; iexact Hg

/-! ## The subcore's own cells and scratch -/

abbrev cell (s : DmaSem sig) : GSem nD τ sig := ((tl d L), SemLoc.dma s)

theorem cell_ne {s s' : DmaSem sig} (h : s ≠ s') : cell d L s ≠ cell d L s' := by
  intro e
  have e' : SemLoc.dma s = (SemLoc.dma s' : SemLoc sig) := congrArg Prod.snd e
  injection e' with e''
  exact h e''

theorem cell_own (s : DmaSem sig) (h : (SemLoc.dma s : SemLoc sig).isScoped .scVector = true) : cell d L s ∈ ownCells (tl d L) :=
  (mem_ownCells (g := cell d L s)).mpr ⟨rfl, h⟩

/-- The cells that are none of the six the task counts on. -/
def otherCells : Finset (GSem nD τ sig) :=
  ((((((ownCells (tl d L)).erase (cell d L (xc 0))).erase (cell d L (xc 1))).erase (cell d L (ic 0))).erase (cell d L (ic 1))).erase
    (cell d L cc0_scoped4.sem)).erase (cell d L cc0_scoped5.sem)

theorem ownSems0_V :
    (ownSems0 (tl d L) : sProp 𝕄)
      = iprop(semVal (cell d L (xc 0)) 0 ∗ semVal (cell d L (xc 1)) 0 ∗ semVal (cell d L (ic 0)) 0 ∗ semVal (cell d L (ic 1)) 0
          ∗ semVal (cell d L cc0_scoped4.sem) 0 ∗ semVal (cell d L cc0_scoped5.sem) 0
          ∗ bigSep (otherCells d L) fun g => semVal g 0) := by
  have m0 := cell_own d L (xc 0) (by decide)
  have m1 := cell_own d L (xc 1) (by decide)
  have m2 := cell_own d L (ic 0) (by decide)
  have m3 := cell_own d L (ic 1) (by decide)
  have m4 := cell_own d L cc0_scoped4.sem (by decide)
  have m5 := cell_own d L cc0_scoped5.sem (by decide)
  have e10 := cell_ne d L (show xc 1 ≠ xc 0 by decide)
  have e20 := cell_ne d L (show ic 0 ≠ xc 0 by decide)
  have e21 := cell_ne d L (show ic 0 ≠ xc 1 by decide)
  have e30 := cell_ne d L (show ic 1 ≠ xc 0 by decide)
  have e31 := cell_ne d L (show ic 1 ≠ xc 1 by decide)
  have e32 := cell_ne d L (show ic 1 ≠ ic 0 by decide)
  have e40 := cell_ne d L (show cc0_scoped4.sem ≠ xc 0 by decide)
  have e41 := cell_ne d L (show cc0_scoped4.sem ≠ xc 1 by decide)
  have e42 := cell_ne d L (show cc0_scoped4.sem ≠ ic 0 by decide)
  have e43 := cell_ne d L (show cc0_scoped4.sem ≠ ic 1 by decide)
  have e50 := cell_ne d L (show cc0_scoped5.sem ≠ xc 0 by decide)
  have e51 := cell_ne d L (show cc0_scoped5.sem ≠ xc 1 by decide)
  have e52 := cell_ne d L (show cc0_scoped5.sem ≠ ic 0 by decide)
  have e53 := cell_ne d L (show cc0_scoped5.sem ≠ ic 1 by decide)
  have e54 := cell_ne d L (show cc0_scoped5.sem ≠ cc0_scoped4.sem by decide)
  unfold SparseCore.Cfg.ownSems0 otherCells
  rw [SparseCore.bigSep_erase' m0,
    SparseCore.bigSep_erase' (Finset.mem_erase.mpr ⟨e10, m1⟩),
    SparseCore.bigSep_erase' (Finset.mem_erase.mpr ⟨e21, Finset.mem_erase.mpr ⟨e20, m2⟩⟩),
    SparseCore.bigSep_erase' (Finset.mem_erase.mpr ⟨e32, Finset.mem_erase.mpr ⟨e31, Finset.mem_erase.mpr ⟨e30, m3⟩⟩⟩),
    SparseCore.bigSep_erase' (Finset.mem_erase.mpr ⟨e43, Finset.mem_erase.mpr ⟨e42, Finset.mem_erase.mpr ⟨e41, Finset.mem_erase.mpr ⟨e40, m4⟩⟩⟩⟩),
    SparseCore.bigSep_erase' (Finset.mem_erase.mpr ⟨e54, Finset.mem_erase.mpr ⟨e53, Finset.mem_erase.mpr ⟨e52, Finset.mem_erase.mpr ⟨e51,
      Finset.mem_erase.mpr ⟨e50, m5⟩⟩⟩⟩⟩)]

/-- The two scratches are among the subcore's own buffers. -/
theorem ownBufs_V :
    (ownBufs (tl d L) : sProp 𝕄)
      = iprop((∃ f, (tl d L).loc cc0_scoped0 ↦{fullShare} f) ∗ (∃ f, (tl d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end

/-! ## The task -/

section

variable [FloatOps F] (d : Dev nD) (L : grid0.Coords) (q : PosShare TreeShare) (X : Buf (Elt F) (xLoc d)) (Y : Buf (Elt F) (iLoc d))

set_option maxHeartbeats 4000000 in
/-- The task on vector subcore `(L 0, L 1)`: window 0's two fetches started into slot 0, the sixteen trips, and the rows
    the subcore's indices name holding its rows of `X`. -/
theorem tile_body (hF : (K (F := F)).Facts) (hY : Distinct Y) (O : CellTallies nD τ sig (HIx 1)) (W : Waits sig (HIx 1)) (hO : ∀ g, O g none = 0) :
    iprop(levAts (K (F := F)).L (K (F := F)).lev ∗ emp
        ∗ ((xLoc d ↦{q} X) ∗ (iLoc d ↦{q} Y) ∗ ∃ f : Buf (Elt F) (oLoc d), oLoc d ↦[tileSet L Y]{fullShare} f)
        ∗ scopedBufs (tl d L) ∗ scopedSems0 (tl d L) ∗ owes (tl d L) O W)
      ⊢ wp (M := 𝕄) frame (wpE (defs₀ (F := F)) 𝒱₀ (tl d L) none) Set.univ
          (cc0_scatter_kernel L xV (Memref.isWhole_whole _) iV (Memref.isWhole_whole _) oV (Memref.isWhole_whole _)
            aV (Memref.isWhole_whole _) cc0_scoped1 bV (Memref.isWhole_whole _) cc0_scoped3 cc0_scoped4 cc0_scoped5)
          fun _ => iprop(((xLoc d ↦{q} X) ∗ (iLoc d ↦{q} Y) ∗ ∃ f, ⌜Good L X Y 16 f⌝ ∗ oLoc d ↦[tileSet L Y]{fullShare} f)
            ∗ scopedBufs (tl d L) ∗ scopedSems0 (tl d L)
            ∗ ∃ W', ⌜∀ p ∈ W', p ∈ W ∨ p.2 = none⌝ ∗ owes (tl d L) O W') := by
  simp only [cc0_scatter_kernel_eq_skeleton]; unfold cc0_scatter_kernel_skel
  simp only [k0_part5_eq_skeleton, k0_part6_eq_skeleton]; unfold k0_part5_skel k0_part6_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fa, Ha⟩, ⟨%fb, Hb⟩, Hbufs⟩, ⟨Hx0, Hx1, Hi0, Hi1, Hc4, Hc5, Hsems⟩, HO⟩
  ihave #Hmw := (show (levAts (K (F := F)).L (K (F := F)).lev : sProp 𝕄) ⊢ Transfers.MayWaits (tl d L) (default : HIx 1) O from
    (K (F := F)).mayWaits_none (thr := tl d L) hO) $$ Hlv
  ihave Ha' := (aSplit d L fa) $$ Ha
  icases Ha' with ⟨Ha0, Ha1⟩
  ihave Hb' := (bSplit d L fb) $$ Hb
  icases Hb' with ⟨Hb0, Hb1⟩
  ihave Hx' := (halves Finset.univ q X 0 1 (by decide)).1 $$ Hx
  icases Hx' with ⟨HxA, HxB⟩
  ihave Hi' := (halves Finset.univ q Y 0 1 (by decide)).1 $$ Hi
  icases Hi' with ⟨HiA, HiB⟩
  simp only [wp_bind, wp_ret, wp_pure]
  repeat imodintro
  iapply (fetchX d L 0 0 (by decide) (by decide) (off2_ok L) (half q 0) X) $$ [HxA Ha0 Hx0]
  · isplitl [HxA]; · iexact HxA
    isplitl [Ha0] <;> iassumption
  iintro HcX
  repeat imodintro
  iapply (fetchI d L 0 0 (by decide) (by decide) (off5_ok L) (half q 0) Y) $$ [HiA Hb0 Hi0]
  · isplitl [HiA]; · iexact HiA
    isplitl [Hb0] <;> iassumption
  iintro HcI
  repeat imodintro
  iapply (Scf.wp_for frame (wpE (defs₀ (F := F)) 𝒱₀ (tl d L) none) Set.univ _ _ _ _ _ _
    (fun t acc => iprop(Transfers.MayWaits (tl d L) (default : HIx 1) O ∗ Inv d L q X Y O W t acc))
    (fun t acc => trip d L q X Y O W hY t _ _ _ acc))
  isplitl [HcX HcI HxB HiB Ha1 Hb1 Hx1 Hi1 Hc4 Hc5 HO Ho]
  · isplitr; · iexact Hmw
    unfold Inv Rest
    isplitr; · ipureintro; decide
    isplitl [HcX HcI]
    · iapply (Entails.of_eq (Filling_of_lt d L q X Y (p := 0) (t := 0) (by omega)).symm)
      isplitl [HcX] <;> iassumption
    isplitl [HxB HiB Ha1 Hb1 Hx1 Hi1]
    · iapply (Entails.of_eq (Idle_eq d L q X Y 1).symm)
      isplitl [HxB Ha1 Hx1]
      · isplitl [HxB]; · iexact HxB
        isplitl [Ha1] <;> iassumption
      · isplitl [HiB]; · iexact HiB
        isplitl [Hb1] <;> iassumption
    isplitl [Ho]
    · icases Ho with ⟨%f, Ho⟩
      iexists f; isplitr; · ipureintro; exact Good.zero L X Y f
      iexact Ho
    isplitl [Hc4]; · iexact Hc4
    isplitl [Hc5]; · iexact Hc5
    iexists W; isplitr; · ipureintro; exact fun p hp => .inl hp
    iexact HO
  iintro %acc ⟨-, HInv⟩
  ihave HInv' := (show Inv d L q X Y O W (Scf.trips k0_t1_loop.lb k0_t1_loop.ub k0_t1_loop.st) acc ⊢ iprop(⌜acc = words 16⌝ ∗ Idle d L q X Y 0 ∗ Idle d L q X Y 1
    ∗ (∃ f, ⌜Good L X Y 16 f⌝ ∗ oLoc d ↦[tileSet L Y]{fullShare} f) ∗ Rest d L O W) from by
      rw [show Scf.trips k0_t1_loop.lb k0_t1_loop.ub k0_t1_loop.st = 16 by decide]; unfold Inv; rw [Filling_of_ge d L q X Y (by omega)]; exact .rfl) $$ HInv
  unfold Rest
  icases HInv' with ⟨-, HA, HB, Ho, Hc4, Hc5, HW⟩
  ihave HA' := (Entails.of_eq (Idle_eq d L q X Y 0)) $$ HA
  ihave HB' := (Entails.of_eq (Idle_eq d L q X Y 1)) $$ HB
  icases HA' with ⟨⟨HxA, Ha0, Hx0⟩, HiA, Hb0, Hi0⟩
  icases HB' with ⟨⟨HxB, Ha1, Hx1⟩, HiB, Hb1, Hi1⟩
  repeat imodintro
  isplitl [HxA HxB HiA HiB Ho]
  · isplitl [HxA HxB]
    · iapply (halves Finset.univ q X 0 1 (by decide)).2
      isplitl [HxA] <;> iassumption
    isplitl [HiA HiB]
    · iapply (halves Finset.univ q Y 0 1 (by decide)).2
      isplitl [HiA] <;> iassumption
    iexact Ho
  isplitl [Ha0 Ha1 Hb0 Hb1 Hbufs]
  · isplitl [Ha0 Ha1]
    · iapply (aJoin d L)
      isplitl [Ha0] <;> iassumption
    isplitl [Hb0 Hb1]
    · iapply (bJoin d L)
      isplitl [Hb0] <;> iassumption
    iexact Hbufs
  isplitl [Hx0 Hx1 Hi0 Hi1 Hc4 Hc5 Hsems]
  · isplitl [Hx0]; · iexact Hx0
    isplitl [Hx1]; · iexact Hx1
    isplitl [Hi0]; · iexact Hi0
    isplitl [Hi1]; · iexact Hi1
    isplitl [Hc4]; · iexact Hc4
    isplitl [Hc5]; · iexact Hc5
    iexact Hsems
  iexact HW

end

end Cert.Proof.Dispatch

end
-- ==== Proof.Launch.lean ====
/-
  The launch: the rows the target's tiles own dealt to the two cores and to their sixteen subcores and joined again, the
  read shares dealt likewise, `main` around the call, and its run.
-/
module

public import proofs.«01_k».proof.Proof.Tile

@[expose] public section

noncomputable section

namespace Cert.Proof.Dispatch

open Cert.KernelIdeal Cert.KernelIdeal.Gen Cert.Proof.Words

open Idealize.ShloMosaic Idealize.ShloMosaic.ValueIdx
open Idealize.ShloMosaic.SparseCore (S V T bigSep_insert' bigSep_erase')
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tiles' rows -/

/-- Subcore `i` of core `c`, as the launch's grid numbers it. -/
def coords (c : Fin (grid0.bound 0)) (i : Fin (grid0.bound 1)) : grid0.Coords :=
  fun | 0 => c | 1 => i | ⟨_ + 2, h⟩ => absurd h (Nat.not_lt.2 (Nat.le_add_left _ _))

section Sets

variable (X : S32768x256.Idx → BitVec 32) (Y : S1x65536.Idx → BitVec 32)

abbrev tiles (c : Fin 2) (i : Fin 16) : Finset S81920x256.Idx := tileSet (coords c i) Y
/-- The rows of a core's tiles; the rows of all tiles. -/
def cores (c : Fin 2) : Finset S81920x256.Idx := Finset.univ.biUnion (tiles Y c)
def named : Finset S81920x256.Idx := Finset.univ.biUnion (cores Y)

variable {Y}

theorem tiles_eq (hY : Distinct Y) {c c' : Fin 2} {i i' : Fin 16} {x : S81920x256.Idx} (h : x ∈ tiles Y c i) (h' : x ∈ tiles Y c' i') :
    c = c' ∧ i = i' := by
  obtain ⟨n, hn, e⟩ := (mem_tileSet _ _ _).1 h
  obtain ⟨n', hn', e'⟩ := (mem_tileSet _ _ _).1 h'
  have := congrArg Fin.val (hY.2 _ _ (e.symm.trans e'))
  have : 2048 * i.val + 32768 * c.val + n = 2048 * i'.val + 32768 * c'.val + n' := this
  exact ⟨Fin.ext (by omega), Fin.ext (by omega)⟩

theorem tiles_disjoint (hY : Distinct Y) (c : Fin 2) :
    ∀ i ∈ (Finset.univ : Finset (Fin 16)), ∀ i' ∈ (Finset.univ : Finset (Fin 16)), i ≠ i' → Disjoint (tiles Y c i) (tiles Y c i') :=
  fun _ _ _ _ h => Finset.disjoint_left.2 fun _ hx hx' => h (tiles_eq hY hx hx').2
theorem cores_disjoint (hY : Distinct Y) :
    ∀ c ∈ (Finset.univ : Finset (Fin 2)), ∀ c' ∈ (Finset.univ : Finset (Fin 2)), c ≠ c' → Disjoint (cores Y c) (cores Y c') := by
  intro c _ c' _ h
  refine Finset.disjoint_left.2 fun x hx hx' => ?_
  obtain ⟨i, -, hi⟩ := Finset.mem_biUnion.1 hx
  obtain ⟨i', -, hi'⟩ := Finset.mem_biUnion.1 hx'
  exact h (tiles_eq hY hi hi').1

variable {X}

theorem Good.congr {L : grid0.Coords} {f g : S81920x256.Idx → BitVec 32} (hfg : ∀ x ∈ tileSet L Y, g x = f x) (h : Good L X Y 16 f) :
    Good L X Y 16 g :=
  fun n hn hlt x hx => (hfg x ((mem_tileSet _ _ _).2 ⟨n, hn, hx⟩)).trans (h n hn hlt x hx)

end Sets

theorem at_some {ℓ : Loc nD τ sig} {A : Finset (Idx ℓ)} (f : Buf (Elt F) ℓ) :
    (ℓ ↦[A]{fullShare} f : sProp 𝕄) ⊢ iprop(∃ f : Buf (Elt F) ℓ, ℓ ↦[A]{fullShare} f) := by
  iintro H; iexists f; iexact H

/-- Pieces of one array, each at contents of which something is known there, are their union at contents of which all of
    it is known. -/
theorem join_known {I : Type} [DecidableEq I] {ℓ : Loc nD τ sig} (A : I → Finset (Idx ℓ)) (G : I → Buf (Elt F) ℓ → Prop)
    (hG : ∀ i f g, (∀ x ∈ A i, g x = f x) → G i f → G i g) (f₀ : Buf (Elt F) ℓ) (s : Finset I)
    (hd : ∀ i ∈ s, ∀ i' ∈ s, i ≠ i' → Disjoint (A i) (A i')) :
    (bigSep s fun i => iprop(∃ f, ⌜G i f⌝ ∗ ℓ ↦[A i]{fullShare} f))
      ⊢ (iprop(∃ g, ⌜∀ i ∈ s, G i g⌝ ∗ ℓ ↦[s.biUnion A]{fullShare} g) : sProp 𝕄) := by
  induction s using Finset.induction_on with
  | empty =>
    rw [bigSep_empty, Finset.biUnion_empty]
    iintro -
    iexists f₀
    isplitr
    · ipureintro; exact fun i hi => absurd hi (Finset.notMem_empty i)
    rw [pointsTo_empty]; iempintro
  | insert a s ha ih =>
    rw [bigSep_insert' ha, Finset.biUnion_insert]
    iintro ⟨⟨%f, %hf, H⟩, Hs⟩
    ihave Hs' := (ih fun i hi i' hi' => hd i (Finset.mem_insert_of_mem hi) i' (Finset.mem_insert_of_mem hi')) $$ Hs
    icases Hs' with ⟨%g, %hg, Hg⟩
    have hda : ∀ i ∈ s, Disjoint (A a) (A i) := fun i hi =>
      hd a (Finset.mem_insert_self a s) i (Finset.mem_insert_of_mem hi) fun e => ha (e ▸ hi)
    iexists (s.biUnion A).piecewise g f
    isplitr
    · ipureintro
      intro i hi
      rcases Finset.mem_insert.1 hi with rfl | hi
      · exact hG _ f _ (fun x hx => Finset.piecewise_eq_of_notMem _ _ _ fun hx' => by
          obtain ⟨j, hj, hxj⟩ := Finset.mem_biUnion.1 hx'
          exact Finset.disjoint_left.1 (hda j hj) hx hxj) hf
      · exact hG i g _ (fun x hx => Finset.piecewise_eq_of_mem _ _ _ (Finset.mem_biUnion.2 ⟨i, hi, hx⟩)) (hg i hi)
    iapply (pointsTo_join (Finset.disjoint_biUnion_right _ _ _ |>.2 hda))
    isplitl [H] <;> iassumption

/-! ## What the handshakes carry -/

section Carry

variable (m : (ℓ : Loc nD τ sig) → Buf (Elt F) ℓ) (ρ : Dev nD → PrngReg)

/-- The rows, and the indices as the call reads them. -/
abbrev X (d : Dev nD) : Buf (Elt F) (xLoc d) := m (xLoc d)
def Y (d : Dev nD) : Buf (Elt F) (iLoc d) := shapeCast S1x65536 (m (pLoc d)) shapeCasts_S65536_S1x65536

abbrev cq (c : Fin 2) : PosShare TreeShare := deal 1 fullShare c
abbrev tq (c : Fin 2) (i : Fin 16) : PosShare TreeShare := deal 15 (cq c) i

theorem nCore_zero : (K (F := F)).nCore 0 = 2 := rfl
theorem nSub_zero : (K (F := F)).nSub 0 = 16 := rfl

abbrev St (d : Dev nD) (c : Fin 2) : sProp 𝕄 :=
  iprop((xLoc d ↦{cq c} X m d) ∗ (iLoc d ↦{cq c} Y m d) ∗ ∃ f : Buf (Elt F) (oLoc d), oLoc d ↦[cores (Y m d) c]{fullShare} f)
abbrev Dn (d : Dev nD) (c : Fin 2) : sProp 𝕄 :=
  iprop((xLoc d ↦{cq c} X m d) ∗ (iLoc d ↦{cq c} Y m d)
    ∗ ∃ f : Buf (Elt F) (oLoc d), ⌜∀ i : Fin 16, Good (coords c i) (X m d) (Y m d) 16 f⌝ ∗ oLoc d ↦[cores (Y m d) c]{fullShare} f)
abbrev Go (d : Dev nD) (c : Fin 2) (i : Fin 16) : sProp 𝕄 :=
  iprop((xLoc d ↦{tq c i} X m d) ∗ (iLoc d ↦{tq c i} Y m d) ∗ ∃ f : Buf (Elt F) (oLoc d), oLoc d ↦[tiles (Y m d) c i]{fullShare} f)
abbrev Td (d : Dev nD) (c : Fin 2) (i : Fin 16) : sProp 𝕄 :=
  iprop((xLoc d ↦{tq c i} X m d) ∗ (iLoc d ↦{tq c i} Y m d)
    ∗ ∃ f : Buf (Elt F) (oLoc d), ⌜Good (coords c i) (X m d) (Y m d) 16 f⌝ ∗ oLoc d ↦[tiles (Y m d) c i]{fullShare} f)

def P : (K (F := F)).Pay (nD := nD) (Val := Elt F) (Name := ℕ) (U := UU) where
  st := fun q d c => match q with | 0 => St m d (Fin.cast nCore_zero c)
  dn := fun q d c => match q with | 0 => Dn m d (Fin.cast nCore_zero c)
  go := fun q d c i => match q with | 0 => Go m d (Fin.cast nCore_zero c) (Fin.cast nSub_zero i)
  td := fun q d c i => match q with | 0 => Td m d (Fin.cast nCore_zero c) (Fin.cast nSub_zero i)
  x := fun _ _ => iprop(emp)

instance P_storable : (P (F := F) m).IsStorable where
  st q d c := match q with
    | 0 => (inferInstance : BI.Storable (upEmb : UEmb _ 𝕄) (St m d (Fin.cast nCore_zero c)))
  dn q d c := match q with
    | 0 => (inferInstance : BI.Storable (upEmb : UEmb _ 𝕄) (Dn m d (Fin.cast nCore_zero c)))
  go q d c i := match q with
    | 0 => (inferInstance : BI.Storable (upEmb : UEmb _ 𝕄) (Go m d (Fin.cast nCore_zero c) (Fin.cast nSub_zero i)))
  td q d c i := match q with
    | 0 => (inferInstance : BI.Storable (upEmb : UEmb _ 𝕄) (Td m d (Fin.cast nCore_zero c) (Fin.cast nSub_zero i)))

/-- What the proof asks of the launch memory. -/
def PreOK : Prop := ∀ d : Dev nD, Distinct (Y m d)

/-! ## The task on a subcore, as the launch asks it -/

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

theorem defs₀_vector (c : Fin τ.nSC) (s : Fin τ.nSub) :
    defs₀ (F := F) (.scVector c s) 0 ()
      = SparseCore.onTile hcore0 hsub0 (fun c s => cc0_scatter_kernel (coords c s)
          xV (Memref.isWhole_whole _) iV (Memref.isWhole_whole _) oV (Memref.isWhole_whole _)
          aV (Memref.isWhole_whole _) cc0_scoped1 bV (Memref.isWhole_whole _) cc0_scoped3 cc0_scoped4 cc0_scoped5) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coords ⟨_, hci.1⟩ ⟨_, hci.2⟩) (tq (Fin.cast nCore_zero c) (Fin.cast nSub_zero i)) (X m d) (Y m d) hF (hpre d) O W hO).trans
    (wp_mono frame _ _ fun _ => obl_post)

/-! ## A core's share split among its subcores and joined -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

omit [FloatOps F] in
theorem rows_split {hY : PreOK m} (d : Dev nD) (c : Fin 2) (f : Buf (Elt F) (oLoc d)) :
    (oLoc d ↦[cores (Y m d) c]{fullShare} f : sProp 𝕄)
      ⊢ bigSep Finset.univ fun i : Fin 16 => iprop(∃ f : Buf (Elt F) (oLoc d), oLoc d ↦[tiles (Y m d) c i]{fullShare} f) := by
  unfold cores
  rw [pointsTo_biUnion Finset.univ (ℓ := oLoc d) (tiles (Y m d) c) (tiles_disjoint (hY d) c)]
  exact bigSep_mono fun i _ => at_some f

theorem vecSplit (hY : PreOK m) : (K (F := F)).VecSplit' (P m) 0 := by
  intro d c
  show St m d (Fin.cast nCore_zero c) ⊢ |={Set.univ}=> iprop(
      (bigSep Finset.univ fun i : Fin ((K (F := F)).nSub 0) => Go m d (Fin.cast nCore_zero c) (Fin.cast nSub_zero i))
      ∗ ((bigSep Finset.univ fun i : Fin ((K (F := F)).nSub 0) => Td m d (Fin.cast nCore_zero c) (Fin.cast nSub_zero i))
          -∗ Dn m d (Fin.cast nCore_zero c)))
  generalize Fin.cast nCore_zero c = c
  rw [bigSep_tasks (F := F) (fun i => Go m d c i), bigSep_tasks (F := F) (fun i => Td m d c i)]
  unfold Go Td St Dn
  rw [bigSep_sep', bigSep_sep', bigSep_sep', bigSep_sep', ← deal_eq 15 (cq c) (xLoc d) Finset.univ (X m d),
    ← deal_eq 15 (cq c) (iLoc d) Finset.univ (Y m d)]
  iintro ⟨Hx, Hi, %f, Ho⟩
  imodintro
  isplitl [Hx Hi Ho]
  · isplitl [Hx]; · iexact Hx
    isplitl [Hi]; · iexact Hi
    iapply (rows_split m (hY := hY) d c f); iexact Ho
  iintro ⟨Hx, Hi, Ho⟩
  isplitl [Hx]; · iexact Hx
  isplitl [Hi]; · iexact Hi
  ihave Ho' := (join_known (ℓ := oLoc d) (tiles (Y m d) c) (fun i f => Good (coords c i) (X m d) (Y m d) 16 f)
    (fun i f g h => Good.congr h) (m (oLoc d)) Finset.univ (tiles_disjoint (hY d) c)) $$ Ho
  icases Ho' with ⟨%g, %hg, Hg⟩
  iexists g; isplitr
  · ipureintro; exact fun i => hg i (Finset.mem_univ i)
  unfold cores; iexact Hg

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The call, from the TensorCore's side -/

omit [FloatOps F] in
theorem st0_intro (hY : PreOK m) (d : Dev nD) (f : Buf (Elt F) (oLoc d)) :
    iprop((xLoc d ↦{fullShare} X m d) ∗ (iLoc d ↦{fullShare} Y m d) ∗ (oLoc d ↦{fullShare} f))
      ⊢ (iprop((bigSep Finset.univ fun c : Fin ((K (F := F)).nCore 0) => (P m).st 0 d c)
        ∗ oLoc d ↦[Finset.univ \ named (Y m d)]{fullShare} f) : sProp 𝕄) := by
  show _ ⊢ iprop((bigSep Finset.univ fun c : Fin ((K (F := F)).nCore 0) => St m d (Fin.cast nCore_zero c)) ∗ _)
  rw [bigSep_cores (F := F) (fun c => St m d c)]
  unfold St
  rw [bigSep_sep', bigSep_sep', ← deal_eq 1 fullShare (xLoc d) Finset.univ (X m d), ← deal_eq 1 fullShare (iLoc d) Finset.univ (Y m d)]
  iintro ⟨Hx, Hi, Ho⟩
  ihave Ho' := (pointsTo_split_subset (q := fullShare) (f := f) (S := Finset.univ) (Finset.subset_univ (named (Y m d)))).1 $$ Ho
  icases Ho' with ⟨Ho, Hr⟩
  isplitr [Hr]
  · isplitl [Hx]; · iexact Hx
    isplitl [Hi]; · iexact Hi
    iapply (show (oLoc d ↦[named (Y m d)]{fullShare} f : sProp 𝕄)
      ⊢ bigSep Finset.univ fun c : Fin 2 => iprop(∃ f : Buf (Elt F) (oLoc d), oLoc d ↦[cores (Y m d) c]{fullShare} f) from by
        unfold named
        rw [pointsTo_biUnion Finset.univ (ℓ := oLoc d) (cores (Y m d)) (cores_disjoint (hY d))]
        exact bigSep_mono fun i _ => at_some f)
    iexact Ho
  iexact Hr

omit [FloatOps F] in
theorem dn0_elim (hY : PreOK m) (d : Dev nD) (f : Buf (Elt F) (oLoc d)) :
    iprop((bigSep Finset.univ fun c : Fin ((K (F := F)).nCore 0) => (P m).dn 0 d c) ∗ oLoc d ↦[Finset.univ \ named (Y m d)]{fullShare} f)
      ⊢ (iprop((xLoc d ↦{fullShare} X m d) ∗ (iLoc d ↦{fullShare} Y m d)
        ∗ ∃ g : Buf (Elt F) (oLoc d), ⌜∀ (c : Fin 2) (i : Fin 16), Good (coords c i) (X m d) (Y m d) 16 g⌝ ∗ oLoc d ↦{fullShare} g) : sProp 𝕄) := by
  show iprop((bigSep Finset.univ fun c : Fin ((K (F := F)).nCore 0) => Dn m d (Fin.cast nCore_zero c)) ∗ _) ⊢ _
  rw [bigSep_cores (F := F) (fun c => Dn m d c)]
  unfold Dn
  rw [bigSep_sep', bigSep_sep', ← deal_eq 1 fullShare (xLoc d) Finset.univ (X m d), ← deal_eq 1 fullShare (iLoc d) Finset.univ (Y m d)]
  iintro ⟨⟨Hx, Hi, Ho⟩, Hr⟩
  isplitl [Hx]; · iexact Hx
  isplitl [Hi]; · iexact Hi
  ihave Ho' := (join_known (ℓ := oLoc d) (cores (Y m d)) (fun c f => ∀ i : Fin 16, Good (coords c i) (X m d) (Y m d) 16 f)
    (fun c f g h hf i => Good.congr (fun x hx => h x (Finset.mem_biUnion.2 ⟨i, Finset.mem_univ i, hx⟩)) (hf i)) (m (oLoc d)) Finset.univ
    (cores_disjoint (hY d))) $$ Ho
  icases Ho' with ⟨%g, %hg, Hg⟩
  iexists (named (Y m d)).piecewise g f
  isplitr
  · ipureintro
    exact fun c i => Good.congr (fun x hx => Finset.piecewise_eq_of_mem _ _ _
      (Finset.mem_biUnion.2 ⟨c, Finset.mem_univ c, Finset.mem_biUnion.2 ⟨i, Finset.mem_univ i, hx⟩⟩)) (hg c (Finset.mem_univ c) i)
  iapply (pointsTo_join_subset (Finset.subset_univ (named (Y m d))))
  isplitl [Hg]
  · unfold named; iexact Hg
  iexact Hr

end Carry

end Cert.Proof.Dispatch

end
-- ==== Proof.Main.lean ====
/-
  `main` around the call: the indices laid out as one row, the call, and the rows read back at the indices; and the run.
-/
module

public import proofs.«01_k».proof.Proof.Launch

@[expose] public section

noncomputable section

namespace Cert.Proof.Dispatch

open Cert.KernelIdeal Cert.KernelIdeal.Gen Cert.Proof.Words

open Idealize.ShloMosaic Idealize.ShloMosaic.ValueIdx
open Idealize.ShloMosaic.SparseCore (S V T bigSep_insert' bigSep_erase')
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

abbrev rLoc (d : Dev nD) : Loc nD τ sig := (SparseCore.T d).loc main_v8

/-- The operations before the call and those after it. -/
abbrev ops0 : List (HloOp τ sig (Elt F)) :=
  [ reshape main_arg1 main_v0 (rfl : (.i32 : EltTy) = .i32) shapeCasts_S65536_S1x65536 ]
abbrev ops1 : List (HloOp τ sig (Elt F)) :=
  [ nullary main_c (constantI S_ 32 0#32),
    unary main_c main_v2 (broadcastInDim S65536 ![] bcast_S_S65536 : (⟨S_, .i32⟩ : BufTy).Contents (Elt F) → (⟨S65536, .i32⟩ : BufTy).Contents (Elt F)),
    binary main_arg1 main_v2 main_v3 (cmpi .slt : (⟨S65536, .i32⟩ : BufTy).Contents (Elt F) → (⟨S65536, .i32⟩ : BufTy).Contents (Elt F) → (⟨S65536, .i1⟩ : BufTy).Contents (Elt F)),
    nullary main_c_0 (constantI S_ 32 81920#32),
    unary main_c_0 main_v4 (broadcastInDim S65536 ![] bcast_S_S65536 : (⟨S_, .i32⟩ : BufTy).Contents (Elt F) → (⟨S65536, .i32⟩ : BufTy).Contents (Elt F)),
    binary main_arg1 main_v4 main_v5 (addi : (⟨S65536, .i32⟩ : BufTy).Contents (Elt F) → (⟨S65536, .i32⟩ : BufTy).Contents (Elt F) → (⟨S65536, .i32⟩ : BufTy).Contents (Elt F)),
    ternary main_v3 main_v5 main_arg1 main_v6 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v6 main_v7 (broadcastInDim S65536x1 ![0] bcast_S65536_S65536x1_0 : (⟨S65536, .i32⟩ : BufTy).Contents (Elt F) → (⟨S65536x1, .i32⟩ : BufTy).Contents (Elt F)),
    binary main_v1 main_v7 main_v8 ((fun x i => Host.gather gather_S81920x256_S65536x1_S65536x256_1_0_n_n_0_1_1256 x i) : (⟨S81920x256, .i32⟩ : BufTy).Contents (Elt F) → (⟨S65536x1, .i32⟩ : BufTy).Contents (Elt F) → (⟨S65536x256, .i32⟩ : BufTy).Contents (Elt F)) ]

/-- The rows of `g` read back at the indices `p`, as the operations after the call do it. -/
def res (g : S81920x256.Idx → BitVec 32) (p : S65536.Idx → BitVec 32) : S65536x256.Idx → BitVec 32 :=
  Host.gather gather_S81920x256_S65536x1_S65536x256_1_0_n_n_0_1_1256 g
    (broadcastInDim S65536x1 ![0] bcast_S65536_S65536x1_0
      (select (cmpi .slt p (broadcastInDim S65536 ![] bcast_S_S65536 (constantI S_ 32 0#32)))
        (addi p (broadcastInDim S65536 ![] bcast_S_S65536 (constantI S_ 32 81920#32))) p))

abbrev x' : DevRef τ sig := Proc.devRef .tc (main_arg0 : Ref sig .tc)
abbrev p' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v8 : Ref sig .tc)

/-- The TensorCore's arrays at the launch, before the call, after it, and at the end. -/
def V0 (d : Dev nD) : Valuation τ sig (Elt F) := fun b => m (d, b)
def V1 (d : Dev nD) : Valuation τ sig (Elt F) := after ops0 (V0 m d)
def V2 (d : Dev nD) (g : Buf (Elt F) (oLoc d)) : Valuation τ sig (Elt F) := Function.update (V1 m d) o' g
def V3 (d : Dev nD) (g : Buf (Elt F) (oLoc d)) : Valuation τ sig (Elt F) := after ops1 (V2 m d g)

theorem V1_x (d : Dev nD) : V1 m d x' = X m d := by unfold V1; after_results; rfl
theorem V1_p (d : Dev nD) : V1 m d p' = m (pLoc d) := by unfold V1; after_results; rfl
theorem V1_i (d : Dev nD) : V1 m d i' = Y m d := by unfold V1; after_results; rfl
theorem V2_o (d : Dev nD) (g : Buf (Elt F) (oLoc d)) : V2 m d g o' = g := Function.update_self _ _ _
theorem V2_ne (d : Dev nD) (g : Buf (Elt F) (oLoc d)) {b : DevRef τ sig} (h : b ≠ o') : V2 m d g b = V1 m d b :=
  Function.update_of_ne h _ _
theorem V3_x (d : Dev nD) (g : Buf (Elt F) (oLoc d)) : V3 m d g x' = X m d := by
  unfold V3; after_results; exact (V2_ne m d g (by decide)).trans (V1_x m d)
theorem V3_p (d : Dev nD) (g : Buf (Elt F) (oLoc d)) : V3 m d g p' = m (pLoc d) := by
  unfold V3; after_results; exact (V2_ne m d g (by decide)).trans (V1_p m d)
theorem V3_r (d : Dev nD) (g : Buf (Elt F) (oLoc d)) : V3 m d g r' = res g (m (pLoc d)) := by
  have e : V2 m d g p' = m (pLoc d) := (V2_ne m d g (by decide)).trans (V1_p m d)
  unfold V3; after_results
  rw [V2_o, e]
  rfl

theorem tc_unscoped : ∀ b : Ref sig .tc, ¬ b.isScoped := by decide

theorem unscoped_held (d : Dev nD) :
    (unscopedBufs d (fun b => m ((SparseCore.T d).loc b)) : sProp 𝕄) = held (d.tc : Thread nD τ) (tcRefs τ sig) (V0 m d) := by
  unfold unscopedBufs held tcRefs
  rw [Finset.filter_true_of_mem fun b _ => tc_unscoped b, SparseCore.bigSep_map]
  rfl

/-- The three arrays the call takes, and the others. -/
theorem held_call (d : Dev nD) (W : Valuation τ sig (Elt F)) :
    (held (d.tc : Thread nD τ) (tcRefs τ sig) W : sProp 𝕄)
      = iprop((xLoc d ↦{fullShare} W x') ∗ (iLoc d ↦{fullShare} W i') ∗ (oLoc d ↦{fullShare} W o')
          ∗ held (d.tc : Thread nD τ) (((tcRefs τ sig).erase x').erase i' |>.erase o') W) := by
  unfold held
  rw [bigSep_erase' (devRef_mem_tcRefs main_arg0),
    bigSep_erase' (Finset.mem_erase.2 ⟨by decide, devRef_mem_tcRefs main_v0⟩),
    bigSep_erase' (Finset.mem_erase.2 ⟨by decide, Finset.mem_erase.2 ⟨by decide, devRef_mem_tcRefs main_v1⟩⟩)]
theorem held_end (d : Dev nD) (W : Valuation τ sig (Elt F)) :
    (held (d.tc : Thread nD τ) (tcRefs τ sig) W : sProp 𝕄)
      = iprop((xLoc d ↦{fullShare} W x') ∗ (pLoc d ↦{fullShare} W p') ∗ (rLoc d ↦{fullShare} W r')
          ∗ held (d.tc : Thread nD τ) (((tcRefs τ sig).erase x').erase p' |>.erase r') W) := by
  unfold held
  rw [bigSep_erase' (devRef_mem_tcRefs main_arg0),
    bigSep_erase' (Finset.mem_erase.2 ⟨by decide, devRef_mem_tcRefs main_arg1⟩),
    bigSep_erase' (Finset.mem_erase.2 ⟨by decide, Finset.mem_erase.2 ⟨by decide, devRef_mem_tcRefs main_v8⟩⟩)]

theorem ops0_sub : ∀ op ∈ (ops0 : List (HloOp τ sig (Elt F))), op.bufs ⊆ tcRefs τ sig := by
  refine List.forall_iff_forall_mem.1 ?_
  simp [List.Forall]
theorem ops1_sub : ∀ op ∈ (ops1 : List (HloOp τ sig (Elt F))), op.bufs ⊆ tcRefs τ sig := by
  refine List.forall_iff_forall_mem.1 ?_
  simp [List.Forall]
theorem ops0_fresh : ∀ op ∈ (ops0 : List (HloOp τ sig (Elt F))), op.fresh = ∅ := by
  refine List.forall_iff_forall_mem.1 ?_
  rfl
theorem ops1_fresh : ∀ op ∈ (ops1 : List (HloOp τ sig (Elt F))), op.fresh = ∅ := by
  refine List.forall_iff_forall_mem.1 ?_
  simp only [List.Forall]
  refine ⟨?_, ?_, ?_, ?_, ?_, ?_, ?_, ?_, ?_⟩ <;> rfl

variable [FloatOps F]

theorem main_eq (d : Dev nD) : main (F := F) d
    = seq ops0 >>= fun _ => (K (F := F)).run d 0 >>= fun _ => seq ops1 >>= fun _ => pure ⟨⟩ := rfl

/-- What `main` leaves the claims: the rows and the indices as they were, the result read back from rows where the
    indices put them. -/
def Fin0 (d : Dev nD) (r : Buf (Elt F) (rLoc d)) : Prop :=
  ∃ g : S81920x256.Idx → BitVec 32, (∀ (c : Fin 2) (i : Fin 16), Good (coords c i) (X m d) (Y m d) 16 g) ∧ r = res g (m (pLoc d))
abbrev FIN (d : Dev nD) : sProp 𝕄 :=
  iprop((xLoc d ↦{fullShare} X m d) ∗ (pLoc d ↦{fullShare} m (pLoc d)) ∗ ∃ r : Buf (Elt F) (rLoc d), ⌜Fin0 m d r⌝ ∗ rLoc d ↦{fullShare} r)

theorem hmain (hY : PreOK m) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) _ ops0 ops0_sub ops0_fresh (V0 m d)) $$ [Hb Hheld]
  · isplitl [Hb] <;> iassumption
  iintro ⟨Hb, Hheld⟩
  ihave Hh := (Entails.of_eq (show (held (d.tc : Thread nD τ) (tcRefs τ sig) (after ops0 (V0 m d)) : sProp 𝕄) = _ from held_call (F := F) d (V1 m d))) $$ Hheld
  icases Hh with ⟨Hx, Hi, Ho, Hrest⟩
  ihave Hs := (st0_intro m hY d (V1 m d o')) $$ [Hx Hi Ho]
  · rw [V1_x, V1_i]
    isplitl [Hx]; · iexact Hx
    isplitl [Hi] <;> iassumption
  icases Hs with ⟨Hs, Hr⟩
  rw [wp_bind]
  iapply ((K (F := F)).wp_run (D (F := F)) 𝒱 (EH := EH) (P := P m) κ d 0) $$ [Hst Hs Hr Hb Hrest Hts]
  isplitr; · iexact Hctx
  isplitl [Hst]; · iexact Hst
  isplitl [Hs]; · iexact Hs
  iintro ⟨Hst, Hdn⟩
  ihave Hdn' := (dn0_elim m hY d (V1 m d o')) $$ [Hdn Hr]
  · isplitl [Hdn] <;> iassumption
  icases Hdn' with ⟨Hx, Hi, %g, %hg, Ho⟩
  iapply (wp_seq 𝒱 none Set.univ d (tcRefs τ sig) _ ops1 ops1_sub ops1_fresh (V2 m d g)) $$ [Hb Hx Hi Ho Hrest]
  · isplitl [Hb]; · iexact Hb
    iapply (Entails.of_eq (held_call (F := F) d (V2 m d g)).symm)
    rw [V2_o, V2_ne m d g (show x' ≠ o' by decide), V2_ne m d g (show i' ≠ o' by decide), V1_x, V1_i,
      held_congr (V' := V1 m d) _ fun b hb => V2_ne m d g (Finset.ne_of_mem_erase hb)]
    isplitl [Hx]; · iexact Hx
    isplitl [Hi]; · iexact Hi
    isplitl [Ho] <;> iassumption
  iintro ⟨Hb, Hheld⟩
  ihave Hh := (Entails.of_eq (show (held (d.tc : Thread nD τ) (tcRefs τ sig) (after ops1 (V2 m d g)) : sProp 𝕄) = _ from held_end (F := F) d (V3 m d g))) $$ Hheld
  icases Hh with ⟨Hx, Hp, Hr, -⟩
  rw [wp_pure]
  imodintro
  isplitl [Hst]; · iexact Hst
  isplitr [Hb Hts]
  · rw [V3_x, V3_p, V3_r]
    isplitl [Hx]; · iexact Hx
    isplitl [Hp]; · iexact Hp
    iexists _; isplitr
    swap; · iexact Hr
    ipureintro; exact ⟨g, hg, rfl⟩
  isplitl [Hb] <;> iassumption

def fq (d : Dev nD) (s' : Phys nD τ sig (Elt F)) : Prop :=
  s'.mem.mem (xLoc d) = m (xLoc d) ∧ s'.mem.mem (pLoc d) = m (pLoc d) ∧ Fin0 m d (s'.mem.mem (rLoc d))

theorem hfin (d : Dev nD) (s' : Phys nD τ sig (Elt F)) : iprop(FIN m d ∗ SI s') ⊢ (⌜fq m d s'⌝ : sProp 𝕄) := by
  iintro ⟨⟨Hx, Hp, %r, %hr, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := rLoc d) (I := Finset.univ) (q := fullShare) (f := r)) $$ [HSI Hr]
  · isplitl [HSI] <;> iassumption
  icases H with %h3
  ipureintro
  refine ⟨funext fun i => h1 i (Finset.mem_univ i), funext fun i => h2 i (Finset.mem_univ i), ?_⟩
  rw [show s'.mem.mem (rLoc d) = r from funext fun i => h3 i (Finset.mem_univ i)]
  exact hr

/-- What every run of the program ends in. -/
def QC : PUnit × MemSt nD τ sig (Elt F) → Prop := fun r =>
  (∀ d : Dev nD, r.2.mem (xLoc d) = m (xLoc d) ∧ r.2.mem (pLoc d) = m (pLoc d) ∧ Fin0 m d (r.2.mem (rLoc d))) ∧ r.2.sem = fun _ => 0

theorem run_main [∀ e, Nonempty (Elt F e)] (hY : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hY)
    (fun q _ => match q with | 0 => SparseCore.Cfg.VecSplit.of_plain (vecSplit m hY))
    m ρ main (fun _ => iprop(emp)) (FIN m) (u₀ (F := F)) (sep_elim_left.trans (hu₀ m)) (hmain m ρ hY) (fq m) (hfin m) (QC m) (fun _ h hz => ⟨h, hz⟩)

end Cert.Proof.Dispatch

end
-- ==== Proof.Value.lean ====
/-
  The precondition read as numbers, the rows read back at the indices, and what the reference puts in each row.
-/
module

public import proofs.«01_k».proof.Proof.Main
public import proofs.«01_k».proof.Proof.Gen.Reference
public import proofs.«01_k».proof.Proof.Gen.ReferenceIdeal
public import proofs.«01_k».proof.Proof.Gen.Pre_distinct_slots
public import Idealize.ShloMosaic.Lib.Routing.OpsSearch
public import Idealize.ShloMosaic.Lib.Routing.Ops
public import Idealize.ShloMosaic.Lib.ValueLayout
public import Idealize.ShloMosaic.Lib.IdealHost

@[expose] public section

noncomputable section

namespace Cert.Proof.Value

open Cert.KernelIdeal Cert.KernelIdeal.Gen Cert.Proof.Words Cert.Proof.Dispatch

open Idealize.ShloMosaic Idealize.ShloMosaic.ValueIdx

variable {F : FTy → Type} [FloatOps F]

local notation "Pos" => (S65536.Idx → BitVec 32)

theorem ofBool_eq_one (b : Bool) : (BitVec.ofBool b = 1#1) = (b = true) := by cases b <;> decide
theorem and_eq_one {a b : BitVec 1} (h : a &&& b = 1#1) : a = 1#1 ∧ b = 1#1 := by
  revert a b; decide

theorem eq_of_cmpi {a b : BitVec 32} (h : IntOp.cmpi .eq a b = 1#1) : a = b := by
  simpa only [IntOp.cmpi, ofBool_eq_one, beq_iff_eq] using h

/-- A word between nought and 81920, signed, is such a number. -/
theorem word_range {w : BitVec 32} (h0 : IntOp.cmpi .sge w 0#32 = 1#1) (h1 : IntOp.cmpi .slt w 81920#32 = 1#1) : w.toNat < 81920 := by
  simp only [IntOp.cmpi, ofBool_eq_one, BitVec.sle_eq_decide, BitVec.slt_eq_decide, decide_eq_true_eq, BitVec.toInt_eq_toNat_cond,
    BitVec.toNat_ofNat, Nat.reducePow, Nat.reduceMod] at h0 h1
  have := w.isLt
  omega

/-- Counting from the end happens to no index in range: the indices, one column of them. -/
theorem norm_apply (hb : S_.BroadcastsInDim S65536 (![] : Fin 0 → Fin S65536.rank))
    (hc : S65536.BroadcastsInDim S65536x1 (![0] : Fin 1 → Fin S65536x1.rank)) (p : Pos) (n : Fin 65536) (h : (p (ix1 n)).toNat < 81920) :
    broadcastInDim S65536x1 ![0] hc
      (select (cmpi .slt p (broadcastInDim S65536 ![] hb (constantI S_ 32 0#32)))
        (addi p (broadcastInDim S65536 ![] hb (constantI S_ 32 81920#32))) p) (ix2 n (0 : Fin 1)) = p (ix1 n) := by
  rw [broadcastInDim_apply _ hc _ _ (ix1 n) (fun a => by
    match a with
    | ⟨0, _⟩ => show n.val = if (65536 : ℕ) = 1 then 0 else n.val; rw [if_neg (by decide)])]
  show (if IntOp.cmpi .slt (p (ix1 n)) (0#32) = 1#1 then _ else p (ix1 n)) = _
  refine if_neg fun e => ?_
  simp only [IntOp.cmpi, ofBool_eq_one, BitVec.slt_eq_decide, decide_eq_true_eq, BitVec.toInt_eq_toNat_cond,
    BitVec.toNat_ofNat, Nat.reducePow, Nat.reduceMod] at e
  omega

theorem word_of {w : BitVec 32} {k : ℕ} (h : w.toNat = k) : w = BitVec.ofNat 32 k := by
  rw [← h, BitVec.ofNat_toNat, BitVec.setWidth_eq]

/-- The precondition: the indices are in range and no two of them are equal. -/
theorem pre_facts (x : S32768x256.Idx → BitVec 32) (p : Pos) (h : Cert.Pre_distinct_slots.fn (F := F) x p = fun _ => 1#1) :
    (∀ n : Fin 65536, (p (ix1 n)).toNat < 81920) ∧ ∀ n n' : Fin 65536, (p (ix1 n)).toNat = (p (ix1 n')).toNat → n = n' := by
  unfold Cert.Pre_distinct_slots.fn Cert.Pre_distinct_slots.fn_part1 at h
  dsimp only at h
  generalize Host.scatter Cert.Pre_distinct_slots.scatter_S81920_S65536x1_S65536_n_0_0_1 _ _ _ _ = T at h
  have hr : ∀ n : Fin 65536, (p (ix1 n)).toNat < 81920 := fun n => by
    have e := (and_eq_one (and_eq_one (congrFun h (ix1 n))).1)
    exact word_range e.1 e.2
  refine ⟨hr, fun n n' hn => ?_⟩
  have hg : ∀ n : Fin 65536, T (ix1 ⟨(p (ix1 n)).toNat, hr n⟩) = BitVec.ofNat 32 n.val := fun n => by
    have e := (and_eq_one (congrFun h (ix1 n))).2
    have e' := eq_of_cmpi e
    refine Eq.trans ?_ e'
    exact (Idealize.ShloMosaic.Routing.take_ap _ rfl rfl rfl rfl T _ n (hr n) (by have := hr n; omega)
      ((norm_apply _ _ p n (hr n)).trans (word_of rfl))).symm
  have e : BitVec.ofNat 32 n.val = BitVec.ofNat 32 n'.val := by
    rw [← hg n, ← hg n']
    exact congrArg (fun k => T (ix1 k)) (Fin.ext hn)
  have e2 := congrArg BitVec.toNat e
  rw [BitVec.toNat_ofNat, BitVec.toNat_ofNat, Nat.mod_eq_of_lt (by omega), Nat.mod_eq_of_lt (by omega)] at e2
  exact Fin.ext e2

variable (m : (ℓ : Loc nD τ sig) → Buf (Elt F) ℓ)

theorem Y_apply (d : Dev nD) (n : Fin 65536) : Y m d (ix2 0 n) = m (pLoc d) (ix1 n) :=
  shapeCast_a_1a_apply _ _ _ _

theorem preOK (h : ∀ c : Dev nD, Cert.Pre_distinct_slots.fn (F := F) (m (xLoc c)) (m (pLoc c)) = fun _ => 1#1) : PreOK m := fun d => by
  have e := pre_facts _ _ (h d)
  refine ⟨fun n => ?_, fun n n' hn => ?_⟩
  · rw [Y_apply]; exact e.1 n
  · rw [Y_apply, Y_apply] at hn; exact e.2 n n' hn

/-- The rows twice, one copy after the other. -/
theorem twice_apply (hc : Shape.Concatenates [S32768x256, S32768x256] S65536x256 0) (x : S32768x256.Idx → BitVec 32) (i : Fin 65536) (k : Fin 256) (b : Fin 32768)
    (hb : b.val = i.val ∨ b.val + 32768 = i.val) :
    concatenate S65536x256 0 [⟨S32768x256, x⟩, ⟨S32768x256, x⟩] hc (ix2 i k) = x (ix2 b k) := by
  rcases hb with hb | hb
  · exact concatenate_pair_apply_left 0 x x hc _ rfl _ fun a => by
      match a with
      | ⟨0, _⟩ => exact hb
      | ⟨1, _⟩ => rfl
  · refine concatenate_pair_apply_right 0 x x hc _ rfl rfl _ (fun a ha => ?_) hb
    match a with
    | ⟨0, _⟩ => exact absurd rfl ha
    | ⟨1, _⟩ => rfl

/-- The result is the rows twice over. -/
theorem res_eq (hY : PreOK m) (d : Dev nD) (r : Buf (Elt F) (rLoc d)) (hr : Fin0 m d r) (hc : Shape.Concatenates [S32768x256, S32768x256] S65536x256 0) :
    r = concatenate S65536x256 0 [⟨S32768x256, m (xLoc d)⟩, ⟨S32768x256, m (xLoc d)⟩] hc := by
  obtain ⟨g, hg, rfl⟩ := hr
  funext j
  obtain ⟨i, k, rfl⟩ : ∃ (i : Fin 65536) (k : Fin 256), j = ix2 i k := ⟨j 0, j 1, (eq_ix2 j)⟩
  have hp : (m (pLoc d) (ix1 i)).toNat < 81920 :=
    lt_of_eq_of_lt (congrArg BitVec.toNat (Y_apply m d i).symm) ((hY d).1 i)
  have hi := i.isLt
  have hn : i.val % 2048 < 2048 := Nat.mod_lt _ (by decide)
  have e0 := hg ⟨i.val / 32768, by omega⟩ ⟨i.val % 32768 / 2048, by omega⟩ (i.val % 2048) hn (by omega)
    (ix2 ⟨(m (pLoc d) (ix1 i)).toNat, hp⟩ k) (by
      refine (congrArg BitVec.toNat (Y_apply m d i).symm).trans ?_
      refine congrArg (fun n => (Y m d (ix2 0 n)).toNat) (Fin.ext ?_)
      show i.val = 2048 * (i.val % 32768 / 2048) + 32768 * (i.val / 32768) + i.val % 2048
      omega)
  have e1 := Idealize.ShloMosaic.Routing.gather_row gather_S81920x256_S65536x1_S65536x256_1_0_n_n_0_1_1256 rfl rfl rfl rfl rfl g _ i k
    ⟨(m (pLoc d) (ix1 i)).toNat, hp⟩ ((norm_apply bcast_S_S65536 bcast_S65536_S65536x1_0 (m (pLoc d)) i hp).trans (word_of rfl)) (by decide)
  refine e1.trans (e0.trans (twice_apply hc _ i k _ ?_).symm)
  show 2048 * (i.val % 32768 / 2048) + i.val % 2048 = i.val ∨ 2048 * (i.val % 32768 / 2048) + i.val % 2048 + 32768 = i.val
  omega

end Cert.Proof.Value

end
-- ==== Proof.FinalValue.lean ====
/-
  The last residual and the final norm, a row at a time over the extended reals: what a tile leaves in a row, and what
  the launch leaves in a row of the output.
-/
module

public import proofs.«01_k».proof.Proof.Gen.FinalIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.Proof.FinalRows

open Cert.FinalIdeal Cert.FinalIdeal.Gen

open Idealize.ShloMosaic Idealize.ShloMosaic.TcCoe

/-- A row of the stream: the residual, and the two experts' rows by their weights, modulated. -/
def stream (x md : Fin 1024 → EReal) (a b : EReal) (y z : Fin 1024 → EReal) (d : Fin 1024) : EReal :=
  x d + md d * (a * y d + b * z d)

/-- A row over the root of its mean square, by the norm's weight. -/
def normed (h g : Fin 1024 → EReal) (d : Fin 1024) : EReal :=
  h d * Ideal.rsqrt (Ideal.div (∑ k : Fin 1024, h k * h k) (Ideal.ofBits .f32 0x44800000#32) + Ideal.ofBits .f32 0x358637BD#32) * g d

theorem tile_apply (P0 : Vec Ideal S1x512x1024 .f32) (P2 : Vec Ideal S1x512x128 .f32) (P3 P4 : Vec Ideal S1x1x512x1024 .bf16)
    (P1 : Vec Ideal S1x1x1024 .f32) (P5 : Vec Ideal S1x1024 .f32) (r : Fin 512) (d : Fin 1024) :
    k0_pay1 (k0_pay2 P0 P2 P3 P4 P1 P5) (ix3 (0 : Fin 1) r d)
      = normed (stream (fun k => P0 (ix3 (0 : Fin 1) r k)) (fun k => P1 (ix3 (0 : Fin 1) (0 : Fin 1) k)) (P2 (ix3 (0 : Fin 1) r (2 : Fin 128)))
          (P2 (ix3 (0 : Fin 1) r (3 : Fin 128))) (fun k => P3 (ix4 (0 : Fin 1) (0 : Fin 1) r k)) (fun k => P4 (ix4 (0 : Fin 1) (0 : Fin 1) r k)))
        (fun k => P5 (ix2 (0 : Fin 1) k)) d := by
  pointwise [k0_pay1, k0_pay2, normed, stream]

/-- A tile's row, from the blocks its body loads. -/
theorem left_apply (x0 : Vec Ideal S1x512x1024 .f32) (x1 : Vec Ideal S2x1x512x1024 .bf16) (x2 : Vec Ideal S1x512x128 .f32) (x3 : Vec Ideal S1x6x1024 .f32)
    (x4 : Vec Ideal S1x1024 .f32) (r : Fin 512) (d : Fin 1024) :
    out0_5 x0 x1 x2 x3 x4 (ix3 (0 : Fin 1) r d)
      = normed (stream (fun k => x0 (ix3 (0 : Fin 1) r k)) (fun k => x3 (ix3 (0 : Fin 1) (5 : Fin 6) k)) (x2 (ix3 (0 : Fin 1) r (2 : Fin 128)))
          (x2 (ix3 (0 : Fin 1) r (3 : Fin 128))) (fun k => x1 (ix4 (0 : Fin 2) (0 : Fin 1) r k)) (fun k => x1 (ix4 (1 : Fin 2) (0 : Fin 1) r k)))
        (fun k => x4 (ix2 (0 : Fin 1) k)) d := by
  have h0 : View.ld x0 r0_0 = x0 := funext fun y => congrArg x0 (funext fun a => Fin.ext (by fin_cases a <;> first | rfl | exact (Nat.zero_add _).trans (Nat.one_mul _)))
  have h2 : View.ld x2 r0_1 = x2 := funext fun y => congrArg x2 (funext fun a => Fin.ext (by fin_cases a <;> first | rfl | exact (Nat.zero_add _).trans (Nat.one_mul _)))
  have h4 : View.ld x4 r0_5 = x4 := funext fun y => congrArg x4 (funext fun a => Fin.ext (by fin_cases a <;> first | rfl | exact (Nat.zero_add _).trans (Nat.one_mul _)))
  have h3 : ∀ k : Fin 1024, View.ld x3 r0_4 (ix3 (0 : Fin 1) (0 : Fin 1) k) = x3 (ix3 (0 : Fin 1) (5 : Fin 6) k) :=
    fun k => congrArg x3 (funext fun a => Fin.ext (by fin_cases a <;> first | rfl | exact (Nat.zero_add _).trans (Nat.one_mul _)))
  have h1 : ∀ k : Fin 1024, View.ld x1 r0_2 (ix4 (0 : Fin 1) (0 : Fin 1) r k) = x1 (ix4 (0 : Fin 2) (0 : Fin 1) r k) :=
    fun k => congrArg x1 (funext fun a => Fin.ext (by fin_cases a <;> first | rfl | exact (Nat.zero_add _).trans (Nat.one_mul _)))
  have h1' : ∀ k : Fin 1024, View.ld x1 r0_3 (ix4 (0 : Fin 1) (0 : Fin 1) r k) = x1 (ix4 (1 : Fin 2) (0 : Fin 1) r k) :=
    fun k => congrArg x1 (funext fun a => Fin.ext (by fin_cases a <;> first | rfl | exact (Nat.zero_add _).trans (Nat.one_mul _)))
  unfold out0_5
  rw [View.canon_cons_unit_lit _ _ _ (by decide), tile_apply, h0, h2, h4]
  simp only [h1, h1', h3]

/-- The block of the batch and the block of the sequence at a point. -/
theorem batch_at (t : Fin grid0.N) : (grid0.coords t 0).val = t.val / 8 % 8 := Pipeline.Grid.coords_val t 0 (by decide) rfl
theorem seq_at (t : Fin grid0.N) : (grid0.coords t 1).val = t.val % 8 := by
  have h : (grid0.coords t 1).val = t.val / 1 % 8 := Pipeline.Grid.coords_val t 1 (by decide) rfl
  rw [h, Nat.div_one]

theorem word_batch (t : Fin grid0.N) : (BitVec.ofNat 32 (grid0.coords t 0).val).toNat = t.val / 8 % 8 := by
  rw [batch_at, BitVec.toNat_ofNat]; omega
theorem word_seq (t : Fin grid0.N) : (BitVec.ofNat 32 (grid0.coords t 1).val).toNat = t.val % 8 := by
  rw [seq_at, BitVec.toNat_ofNat]; omega

variable (m : (ℓ : Loc nD τ sig) → Buf (Elt Ideal) ℓ)

/-- The norm's weight as the launch finds it. -/
theorem weight_at (c : Dev nD) : (V m c main_v0 : S1x1024.Idx → EReal) = shapeCast S1x1024 (m ((c : Thread nD τ).loc main_arg4)) shapeCasts_S1024_S1x1024 := by
  unfold V
  after_results
  rfl

set_option backward.isDefEq.respectTransparency.types false

/-- The tile's residual. -/
theorem block0_apply (c : Dev nD) (t : Fin cfg0.N) (y : S1x512x1024.Idx) (z : S8x4096x1024.Idx) (h0 : (z 0).val = t.val / 8 % 8) (h1 : (z 1).val = t.val % 8 * 512 + (y 1).val)
    (h2 : (z 2).val = (y 2).val) :
    (iblk m c 0 t : Vec Ideal S1x512x1024 .f32) y = m ((c : Thread nD τ).loc main_arg0) z := by
  have e : (((cfg0.win 0).blk t).view.emb y : S8x4096x1024.Idx) = z := by
    have e0 : win0_0.index t (0 : Fin 3) = t.val / 8 % 8 := word_batch t
    have e1 : win0_0.index t (1 : Fin 3) = t.val % 8 := word_seq t
    have e2 : win0_0.index t (2 : Fin 3) = 0 := rfl
    funext a
    apply Fin.ext
    fin_cases a
    · blk_simp; rw [e0]; exact h0.symm
    · blk_simp; rw [e1]; exact h1.symm
    · blk_simp; rw [e2, Nat.zero_mul, Nat.zero_add]; exact h2.symm
  rw [← e]
  exact congrFun (V_main_arg0 m c) _

/-- The tile's outputs of the two experts. -/
theorem block1_apply (c : Dev nD) (t : Fin cfg0.N) (y : S2x1x512x1024.Idx) (z : S2x8x4096x1024.Idx) (h0 : (z 0).val = (y 0).val) (h1 : (z 1).val = t.val / 8 % 8)
    (h2 : (z 2).val = t.val % 8 * 512 + (y 2).val) (h3 : (z 3).val = (y 3).val) :
    (iblk m c 1 t : Vec Ideal S2x1x512x1024 .bf16) y = m ((c : Thread nD τ).loc main_arg1) z := by
  have e : (((cfg0.win 1).blk t).view.emb y : S2x8x4096x1024.Idx) = z := by
    have e0 : win0_1.index t (0 : Fin 4) = 0 := rfl
    have e1 : win0_1.index t (1 : Fin 4) = t.val / 8 % 8 := word_batch t
    have e2 : win0_1.index t (2 : Fin 4) = t.val % 8 := word_seq t
    have e3 : win0_1.index t (3 : Fin 4) = 0 := rfl
    funext a
    apply Fin.ext
    fin_cases a
    · blk_simp; rw [e0, Nat.zero_mul, Nat.zero_add]; exact h0.symm
    · blk_simp; rw [e1]; exact h1.symm
    · blk_simp; rw [e2]; exact h2.symm
    · blk_simp; rw [e3, Nat.zero_mul, Nat.zero_add]; exact h3.symm
  rw [← e]
  exact congrFun (V_main_arg1 m c) _

/-- The tile's routing. -/
theorem block2_apply (c : Dev nD) (t : Fin cfg0.N) (y : S1x512x128.Idx) (z : S8x4096x128.Idx) (h0 : (z 0).val = t.val / 8 % 8) (h1 : (z 1).val = t.val % 8 * 512 + (y 1).val)
    (h2 : (z 2).val = (y 2).val) :
    (iblk m c 2 t : Vec Ideal S1x512x128 .f32) y = m ((c : Thread nD τ).loc main_arg2) z := by
  have e : (((cfg0.win 2).blk t).view.emb y : S8x4096x128.Idx) = z := by
    have e0 : win0_2.index t (0 : Fin 3) = t.val / 8 % 8 := word_batch t
    have e1 : win0_2.index t (1 : Fin 3) = t.val % 8 := word_seq t
    have e2 : win0_2.index t (2 : Fin 3) = 0 := rfl
    funext a
    apply Fin.ext
    fin_cases a
    · blk_simp; rw [e0]; exact h0.symm
    · blk_simp; rw [e1]; exact h1.symm
    · blk_simp; rw [e2, Nat.zero_mul, Nat.zero_add]; exact h2.symm
  rw [← e]
  exact congrFun (V_main_arg2 m c) _

/-- The batch's modulation. -/
theorem block3_apply (c : Dev nD) (t : Fin cfg0.N) (y : S1x6x1024.Idx) (z : S8x6x1024.Idx) (h0 : (z 0).val = t.val / 8 % 8) (h1 : (z 1).val = (y 1).val)
    (h2 : (z 2).val = (y 2).val) :
    (iblk m c 3 t : Vec Ideal S1x6x1024 .f32) y = m ((c : Thread nD τ).loc main_arg3) z := by
  have e : (((cfg0.win 3).blk t).view.emb y : S8x6x1024.Idx) = z := by
    have e0 : win0_3.index t (0 : Fin 3) = t.val / 8 % 8 := word_batch t
    have e1 : win0_3.index t (1 : Fin 3) = 0 := rfl
    have e2 : win0_3.index t (2 : Fin 3) = 0 := rfl
    funext a
    apply Fin.ext
    fin_cases a
    · blk_simp; rw [e0]; exact h0.symm
    · blk_simp; rw [e1, Nat.zero_mul, Nat.zero_add]; exact h1.symm
    · blk_simp; rw [e2, Nat.zero_mul, Nat.zero_add]; exact h2.symm
  rw [← e]
  exact congrFun (V_main_arg3 m c) _

/-- The norm's weight. -/
theorem block4_apply (c : Dev nD) (t : Fin cfg0.N) (y : S1x1024.Idx) (z : S1x1024.Idx) (h0 : (z 0).val = (y 0).val) (h1 : (z 1).val = (y 1).val) :
    (iblk m c 4 t : Vec Ideal S1x1024 .f32) y = (V m c main_v0 : S1x1024.Idx → EReal) z := by
  have e : (((cfg0.win 4).blk t).view.emb y : S1x1024.Idx) = z := by
    have e0 : win0_4.index t (0 : Fin 2) = 0 := rfl
    have e1 : win0_4.index t (1 : Fin 2) = 0 := rfl
    funext a
    apply Fin.ext
    fin_cases a
    · blk_simp; rw [e0]
    · blk_simp; rw [e1, Nat.zero_mul, Nat.zero_add]; exact h1.symm
  rw [← e]; rfl

/-- A row of the output from the argument arrays. -/
def outRow (x : S8x4096x1024.Idx → EReal) (y : S2x8x4096x1024.Idx → EReal) (w : S8x4096x128.Idx → EReal) (md : S8x6x1024.Idx → EReal)
    (g : S1024.Idx → EReal) (b : Fin 8) (s : Fin 4096) (d : Fin 1024) : EReal :=
  normed (stream (fun k => x (ix3 b s k)) (fun k => md (ix3 b (5 : Fin 6) k)) (w (ix3 b s (2 : Fin 128))) (w (ix3 b s (3 : Fin 128)))
    (fun k => y (ix4 (0 : Fin 2) b s k)) (fun k => y (ix4 (1 : Fin 2) b s k))) (fun k => g (ix1 k)) d

/-- A row of the output at a point of the launch. -/
theorem tile_row (c : Dev nD) (t : Fin cfg0.N) (r : Fin 512) (d : Fin 1024) (b : Fin 8) (s : Fin 4096)
    (hb : b.val = t.val / 8 % 8) (hs : s.val = t.val % 8 * 512 + r.val) :
    out0_5 (iblk m c 0 t) (iblk m c 1 t) (iblk m c 2 t) (iblk m c 3 t) (iblk m c 4 t) (ix3 (0 : Fin 1) r d)
      = outRow (m ((c : Thread nD τ).loc main_arg0)) (m ((c : Thread nD τ).loc main_arg1)) (m ((c : Thread nD τ).loc main_arg2))
          (m ((c : Thread nD τ).loc main_arg3)) (m ((c : Thread nD τ).loc main_arg4)) b s d := by
  have x0 : ∀ k : Fin 1024, (iblk m c 0 t : Vec Ideal S1x512x1024 .f32) (ix3 (0 : Fin 1) r k) = m ((c : Thread nD τ).loc main_arg0) (ix3 b s k) :=
    fun k => block0_apply m c t _ _ hb hs rfl
  have x1 : ∀ (e : Fin 2) (k : Fin 1024), (iblk m c 1 t : Vec Ideal S2x1x512x1024 .bf16) (ix4 e (0 : Fin 1) r k) = m ((c : Thread nD τ).loc main_arg1) (ix4 e b s k) :=
    fun e k => block1_apply m c t _ _ rfl hb hs rfl
  have x2 : ∀ k : Fin 128, (iblk m c 2 t : Vec Ideal S1x512x128 .f32) (ix3 (0 : Fin 1) r k) = m ((c : Thread nD τ).loc main_arg2) (ix3 b s k) :=
    fun k => block2_apply m c t _ _ hb hs rfl
  have x3 : ∀ k : Fin 1024, (iblk m c 3 t : Vec Ideal S1x6x1024 .f32) (ix3 (0 : Fin 1) (5 : Fin 6) k) = m ((c : Thread nD τ).loc main_arg3) (ix3 b (5 : Fin 6) k) :=
    fun k => block3_apply m c t _ _ hb rfl rfl
  have x4 : ∀ k : Fin 1024, (iblk m c 4 t : Vec Ideal S1x1024 .f32) (ix2 (0 : Fin 1) k) = m ((c : Thread nD τ).loc main_arg4) (ix1 k) := fun k =>
    (block4_apply m c t (ix2 (0 : Fin 1) k) (ix2 (0 : Fin 1) k) rfl rfl).trans ((congrFun (weight_at m c) _).trans (by pointwise))
  refine (left_apply _ _ _ _ _ r d).trans ?_
  unfold outRow
  simp only [x0, x1, x2, x3, x4]

/-- The output from its rows. -/
def outcome (c : Dev nD) : S8x4096x1024.Idx → EReal := fun i =>
  outRow (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- The points of the launch. -/
theorem points : cfg0.N = 64 := rfl

theorem out_arr (c : Dev nD) : (dats m 0 c).arrAt 5 cfg0.N = outcome m c := by
  refine (dats m 0 c).arrAt_eq_of_emb 5 (outcome m c) (fun t hf y => ?_) ?_
  · blk_simp
    rw [after0_5]
    have ht : t.val < 64 := lt_of_lt_of_eq t.isLt points
    let y' : S1x512x1024.Idx := y
    have h0 : (y' 0).val < 1 := (y' 0).isLt
    have h1 : (y' 1).val < 512 := (y' 1).isLt
    have hy : y' = ix3 (0 : Fin 1) (y' 1) (y' 2) := (eq_ix3 y').trans (congrArg (fun z => ix3 z (y' 1) (y' 2)) (Fin.ext (by show (y' 0).val = 0; omega)))
    have e : (((cfg0.win 5).blk t).view.emb y : S8x4096x1024.Idx)
        = ix3 (⟨t.val / 8 % 8, by omega⟩ : Fin 8) (⟨t.val % 8 * 512 + (y' 1).val, by omega⟩ : Fin 4096) (y' 2) := by
      have e0 : win0_5.index t (0 : Fin 3) = t.val / 8 % 8 := word_batch t
      have e1 : win0_5.index t (1 : Fin 3) = t.val % 8 := word_seq t
      have e2 : win0_5.index t (2 : Fin 3) = 0 := rfl
      funext a
      apply Fin.ext
      fin_cases a
      · blk_simp; rw [e0]; rfl
      · blk_simp; rw [e1]; rfl
      · blk_simp; rw [e2, Nat.zero_mul, Nat.zero_add]; rfl
    exact ((congrArg (out0_5 (iblk m c 0 t) (iblk m c 1 t) (iblk m c 2 t) (iblk m c 3 t) (iblk m c 4 t)) hy).trans
      (tile_row m c t (y' 1) (y' 2) _ _ rfl rfl)).trans (congrArg (outcome m c) e.symm)
  · intro i
    let i' : S8x4096x1024.Idx := i
    have h0 : (i' 0).val < 8 := (i' 0).isLt
    have h1 : (i' 1).val < 4096 := (i' 1).isLt
    have h2 : (i' 2).val < 1024 := (i' 2).isLt
    let t : Fin cfg0.N := ⟨(i' 0).val * 8 + (i' 1).val / 512, lt_of_lt_of_eq (by omega : (i' 0).val * 8 + (i' 1).val / 512 < 64) points.symm⟩
    refine ⟨t, flush0_5 t, ((cfg0.win 5).emb_mem_blk_iff t i' rfl).mpr fun a => ?_⟩
    have e0 : win0_5.index t (0 : Fin 3) = ((i' 0).val * 8 + (i' 1).val / 512) / 8 % 8 := word_batch t
    have e1 : win0_5.index t (1 : Fin 3) = ((i' 0).val * 8 + (i' 1).val / 512) % 8 := word_seq t
    match a with
    | ⟨0, _⟩ =>
      show win0_5.index t (0 : Fin 3) * 1 ≤ (i' 0).val ∧ (i' 0).val < win0_5.index t (0 : Fin 3) * 1 + 1
      rw [e0]; omega
    | ⟨1, _⟩ =>
      show win0_5.index t (1 : Fin 3) * 512 ≤ (i' 1).val ∧ (i' 1).val < win0_5.index t (1 : Fin 3) * 512 + 512
      rw [e1]; omega
    | ⟨2, _⟩ =>
      show 0 * 1024 ≤ (i' 2).val ∧ (i' 2).val < 0 * 1024 + 1024
      omega

end Cert.Proof.FinalRows
end
-- ==== Proof.FinalReference.lean ====
/-
  What the plain mathematics gives for each row of the final norm, over the extended reals.
-/
module

public import proofs.«01_k».proof.Proof.FinalValue
public import proofs.«01_k».proof.Proof.Gen.FinalReferenceIdeal.Run

@[expose] public section

set_option maxRecDepth 16384

noncomputable section

namespace Cert.Proof.FinalRows

open Cert.FinalReferenceIdeal Cert.FinalReferenceIdeal.Gen

open Idealize.ShloMosaic Idealize.ShloMosaic.TcCoe

variable (m : (ℓ : Loc nD τ sig) → Buf (Elt Ideal) ℓ)

theorem res_apply (c : Dev nD) (b : Fin 8) (s : Fin 4096) (d : Fin 1024) :
    (Value.res_out0 m c : S8x4096x1024.Idx → EReal) (ix3 b s d) = outRow (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) b s d := by
  pointwise [Value.res_out0, Value.res_main_v35, outRow, normed, stream]

theorem res_eq (c : Dev nD) : (Value.res_out0 m c : S8x4096x1024.Idx → EReal) = fun i => outRow (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (i 0) (i 1) (i 2) :=
  funext fun i => (congrArg (Value.res_out0 m c : S8x4096x1024.Idx → EReal) (eq_ix3 i)).trans (res_apply m c (i 0) (i 1) (i 2))

/-- The rows of arrays that agree. -/
theorem rows_congr {x x' : S8x4096x1024.Idx → EReal} {y y' : S2x8x4096x1024.Idx → EReal} {w w' : S8x4096x128.Idx → EReal}
    {md md' : S8x6x1024.Idx → EReal} {g g' : S1024.Idx → EReal} (h0 : x = x') (h1 : y = y') (h2 : w = w') (h3 : md = md') (h4 : g = g') :
    (fun i : S8x4096x1024.Idx => outRow x y w md g (i 0) (i 1) (i 2)) = fun i => outRow x' y' w' md' g' (i 0) (i 1) (i 2) := by
  subst h0 h1 h2 h3 h4; rfl

end Cert.Proof.FinalRows
end
-- ==== Proof.ProjectValue.lean ====
/-
  The odd layers' input projection, a row at a time over the extended reals: what a tile leaves in a row of the
  residual and in a row of the projection, and what the launch leaves in a row of each output.
-/
module

public import proofs.«01_k».proof.Proof.FinalValue
public import proofs.«01_k».proof.Proof.Gen.ProjectIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.Proof.ProjectRows

open Cert.ProjectIdeal Cert.ProjectIdeal.Gen
open Cert.Proof.FinalRows (stream normed)

open Idealize.ShloMosaic Idealize.ShloMosaic.TcCoe

/-- A normalised row, scaled and shifted by the modulation. -/
def shifted (h g sc sh : Fin 1024 → EReal) (k : Fin 1024) : EReal := normed h g k * (Ideal.ofBits .f32 0x3F800000#32 + sc k) + sh k

/-- A row against a column. -/
def against (n w : Fin 1024 → EReal) : EReal := ∑ k : Fin 1024, n k * w k

/-- The residual's row in the first half of a tile. -/
theorem upper_stream (P0 : Vec Ideal S1x256x1024 .f32) (P2 : Vec Ideal S1x256x128 .f32) (P3 P4 : Vec Ideal S1x1x256x1024 .bf16)
    (P1 : Vec Ideal S1x1x1024 .f32) (r : Fin 256) (d : Fin 1024) :
    k0_pay5 P0 P2 P3 P4 P1 (ix3 (0 : Fin 1) r d) = stream (fun k => P0 (ix3 (0 : Fin 1) r k)) (fun k => P1 (ix3 (0 : Fin 1) (0 : Fin 1) k)) (P2 (ix3 (0 : Fin 1) r (2 : Fin 128)))
          (P2 (ix3 (0 : Fin 1) r (3 : Fin 128))) (fun k => P3 (ix4 (0 : Fin 1) (0 : Fin 1) r k)) (fun k => P4 (ix4 (0 : Fin 1) (0 : Fin 1) r k)) d := by
  pointwise [k0_pay5, k0_pay4, stream]

/-- The residual's row in the second half. -/
theorem lower_stream (P0 : Vec Ideal S1x256x1024 .f32) (P2 : Vec Ideal S1x256x128 .f32) (P3 P4 : Vec Ideal S1x1x256x1024 .bf16)
    (P1 : Vec Ideal S1x1x1024 .f32) (r : Fin 256) (d : Fin 1024) :
    k0_pay12 (k0_pay9 P0) (k0_pay10 P2 P3 P4) P1 (ix3 (0 : Fin 1) r d) = stream (fun k => P0 (ix3 (0 : Fin 1) r k)) (fun k => P1 (ix3 (0 : Fin 1) (0 : Fin 1) k)) (P2 (ix3 (0 : Fin 1) r (2 : Fin 128)))
          (P2 (ix3 (0 : Fin 1) r (3 : Fin 128))) (fun k => P3 (ix4 (0 : Fin 1) (0 : Fin 1) r k)) (fun k => P4 (ix4 (0 : Fin 1) (0 : Fin 1) r k)) d := by
  pointwise [k0_pay12, k0_pay11, k0_pay10, k0_pay9, stream]

/-- The row the products read, in the first half. -/
theorem upper_norm (P0 : Vec Ideal S1x256x1024 .f32) (P2 : Vec Ideal S1x256x128 .f32) (P3 P4 : Vec Ideal S1x1x256x1024 .bf16)
    (P1 : Vec Ideal S1x1x1024 .f32) (P5 : Vec Ideal S1x1024 .f32) (P6 P7 : Vec Ideal S1x1x1024 .f32) (r : Fin 256) (d : Fin 1024) :
    k0_pay8 (k0_pay4 P0 P2 P3 P4 P1) (k0_pay6 P5) (k0_pay7 P0 P2 P3 P4 P1) (Scalar.ofBits .f32 0x358637BD#32) P6 P7 (ix2 r d)
      = shifted (stream (fun k => P0 (ix3 (0 : Fin 1) r k)) (fun k => P1 (ix3 (0 : Fin 1) (0 : Fin 1) k)) (P2 (ix3 (0 : Fin 1) r (2 : Fin 128)))
          (P2 (ix3 (0 : Fin 1) r (3 : Fin 128))) (fun k => P3 (ix4 (0 : Fin 1) (0 : Fin 1) r k)) (fun k => P4 (ix4 (0 : Fin 1) (0 : Fin 1) r k)))
        (fun k => P5 (ix2 (0 : Fin 1) k)) (fun k => P6 (ix3 (0 : Fin 1) (0 : Fin 1) k)) (fun k => P7 (ix3 (0 : Fin 1) (0 : Fin 1) k)) d := by
  pointwise [k0_pay8, k0_pay7, k0_pay6, k0_pay4, shifted, normed, stream]

/-- The row the products read, in the second half. -/
theorem lower_norm (P0 : Vec Ideal S1x256x1024 .f32) (P2 : Vec Ideal S1x256x128 .f32) (P3 P4 : Vec Ideal S1x1x256x1024 .bf16)
    (P1 : Vec Ideal S1x1x1024 .f32) (P5 : Vec Ideal S1x1024 .f32) (P6 P7 : Vec Ideal S1x1x1024 .f32) (r : Fin 256) (d : Fin 1024) :
    k0_pay13 (k0_pay9 P0) (k0_pay10 P2 P3 P4) P1 P5 P6 P7 (ix2 r d)
      = shifted (stream (fun k => P0 (ix3 (0 : Fin 1) r k)) (fun k => P1 (ix3 (0 : Fin 1) (0 : Fin 1) k)) (P2 (ix3 (0 : Fin 1) r (2 : Fin 128)))
          (P2 (ix3 (0 : Fin 1) r (3 : Fin 128))) (fun k => P3 (ix4 (0 : Fin 1) (0 : Fin 1) r k)) (fun k => P4 (ix4 (0 : Fin 1) (0 : Fin 1) r k)))
        (fun k => P5 (ix2 (0 : Fin 1) k)) (fun k => P6 (ix3 (0 : Fin 1) (0 : Fin 1) k)) (fun k => P7 (ix3 (0 : Fin 1) (0 : Fin 1) k)) d := by
  pointwise [k0_pay13, k0_pay11, k0_pay10, k0_pay9, shifted, normed, stream]

variable (n : FVec Ideal S256x1024 .bf16) (w : Vec Ideal S1024x512 .bf16) (r : Fin 256) (j : Fin 512)

/-! Each product of a half's rows with 512 columns. -/

theorem prod15 : k0_pay15 (k0_pay14 n w) (ix3 (0 : Fin 1) r j) = against (fun k => n (ix2 r k)) (fun k => w (ix2 k j)) := by
  pointwise [k0_pay15, k0_pay14, against]
theorem prod16 : k0_pay16 n w (ix3 (0 : Fin 1) r j) = against (fun k => n (ix2 r k)) (fun k => w (ix2 k j)) := by
  pointwise [k0_pay16, against]
theorem prod17 : k0_pay17 n w (ix3 (0 : Fin 1) r j) = against (fun k => n (ix2 r k)) (fun k => w (ix2 k j)) := by
  pointwise [k0_pay17, against]
theorem prod18 : k0_pay18 n w (ix3 (0 : Fin 1) r j) = against (fun k => n (ix2 r k)) (fun k => w (ix2 k j)) := by
  pointwise [k0_pay18, against]
theorem prod19 : k0_pay19 n w (ix3 (0 : Fin 1) r j) = against (fun k => n (ix2 r k)) (fun k => w (ix2 k j)) := by
  pointwise [k0_pay19, against]
theorem prod20 : k0_pay20 n w (ix3 (0 : Fin 1) r j) = against (fun k => n (ix2 r k)) (fun k => w (ix2 k j)) := by
  pointwise [k0_pay20, against]
theorem prod21 : k0_pay21 n w (ix3 (0 : Fin 1) r j) = against (fun k => n (ix2 r k)) (fun k => w (ix2 k j)) := by
  pointwise [k0_pay21, against]
theorem prod22 : k0_pay22 n w (ix3 (0 : Fin 1) r j) = against (fun k => n (ix2 r k)) (fun k => w (ix2 k j)) := by
  pointwise [k0_pay22, against]
theorem prod23 : k0_pay23 n w (ix3 (0 : Fin 1) r j) = against (fun k => n (ix2 r k)) (fun k => w (ix2 k j)) := by
  pointwise [k0_pay23, against]
theorem prod1 : k0_pay1 (k0_pay24 n w) (ix3 (0 : Fin 1) r j) = against (fun k => n (ix2 r k)) (fun k => w (ix2 k j)) := by
  pointwise [k0_pay1, k0_pay24, against]
theorem prod2 : k0_pay2 n w (ix3 (0 : Fin 1) r j) = against (fun k => n (ix2 r k)) (fun k => w (ix2 k j)) := by
  pointwise [k0_pay2, against]
theorem prod3 : k0_pay3 n w (ix3 (0 : Fin 1) r j) = against (fun k => n (ix2 r k)) (fun k => w (ix2 k j)) := by
  pointwise [k0_pay3, against]

variable (x0 : Vec Ideal S1x512x1024 .f32) (x1 : Vec Ideal S2x1x512x1024 .bf16) (x2 : Vec Ideal S1x512x128 .f32) (x3 : Vec Ideal S1x6x1024 .f32)
  (x4 : Vec Ideal S1x1024 .f32) (x5 : Vec Ideal S1x6x1024 .f32) (x6 : Vec Ideal S1024x3072 .bf16)

/-- A tile's row of the residual, from its blocks. -/
def tileStream (r : Fin 512) : Fin 1024 → EReal :=
  stream (fun k => x0 (ix3 (0 : Fin 1) r k)) (fun k => x3 (ix3 (0 : Fin 1) (5 : Fin 6) k)) (x2 (ix3 (0 : Fin 1) r (2 : Fin 128)))
    (x2 (ix3 (0 : Fin 1) r (3 : Fin 128))) (fun k => x1 (ix4 (0 : Fin 2) (0 : Fin 1) r k)) (fun k => x1 (ix4 (1 : Fin 2) (0 : Fin 1) r k))

/-- A tile's row as the products read it. -/
def tileNorm (r : Fin 512) : Fin 1024 → EReal :=
  shifted (tileStream x0 x1 x2 x3 r) (fun k => x4 (ix2 (0 : Fin 1) k)) (fun k => x5 (ix3 (0 : Fin 1) (1 : Fin 6) k))
    (fun k => x5 (ix3 (0 : Fin 1) (0 : Fin 6) k))

theorem upper_stream_at (r : Fin 256) (r' : Fin 512) (hr : r'.val = 0 + r.val) (d : Fin 1024) :
    k0_pay5 (View.ld x0 r0_0) (View.ld x2 r0_1) (View.ld x1 r0_2) (View.ld x1 r0_3) (View.ld x3 r0_4) (ix3 (0 : Fin 1) r d) = tileStream x0 x1 x2 x3 r' d := by
  have at_row : 0 + 1 * r.val = r'.val := by omega
  have h0 : ∀ k : Fin 1024, View.ld x0 r0_0 (ix3 (0 : Fin 1) r k) = x0 (ix3 (0 : Fin 1) r' k) := fun k => congrArg x0 (funext fun a => Fin.ext (by fin_cases a <;> first | rfl | exact (Nat.zero_add _).trans (Nat.one_mul _) | exact at_row))
  have h2 : ∀ k : Fin 128, View.ld x2 r0_1 (ix3 (0 : Fin 1) r k) = x2 (ix3 (0 : Fin 1) r' k) := fun k => congrArg x2 (funext fun a => Fin.ext (by fin_cases a <;> first | rfl | exact (Nat.zero_add _).trans (Nat.one_mul _) | exact at_row))
  have h1 : ∀ k : Fin 1024, View.ld x1 r0_2 (ix4 (0 : Fin 1) (0 : Fin 1) r k) = x1 (ix4 (0 : Fin 2) (0 : Fin 1) r' k) := fun k => congrArg x1 (funext fun a => Fin.ext (by fin_cases a <;> first | rfl | exact (Nat.zero_add _).trans (Nat.one_mul _) | exact at_row))
  have h1' : ∀ k : Fin 1024, View.ld x1 r0_3 (ix4 (0 : Fin 1) (0 : Fin 1) r k) = x1 (ix4 (1 : Fin 2) (0 : Fin 1) r' k) := fun k => congrArg x1 (funext fun a => Fin.ext (by fin_cases a <;> first | rfl | exact (Nat.zero_add _).trans (Nat.one_mul _) | exact at_row))
  have h3 : ∀ k : Fin 1024, View.ld x3 r0_4 (ix3 (0 : Fin 1) (0 : Fin 1) k) = x3 (ix3 (0 : Fin 1) (5 : Fin 6) k) := fun k => congrArg x3 (funext fun a => Fin.ext (by fin_cases a <;> first | rfl | exact (Nat.zero_add _).trans (Nat.one_mul _) | exact at_row))
  refine (upper_stream _ _ _ _ _ r d).trans ?_
  unfold tileStream
  simp only [h0, h1, h1', h2, h3]

theorem upper_norm_at (r : Fin 256) (r' : Fin 512) (hr : r'.val = 0 + r.val) (d : Fin 1024) :
    k0_pay25 x0 x1 x2 x3 x4 x5 x6 (ix2 r d) = tileNorm x0 x1 x2 x3 x4 x5 r' d := by
  have at_row : 0 + 1 * r.val = r'.val := by omega
  have h0 : ∀ k : Fin 1024, View.ld x0 r0_0 (ix3 (0 : Fin 1) r k) = x0 (ix3 (0 : Fin 1) r' k) := fun k => congrArg x0 (funext fun a => Fin.ext (by fin_cases a <;> first | rfl | exact (Nat.zero_add _).trans (Nat.one_mul _) | exact at_row))
  have h2 : ∀ k : Fin 128, View.ld x2 r0_1 (ix3 (0 : Fin 1) r k) = x2 (ix3 (0 : Fin 1) r' k) := fun k => congrArg x2 (funext fun a => Fin.ext (by fin_cases a <;> first | rfl | exact (Nat.zero_add _).trans (Nat.one_mul _) | exact at_row))
  have h1 : ∀ k : Fin 1024, View.ld x1 r0_2 (ix4 (0 : Fin 1) (0 : Fin 1) r k) = x1 (ix4 (0 : Fin 2) (0 : Fin 1) r' k) := fun k => congrArg x1 (funext fun a => Fin.ext (by fin_cases a <;> first | rfl | exact (Nat.zero_add _).trans (Nat.one_mul _) | exact at_row))
  have h1' : ∀ k : Fin 1024, View.ld x1 r0_3 (ix4 (0 : Fin 1) (0 : Fin 1) r k) = x1 (ix4 (1 : Fin 2) (0 : Fin 1) r' k) := fun k => congrArg x1 (funext fun a => Fin.ext (by fin_cases a <;> first | rfl | exact (Nat.zero_add _).trans (Nat.one_mul _) | exact at_row))
  have h3 : ∀ k : Fin 1024, View.ld x3 r0_4 (ix3 (0 : Fin 1) (0 : Fin 1) k) = x3 (ix3 (0 : Fin 1) (5 : Fin 6) k) := fun k => congrArg x3 (funext fun a => Fin.ext (by fin_cases a <;> first | rfl | exact (Nat.zero_add _).trans (Nat.one_mul _) | exact at_row))
  have h4 : ∀ k : Fin 1024, View.ld x4 r0_5 (ix2 (0 : Fin 1) k) = x4 (ix2 (0 : Fin 1) k) := fun k => congrArg x4 (funext fun a => Fin.ext (by fin_cases a <;> first | rfl | exact (Nat.zero_add _).trans (Nat.one_mul _) | exact at_row))
  have h5 : ∀ k : Fin 1024, View.ld x5 r0_6 (ix3 (0 : Fin 1) (0 : Fin 1) k) = x5 (ix3 (0 : Fin 1) (1 : Fin 6) k) := fun k => congrArg x5 (funext fun a => Fin.ext (by fin_cases a <;> first | rfl | exact (Nat.zero_add _).trans (Nat.one_mul _) | exact at_row))
  have h5' : ∀ k : Fin 1024, View.ld x5 r0_7 (ix3 (0 : Fin 1) (0 : Fin 1) k) = x5 (ix3 (0 : Fin 1) (0 : Fin 6) k) := fun k => congrArg x5 (funext fun a => Fin.ext (by fin_cases a <;> first | rfl | exact (Nat.zero_add _).trans (Nat.one_mul _) | exact at_row))
  unfold k0_pay25
  refine (upper_norm _ _ _ _ _ _ _ _ r d).trans ?_
  unfold tileNorm tileStream
  simp only [h0, h1, h1', h2, h3, h4, h5, h5']

theorem lower_stream_at (r : Fin 256) (r' : Fin 512) (hr : r'.val = 256 + r.val) (d : Fin 1024) :
    k0_pay12 (k0_pay26 x0 x1 x2 x3 x4 x5 x6) (k0_pay27 x0 x1 x2 x3 x4 x5 x6) (View.ld x3 r0_4) (ix3 (0 : Fin 1) r d) = tileStream x0 x1 x2 x3 r' d := by
  have at_row : 256 + 1 * r.val = r'.val := by omega
  have h0 : ∀ k : Fin 1024, View.ld x0 r0_8 (ix3 (0 : Fin 1) r k) = x0 (ix3 (0 : Fin 1) r' k) := fun k => congrArg x0 (funext fun a => Fin.ext (by fin_cases a <;> first | rfl | exact (Nat.zero_add _).trans (Nat.one_mul _) | exact at_row))
  have h2 : ∀ k : Fin 128, View.ld x2 r0_9 (ix3 (0 : Fin 1) r k) = x2 (ix3 (0 : Fin 1) r' k) := fun k => congrArg x2 (funext fun a => Fin.ext (by fin_cases a <;> first | rfl | exact (Nat.zero_add _).trans (Nat.one_mul _) | exact at_row))
  have h1 : ∀ k : Fin 1024, View.ld x1 r0_10 (ix4 (0 : Fin 1) (0 : Fin 1) r k) = x1 (ix4 (0 : Fin 2) (0 : Fin 1) r' k) := fun k => congrArg x1 (funext fun a => Fin.ext (by fin_cases a <;> first | rfl | exact (Nat.zero_add _).trans (Nat.one_mul _) | exact at_row))
  have h1' : ∀ k : Fin 1024, View.ld x1 r0_11 (ix4 (0 : Fin 1) (0 : Fin 1) r k) = x1 (ix4 (1 : Fin 2) (0 : Fin 1) r' k) := fun k => congrArg x1 (funext fun a => Fin.ext (by fin_cases a <;> first | rfl | exact (Nat.zero_add _).trans (Nat.one_mul _) | exact at_row))
  have h3 : ∀ k : Fin 1024, View.ld x3 r0_4 (ix3 (0 : Fin 1) (0 : Fin 1) k) = x3 (ix3 (0 : Fin 1) (5 : Fin 6) k) := fun k => congrArg x3 (funext fun a => Fin.ext (by fin_cases a <;> first | rfl | exact (Nat.zero_add _).trans (Nat.one_mul _) | exact at_row))
  unfold k0_pay26 k0_pay27
  refine (lower_stream _ _ _ _ _ r d).trans ?_
  unfold tileStream
  simp only [h0, h1, h1', h2, h3]

theorem lower_norm_at (r : Fin 256) (r' : Fin 512) (hr : r'.val = 256 + r.val) (d : Fin 1024) :
    k0_pay28 x0 x1 x2 x3 x4 x5 x6 (ix2 r d) = tileNorm x0 x1 x2 x3 x4 x5 r' d := by
  have at_row : 256 + 1 * r.val = r'.val := by omega
  have h0 : ∀ k : Fin 1024, View.ld x0 r0_8 (ix3 (0 : Fin 1) r k) = x0 (ix3 (0 : Fin 1) r' k) := fun k => congrArg x0 (funext fun a => Fin.ext (by fin_cases a <;> first | rfl | exact (Nat.zero_add _).trans (Nat.one_mul _) | exact at_row))
  have h2 : ∀ k : Fin 128, View.ld x2 r0_9 (ix3 (0 : Fin 1) r k) = x2 (ix3 (0 : Fin 1) r' k) := fun k => congrArg x2 (funext fun a => Fin.ext (by fin_cases a <;> first | rfl | exact (Nat.zero_add _).trans (Nat.one_mul _) | exact at_row))
  have h1 : ∀ k : Fin 1024, View.ld x1 r0_10 (ix4 (0 : Fin 1) (0 : Fin 1) r k) = x1 (ix4 (0 : Fin 2) (0 : Fin 1) r' k) := fun k => congrArg x1 (funext fun a => Fin.ext (by fin_cases a <;> first | rfl | exact (Nat.zero_add _).trans (Nat.one_mul _) | exact at_row))
  have h1' : ∀ k : Fin 1024, View.ld x1 r0_11 (ix4 (0 : Fin 1) (0 : Fin 1) r k) = x1 (ix4 (1 : Fin 2) (0 : Fin 1) r' k) := fun k => congrArg x1 (funext fun a => Fin.ext (by fin_cases a <;> first | rfl | exact (Nat.zero_add _).trans (Nat.one_mul _) | exact at_row))
  have h3 : ∀ k : Fin 1024, View.ld x3 r0_4 (ix3 (0 : Fin 1) (0 : Fin 1) k) = x3 (ix3 (0 : Fin 1) (5 : Fin 6) k) := fun k => congrArg x3 (funext fun a => Fin.ext (by fin_cases a <;> first | rfl | exact (Nat.zero_add _).trans (Nat.one_mul _) | exact at_row))
  have h4 : ∀ k : Fin 1024, View.ld x4 r0_5 (ix2 (0 : Fin 1) k) = x4 (ix2 (0 : Fin 1) k) := fun k => congrArg x4 (funext fun a => Fin.ext (by fin_cases a <;> first | rfl | exact (Nat.zero_add _).trans (Nat.one_mul _) | exact at_row))
  have h5 : ∀ k : Fin 1024, View.ld x5 r0_6 (ix3 (0 : Fin 1) (0 : Fin 1) k) = x5 (ix3 (0 : Fin 1) (1 : Fin 6) k) := fun k => congrArg x5 (funext fun a => Fin.ext (by fin_cases a <;> first | rfl | exact (Nat.zero_add _).trans (Nat.one_mul _) | exact at_row))
  have h5' : ∀ k : Fin 1024, View.ld x5 r0_7 (ix3 (0 : Fin 1) (0 : Fin 1) k) = x5 (ix3 (0 : Fin 1) (0 : Fin 6) k) := fun k => congrArg x5 (funext fun a => Fin.ext (by fin_cases a <;> first | rfl | exact (Nat.zero_add _).trans (Nat.one_mul _) | exact at_row))
  unfold k0_pay28 k0_pay26 k0_pay27
  refine (lower_norm _ _ _ _ _ _ _ _ r d).trans ?_
  unfold tileNorm tileStream
  simp only [h0, h1, h1', h2, h3, h4, h5, h5']

/-- A piece of the projection's tile, from its rows and its columns. -/
theorem piece (o c : ℕ) (P : S1x256x512.Idx → EReal) (n : S256x1024.Idx → EReal) (w : S1024x512.Idx → EReal) (rows : Fin 512 → Fin 1024 → EReal)
    (hP : ∀ (r : Fin 256) (j : Fin 512), P (ix3 (0 : Fin 1) r j) = against (fun k => n (ix2 r k)) (fun k => w (ix2 k j)))
    (hn : ∀ (r : Fin 256) (r' : Fin 512), r'.val = o + r.val → ∀ k : Fin 1024, n (ix2 r k) = rows r' k)
    (hw : ∀ (k : Fin 1024) (j : Fin 512) (j' : Fin 3072), j'.val = c + j.val → w (ix2 k j) = x6 (ix2 k j')) (y : S1x512x3072.Idx) :
    View.TileAt (Val := Elt Ideal) (e := .bf16) y ![0, o, c] S1x256x512.size P (against (rows (y 1)) (fun k => x6 (ix2 k (y 2)))) := by
  intro x hx
  let x' : S1x256x512.Idx := x
  have h0 : (x' 0).val < 1 := (x' 0).isLt
  have e : x' = ix3 (0 : Fin 1) (x' 1) (x' 2) := (eq_ix3 x').trans (congrArg (fun z => ix3 z (x' 1) (x' 2)) (Fin.ext (by show (x' 0).val = 0; omega)))
  refine (congrArg P e).trans ((hP (x' 1) (x' 2)).trans ?_)
  unfold against
  exact Finset.sum_congr rfl fun k _ => congrArg₂ (· * ·) (hn (x' 1) (y 1) (hx 1) k) (hw k (x' 2) (y 2) (hx 2))

/-- A piece of the residual's tile. -/
theorem strip (o : ℕ) (P : S1x256x1024.Idx → EReal) (rows : Fin 512 → Fin 1024 → EReal)
    (hP : ∀ (r : Fin 256) (r' : Fin 512), r'.val = o + r.val → ∀ k : Fin 1024, P (ix3 (0 : Fin 1) r k) = rows r' k) (y : S1x512x1024.Idx) :
    View.TileAt (Val := Elt Ideal) (e := .f32) y ![0, o, 0] S1x256x1024.size P (rows (y 1) (y 2)) := by
  intro x hx
  let x' : S1x256x1024.Idx := x
  have h0 : (x' 0).val < 1 := (x' 0).isLt
  have e : x' = ix3 (0 : Fin 1) (x' 1) (x' 2) := (eq_ix3 x').trans (congrArg (fun z => ix3 z (x' 1) (x' 2)) (Fin.ext (by show (x' 0).val = 0; omega)))
  refine (congrArg P e).trans ((hP (x' 1) (y 1) (hx 1) (x' 2)).trans ?_)
  exact congrArg (rows (y 1)) (Fin.ext ((Nat.zero_add _).symm.trans (hx 2).symm))

/-- A tile of the residual. -/
theorem left7 (y : S1x512x1024.Idx) : out0_7 x0 x1 x2 x3 x4 x5 x6 y = tileStream x0 x1 x2 x3 (y 1) (y 2) := by
  unfold out0_7
  exact View.canon_eq_of_allAt _ y _ (cover0_7 _ _ y)
    (View.allAt_cons_unit _ _ _ _ _ (strip 256 _ (tileStream x0 x1 x2 x3) (lower_stream_at x0 x1 x2 x3 x4 x5 x6) y)
    (View.allAt_cons_unit _ _ _ _ _ (strip 0 _ (tileStream x0 x1 x2 x3) (upper_stream_at x0 x1 x2 x3) y) (View.allAt_nil _ _)))

theorem cols0 (k : Fin 1024) (j : Fin 512) (j' : Fin 3072) (h : j'.val = 0 + j.val) : View.ld x6 r0_12 (ix2 k j) = x6 (ix2 k j') := by
  have at_col : 0 + 1 * j.val = j'.val := by omega
  exact congrArg x6 (funext fun a => Fin.ext (by fin_cases a <;> first | exact (Nat.zero_add _).trans (Nat.one_mul _) | exact at_col))

theorem cols512 (k : Fin 1024) (j : Fin 512) (j' : Fin 3072) (h : j'.val = 512 + j.val) : View.ld x6 r0_14 (ix2 k j) = x6 (ix2 k j') := by
  have at_col : 512 + 1 * j.val = j'.val := by omega
  exact congrArg x6 (funext fun a => Fin.ext (by fin_cases a <;> first | exact (Nat.zero_add _).trans (Nat.one_mul _) | exact at_col))

theorem cols1024 (k : Fin 1024) (j : Fin 512) (j' : Fin 3072) (h : j'.val = 1024 + j.val) : View.ld x6 r0_16 (ix2 k j) = x6 (ix2 k j') := by
  have at_col : 1024 + 1 * j.val = j'.val := by omega
  exact congrArg x6 (funext fun a => Fin.ext (by fin_cases a <;> first | exact (Nat.zero_add _).trans (Nat.one_mul _) | exact at_col))

theorem cols1536 (k : Fin 1024) (j : Fin 512) (j' : Fin 3072) (h : j'.val = 1536 + j.val) : View.ld x6 r0_18 (ix2 k j) = x6 (ix2 k j') := by
  have at_col : 1536 + 1 * j.val = j'.val := by omega
  exact congrArg x6 (funext fun a => Fin.ext (by fin_cases a <;> first | exact (Nat.zero_add _).trans (Nat.one_mul _) | exact at_col))

theorem cols2048 (k : Fin 1024) (j : Fin 512) (j' : Fin 3072) (h : j'.val = 2048 + j.val) : View.ld x6 r0_20 (ix2 k j) = x6 (ix2 k j') := by
  have at_col : 2048 + 1 * j.val = j'.val := by omega
  exact congrArg x6 (funext fun a => Fin.ext (by fin_cases a <;> first | exact (Nat.zero_add _).trans (Nat.one_mul _) | exact at_col))

theorem cols2560 (k : Fin 1024) (j : Fin 512) (j' : Fin 3072) (h : j'.val = 2560 + j.val) : View.ld x6 r0_22 (ix2 k j) = x6 (ix2 k j') := by
  have at_col : 2560 + 1 * j.val = j'.val := by omega
  exact congrArg x6 (funext fun a => Fin.ext (by fin_cases a <;> first | exact (Nat.zero_add _).trans (Nat.one_mul _) | exact at_col))

/-- A tile of the projection. -/
theorem left8 (y : S1x512x3072.Idx) :
    out0_8 x0 x1 x2 x3 x4 x5 x6 y = against (tileNorm x0 x1 x2 x3 x4 x5 (y 1)) (fun k => x6 (ix2 k (y 2))) := by
  have up := upper_norm_at x0 x1 x2 x3 x4 x5 x6
  have lo := lower_norm_at x0 x1 x2 x3 x4 x5 x6
  unfold out0_8
  refine View.canon_eq_of_allAt _ y _ (cover0_8 _ _ _ _ _ _ _ _ _ _ _ _ y) ?_
  refine View.allAt_cons_unit _ _ _ _ _ (piece x6 256 2560 _ _ _ _ (prod3 _ _) lo (cols2560 x6) y) ?_
  refine View.allAt_cons_unit _ _ _ _ _ (piece x6 256 2048 _ _ _ _ (prod2 _ _) lo (cols2048 x6) y) ?_
  refine View.allAt_cons_unit _ _ _ _ _ (piece x6 256 1536 _ _ _ _ (prod1 _ _) lo (cols1536 x6) y) ?_
  refine View.allAt_cons_unit _ _ _ _ _ (piece x6 256 1024 _ _ _ _ (prod23 _ _) lo (cols1024 x6) y) ?_
  refine View.allAt_cons_unit _ _ _ _ _ (piece x6 256 512 _ _ _ _ (prod22 _ _) lo (cols512 x6) y) ?_
  refine View.allAt_cons_unit _ _ _ _ _ (piece x6 256 0 _ _ _ _ (prod21 _ _) lo (cols0 x6) y) ?_
  refine View.allAt_cons_unit _ _ _ _ _ (piece x6 0 2560 _ _ _ _ (prod20 _ _) up (cols2560 x6) y) ?_
  refine View.allAt_cons_unit _ _ _ _ _ (piece x6 0 2048 _ _ _ _ (prod19 _ _) up (cols2048 x6) y) ?_
  refine View.allAt_cons_unit _ _ _ _ _ (piece x6 0 1536 _ _ _ _ (prod18 _ _) up (cols1536 x6) y) ?_
  refine View.allAt_cons_unit _ _ _ _ _ (piece x6 0 1024 _ _ _ _ (prod17 _ _) up (cols1024 x6) y) ?_
  refine View.allAt_cons_unit _ _ _ _ _ (piece x6 0 512 _ _ _ _ (prod16 _ _) up (cols512 x6) y) ?_
  refine View.allAt_cons_unit _ _ _ _ _ (piece x6 0 0 _ _ _ _ (prod15 _ _) up (cols0 x6) y) ?_
  exact View.allAt_nil _ _

/-- The block of the batch and the block of the sequence at a point. -/
theorem batch_at (t : Fin grid0.N) : (grid0.coords t 0).val = t.val / 8 % 8 := Pipeline.Grid.coords_val t 0 (by decide) rfl
theorem seq_at (t : Fin grid0.N) : (grid0.coords t 1).val = t.val % 8 := by
  have h : (grid0.coords t 1).val = t.val / 1 % 8 := Pipeline.Grid.coords_val t 1 (by decide) rfl
  rw [h, Nat.div_one]

theorem word_batch (t : Fin grid0.N) : (BitVec.ofNat 32 (grid0.coords t 0).val).toNat = t.val / 8 % 8 := by
  rw [batch_at, BitVec.toNat_ofNat]; omega
theorem word_seq (t : Fin grid0.N) : (BitVec.ofNat 32 (grid0.coords t 1).val).toNat = t.val % 8 := by
  rw [seq_at, BitVec.toNat_ofNat]; omega

variable (m : (ℓ : Loc nD τ sig) → Buf (Elt Ideal) ℓ)

/-- The norm's weight as the launch finds it, and the matrix. -/
theorem weight_at (c : Dev nD) : (V m c main_v1 : S1x1024.Idx → EReal) = shapeCast S1x1024 (m ((c : Thread nD τ).loc main_arg4)) shapeCasts_S1024_S1x1024 := by
  unfold V
  after_results
  rfl
theorem matrix_at (c : Dev nD) : (V m c main_v0 : S1024x3072.Idx → EReal) = m ((c : Thread nD τ).loc main_arg6) := by
  unfold V
  after_results
  rfl

set_option backward.isDefEq.respectTransparency.types false

/-- The tile's residual. -/
theorem block0_apply (c : Dev nD) (t : Fin cfg0.N) (y : S1x512x1024.Idx) (z : S8x4096x1024.Idx) (h0 : (z 0).val = t.val / 8 % 8) (h1 : (z 1).val = t.val % 8 * 512 + (y 1).val)
    (h2 : (z 2).val = (y 2).val) :
    (iblk m c 0 t : Vec Ideal S1x512x1024 .f32) y = m ((c : Thread nD τ).loc main_arg0) z := by
  have e : (((cfg0.win 0).blk t).view.emb y : S8x4096x1024.Idx) = z := by
    have e0 : win0_0.index t (0 : Fin 3) = t.val / 8 % 8 := word_batch t
    have e1 : win0_0.index t (1 : Fin 3) = t.val % 8 := word_seq t
    have e2 : win0_0.index t (2 : Fin 3) = 0 := rfl
    funext a
    apply Fin.ext
    fin_cases a
    · blk_simp; rw [e0]; exact h0.symm
    · blk_simp; rw [e1]; exact h1.symm
    · blk_simp; rw [e2, Nat.zero_mul, Nat.zero_add]; exact h2.symm
  rw [← e]
  exact congrFun (V_main_arg0 m c) _

/-- The tile's outputs of the two experts. -/
theorem block1_apply (c : Dev nD) (t : Fin cfg0.N) (y : S2x1x512x1024.Idx) (z : S2x8x4096x1024.Idx) (h0 : (z 0).val = (y 0).val) (h1 : (z 1).val = t.val / 8 % 8)
    (h2 : (z 2).val = t.val % 8 * 512 + (y 2).val) (h3 : (z 3).val = (y 3).val) :
    (iblk m c 1 t : Vec Ideal S2x1x512x1024 .bf16) y = m ((c : Thread nD τ).loc main_arg1) z := by
  have e : (((cfg0.win 1).blk t).view.emb y : S2x8x4096x1024.Idx) = z := by
    have e0 : win0_1.index t (0 : Fin 4) = 0 := rfl
    have e1 : win0_1.index t (1 : Fin 4) = t.val / 8 % 8 := word_batch t
    have e2 : win0_1.index t (2 : Fin 4) = t.val % 8 := word_seq t
    have e3 : win0_1.index t (3 : Fin 4) = 0 := rfl
    funext a
    apply Fin.ext
    fin_cases a
    · blk_simp; rw [e0, Nat.zero_mul, Nat.zero_add]; exact h0.symm
    · blk_simp; rw [e1]; exact h1.symm
    · blk_simp; rw [e2]; exact h2.symm
    · blk_simp; rw [e3, Nat.zero_mul, Nat.zero_add]; exact h3.symm
  rw [← e]
  exact congrFun (V_main_arg1 m c) _

/-- The tile's routing. -/
theorem block2_apply (c : Dev nD) (t : Fin cfg0.N) (y : S1x512x128.Idx) (z : S8x4096x128.Idx) (h0 : (z 0).val = t.val / 8 % 8) (h1 : (z 1).val = t.val % 8 * 512 + (y 1).val)
    (h2 : (z 2).val = (y 2).val) :
    (iblk m c 2 t : Vec Ideal S1x512x128 .f32) y = m ((c : Thread nD τ).loc main_arg2) z := by
  have e : (((cfg0.win 2).blk t).view.emb y : S8x4096x128.Idx) = z := by
    have e0 : win0_2.index t (0 : Fin 3) = t.val / 8 % 8 := word_batch t
    have e1 : win0_2.index t (1 : Fin 3) = t.val % 8 := word_seq t
    have e2 : win0_2.index t (2 : Fin 3) = 0 := rfl
    funext a
    apply Fin.ext
    fin_cases a
    · blk_simp; rw [e0]; exact h0.symm
    · blk_simp; rw [e1]; exact h1.symm
    · blk_simp; rw [e2, Nat.zero_mul, Nat.zero_add]; exact h2.symm
  rw [← e]
  exact congrFun (V_main_arg2 m c) _

/-- The batch's modulation, of the layer before. -/
theorem block3_apply (c : Dev nD) (t : Fin cfg0.N) (y : S1x6x1024.Idx) (z : S8x6x1024.Idx) (h0 : (z 0).val = t.val / 8 % 8) (h1 : (z 1).val = (y 1).val)
    (h2 : (z 2).val = (y 2).val) :
    (iblk m c 3 t : Vec Ideal S1x6x1024 .f32) y = m ((c : Thread nD τ).loc main_arg3) z := by
  have e : (((cfg0.win 3).blk t).view.emb y : S8x6x1024.Idx) = z := by
    have e0 : win0_3.index t (0 : Fin 3) = t.val / 8 % 8 := word_batch t
    have e1 : win0_3.index t (1 : Fin 3) = 0 := rfl
    have e2 : win0_3.index t (2 : Fin 3) = 0 := rfl
    funext a
    apply Fin.ext
    fin_cases a
    · blk_simp; rw [e0]; exact h0.symm
    · blk_simp; rw [e1, Nat.zero_mul, Nat.zero_add]; exact h1.symm
    · blk_simp; rw [e2, Nat.zero_mul, Nat.zero_add]; exact h2.symm
  rw [← e]
  exact congrFun (V_main_arg3 m c) _

/-- The norm's weight. -/
theorem block4_apply (c : Dev nD) (t : Fin cfg0.N) (y : S1x1024.Idx) (z : S1x1024.Idx) (h0 : (z 0).val = (y 0).val) (h1 : (z 1).val = (y 1).val) :
    (iblk m c 4 t : Vec Ideal S1x1024 .f32) y = (V m c main_v1 : S1x1024.Idx → EReal) z := by
  have e : (((cfg0.win 4).blk t).view.emb y : S1x1024.Idx) = z := by
    have e0 : win0_4.index t (0 : Fin 2) = 0 := rfl
    have e1 : win0_4.index t (1 : Fin 2) = 0 := rfl
    funext a
    apply Fin.ext
    fin_cases a
    · blk_simp; rw [e0]
    · blk_simp; rw [e1, Nat.zero_mul, Nat.zero_add]; exact h1.symm
  rw [← e]; rfl

/-- The batch's modulation. -/
theorem block5_apply (c : Dev nD) (t : Fin cfg0.N) (y : S1x6x1024.Idx) (z : S8x6x1024.Idx) (h0 : (z 0).val = t.val / 8 % 8) (h1 : (z 1).val = (y 1).val)
    (h2 : (z 2).val = (y 2).val) :
    (iblk m c 5 t : Vec Ideal S1x6x1024 .f32) y = m ((c : Thread nD τ).loc main_arg5) z := by
  have e : (((cfg0.win 5).blk t).view.emb y : S8x6x1024.Idx) = z := by
    have e0 : win0_5.index t (0 : Fin 3) = t.val / 8 % 8 := word_batch t
    have e1 : win0_5.index t (1 : Fin 3) = 0 := rfl
    have e2 : win0_5.index t (2 : Fin 3) = 0 := rfl
    funext a
    apply Fin.ext
    fin_cases a
    · blk_simp; rw [e0]; exact h0.symm
    · blk_simp; rw [e1, Nat.zero_mul, Nat.zero_add]; exact h1.symm
    · blk_simp; rw [e2, Nat.zero_mul, Nat.zero_add]; exact h2.symm
  rw [← e]
  exact congrFun (V_main_arg5 m c) _

/-- The matrix. -/
theorem block6_apply (c : Dev nD) (t : Fin cfg0.N) (y : S1024x3072.Idx) (z : S1024x3072.Idx) (h0 : (z 0).val = (y 0).val) (h1 : (z 1).val = (y 1).val) :
    (iblk m c 6 t : Vec Ideal S1024x3072 .bf16) y = (V m c main_v0 : S1024x3072.Idx → EReal) z := by
  have e : (((cfg0.win 6).blk t).view.emb y : S1024x3072.Idx) = z := by
    have e0 : win0_6.index t (0 : Fin 2) = 0 := rfl
    have e1 : win0_6.index t (1 : Fin 2) = 0 := rfl
    funext a
    apply Fin.ext
    fin_cases a
    · blk_simp; rw [e0, Nat.zero_mul, Nat.zero_add]; exact h0.symm
    · blk_simp; rw [e1, Nat.zero_mul, Nat.zero_add]; exact h1.symm
  rw [← e]; rfl

/-- A row of the residual from the argument arrays. -/
def resRow (x : S8x4096x1024.Idx → EReal) (y : S2x8x4096x1024.Idx → EReal) (w : S8x4096x128.Idx → EReal) (md : S8x6x1024.Idx → EReal)
    (b : Fin 8) (s : Fin 4096) : Fin 1024 → EReal :=
  stream (fun k => x (ix3 b s k)) (fun k => md (ix3 b (5 : Fin 6) k)) (w (ix3 b s (2 : Fin 128))) (w (ix3 b s (3 : Fin 128)))
    (fun k => y (ix4 (0 : Fin 2) b s k)) (fun k => y (ix4 (1 : Fin 2) b s k))

/-- A row of the projection from them. -/
def projRow (x : S8x4096x1024.Idx → EReal) (y : S2x8x4096x1024.Idx → EReal) (w : S8x4096x128.Idx → EReal) (md : S8x6x1024.Idx → EReal)
    (g : S1024.Idx → EReal) (ma : S8x6x1024.Idx → EReal) (W : S1024x3072.Idx → EReal) (b : Fin 8) (s : Fin 4096) (j : Fin 3072) : EReal :=
  against (shifted (resRow x y w md b s) (fun k => g (ix1 k)) (fun k => ma (ix3 b (1 : Fin 6) k)) (fun k => ma (ix3 b (0 : Fin 6) k)))
    (fun k => W (ix2 k j))

/-- A row of the residual at a point of the launch. -/
theorem stream_row (c : Dev nD) (t : Fin cfg0.N) (r : Fin 512) (b : Fin 8) (s : Fin 4096)
    (hb : b.val = t.val / 8 % 8) (hs : s.val = t.val % 8 * 512 + r.val) :
    tileStream (iblk m c 0 t) (iblk m c 1 t) (iblk m c 2 t) (iblk m c 3 t) r = resRow (m ((c : Thread nD τ).loc main_arg0)) (m ((c : Thread nD τ).loc main_arg1)) (m ((c : Thread nD τ).loc main_arg2)) (m ((c : Thread nD τ).loc main_arg3)) b s := by
  have x0 : ∀ k : Fin 1024, (iblk m c 0 t : Vec Ideal S1x512x1024 .f32) (ix3 (0 : Fin 1) r k) = m ((c : Thread nD τ).loc main_arg0) (ix3 b s k) :=
    fun k => block0_apply m c t _ _ hb hs rfl
  have x1 : ∀ (e : Fin 2) (k : Fin 1024), (iblk m c 1 t : Vec Ideal S2x1x512x1024 .bf16) (ix4 e (0 : Fin 1) r k) = m ((c : Thread nD τ).loc main_arg1) (ix4 e b s k) :=
    fun e k => block1_apply m c t _ _ rfl hb hs rfl
  have x2 : ∀ k : Fin 128, (iblk m c 2 t : Vec Ideal S1x512x128 .f32) (ix3 (0 : Fin 1) r k) = m ((c : Thread nD τ).loc main_arg2) (ix3 b s k) :=
    fun k => block2_apply m c t _ _ hb hs rfl
  have x3 : ∀ k : Fin 1024, (iblk m c 3 t : Vec Ideal S1x6x1024 .f32) (ix3 (0 : Fin 1) (5 : Fin 6) k) = m ((c : Thread nD τ).loc main_arg3) (ix3 b (5 : Fin 6) k) :=
    fun k => block3_apply m c t _ _ hb rfl rfl
  unfold tileStream resRow
  simp only [x0, x1, x2, x3]

/-- A row of the projection at a point of the launch. -/
theorem proj_row (c : Dev nD) (t : Fin cfg0.N) (r : Fin 512) (j : Fin 3072) (b : Fin 8) (s : Fin 4096)
    (hb : b.val = t.val / 8 % 8) (hs : s.val = t.val % 8 * 512 + r.val) :
    against (tileNorm (iblk m c 0 t) (iblk m c 1 t) (iblk m c 2 t) (iblk m c 3 t) (iblk m c 4 t) (iblk m c 5 t) r) (fun k => (iblk m c 6 t : Vec Ideal S1024x3072 .bf16) (ix2 k j))
      = projRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b s j := by
  have x4 : ∀ k : Fin 1024, (iblk m c 4 t : Vec Ideal S1x1024 .f32) (ix2 (0 : Fin 1) k) = m ((c : Thread nD τ).loc main_arg4) (ix1 k) := fun k =>
    (block4_apply m c t (ix2 (0 : Fin 1) k) (ix2 (0 : Fin 1) k) rfl rfl).trans ((congrFun (weight_at m c) _).trans (by pointwise))
  have x5 : ∀ (q : Fin 6) (k : Fin 1024), (iblk m c 5 t : Vec Ideal S1x6x1024 .f32) (ix3 (0 : Fin 1) q k) = m ((c : Thread nD τ).loc main_arg5) (ix3 b q k) :=
    fun q k => block5_apply m c t _ _ hb rfl rfl
  have x6 : ∀ k : Fin 1024, (iblk m c 6 t : Vec Ideal S1024x3072 .bf16) (ix2 k j) = m ((c : Thread nD τ).loc main_arg6) (ix2 k j) := fun k =>
    (block6_apply m c t (ix2 k j) (ix2 k j) rfl rfl).trans (congrFun (matrix_at m c) _)
  unfold tileNorm projRow
  rw [stream_row m c t r b s hb hs]
  simp only [x4, x5, x6]

/-- The residual from its rows. -/
def resOutcome (c : Dev nD) : S8x4096x1024.Idx → EReal := fun i =>
  resRow (m ((c : Thread nD τ).loc main_arg0)) (m ((c : Thread nD τ).loc main_arg1)) (m ((c : Thread nD τ).loc main_arg2)) (m ((c : Thread nD τ).loc main_arg3)) (i 0) (i 1) (i 2)

/-- The projection from its rows. -/
def projOutcome (c : Dev nD) : S8x4096x3072.Idx → EReal := fun i =>
  projRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2)

/-- The points of the launch. -/
theorem points : cfg0.N = 64 := rfl

theorem res_arr (c : Dev nD) : (dats m 0 c).arrAt 7 cfg0.N = resOutcome m c := by
  refine (dats m 0 c).arrAt_eq_of_emb 7 (resOutcome m c) (fun t hf y => ?_) ?_
  · blk_simp
    rw [after0_7]
    have ht : t.val < 64 := lt_of_lt_of_eq t.isLt points
    let y' : S1x512x1024.Idx := y
    have h0 : (y' 0).val < 1 := (y' 0).isLt
    have h1 : (y' 1).val < 512 := (y' 1).isLt
    have e : (((cfg0.win 7).blk t).view.emb y : S8x4096x1024.Idx)
        = ix3 (⟨t.val / 8 % 8, by omega⟩ : Fin 8) (⟨t.val % 8 * 512 + (y' 1).val, by omega⟩ : Fin 4096) (y' 2) := by
      have e0 : win0_7.index t (0 : Fin 3) = t.val / 8 % 8 := word_batch t
      have e1 : win0_7.index t (1 : Fin 3) = t.val % 8 := word_seq t
      have e2 : win0_7.index t (2 : Fin 3) = 0 := rfl
      funext a
      apply Fin.ext
      fin_cases a
      · blk_simp; rw [e0]; rfl
      · blk_simp; rw [e1]; rfl
      · blk_simp; rw [e2, Nat.zero_mul, Nat.zero_add]; rfl
    exact ((left7 (iblk m c 0 t) (iblk m c 1 t) (iblk m c 2 t) (iblk m c 3 t) (iblk m c 4 t) (iblk m c 5 t) (iblk m c 6 t) y').trans
      (congrFun (stream_row m c t (y' 1) _ _ rfl rfl) (y' 2))).trans (congrArg (resOutcome m c) e.symm)
  · intro i
    let i' : S8x4096x1024.Idx := i
    have h0 : (i' 0).val < 8 := (i' 0).isLt
    have h1 : (i' 1).val < 4096 := (i' 1).isLt
    have h2 : (i' 2).val < 1024 := (i' 2).isLt
    let t : Fin cfg0.N := ⟨(i' 0).val * 8 + (i' 1).val / 512, lt_of_lt_of_eq (by omega : (i' 0).val * 8 + (i' 1).val / 512 < 64) points.symm⟩
    refine ⟨t, flush0_7 t, ((cfg0.win 7).emb_mem_blk_iff t i' rfl).mpr fun a => ?_⟩
    have e0 : win0_7.index t (0 : Fin 3) = ((i' 0).val * 8 + (i' 1).val / 512) / 8 % 8 := word_batch t
    have e1 : win0_7.index t (1 : Fin 3) = ((i' 0).val * 8 + (i' 1).val / 512) % 8 := word_seq t
    match a with
    | ⟨0, _⟩ =>
      show win0_7.index t (0 : Fin 3) * 1 ≤ (i' 0).val ∧ (i' 0).val < win0_7.index t (0 : Fin 3) * 1 + 1
      rw [e0]; omega
    | ⟨1, _⟩ =>
      show win0_7.index t (1 : Fin 3) * 512 ≤ (i' 1).val ∧ (i' 1).val < win0_7.index t (1 : Fin 3) * 512 + 512
      rw [e1]; omega
    | ⟨2, _⟩ =>
      show 0 * 1024 ≤ (i' 2).val ∧ (i' 2).val < 0 * 1024 + 1024
      omega

theorem proj_arr (c : Dev nD) : (dats m 0 c).arrAt 8 cfg0.N = projOutcome m c := by
  refine (dats m 0 c).arrAt_eq_of_emb 8 (projOutcome m c) (fun t hf y => ?_) ?_
  · blk_simp
    rw [after0_8]
    have ht : t.val < 64 := lt_of_lt_of_eq t.isLt points
    let y' : S1x512x3072.Idx := y
    have h0 : (y' 0).val < 1 := (y' 0).isLt
    have h1 : (y' 1).val < 512 := (y' 1).isLt
    have e : (((cfg0.win 8).blk t).view.emb y : S8x4096x3072.Idx)
        = ix3 (⟨t.val / 8 % 8, by omega⟩ : Fin 8) (⟨t.val % 8 * 512 + (y' 1).val, by omega⟩ : Fin 4096) (y' 2) := by
      have e0 : win0_8.index t (0 : Fin 3) = t.val / 8 % 8 := word_batch t
      have e1 : win0_8.index t (1 : Fin 3) = t.val % 8 := word_seq t
      have e2 : win0_8.index t (2 : Fin 3) = 0 := rfl
      funext a
      apply Fin.ext
      fin_cases a
      · blk_simp; rw [e0]; rfl
      · blk_simp; rw [e1]; rfl
      · blk_simp; rw [e2, Nat.zero_mul, Nat.zero_add]; rfl
    exact ((left8 (iblk m c 0 t) (iblk m c 1 t) (iblk m c 2 t) (iblk m c 3 t) (iblk m c 4 t) (iblk m c 5 t) (iblk m c 6 t) y').trans
      (proj_row m c t (y' 1) (y' 2) _ _ rfl rfl)).trans (congrArg (projOutcome m c) e.symm)
  · intro i
    let i' : S8x4096x3072.Idx := i
    have h0 : (i' 0).val < 8 := (i' 0).isLt
    have h1 : (i' 1).val < 4096 := (i' 1).isLt
    have h2 : (i' 2).val < 3072 := (i' 2).isLt
    let t : Fin cfg0.N := ⟨(i' 0).val * 8 + (i' 1).val / 512, lt_of_lt_of_eq (by omega : (i' 0).val * 8 + (i' 1).val / 512 < 64) points.symm⟩
    refine ⟨t, flush0_8 t, ((cfg0.win 8).emb_mem_blk_iff t i' rfl).mpr fun a => ?_⟩
    have e0 : win0_8.index t (0 : Fin 3) = ((i' 0).val * 8 + (i' 1).val / 512) / 8 % 8 := word_batch t
    have e1 : win0_8.index t (1 : Fin 3) = ((i' 0).val * 8 + (i' 1).val / 512) % 8 := word_seq t
    match a with
    | ⟨0, _⟩ =>
      show win0_8.index t (0 : Fin 3) * 1 ≤ (i' 0).val ∧ (i' 0).val < win0_8.index t (0 : Fin 3) * 1 + 1
      rw [e0]; omega
    | ⟨1, _⟩ =>
      show win0_8.index t (1 : Fin 3) * 512 ≤ (i' 1).val ∧ (i' 1).val < win0_8.index t (1 : Fin 3) * 512 + 512
      rw [e1]; omega
    | ⟨2, _⟩ =>
      show 0 * 3072 ≤ (i' 2).val ∧ (i' 2).val < 0 * 3072 + 3072
      omega

end Cert.Proof.ProjectRows
end
-- ==== Proof.ProjectReference.lean ====
/-
  What the plain mathematics gives for each row of the odd layers' residual and input projection, over the extended reals.
-/
module

public import proofs.«01_k».proof.Proof.ProjectValue
public import proofs.«01_k».proof.Proof.Gen.ProjectReferenceIdeal.Run

@[expose] public section

set_option maxRecDepth 16384

noncomputable section

namespace Cert.Proof.ProjectRows

open Cert.ProjectReferenceIdeal Cert.ProjectReferenceIdeal.Gen
open Cert.Proof.FinalRows (stream normed)

open Idealize.ShloMosaic Idealize.ShloMosaic.TcCoe Idealize.SL.Sem

variable (m : (ℓ : Loc nD τ sig) → Buf (Elt Ideal) ℓ)

/-- The residual's array from its rows, and the projection's. -/
def resRows (x : S8x4096x1024.Idx → EReal) (y : S2x8x4096x1024.Idx → EReal) (w : S8x4096x128.Idx → EReal) (md : S8x6x1024.Idx → EReal) :
    S8x4096x1024.Idx → EReal := fun i => resRow x y w md (i 0) (i 1) (i 2)
def projRows (x : S8x4096x1024.Idx → EReal) (y : S2x8x4096x1024.Idx → EReal) (w : S8x4096x128.Idx → EReal) (md : S8x6x1024.Idx → EReal)
    (g : S1024.Idx → EReal) (ma : S8x6x1024.Idx → EReal) (W : S1024x3072.Idx → EReal) : S8x4096x3072.Idx → EReal :=
  fun i => projRow x y w md g ma W (i 0) (i 1) (i 2)

set_option maxHeartbeats 1000000 in
theorem proj_apply (c : Dev nD) (b : Fin 8) (s : Fin 4096) (j : Fin 3072) :
    (Value.res_out1 m c : S8x4096x3072.Idx → EReal) (ix3 b s j) = projRow (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) b s j := by
  pointwise [Value.res_out1, Value.res_main_v49, projRow, against, shifted, normed, resRow, stream]

theorem proj_eq (c : Dev nD) : (Value.res_out1 m c : S8x4096x3072.Idx → EReal) = projRows (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) :=
  funext fun i => (congrArg (Value.res_out1 m c : S8x4096x3072.Idx → EReal) (eq_ix3 i)).trans (proj_apply m c (i 0) (i 1) (i 2))

/-- An array that reads a row at a time as `resRow` does. -/
theorem res_of_rows (c : Dev nD) (v : S8x4096x1024.Idx → EReal)
    (h : ∀ (b : Fin 8) (s : Fin 4096) (d : Fin 1024), v (ix3 b s d) = resRow (m ((c.tc : Thread nD τ).loc main_arg0)) (m ((c.tc : Thread nD τ).loc main_arg1)) (m ((c.tc : Thread nD τ).loc main_arg2)) (m ((c.tc : Thread nD τ).loc main_arg3)) b s d) :
    v = resRows (m ((c.tc : Thread nD τ).loc main_arg0)) (m ((c.tc : Thread nD τ).loc main_arg1)) (m ((c.tc : Thread nD τ).loc main_arg2)) (m ((c.tc : Thread nD τ).loc main_arg3)) :=
  funext fun i => (congrArg v (eq_ix3 i)).trans (h (i 0) (i 1) (i 2))

/-- The reference's run, its two results a row at a time. -/
theorem run_rows (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = resRows (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v49) = projRows (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (res_of_rows m c _ fun b s d => by
      pointwise [resRow, stream]), (h c).2.1.trans (proj_eq m c), (h c).2.2⟩) (Value.run m ρ)

/-- The rows of arrays that agree. -/
theorem res_congr {x x' : S8x4096x1024.Idx → EReal} {y y' : S2x8x4096x1024.Idx → EReal} {w w' : S8x4096x128.Idx → EReal}
    {md md' : S8x6x1024.Idx → EReal} (h0 : x = x') (h1 : y = y') (h2 : w = w') (h3 : md = md') : resRows x y w md = resRows x' y' w' md' := by
  subst h0 h1 h2 h3; rfl
theorem proj_congr {x x' : S8x4096x1024.Idx → EReal} {y y' : S2x8x4096x1024.Idx → EReal} {w w' : S8x4096x128.Idx → EReal}
    {md md' : S8x6x1024.Idx → EReal} {g g' : S1024.Idx → EReal} {ma ma' : S8x6x1024.Idx → EReal} {W W' : S1024x3072.Idx → EReal}
    (h0 : x = x') (h1 : y = y') (h2 : w = w') (h3 : md = md') (h4 : g = g') (h5 : ma = ma') (h6 : W = W') :
    projRows x y w md g ma W = projRows x' y' w' md' g' ma' W' := by
  subst h0 h1 h2 h3 h4 h5 h6; rfl

end Cert.Proof.ProjectRows
end
-- ==== Proof.FirstValue.lean ====
/-
  The first layer's input projection, which has a gate too, a row at a time over the extended reals: what a tile leaves in a row of each
  output, and what the launch leaves.
-/
module

public import proofs.«01_k».proof.Proof.ProjectValue
public import proofs.«01_k».proof.Proof.Gen.FirstProjectIdeal.Value
public import Idealize.ShloMosaic.Lib.Pipeline.ValueKit
public import Idealize.ShloMosaic.Lib.Pointwise
public import Idealize.ShloMosaic.Lib.IdealHost
public import Idealize.ShloMosaic.Lib.Routing.OpsOne

@[expose] public section

set_option maxRecDepth 16384

noncomputable section

namespace Cert.Proof.FirstRows

open Cert.FirstProjectIdeal Cert.FirstProjectIdeal.Gen
open Cert.Proof.FinalRows (stream normed)
open Cert.Proof.ProjectRows (shifted against piece strip tileStream tileNorm resRow)

open Idealize.ShloMosaic Idealize.ShloMosaic.TcCoe

/-- The row the products read, in the first half. -/
theorem upper_norm (P0 : Vec Ideal S1x256x1024 .f32) (P5 : Vec Ideal S1x1024 .f32) (P6 P7 : Vec Ideal S1x1x1024 .f32) (r : Fin 256) (d : Fin 1024) :
    k0_pay4 P0 P5 P6 P7 (ix2 r d)
      = shifted (fun k => P0 (ix3 (0 : Fin 1) r k))
        (fun k => P5 (ix2 (0 : Fin 1) k)) (fun k => P6 (ix3 (0 : Fin 1) (0 : Fin 1) k)) (fun k => P7 (ix3 (0 : Fin 1) (0 : Fin 1) k)) d := by
  pointwise [k0_pay4, shifted, normed]

/-- The row the products read, in the second half. -/
theorem lower_norm (P0 : Vec Ideal S1x256x1024 .f32) (P5 : Vec Ideal S1x1024 .f32) (P6 P7 : Vec Ideal S1x1x1024 .f32) (r : Fin 256) (d : Fin 1024) :
    k0_pay8 (k0_pay5 P0) (k0_pay6 P5) (k0_pay7 P0) P6 P7 (ix2 r d)
      = shifted (fun k => P0 (ix3 (0 : Fin 1) r k))
        (fun k => P5 (ix2 (0 : Fin 1) k)) (fun k => P6 (ix3 (0 : Fin 1) (0 : Fin 1) k)) (fun k => P7 (ix3 (0 : Fin 1) (0 : Fin 1) k)) d := by
  pointwise [k0_pay8, k0_pay7, k0_pay6, k0_pay5, shifted, normed]

section
variable (n : FVec Ideal S256x1024 .bf16) (w : Vec Ideal S1024x512 .bf16) (r : Fin 256) (j : Fin 512)

/-! Each product of a half's rows with 512 columns. -/

theorem prod2 : k0_pay2 n w (ix3 (0 : Fin 1) r j) = against (fun k => n (ix2 r k)) (fun k => w (ix2 k j)) := by
  pointwise [k0_pay2, against]
theorem prod1 : k0_pay1 n w (ix3 (0 : Fin 1) r j) = against (fun k => n (ix2 r k)) (fun k => w (ix2 k j)) := by
  pointwise [k0_pay1, against]
theorem prod21 : k0_pay21 n w (ix3 (0 : Fin 1) r j) = against (fun k => n (ix2 r k)) (fun k => w (ix2 k j)) := by
  pointwise [k0_pay21, against]
theorem prod20 : k0_pay20 n w (ix3 (0 : Fin 1) r j) = against (fun k => n (ix2 r k)) (fun k => w (ix2 k j)) := by
  pointwise [k0_pay20, against]
theorem prod19 : k0_pay19 n w (ix3 (0 : Fin 1) r j) = against (fun k => n (ix2 r k)) (fun k => w (ix2 k j)) := by
  pointwise [k0_pay19, against]
theorem prod18 : k0_pay18 n w (ix3 (0 : Fin 1) r j) = against (fun k => n (ix2 r k)) (fun k => w (ix2 k j)) := by
  pointwise [k0_pay18, against]
theorem prod15 : k0_pay15 n w (ix3 (0 : Fin 1) r j) = against (fun k => n (ix2 r k)) (fun k => w (ix2 k j)) := by
  pointwise [k0_pay15, against]
theorem prod14 : k0_pay14 n w (ix3 (0 : Fin 1) r j) = against (fun k => n (ix2 r k)) (fun k => w (ix2 k j)) := by
  pointwise [k0_pay14, against]
theorem prod13 : k0_pay13 n w (ix3 (0 : Fin 1) r j) = against (fun k => n (ix2 r k)) (fun k => w (ix2 k j)) := by
  pointwise [k0_pay13, against]
theorem prod12 : k0_pay12 (k0_pay11 n w) (ix3 (0 : Fin 1) r j) = against (fun k => n (ix2 r k)) (fun k => w (ix2 k j)) := by
  pointwise [k0_pay12, k0_pay11, against]
theorem prod10 : k0_pay10 n w (ix3 (0 : Fin 1) r j) = against (fun k => n (ix2 r k)) (fun k => w (ix2 k j)) := by
  pointwise [k0_pay10, against]
theorem prod9 : k0_pay9 n w (ix3 (0 : Fin 1) r j) = against (fun k => n (ix2 r k)) (fun k => w (ix2 k j)) := by
  pointwise [k0_pay9, against]
end

section
variable (n : FVec Ideal S256x1024 .bf16) (w : Vec Ideal S1024x128 .bf16) (r : Fin 256) (j : Fin 128)

/-! And with the gate's columns. -/

theorem prod3 : k0_pay3 n w (ix3 (0 : Fin 1) r j) = against (fun k => n (ix2 r k)) (fun k => w (ix2 k j)) := by
  pointwise [k0_pay3, against]
theorem prod17 : k0_pay17 (k0_pay16 n w) (ix3 (0 : Fin 1) r j) = against (fun k => n (ix2 r k)) (fun k => w (ix2 k j)) := by
  pointwise [k0_pay17, k0_pay16, against]
end

/-- The gate's tile, a piece of it. -/
theorem strip128 (o : ℕ) (P : S1x256x128.Idx → EReal) (n : S256x1024.Idx → EReal) (w W : S1024x128.Idx → EReal) (rows : Fin 512 → Fin 1024 → EReal)
    (hP : ∀ (r : Fin 256) (j : Fin 128), P (ix3 (0 : Fin 1) r j) = against (fun k => n (ix2 r k)) (fun k => w (ix2 k j)))
    (hn : ∀ (r : Fin 256) (r' : Fin 512), r'.val = o + r.val → ∀ k : Fin 1024, n (ix2 r k) = rows r' k)
    (hw : w = W) (y : S1x512x128.Idx) :
    View.TileAt (Val := Elt Ideal) (e := .f32) y ![0, o, 0] S1x256x128.size P (against (rows (y 1)) (fun k => W (ix2 k (y 2)))) := by
  intro x hx
  subst hw
  let x' : S1x256x128.Idx := x
  have h0 : (x' 0).val < 1 := (x' 0).isLt
  have e : x' = ix3 (0 : Fin 1) (x' 1) (x' 2) := (eq_ix3 x').trans (congrArg (fun z => ix3 z (x' 1) (x' 2)) (Fin.ext (by show (x' 0).val = 0; omega)))
  have e2 : x' 2 = y 2 := Fin.ext ((Nat.zero_add _).symm.trans (hx 2).symm)
  refine (congrArg P e).trans ((hP (x' 1) (x' 2)).trans ?_)
  unfold against
  exact Finset.sum_congr rfl fun k _ => congrArg₂ (· * ·) (hn (x' 1) (y 1) (hx 1) k) (congrArg (fun z => w (ix2 k z)) e2)

section
variable (x0 : Vec Ideal S1x512x1024 .f32) (x1 : Vec Ideal S1x1024 .f32) (x2 : Vec Ideal S1x6x1024 .f32) (x3 : Vec Ideal S1024x3072 .bf16)
  (x4 : Vec Ideal S1024x128 .bf16)

/-- A tile's row as the products read it. -/
def firstNorm (r : Fin 512) : Fin 1024 → EReal :=
  shifted (fun k => x0 (ix3 (0 : Fin 1) r k)) (fun k => x1 (ix2 (0 : Fin 1) k)) (fun k => x2 (ix3 (0 : Fin 1) (1 : Fin 6) k))
    (fun k => x2 (ix3 (0 : Fin 1) (0 : Fin 6) k))

theorem upper_norm_at (r : Fin 256) (r' : Fin 512) (hr : r'.val = 0 + r.val) (d : Fin 1024) :
    k0_pay22 x0 x1 x2 x3 x4 (ix2 r d) = firstNorm x0 x1 x2 r' d := by
  have at_row : 0 + 1 * r.val = r'.val := by omega
  have h0 : ∀ k : Fin 1024, View.ld x0 r0_0 (ix3 (0 : Fin 1) r k) = x0 (ix3 (0 : Fin 1) r' k) := fun k => congrArg x0 (funext fun a => Fin.ext (by fin_cases a <;> first | rfl | exact (Nat.zero_add _).trans (Nat.one_mul _) | exact at_row))
  have h4 : ∀ k : Fin 1024, View.ld x1 r0_1 (ix2 (0 : Fin 1) k) = x1 (ix2 (0 : Fin 1) k) := fun k => congrArg x1 (funext fun a => Fin.ext (by fin_cases a <;> first | rfl | exact (Nat.zero_add _).trans (Nat.one_mul _) | exact at_row))
  have h5 : ∀ k : Fin 1024, View.ld x2 r0_2 (ix3 (0 : Fin 1) (0 : Fin 1) k) = x2 (ix3 (0 : Fin 1) (1 : Fin 6) k) := fun k => congrArg x2 (funext fun a => Fin.ext (by fin_cases a <;> first | rfl | exact (Nat.zero_add _).trans (Nat.one_mul _) | exact at_row))
  have h5' : ∀ k : Fin 1024, View.ld x2 r0_3 (ix3 (0 : Fin 1) (0 : Fin 1) k) = x2 (ix3 (0 : Fin 1) (0 : Fin 6) k) := fun k => congrArg x2 (funext fun a => Fin.ext (by fin_cases a <;> first | rfl | exact (Nat.zero_add _).trans (Nat.one_mul _) | exact at_row))
  unfold k0_pay22
  refine (upper_norm _ _ _ _ r d).trans ?_
  unfold firstNorm
  simp only [h0, h4, h5, h5']

theorem lower_norm_at (r : Fin 256) (r' : Fin 512) (hr : r'.val = 256 + r.val) (d : Fin 1024) :
    k0_pay23 x0 x1 x2 x3 x4 (ix2 r d) = firstNorm x0 x1 x2 r' d := by
  have at_row : 256 + 1 * r.val = r'.val := by omega
  have h0 : ∀ k : Fin 1024, View.ld x0 r0_4 (ix3 (0 : Fin 1) r k) = x0 (ix3 (0 : Fin 1) r' k) := fun k => congrArg x0 (funext fun a => Fin.ext (by fin_cases a <;> first | rfl | exact (Nat.zero_add _).trans (Nat.one_mul _) | exact at_row))
  have h4 : ∀ k : Fin 1024, View.ld x1 r0_1 (ix2 (0 : Fin 1) k) = x1 (ix2 (0 : Fin 1) k) := fun k => congrArg x1 (funext fun a => Fin.ext (by fin_cases a <;> first | rfl | exact (Nat.zero_add _).trans (Nat.one_mul _) | exact at_row))
  have h5 : ∀ k : Fin 1024, View.ld x2 r0_2 (ix3 (0 : Fin 1) (0 : Fin 1) k) = x2 (ix3 (0 : Fin 1) (1 : Fin 6) k) := fun k => congrArg x2 (funext fun a => Fin.ext (by fin_cases a <;> first | rfl | exact (Nat.zero_add _).trans (Nat.one_mul _) | exact at_row))
  have h5' : ∀ k : Fin 1024, View.ld x2 r0_3 (ix3 (0 : Fin 1) (0 : Fin 1) k) = x2 (ix3 (0 : Fin 1) (0 : Fin 6) k) := fun k => congrArg x2 (funext fun a => Fin.ext (by fin_cases a <;> first | rfl | exact (Nat.zero_add _).trans (Nat.one_mul _) | exact at_row))
  unfold k0_pay23
  refine (lower_norm _ _ _ _ r d).trans ?_
  unfold firstNorm
  simp only [h0, h4, h5, h5']

theorem cols0 (k : Fin 1024) (j : Fin 512) (j' : Fin 3072) (h : j'.val = 0 + j.val) : View.ld x3 r0_5 (ix2 k j) = x3 (ix2 k j') := by
  have at_col : 0 + 1 * j.val = j'.val := by omega
  exact congrArg x3 (funext fun a => Fin.ext (by fin_cases a <;> first | exact (Nat.zero_add _).trans (Nat.one_mul _) | exact at_col))

theorem cols512 (k : Fin 1024) (j : Fin 512) (j' : Fin 3072) (h : j'.val = 512 + j.val) : View.ld x3 r0_7 (ix2 k j) = x3 (ix2 k j') := by
  have at_col : 512 + 1 * j.val = j'.val := by omega
  exact congrArg x3 (funext fun a => Fin.ext (by fin_cases a <;> first | exact (Nat.zero_add _).trans (Nat.one_mul _) | exact at_col))

theorem cols1024 (k : Fin 1024) (j : Fin 512) (j' : Fin 3072) (h : j'.val = 1024 + j.val) : View.ld x3 r0_9 (ix2 k j) = x3 (ix2 k j') := by
  have at_col : 1024 + 1 * j.val = j'.val := by omega
  exact congrArg x3 (funext fun a => Fin.ext (by fin_cases a <;> first | exact (Nat.zero_add _).trans (Nat.one_mul _) | exact at_col))

theorem cols1536 (k : Fin 1024) (j : Fin 512) (j' : Fin 3072) (h : j'.val = 1536 + j.val) : View.ld x3 r0_11 (ix2 k j) = x3 (ix2 k j') := by
  have at_col : 1536 + 1 * j.val = j'.val := by omega
  exact congrArg x3 (funext fun a => Fin.ext (by fin_cases a <;> first | exact (Nat.zero_add _).trans (Nat.one_mul _) | exact at_col))

theorem cols2048 (k : Fin 1024) (j : Fin 512) (j' : Fin 3072) (h : j'.val = 2048 + j.val) : View.ld x3 r0_13 (ix2 k j) = x3 (ix2 k j') := by
  have at_col : 2048 + 1 * j.val = j'.val := by omega
  exact congrArg x3 (funext fun a => Fin.ext (by fin_cases a <;> first | exact (Nat.zero_add _).trans (Nat.one_mul _) | exact at_col))

theorem cols2560 (k : Fin 1024) (j : Fin 512) (j' : Fin 3072) (h : j'.val = 2560 + j.val) : View.ld x3 r0_15 (ix2 k j) = x3 (ix2 k j') := by
  have at_col : 2560 + 1 * j.val = j'.val := by omega
  exact congrArg x3 (funext fun a => Fin.ext (by fin_cases a <;> first | exact (Nat.zero_add _).trans (Nat.one_mul _) | exact at_col))

/-- A tile of the projection. -/
theorem left5 (y : S1x512x3072.Idx) :
    out0_5 x0 x1 x2 x3 x4 y = against (firstNorm x0 x1 x2 (y 1)) (fun k => x3 (ix2 k (y 2))) := by
  have up := upper_norm_at x0 x1 x2 x3 x4
  have lo := lower_norm_at x0 x1 x2 x3 x4
  unfold out0_5
  refine View.canon_eq_of_allAt _ y _ (cover0_5 _ _ _ _ _ _ _ _ _ _ _ _ y) ?_
  refine View.allAt_cons_unit _ _ _ _ _ (piece x3 256 2560 _ _ _ _ (prod2 _ _) lo (cols2560 x3) y) ?_
  refine View.allAt_cons_unit _ _ _ _ _ (piece x3 256 2048 _ _ _ _ (prod1 _ _) lo (cols2048 x3) y) ?_
  refine View.allAt_cons_unit _ _ _ _ _ (piece x3 256 1536 _ _ _ _ (prod21 _ _) lo (cols1536 x3) y) ?_
  refine View.allAt_cons_unit _ _ _ _ _ (piece x3 256 1024 _ _ _ _ (prod20 _ _) lo (cols1024 x3) y) ?_
  refine View.allAt_cons_unit _ _ _ _ _ (piece x3 256 512 _ _ _ _ (prod19 _ _) lo (cols512 x3) y) ?_
  refine View.allAt_cons_unit _ _ _ _ _ (piece x3 256 0 _ _ _ _ (prod18 _ _) lo (cols0 x3) y) ?_
  refine View.allAt_cons_unit _ _ _ _ _ (piece x3 0 2560 _ _ _ _ (prod15 _ _) up (cols2560 x3) y) ?_
  refine View.allAt_cons_unit _ _ _ _ _ (piece x3 0 2048 _ _ _ _ (prod14 _ _) up (cols2048 x3) y) ?_
  refine View.allAt_cons_unit _ _ _ _ _ (piece x3 0 1536 _ _ _ _ (prod13 _ _) up (cols1536 x3) y) ?_
  refine View.allAt_cons_unit _ _ _ _ _ (piece x3 0 1024 _ _ _ _ (prod12 _ _) up (cols1024 x3) y) ?_
  refine View.allAt_cons_unit _ _ _ _ _ (piece x3 0 512 _ _ _ _ (prod10 _ _) up (cols512 x3) y) ?_
  refine View.allAt_cons_unit _ _ _ _ _ (piece x3 0 0 _ _ _ _ (prod9 _ _) up (cols0 x3) y) ?_
  exact View.allAt_nil _ _

/-- A tile of the gate. -/
theorem left6 (y : S1x512x128.Idx) :
    out0_6 x0 x1 x2 x3 x4 y = against (firstNorm x0 x1 x2 (y 1)) (fun k => x4 (ix2 k (y 2))) := by
  have up := upper_norm_at x0 x1 x2 x3 x4
  have lo := lower_norm_at x0 x1 x2 x3 x4
  have hw : View.ld x4 r0_17 = x4 := funext fun y => congrArg x4 (funext fun a => Fin.ext (by fin_cases a <;> exact (Nat.zero_add _).trans (Nat.one_mul _)))
  unfold out0_6
  refine View.canon_eq_of_allAt _ y _ (cover0_6 _ _ y) ?_
  refine View.allAt_cons_unit _ _ _ _ _ (strip128 256 _ _ _ x4 _ (prod3 _ _) lo hw y) ?_
  refine View.allAt_cons_unit _ _ _ _ _ (strip128 0 _ _ _ x4 _ (prod17 _ _) up hw y) ?_
  exact View.allAt_nil _ _

end

/-- A column of the matrix among the first 3072. -/
def mainCol (j : Fin 3072) : Fin 3088 := ⟨j.val, by omega⟩

/-- The gate of a row: sixteen columns of the matrix, the others at nought. -/
def gated (n : Fin 1024 → EReal) (W : S1024x3088.Idx → EReal) (j : Fin 128) : EReal :=
  if h : j.val < 16 then against n (fun k => W (ix2 k (⟨3072 + j.val, by omega⟩ : Fin 3088))) else 0

/-- Where the sixteen columns land. -/
theorem lands_at (a : Fin 1024) (b : Fin 16) (r : Fin 1024) (q : Fin 128) :
    scatter_S1024x128_S1_S1024x16_01_n_1_0.resultIdx? (ix2 a b) (fun _ : S1.Idx => 0#32) = some (ix2 r q) ↔ a.val = r.val ∧ b.val = q.val := by
  have s0 : scatter_S1024x128_S1_S1024x16_01_n_1_0.start (ix2 a b) (fun _ : S1.Idx => 0#32) 0 = 0 := rfl
  have s1 : scatter_S1024x128_S1_S1024x16_01_n_1_0.start (ix2 a b) (fun _ : S1.Idx => 0#32) 1 = 0 := rfl
  have w0 : scatter_S1024x128_S1_S1024x16_01_n_1_0.window (ix2 a b) 0 = a.val := rfl
  have w1 : scatter_S1024x128_S1_S1024x16_01_n_1_0.window (ix2 a b) 1 = b.val := rfl
  refine (Routing.resultIdx?_ix2 (R := 1024) (C := 128) scatter_S1024x128_S1_S1024x16_01_n_1_0 (ix2 a b) (fun _ : S1.Idx => 0#32) r q).trans ?_
  rw [s0, s1, w0, w1]
  omega

/-- The gate's matrix: the sixteen columns in an array of noughts. -/
theorem gate_block (u : S1024x16.Idx → EReal) (r : Fin 1024) (q : Fin 128) :
    Host.scatter scatter_S1024x128_S1_S1024x16_01_n_1_0 (fun _ b => b) (fun _ : S1024x128.Idx => (0 : EReal)) (fun _ : S1.Idx => 0#32) u (ix2 r q)
      = if h : q.val < 16 then u (ix2 r (⟨q.val, h⟩ : Fin 16)) else 0 := by
  have lands : ∀ k : S1024x16.Idx, scatter_S1024x128_S1_S1024x16_01_n_1_0.resultIdx? k (fun _ : S1.Idx => 0#32) = some (ix2 r q) → (k 0).val = r.val ∧ (k 1).val = q.val :=
    fun k hk => (lands_at (k 0) (k 1) r q).1 ((congrArg (fun t => scatter_S1024x128_S1_S1024x16_01_n_1_0.resultIdx? t (fun _ : S1.Idx => 0#32)) (eq_ix2 k).symm).trans hk)
  by_cases h : q.val < 16
  · rw [dif_pos h]
    refine Routing.scatter_set_hit _ _ _ _ _ _ (fun k hk => ?_) (ix2 r (⟨q.val, h⟩ : Fin 16)) ((lands_at _ _ _ _).2 ⟨rfl, rfl⟩)
    refine congrArg u ((eq_ix2 k).trans ?_)
    have e0 : k 0 = r := Fin.ext (lands k hk).1
    have e1 : k 1 = (⟨q.val, h⟩ : Fin 16) := Fin.ext (lands k hk).2
    rw [e0, e1]
  · rw [dif_neg h]
    refine Routing.scatter_set_miss _ _ _ _ _ (fun k hk => h ?_)
    have h1 : (k 1).val < 16 := (k 1).isLt
    have := (lands k hk).2
    omega

/-- The block of the batch and the block of the sequence at a point. -/
theorem batch_at (t : Fin grid0.N) : (grid0.coords t 0).val = t.val / 8 % 8 := Pipeline.Grid.coords_val t 0 (by decide) rfl
theorem seq_at (t : Fin grid0.N) : (grid0.coords t 1).val = t.val % 8 := by
  have h : (grid0.coords t 1).val = t.val / 1 % 8 := Pipeline.Grid.coords_val t 1 (by decide) rfl
  rw [h, Nat.div_one]

theorem word_batch (t : Fin grid0.N) : (BitVec.ofNat 32 (grid0.coords t 0).val).toNat = t.val / 8 % 8 := by
  rw [batch_at, BitVec.toNat_ofNat]; omega
theorem word_seq (t : Fin grid0.N) : (BitVec.ofNat 32 (grid0.coords t 1).val).toNat = t.val % 8 := by
  rw [seq_at, BitVec.toNat_ofNat]; omega

variable (m : (ℓ : Loc nD τ sig) → Buf (Elt Ideal) ℓ)

/-- What the launch finds: the norm's weight, the matrix's first columns, and the gate's. -/
theorem weight_at (c : Dev nD) : (V m c main_v7 : S1x1024.Idx → EReal) = shapeCast S1x1024 (m ((c : Thread nD τ).loc main_arg1)) shapeCasts_S1024_S1x1024 := by
  unfold V
  after_results
  rfl
theorem matrix_at (c : Dev nD) : (V m c main_v1 : S1024x3072.Idx → EReal)
    = extractStridedSlice S1024x3072 ![0, 0] (m ((c : Thread nD τ).loc main_arg3)) slices_S1024x3088_S1024x3072_0_0 := by
  unfold V
  after_results
  rfl
theorem gate_at (c : Dev nD) : (V m c main_v6 : S1024x128.Idx → EReal)
    = Host.scatter scatter_S1024x128_S1_S1024x16_01_n_1_0 (fun _ b => b) (broadcastInDim S1024x128 ![] bcast_S_S1024x128 (constant (F := Ideal) S_ .bf16 0x0000#16))
        (broadcastInDim S1 ![] bcast_S_S1 (constantI S_ 32 0#32)) (extractStridedSlice S1024x16 ![0, 3072] (m ((c : Thread nD τ).loc main_arg3)) slices_S1024x3088_S1024x16_0_3072) := by
  unfold V
  after_results
  rfl

theorem matrix_apply (c : Dev nD) (k : Fin 1024) (j : Fin 3072) : (V m c main_v1 : S1024x3072.Idx → EReal) (ix2 k j)
    = m ((c : Thread nD τ).loc main_arg3) (ix2 k (mainCol j)) :=
  (congrFun (matrix_at m c) _).trans (by pointwise [mainCol])

theorem gate_apply (c : Dev nD) (k : Fin 1024) (q : Fin 128) : (V m c main_v6 : S1024x128.Idx → EReal) (ix2 k q)
    = if h : q.val < 16 then m ((c : Thread nD τ).loc main_arg3) (ix2 k (⟨3072 + q.val, by omega⟩ : Fin 3088)) else (0 : EReal) := by
  have z : (broadcastInDim S1024x128 ![] bcast_S_S1024x128 (constant (F := Ideal) S_ .bf16 0x0000#16) : S1024x128.Idx → EReal) = fun _ => 0 :=
    funext fun i => by pointwise
  rw [congrFun (gate_at m c) _, z]
  refine (gate_block _ k q).trans ?_
  by_cases h : q.val < 16
  · rw [dif_pos h, dif_pos h]
    exact congrArg (m ((c : Thread nD τ).loc main_arg3)) (funext fun a => Fin.ext (by fin_cases a <;> first | rfl | exact Nat.zero_add _))
  · rw [dif_neg h, dif_neg h]

/-- A row against the gate's columns. -/
theorem gate_row (c : Dev nD) (n : Fin 1024 → EReal) (q : Fin 128) :
    against n (fun k => (V m c main_v6 : S1024x128.Idx → EReal) (ix2 k q)) = gated n (m ((c : Thread nD τ).loc main_arg3)) q := by
  unfold gated
  by_cases h : q.val < 16
  · rw [dif_pos h]
    exact congrArg (against n) (funext fun k => (gate_apply m c k q).trans (dif_pos h))
  · rw [dif_neg h]
    unfold against
    exact Finset.sum_eq_zero fun k _ => (congrArg (n k * ·) ((gate_apply m c k q).trans (dif_neg h))).trans (mul_zero _)

set_option backward.isDefEq.respectTransparency.types false

/-- The tile's rows of the stream. -/
theorem block0_apply (c : Dev nD) (t : Fin cfg0.N) (y : S1x512x1024.Idx) (z : S8x4096x1024.Idx) (h0 : (z 0).val = t.val / 8 % 8) (h1 : (z 1).val = t.val % 8 * 512 + (y 1).val)
    (h2 : (z 2).val = (y 2).val) :
    (iblk m c 0 t : Vec Ideal S1x512x1024 .f32) y = m ((c : Thread nD τ).loc main_arg0) z := by
  have e : (((cfg0.win 0).blk t).view.emb y : S8x4096x1024.Idx) = z := by
    have e0 : win0_0.index t (0 : Fin 3) = t.val / 8 % 8 := word_batch t
    have e1 : win0_0.index t (1 : Fin 3) = t.val % 8 := word_seq t
    have e2 : win0_0.index t (2 : Fin 3) = 0 := rfl
    funext a
    apply Fin.ext
    fin_cases a
    · blk_simp; rw [e0]; exact h0.symm
    · blk_simp; rw [e1]; exact h1.symm
    · blk_simp; rw [e2, Nat.zero_mul, Nat.zero_add]; exact h2.symm
  rw [← e]
  exact congrFun (V_main_arg0 m c) _

/-- The norm's weight. -/
theorem block1_apply (c : Dev nD) (t : Fin cfg0.N) (y : S1x1024.Idx) (z : S1x1024.Idx) (h0 : (z 0).val = (y 0).val) (h1 : (z 1).val = (y 1).val) :
    (iblk m c 1 t : Vec Ideal S1x1024 .f32) y = (V m c main_v7 : S1x1024.Idx → EReal) z := by
  have e : (((cfg0.win 1).blk t).view.emb y : S1x1024.Idx) = z := by
    have e0 : win0_1.index t (0 : Fin 2) = 0 := rfl
    have e1 : win0_1.index t (1 : Fin 2) = 0 := rfl
    funext a
    apply Fin.ext
    fin_cases a
    · blk_simp; rw [e0]
    · blk_simp; rw [e1, Nat.zero_mul, Nat.zero_add]; exact h1.symm
  rw [← e]; rfl

/-- The batch's modulation. -/
theorem block2_apply (c : Dev nD) (t : Fin cfg0.N) (y : S1x6x1024.Idx) (z : S8x6x1024.Idx) (h0 : (z 0).val = t.val / 8 % 8) (h1 : (z 1).val = (y 1).val)
    (h2 : (z 2).val = (y 2).val) :
    (iblk m c 2 t : Vec Ideal S1x6x1024 .f32) y = m ((c : Thread nD τ).loc main_arg2) z := by
  have e : (((cfg0.win 2).blk t).view.emb y : S8x6x1024.Idx) = z := by
    have e0 : win0_2.index t (0 : Fin 3) = t.val / 8 % 8 := word_batch t
    have e1 : win0_2.index t (1 : Fin 3) = 0 := rfl
    have e2 : win0_2.index t (2 : Fin 3) = 0 := rfl
    funext a
    apply Fin.ext
    fin_cases a
    · blk_simp; rw [e0]; exact h0.symm
    · blk_simp; rw [e1, Nat.zero_mul, Nat.zero_add]; exact h1.symm
    · blk_simp; rw [e2, Nat.zero_mul, Nat.zero_add]; exact h2.symm
  rw [← e]
  exact congrFun (V_main_arg2 m c) _

/-- The matrix's first columns. -/
theorem block3_apply (c : Dev nD) (t : Fin cfg0.N) (y : S1024x3072.Idx) (z : S1024x3072.Idx) (h0 : (z 0).val = (y 0).val) (h1 : (z 1).val = (y 1).val) :
    (iblk m c 3 t : Vec Ideal S1024x3072 .bf16) y = (V m c main_v1 : S1024x3072.Idx → EReal) z := by
  have e : (((cfg0.win 3).blk t).view.emb y : S1024x3072.Idx) = z := by
    have e0 : win0_3.index t (0 : Fin 2) = 0 := rfl
    have e1 : win0_3.index t (1 : Fin 2) = 0 := rfl
    funext a
    apply Fin.ext
    fin_cases a
    · blk_simp; rw [e0, Nat.zero_mul, Nat.zero_add]; exact h0.symm
    · blk_simp; rw [e1, Nat.zero_mul, Nat.zero_add]; exact h1.symm
  rw [← e]; rfl

/-- The gate's columns. -/
theorem block4_apply (c : Dev nD) (t : Fin cfg0.N) (y : S1024x128.Idx) (z : S1024x128.Idx) (h0 : (z 0).val = (y 0).val) (h1 : (z 1).val = (y 1).val) :
    (iblk m c 4 t : Vec Ideal S1024x128 .bf16) y = (V m c main_v6 : S1024x128.Idx → EReal) z := by
  have e : (((cfg0.win 4).blk t).view.emb y : S1024x128.Idx) = z := by
    have e0 : win0_4.index t (0 : Fin 2) = 0 := rfl
    have e1 : win0_4.index t (1 : Fin 2) = 0 := rfl
    funext a
    apply Fin.ext
    fin_cases a
    · blk_simp; rw [e0, Nat.zero_mul, Nat.zero_add]; exact h0.symm
    · blk_simp; rw [e1, Nat.zero_mul, Nat.zero_add]; exact h1.symm
  rw [← e]; rfl

/-- The row the products read, from the argument arrays. -/
def rowNorm (x : S8x4096x1024.Idx → EReal)
    (g : S1024.Idx → EReal) (ma : S8x6x1024.Idx → EReal) (b : Fin 8) (s : Fin 4096) : Fin 1024 → EReal :=
  shifted (fun k => x (ix3 b s k)) (fun k => g (ix1 k)) (fun k => ma (ix3 b (1 : Fin 6) k)) (fun k => ma (ix3 b (0 : Fin 6) k))

/-- The row the products read at a point of the launch. -/
theorem norm_row (c : Dev nD) (t : Fin cfg0.N) (r : Fin 512) (b : Fin 8) (s : Fin 4096)
    (hb : b.val = t.val / 8 % 8) (hs : s.val = t.val % 8 * 512 + r.val) :
    firstNorm (iblk m c 0 t) (iblk m c 1 t) (iblk m c 2 t) r
      = rowNorm (m ((c : Thread nD τ).loc main_arg0)) (m ((c : Thread nD τ).loc main_arg1)) (m ((c : Thread nD τ).loc main_arg2)) b s := by
  have x0 : ∀ k : Fin 1024, (iblk m c 0 t : Vec Ideal S1x512x1024 .f32) (ix3 (0 : Fin 1) r k) = m ((c : Thread nD τ).loc main_arg0) (ix3 b s k) :=
    fun k => block0_apply m c t _ _ hb hs rfl
  have x4 : ∀ k : Fin 1024, (iblk m c 1 t : Vec Ideal S1x1024 .f32) (ix2 (0 : Fin 1) k) = m ((c : Thread nD τ).loc main_arg1) (ix1 k) := fun k =>
    (block1_apply m c t (ix2 (0 : Fin 1) k) (ix2 (0 : Fin 1) k) rfl rfl).trans ((congrFun (weight_at m c) _).trans (by pointwise))
  have x5 : ∀ (q : Fin 6) (k : Fin 1024), (iblk m c 2 t : Vec Ideal S1x6x1024 .f32) (ix3 (0 : Fin 1) q k) = m ((c : Thread nD τ).loc main_arg2) (ix3 b q k) :=
    fun q k => block2_apply m c t _ _ hb rfl rfl
  unfold firstNorm rowNorm
  simp only [x0, x4, x5]

/-- A row of the projection at a point of the launch. -/
theorem proj_row (c : Dev nD) (t : Fin cfg0.N) (r : Fin 512) (j : Fin 3072) (b : Fin 8) (s : Fin 4096)
    (hb : b.val = t.val / 8 % 8) (hs : s.val = t.val % 8 * 512 + r.val) :
    against (firstNorm (iblk m c 0 t) (iblk m c 1 t) (iblk m c 2 t) r) (fun k => (iblk m c 3 t : Vec Ideal S1024x3072 .bf16) (ix2 k j))
      = against (rowNorm (m ((c : Thread nD τ).loc main_arg0)) (m ((c : Thread nD τ).loc main_arg1)) (m ((c : Thread nD τ).loc main_arg2)) b s) (fun k => (m ((c : Thread nD τ).loc main_arg3)) (ix2 k (mainCol j))) := by
  have x6 : ∀ k : Fin 1024, (iblk m c 3 t : Vec Ideal S1024x3072 .bf16) (ix2 k j) = m ((c : Thread nD τ).loc main_arg3) (ix2 k (mainCol j)) := fun k =>
    (block3_apply m c t (ix2 k j) (ix2 k j) rfl rfl).trans (matrix_apply m c k j)
  rw [norm_row m c t r b s hb hs]
  exact congrArg (against _) (funext x6)

/-- A row of the gate at a point of the launch. -/
theorem gate_row_at (c : Dev nD) (t : Fin cfg0.N) (r : Fin 512) (j : Fin 128) (b : Fin 8) (s : Fin 4096)
    (hb : b.val = t.val / 8 % 8) (hs : s.val = t.val % 8 * 512 + r.val) :
    against (firstNorm (iblk m c 0 t) (iblk m c 1 t) (iblk m c 2 t) r) (fun k => (iblk m c 4 t : Vec Ideal S1024x128 .bf16) (ix2 k j))
      = gated (rowNorm (m ((c : Thread nD τ).loc main_arg0)) (m ((c : Thread nD τ).loc main_arg1)) (m ((c : Thread nD τ).loc main_arg2)) b s) (m ((c : Thread nD τ).loc main_arg3)) j := by
  have x7 : ∀ k : Fin 1024, (iblk m c 4 t : Vec Ideal S1024x128 .bf16) (ix2 k j) = (V m c main_v6 : S1024x128.Idx → EReal) (ix2 k j) := fun k =>
    block4_apply m c t (ix2 k j) (ix2 k j) rfl rfl
  rw [norm_row m c t r b s hb hs]
  exact (congrArg (against _) (funext x7)).trans (gate_row m c _ j)

/-- The projection from its rows. -/
def projRows (x : S8x4096x1024.Idx → EReal)
    (g : S1024.Idx → EReal) (ma : S8x6x1024.Idx → EReal) (W : S1024x3088.Idx → EReal) : S8x4096x3072.Idx → EReal := fun i =>
  against (rowNorm x g ma (i 0) (i 1)) (fun k => W (ix2 k (mainCol (i 2))))

/-- The gate from its rows. -/
def gateRows (x : S8x4096x1024.Idx → EReal)
    (g : S1024.Idx → EReal) (ma : S8x6x1024.Idx → EReal) (W : S1024x3088.Idx → EReal) : S8x4096x128.Idx → EReal := fun i =>
  gated (rowNorm x g ma (i 0) (i 1)) W (i 2)

/-- The points of the launch. -/
theorem points : cfg0.N = 64 := rfl

theorem proj_arr (c : Dev nD) : (dats m 0 c).arrAt 5 cfg0.N = projRows (m ((c : Thread nD τ).loc main_arg0)) (m ((c : Thread nD τ).loc main_arg1)) (m ((c : Thread nD τ).loc main_arg2)) (m ((c : Thread nD τ).loc main_arg3)) := by
  refine (dats m 0 c).arrAt_eq_of_emb 5 (projRows (m ((c : Thread nD τ).loc main_arg0)) (m ((c : Thread nD τ).loc main_arg1)) (m ((c : Thread nD τ).loc main_arg2)) (m ((c : Thread nD τ).loc main_arg3))) (fun t hf y => ?_) ?_
  · blk_simp
    rw [after0_5]
    have ht : t.val < 64 := lt_of_lt_of_eq t.isLt points
    let y' : S1x512x3072.Idx := y
    have h0 : (y' 0).val < 1 := (y' 0).isLt
    have h1 : (y' 1).val < 512 := (y' 1).isLt
    have e : (((cfg0.win 5).blk t).view.emb y : S8x4096x3072.Idx)
        = ix3 (⟨t.val / 8 % 8, by omega⟩ : Fin 8) (⟨t.val % 8 * 512 + (y' 1).val, by omega⟩ : Fin 4096) (y' 2) := by
      have e0 : win0_5.index t (0 : Fin 3) = t.val / 8 % 8 := word_batch t
      have e1 : win0_5.index t (1 : Fin 3) = t.val % 8 := word_seq t
      have e2 : win0_5.index t (2 : Fin 3) = 0 := rfl
      funext a
      apply Fin.ext
      fin_cases a
      · blk_simp; rw [e0]; rfl
      · blk_simp; rw [e1]; rfl
      · blk_simp; rw [e2, Nat.zero_mul, Nat.zero_add]; rfl
    exact ((left5 (iblk m c 0 t) (iblk m c 1 t) (iblk m c 2 t) (iblk m c 3 t) (iblk m c 4 t) y').trans
      (proj_row m c t (y' 1) (y' 2) _ _ rfl rfl)).trans (congrArg (projRows (m ((c : Thread nD τ).loc main_arg0)) (m ((c : Thread nD τ).loc main_arg1)) (m ((c : Thread nD τ).loc main_arg2)) (m ((c : Thread nD τ).loc main_arg3))) e.symm)
  · intro i
    let i' : S8x4096x3072.Idx := i
    have h0 : (i' 0).val < 8 := (i' 0).isLt
    have h1 : (i' 1).val < 4096 := (i' 1).isLt
    have h2 : (i' 2).val < 3072 := (i' 2).isLt
    let t : Fin cfg0.N := ⟨(i' 0).val * 8 + (i' 1).val / 512, lt_of_lt_of_eq (by omega : (i' 0).val * 8 + (i' 1).val / 512 < 64) points.symm⟩
    refine ⟨t, flush0_5 t, ((cfg0.win 5).emb_mem_blk_iff t i' rfl).mpr fun a => ?_⟩
    have e0 : win0_5.index t (0 : Fin 3) = ((i' 0).val * 8 + (i' 1).val / 512) / 8 % 8 := word_batch t
    have e1 : win0_5.index t (1 : Fin 3) = ((i' 0).val * 8 + (i' 1).val / 512) % 8 := word_seq t
    match a with
    | ⟨0, _⟩ =>
      show win0_5.index t (0 : Fin 3) * 1 ≤ (i' 0).val ∧ (i' 0).val < win0_5.index t (0 : Fin 3) * 1 + 1
      rw [e0]; omega
    | ⟨1, _⟩ =>
      show win0_5.index t (1 : Fin 3) * 512 ≤ (i' 1).val ∧ (i' 1).val < win0_5.index t (1 : Fin 3) * 512 + 512
      rw [e1]; omega
    | ⟨2, _⟩ =>
      show 0 * 3072 ≤ (i' 2).val ∧ (i' 2).val < 0 * 3072 + 3072
      omega

theorem gate_arr (c : Dev nD) : (dats m 0 c).arrAt 6 cfg0.N = gateRows (m ((c : Thread nD τ).loc main_arg0)) (m ((c : Thread nD τ).loc main_arg1)) (m ((c : Thread nD τ).loc main_arg2)) (m ((c : Thread nD τ).loc main_arg3)) := by
  refine (dats m 0 c).arrAt_eq_of_emb 6 (gateRows (m ((c : Thread nD τ).loc main_arg0)) (m ((c : Thread nD τ).loc main_arg1)) (m ((c : Thread nD τ).loc main_arg2)) (m ((c : Thread nD τ).loc main_arg3))) (fun t hf y => ?_) ?_
  · blk_simp
    rw [after0_6]
    have ht : t.val < 64 := lt_of_lt_of_eq t.isLt points
    let y' : S1x512x128.Idx := y
    have h0 : (y' 0).val < 1 := (y' 0).isLt
    have h1 : (y' 1).val < 512 := (y' 1).isLt
    have e : (((cfg0.win 6).blk t).view.emb y : S8x4096x128.Idx)
        = ix3 (⟨t.val / 8 % 8, by omega⟩ : Fin 8) (⟨t.val % 8 * 512 + (y' 1).val, by omega⟩ : Fin 4096) (y' 2) := by
      have e0 : win0_6.index t (0 : Fin 3) = t.val / 8 % 8 := word_batch t
      have e1 : win0_6.index t (1 : Fin 3) = t.val % 8 := word_seq t
      have e2 : win0_6.index t (2 : Fin 3) = 0 := rfl
      funext a
      apply Fin.ext
      fin_cases a
      · blk_simp; rw [e0]; rfl
      · blk_simp; rw [e1]; rfl
      · blk_simp; rw [e2, Nat.zero_mul, Nat.zero_add]; rfl
    exact ((left6 (iblk m c 0 t) (iblk m c 1 t) (iblk m c 2 t) (iblk m c 3 t) (iblk m c 4 t) y').trans
      (gate_row_at m c t (y' 1) (y' 2) _ _ rfl rfl)).trans (congrArg (gateRows (m ((c : Thread nD τ).loc main_arg0)) (m ((c : Thread nD τ).loc main_arg1)) (m ((c : Thread nD τ).loc main_arg2)) (m ((c : Thread nD τ).loc main_arg3))) e.symm)
  · intro i
    let i' : S8x4096x128.Idx := i
    have h0 : (i' 0).val < 8 := (i' 0).isLt
    have h1 : (i' 1).val < 4096 := (i' 1).isLt
    have h2 : (i' 2).val < 128 := (i' 2).isLt
    let t : Fin cfg0.N := ⟨(i' 0).val * 8 + (i' 1).val / 512, lt_of_lt_of_eq (by omega : (i' 0).val * 8 + (i' 1).val / 512 < 64) points.symm⟩
    refine ⟨t, flush0_6 t, ((cfg0.win 6).emb_mem_blk_iff t i' rfl).mpr fun a => ?_⟩
    have e0 : win0_6.index t (0 : Fin 3) = ((i' 0).val * 8 + (i' 1).val / 512) / 8 % 8 := word_batch t
    have e1 : win0_6.index t (1 : Fin 3) = ((i' 0).val * 8 + (i' 1).val / 512) % 8 := word_seq t
    match a with
    | ⟨0, _⟩ =>
      show win0_6.index t (0 : Fin 3) * 1 ≤ (i' 0).val ∧ (i' 0).val < win0_6.index t (0 : Fin 3) * 1 + 1
      rw [e0]; omega
    | ⟨1, _⟩ =>
      show win0_6.index t (1 : Fin 3) * 512 ≤ (i' 1).val ∧ (i' 1).val < win0_6.index t (1 : Fin 3) * 512 + 512
      rw [e1]; omega
    | ⟨2, _⟩ =>
      show 0 * 128 ≤ (i' 2).val ∧ (i' 2).val < 0 * 128 + 128
      omega

end Cert.Proof.FirstRows
end
-- ==== Proof.EvenValue.lean ====
/-
  The third layer's input projection, which has a gate too, a row at a time over the extended reals: what a tile leaves in a row of each
  output, and what the launch leaves.
-/
module

public import proofs.«01_k».proof.Proof.FirstValue
public import proofs.«01_k».proof.Proof.Gen.EvenProjectIdeal.Value
public import Idealize.ShloMosaic.Lib.Pipeline.ValueKit
public import Idealize.ShloMosaic.Lib.Pointwise
public import Idealize.ShloMosaic.Lib.IdealHost
public import Idealize.ShloMosaic.Lib.Routing.OpsOne

@[expose] public section

set_option maxRecDepth 16384

noncomputable section

namespace Cert.Proof.EvenRows

open Cert.EvenProjectIdeal Cert.EvenProjectIdeal.Gen
open Cert.Proof.FinalRows (stream normed)
open Cert.Proof.ProjectRows (shifted against piece strip tileStream tileNorm resRow)
open Cert.Proof.FirstRows (strip128 gated mainCol gate_block)

open Idealize.ShloMosaic Idealize.ShloMosaic.TcCoe

/-- The residual's row in the first half of a tile. -/
theorem upper_stream (P0 : Vec Ideal S1x256x1024 .f32) (P2 : Vec Ideal S1x256x128 .f32) (P3 P4 : Vec Ideal S1x1x256x1024 .bf16)
    (P1 : Vec Ideal S1x1x1024 .f32) (r : Fin 256) (d : Fin 1024) :
    k0_pay3 P0 P2 P3 P4 P1 (ix3 (0 : Fin 1) r d) = stream (fun k => P0 (ix3 (0 : Fin 1) r k)) (fun k => P1 (ix3 (0 : Fin 1) (0 : Fin 1) k)) (P2 (ix3 (0 : Fin 1) r (2 : Fin 128)))
          (P2 (ix3 (0 : Fin 1) r (3 : Fin 128))) (fun k => P3 (ix4 (0 : Fin 1) (0 : Fin 1) r k)) (fun k => P4 (ix4 (0 : Fin 1) (0 : Fin 1) r k)) d := by
  pointwise [k0_pay3, k0_pay2, stream]

/-- The residual's row in the second half. -/
theorem lower_stream (P0 : Vec Ideal S1x256x1024 .f32) (P2 : Vec Ideal S1x256x128 .f32) (P3 P4 : Vec Ideal S1x1x256x1024 .bf16)
    (P1 : Vec Ideal S1x1x1024 .f32) (r : Fin 256) (d : Fin 1024) :
    k0_pay10 (k0_pay7 P0) (k0_pay8 P2 P3 P4) P1 (ix3 (0 : Fin 1) r d) = stream (fun k => P0 (ix3 (0 : Fin 1) r k)) (fun k => P1 (ix3 (0 : Fin 1) (0 : Fin 1) k)) (P2 (ix3 (0 : Fin 1) r (2 : Fin 128)))
          (P2 (ix3 (0 : Fin 1) r (3 : Fin 128))) (fun k => P3 (ix4 (0 : Fin 1) (0 : Fin 1) r k)) (fun k => P4 (ix4 (0 : Fin 1) (0 : Fin 1) r k)) d := by
  pointwise [k0_pay10, k0_pay9, k0_pay8, k0_pay7, stream]

/-- The row the products read, in the first half. -/
theorem upper_norm (P0 : Vec Ideal S1x256x1024 .f32) (P2 : Vec Ideal S1x256x128 .f32) (P3 P4 : Vec Ideal S1x1x256x1024 .bf16)
    (P1 : Vec Ideal S1x1x1024 .f32) (P5 : Vec Ideal S1x1024 .f32) (P6 P7 : Vec Ideal S1x1x1024 .f32) (r : Fin 256) (d : Fin 1024) :
    k0_pay6 (k0_pay2 P0 P2 P3 P4 P1) (k0_pay4 P5) (k0_pay5 P0 P2 P3 P4 P1) (Scalar.ofBits .f32 0x358637BD#32) P6 P7 (ix2 r d)
      = shifted (stream (fun k => P0 (ix3 (0 : Fin 1) r k)) (fun k => P1 (ix3 (0 : Fin 1) (0 : Fin 1) k)) (P2 (ix3 (0 : Fin 1) r (2 : Fin 128)))
          (P2 (ix3 (0 : Fin 1) r (3 : Fin 128))) (fun k => P3 (ix4 (0 : Fin 1) (0 : Fin 1) r k)) (fun k => P4 (ix4 (0 : Fin 1) (0 : Fin 1) r k)))
        (fun k => P5 (ix2 (0 : Fin 1) k)) (fun k => P6 (ix3 (0 : Fin 1) (0 : Fin 1) k)) (fun k => P7 (ix3 (0 : Fin 1) (0 : Fin 1) k)) d := by
  pointwise [k0_pay6, k0_pay5, k0_pay4, k0_pay2, shifted, normed, stream]

/-- The row the products read, in the second half. -/
theorem lower_norm (P0 : Vec Ideal S1x256x1024 .f32) (P2 : Vec Ideal S1x256x128 .f32) (P3 P4 : Vec Ideal S1x1x256x1024 .bf16)
    (P1 : Vec Ideal S1x1x1024 .f32) (P5 : Vec Ideal S1x1024 .f32) (P6 P7 : Vec Ideal S1x1x1024 .f32) (r : Fin 256) (d : Fin 1024) :
    k0_pay11 (k0_pay7 P0) (k0_pay8 P2 P3 P4) P1 P5 P6 P7 (ix2 r d)
      = shifted (stream (fun k => P0 (ix3 (0 : Fin 1) r k)) (fun k => P1 (ix3 (0 : Fin 1) (0 : Fin 1) k)) (P2 (ix3 (0 : Fin 1) r (2 : Fin 128)))
          (P2 (ix3 (0 : Fin 1) r (3 : Fin 128))) (fun k => P3 (ix4 (0 : Fin 1) (0 : Fin 1) r k)) (fun k => P4 (ix4 (0 : Fin 1) (0 : Fin 1) r k)))
        (fun k => P5 (ix2 (0 : Fin 1) k)) (fun k => P6 (ix3 (0 : Fin 1) (0 : Fin 1) k)) (fun k => P7 (ix3 (0 : Fin 1) (0 : Fin 1) k)) d := by
  pointwise [k0_pay11, k0_pay9, k0_pay8, k0_pay7, shifted, normed, stream]

section
variable (n : FVec Ideal S256x1024 .bf16) (w : Vec Ideal S1024x512 .bf16) (r : Fin 256) (j : Fin 512)

/-! Each product of a half's rows with 512 columns. -/

theorem prod26 : k0_pay26 n w (ix3 (0 : Fin 1) r j) = against (fun k => n (ix2 r k)) (fun k => w (ix2 k j)) := by
  pointwise [k0_pay26, against]
theorem prod25 : k0_pay25 n w (ix3 (0 : Fin 1) r j) = against (fun k => n (ix2 r k)) (fun k => w (ix2 k j)) := by
  pointwise [k0_pay25, against]
theorem prod24 : k0_pay24 n w (ix3 (0 : Fin 1) r j) = against (fun k => n (ix2 r k)) (fun k => w (ix2 k j)) := by
  pointwise [k0_pay24, against]
theorem prod23 : k0_pay23 (k0_pay22 n w) (ix3 (0 : Fin 1) r j) = against (fun k => n (ix2 r k)) (fun k => w (ix2 k j)) := by
  pointwise [k0_pay23, k0_pay22, against]
theorem prod21 : k0_pay21 n w (ix3 (0 : Fin 1) r j) = against (fun k => n (ix2 r k)) (fun k => w (ix2 k j)) := by
  pointwise [k0_pay21, against]
theorem prod20 : k0_pay20 n w (ix3 (0 : Fin 1) r j) = against (fun k => n (ix2 r k)) (fun k => w (ix2 k j)) := by
  pointwise [k0_pay20, against]
theorem prod18 : k0_pay18 n w (ix3 (0 : Fin 1) r j) = against (fun k => n (ix2 r k)) (fun k => w (ix2 k j)) := by
  pointwise [k0_pay18, against]
theorem prod17 : k0_pay17 n w (ix3 (0 : Fin 1) r j) = against (fun k => n (ix2 r k)) (fun k => w (ix2 k j)) := by
  pointwise [k0_pay17, against]
theorem prod16 : k0_pay16 n w (ix3 (0 : Fin 1) r j) = against (fun k => n (ix2 r k)) (fun k => w (ix2 k j)) := by
  pointwise [k0_pay16, against]
theorem prod15 : k0_pay15 n w (ix3 (0 : Fin 1) r j) = against (fun k => n (ix2 r k)) (fun k => w (ix2 k j)) := by
  pointwise [k0_pay15, against]
theorem prod14 : k0_pay14 n w (ix3 (0 : Fin 1) r j) = against (fun k => n (ix2 r k)) (fun k => w (ix2 k j)) := by
  pointwise [k0_pay14, against]
theorem prod13 : k0_pay13 (k0_pay12 n w) (ix3 (0 : Fin 1) r j) = against (fun k => n (ix2 r k)) (fun k => w (ix2 k j)) := by
  pointwise [k0_pay13, k0_pay12, against]
end

section
variable (n : FVec Ideal S256x1024 .bf16) (w : Vec Ideal S1024x128 .bf16) (r : Fin 256) (j : Fin 128)

/-! And with the gate's columns. -/

theorem prod1 : k0_pay1 (k0_pay27 n w) (ix3 (0 : Fin 1) r j) = against (fun k => n (ix2 r k)) (fun k => w (ix2 k j)) := by
  pointwise [k0_pay1, k0_pay27, against]
theorem prod19 : k0_pay19 n w (ix3 (0 : Fin 1) r j) = against (fun k => n (ix2 r k)) (fun k => w (ix2 k j)) := by
  pointwise [k0_pay19, against]
end

section
variable (x0 : Vec Ideal S1x512x1024 .f32) (x1 : Vec Ideal S2x1x512x1024 .bf16) (x2 : Vec Ideal S1x512x128 .f32) (x3 : Vec Ideal S1x6x1024 .f32)
  (x4 : Vec Ideal S1x1024 .f32) (x5 : Vec Ideal S1x6x1024 .f32) (x6 : Vec Ideal S1024x3072 .bf16) (x7 : Vec Ideal S1024x128 .bf16)

theorem upper_stream_at (r : Fin 256) (r' : Fin 512) (hr : r'.val = 0 + r.val) (d : Fin 1024) :
    k0_pay3 (View.ld x0 r0_0) (View.ld x2 r0_1) (View.ld x1 r0_2) (View.ld x1 r0_3) (View.ld x3 r0_4) (ix3 (0 : Fin 1) r d) = tileStream x0 x1 x2 x3 r' d := by
  have at_row : 0 + 1 * r.val = r'.val := by omega
  have h0 : ∀ k : Fin 1024, View.ld x0 r0_0 (ix3 (0 : Fin 1) r k) = x0 (ix3 (0 : Fin 1) r' k) := fun k => congrArg x0 (funext fun a => Fin.ext (by fin_cases a <;> first | rfl | exact (Nat.zero_add _).trans (Nat.one_mul _) | exact at_row))
  have h2 : ∀ k : Fin 128, View.ld x2 r0_1 (ix3 (0 : Fin 1) r k) = x2 (ix3 (0 : Fin 1) r' k) := fun k => congrArg x2 (funext fun a => Fin.ext (by fin_cases a <;> first | rfl | exact (Nat.zero_add _).trans (Nat.one_mul _) | exact at_row))
  have h1 : ∀ k : Fin 1024, View.ld x1 r0_2 (ix4 (0 : Fin 1) (0 : Fin 1) r k) = x1 (ix4 (0 : Fin 2) (0 : Fin 1) r' k) := fun k => congrArg x1 (funext fun a => Fin.ext (by fin_cases a <;> first | rfl | exact (Nat.zero_add _).trans (Nat.one_mul _) | exact at_row))
  have h1' : ∀ k : Fin 1024, View.ld x1 r0_3 (ix4 (0 : Fin 1) (0 : Fin 1) r k) = x1 (ix4 (1 : Fin 2) (0 : Fin 1) r' k) := fun k => congrArg x1 (funext fun a => Fin.ext (by fin_cases a <;> first | rfl | exact (Nat.zero_add _).trans (Nat.one_mul _) | exact at_row))
  have h3 : ∀ k : Fin 1024, View.ld x3 r0_4 (ix3 (0 : Fin 1) (0 : Fin 1) k) = x3 (ix3 (0 : Fin 1) (5 : Fin 6) k) := fun k => congrArg x3 (funext fun a => Fin.ext (by fin_cases a <;> first | rfl | exact (Nat.zero_add _).trans (Nat.one_mul _) | exact at_row))
  refine (upper_stream _ _ _ _ _ r d).trans ?_
  unfold tileStream
  simp only [h0, h1, h1', h2, h3]

theorem upper_norm_at (r : Fin 256) (r' : Fin 512) (hr : r'.val = 0 + r.val) (d : Fin 1024) :
    k0_pay28 x0 x1 x2 x3 x4 x5 x6 x7 (ix2 r d) = tileNorm x0 x1 x2 x3 x4 x5 r' d := by
  have at_row : 0 + 1 * r.val = r'.val := by omega
  have h0 : ∀ k : Fin 1024, View.ld x0 r0_0 (ix3 (0 : Fin 1) r k) = x0 (ix3 (0 : Fin 1) r' k) := fun k => congrArg x0 (funext fun a => Fin.ext (by fin_cases a <;> first | rfl | exact (Nat.zero_add _).trans (Nat.one_mul _) | exact at_row))
  have h2 : ∀ k : Fin 128, View.ld x2 r0_1 (ix3 (0 : Fin 1) r k) = x2 (ix3 (0 : Fin 1) r' k) := fun k => congrArg x2 (funext fun a => Fin.ext (by fin_cases a <;> first | rfl | exact (Nat.zero_add _).trans (Nat.one_mul _) | exact at_row))
  have h1 : ∀ k : Fin 1024, View.ld x1 r0_2 (ix4 (0 : Fin 1) (0 : Fin 1) r k) = x1 (ix4 (0 : Fin 2) (0 : Fin 1) r' k) := fun k => congrArg x1 (funext fun a => Fin.ext (by fin_cases a <;> first | rfl | exact (Nat.zero_add _).trans (Nat.one_mul _) | exact at_row))
  have h1' : ∀ k : Fin 1024, View.ld x1 r0_3 (ix4 (0 : Fin 1) (0 : Fin 1) r k) = x1 (ix4 (1 : Fin 2) (0 : Fin 1) r' k) := fun k => congrArg x1 (funext fun a => Fin.ext (by fin_cases a <;> first | rfl | exact (Nat.zero_add _).trans (Nat.one_mul _) | exact at_row))
  have h3 : ∀ k : Fin 1024, View.ld x3 r0_4 (ix3 (0 : Fin 1) (0 : Fin 1) k) = x3 (ix3 (0 : Fin 1) (5 : Fin 6) k) := fun k => congrArg x3 (funext fun a => Fin.ext (by fin_cases a <;> first | rfl | exact (Nat.zero_add _).trans (Nat.one_mul _) | exact at_row))
  have h4 : ∀ k : Fin 1024, View.ld x4 r0_5 (ix2 (0 : Fin 1) k) = x4 (ix2 (0 : Fin 1) k) := fun k => congrArg x4 (funext fun a => Fin.ext (by fin_cases a <;> first | rfl | exact (Nat.zero_add _).trans (Nat.one_mul _) | exact at_row))
  have h5 : ∀ k : Fin 1024, View.ld x5 r0_6 (ix3 (0 : Fin 1) (0 : Fin 1) k) = x5 (ix3 (0 : Fin 1) (1 : Fin 6) k) := fun k => congrArg x5 (funext fun a => Fin.ext (by fin_cases a <;> first | rfl | exact (Nat.zero_add _).trans (Nat.one_mul _) | exact at_row))
  have h5' : ∀ k : Fin 1024, View.ld x5 r0_7 (ix3 (0 : Fin 1) (0 : Fin 1) k) = x5 (ix3 (0 : Fin 1) (0 : Fin 6) k) := fun k => congrArg x5 (funext fun a => Fin.ext (by fin_cases a <;> first | rfl | exact (Nat.zero_add _).trans (Nat.one_mul _) | exact at_row))
  unfold k0_pay28
  refine (upper_norm _ _ _ _ _ _ _ _ r d).trans ?_
  unfold tileNorm tileStream
  simp only [h0, h1, h1', h2, h3, h4, h5, h5']

theorem lower_stream_at (r : Fin 256) (r' : Fin 512) (hr : r'.val = 256 + r.val) (d : Fin 1024) :
    k0_pay10 (k0_pay29 x0 x1 x2 x3 x4 x5 x6 x7) (k0_pay30 x0 x1 x2 x3 x4 x5 x6 x7) (View.ld x3 r0_4) (ix3 (0 : Fin 1) r d) = tileStream x0 x1 x2 x3 r' d := by
  have at_row : 256 + 1 * r.val = r'.val := by omega
  have h0 : ∀ k : Fin 1024, View.ld x0 r0_8 (ix3 (0 : Fin 1) r k) = x0 (ix3 (0 : Fin 1) r' k) := fun k => congrArg x0 (funext fun a => Fin.ext (by fin_cases a <;> first | rfl | exact (Nat.zero_add _).trans (Nat.one_mul _) | exact at_row))
  have h2 : ∀ k : Fin 128, View.ld x2 r0_9 (ix3 (0 : Fin 1) r k) = x2 (ix3 (0 : Fin 1) r' k) := fun k => congrArg x2 (funext fun a => Fin.ext (by fin_cases a <;> first | rfl | exact (Nat.zero_add _).trans (Nat.one_mul _) | exact at_row))
  have h1 : ∀ k : Fin 1024, View.ld x1 r0_10 (ix4 (0 : Fin 1) (0 : Fin 1) r k) = x1 (ix4 (0 : Fin 2) (0 : Fin 1) r' k) := fun k => congrArg x1 (funext fun a => Fin.ext (by fin_cases a <;> first | rfl | exact (Nat.zero_add _).trans (Nat.one_mul _) | exact at_row))
  have h1' : ∀ k : Fin 1024, View.ld x1 r0_11 (ix4 (0 : Fin 1) (0 : Fin 1) r k) = x1 (ix4 (1 : Fin 2) (0 : Fin 1) r' k) := fun k => congrArg x1 (funext fun a => Fin.ext (by fin_cases a <;> first | rfl | exact (Nat.zero_add _).trans (Nat.one_mul _) | exact at_row))
  have h3 : ∀ k : Fin 1024, View.ld x3 r0_4 (ix3 (0 : Fin 1) (0 : Fin 1) k) = x3 (ix3 (0 : Fin 1) (5 : Fin 6) k) := fun k => congrArg x3 (funext fun a => Fin.ext (by fin_cases a <;> first | rfl | exact (Nat.zero_add _).trans (Nat.one_mul _) | exact at_row))
  unfold k0_pay29 k0_pay30
  refine (lower_stream _ _ _ _ _ r d).trans ?_
  unfold tileStream
  simp only [h0, h1, h1', h2, h3]

theorem lower_norm_at (r : Fin 256) (r' : Fin 512) (hr : r'.val = 256 + r.val) (d : Fin 1024) :
    k0_pay31 x0 x1 x2 x3 x4 x5 x6 x7 (ix2 r d) = tileNorm x0 x1 x2 x3 x4 x5 r' d := by
  have at_row : 256 + 1 * r.val = r'.val := by omega
  have h0 : ∀ k : Fin 1024, View.ld x0 r0_8 (ix3 (0 : Fin 1) r k) = x0 (ix3 (0 : Fin 1) r' k) := fun k => congrArg x0 (funext fun a => Fin.ext (by fin_cases a <;> first | rfl | exact (Nat.zero_add _).trans (Nat.one_mul _) | exact at_row))
  have h2 : ∀ k : Fin 128, View.ld x2 r0_9 (ix3 (0 : Fin 1) r k) = x2 (ix3 (0 : Fin 1) r' k) := fun k => congrArg x2 (funext fun a => Fin.ext (by fin_cases a <;> first | rfl | exact (Nat.zero_add _).trans (Nat.one_mul _) | exact at_row))
  have h1 : ∀ k : Fin 1024, View.ld x1 r0_10 (ix4 (0 : Fin 1) (0 : Fin 1) r k) = x1 (ix4 (0 : Fin 2) (0 : Fin 1) r' k) := fun k => congrArg x1 (funext fun a => Fin.ext (by fin_cases a <;> first | rfl | exact (Nat.zero_add _).trans (Nat.one_mul _) | exact at_row))
  have h1' : ∀ k : Fin 1024, View.ld x1 r0_11 (ix4 (0 : Fin 1) (0 : Fin 1) r k) = x1 (ix4 (1 : Fin 2) (0 : Fin 1) r' k) := fun k => congrArg x1 (funext fun a => Fin.ext (by fin_cases a <;> first | rfl | exact (Nat.zero_add _).trans (Nat.one_mul _) | exact at_row))
  have h3 : ∀ k : Fin 1024, View.ld x3 r0_4 (ix3 (0 : Fin 1) (0 : Fin 1) k) = x3 (ix3 (0 : Fin 1) (5 : Fin 6) k) := fun k => congrArg x3 (funext fun a => Fin.ext (by fin_cases a <;> first | rfl | exact (Nat.zero_add _).trans (Nat.one_mul _) | exact at_row))
  have h4 : ∀ k : Fin 1024, View.ld x4 r0_5 (ix2 (0 : Fin 1) k) = x4 (ix2 (0 : Fin 1) k) := fun k => congrArg x4 (funext fun a => Fin.ext (by fin_cases a <;> first | rfl | exact (Nat.zero_add _).trans (Nat.one_mul _) | exact at_row))
  have h5 : ∀ k : Fin 1024, View.ld x5 r0_6 (ix3 (0 : Fin 1) (0 : Fin 1) k) = x5 (ix3 (0 : Fin 1) (1 : Fin 6) k) := fun k => congrArg x5 (funext fun a => Fin.ext (by fin_cases a <;> first | rfl | exact (Nat.zero_add _).trans (Nat.one_mul _) | exact at_row))
  have h5' : ∀ k : Fin 1024, View.ld x5 r0_7 (ix3 (0 : Fin 1) (0 : Fin 1) k) = x5 (ix3 (0 : Fin 1) (0 : Fin 6) k) := fun k => congrArg x5 (funext fun a => Fin.ext (by fin_cases a <;> first | rfl | exact (Nat.zero_add _).trans (Nat.one_mul _) | exact at_row))
  unfold k0_pay31 k0_pay29 k0_pay30
  refine (lower_norm _ _ _ _ _ _ _ _ r d).trans ?_
  unfold tileNorm tileStream
  simp only [h0, h1, h1', h2, h3, h4, h5, h5']

/-- A tile of the residual. -/
theorem left8 (y : S1x512x1024.Idx) : out0_8 x0 x1 x2 x3 x4 x5 x6 x7 y = tileStream x0 x1 x2 x3 (y 1) (y 2) := by
  unfold out0_8
  exact View.canon_eq_of_allAt _ y _ (cover0_8 _ _ y)
    (View.allAt_cons_unit _ _ _ _ _ (strip 256 _ (tileStream x0 x1 x2 x3) (lower_stream_at x0 x1 x2 x3 x4 x5 x6 x7) y)
    (View.allAt_cons_unit _ _ _ _ _ (strip 0 _ (tileStream x0 x1 x2 x3) (upper_stream_at x0 x1 x2 x3) y) (View.allAt_nil _ _)))

theorem cols0 (k : Fin 1024) (j : Fin 512) (j' : Fin 3072) (h : j'.val = 0 + j.val) : View.ld x6 r0_12 (ix2 k j) = x6 (ix2 k j') := by
  have at_col : 0 + 1 * j.val = j'.val := by omega
  exact congrArg x6 (funext fun a => Fin.ext (by fin_cases a <;> first | exact (Nat.zero_add _).trans (Nat.one_mul _) | exact at_col))

theorem cols512 (k : Fin 1024) (j : Fin 512) (j' : Fin 3072) (h : j'.val = 512 + j.val) : View.ld x6 r0_14 (ix2 k j) = x6 (ix2 k j') := by
  have at_col : 512 + 1 * j.val = j'.val := by omega
  exact congrArg x6 (funext fun a => Fin.ext (by fin_cases a <;> first | exact (Nat.zero_add _).trans (Nat.one_mul _) | exact at_col))

theorem cols1024 (k : Fin 1024) (j : Fin 512) (j' : Fin 3072) (h : j'.val = 1024 + j.val) : View.ld x6 r0_16 (ix2 k j) = x6 (ix2 k j') := by
  have at_col : 1024 + 1 * j.val = j'.val := by omega
  exact congrArg x6 (funext fun a => Fin.ext (by fin_cases a <;> first | exact (Nat.zero_add _).trans (Nat.one_mul _) | exact at_col))

theorem cols1536 (k : Fin 1024) (j : Fin 512) (j' : Fin 3072) (h : j'.val = 1536 + j.val) : View.ld x6 r0_18 (ix2 k j) = x6 (ix2 k j') := by
  have at_col : 1536 + 1 * j.val = j'.val := by omega
  exact congrArg x6 (funext fun a => Fin.ext (by fin_cases a <;> first | exact (Nat.zero_add _).trans (Nat.one_mul _) | exact at_col))

theorem cols2048 (k : Fin 1024) (j : Fin 512) (j' : Fin 3072) (h : j'.val = 2048 + j.val) : View.ld x6 r0_20 (ix2 k j) = x6 (ix2 k j') := by
  have at_col : 2048 + 1 * j.val = j'.val := by omega
  exact congrArg x6 (funext fun a => Fin.ext (by fin_cases a <;> first | exact (Nat.zero_add _).trans (Nat.one_mul _) | exact at_col))

theorem cols2560 (k : Fin 1024) (j : Fin 512) (j' : Fin 3072) (h : j'.val = 2560 + j.val) : View.ld x6 r0_22 (ix2 k j) = x6 (ix2 k j') := by
  have at_col : 2560 + 1 * j.val = j'.val := by omega
  exact congrArg x6 (funext fun a => Fin.ext (by fin_cases a <;> first | exact (Nat.zero_add _).trans (Nat.one_mul _) | exact at_col))

/-- A tile of the projection. -/
theorem left9 (y : S1x512x3072.Idx) :
    out0_9 x0 x1 x2 x3 x4 x5 x6 x7 y = against (tileNorm x0 x1 x2 x3 x4 x5 (y 1)) (fun k => x6 (ix2 k (y 2))) := by
  have up := upper_norm_at x0 x1 x2 x3 x4 x5 x6 x7
  have lo := lower_norm_at x0 x1 x2 x3 x4 x5 x6 x7
  unfold out0_9
  refine View.canon_eq_of_allAt _ y _ (cover0_9 _ _ _ _ _ _ _ _ _ _ _ _ y) ?_
  refine View.allAt_cons_unit _ _ _ _ _ (piece x6 256 2560 _ _ _ _ (prod26 _ _) lo (cols2560 x6) y) ?_
  refine View.allAt_cons_unit _ _ _ _ _ (piece x6 256 2048 _ _ _ _ (prod25 _ _) lo (cols2048 x6) y) ?_
  refine View.allAt_cons_unit _ _ _ _ _ (piece x6 256 1536 _ _ _ _ (prod24 _ _) lo (cols1536 x6) y) ?_
  refine View.allAt_cons_unit _ _ _ _ _ (piece x6 256 1024 _ _ _ _ (prod23 _ _) lo (cols1024 x6) y) ?_
  refine View.allAt_cons_unit _ _ _ _ _ (piece x6 256 512 _ _ _ _ (prod21 _ _) lo (cols512 x6) y) ?_
  refine View.allAt_cons_unit _ _ _ _ _ (piece x6 256 0 _ _ _ _ (prod20 _ _) lo (cols0 x6) y) ?_
  refine View.allAt_cons_unit _ _ _ _ _ (piece x6 0 2560 _ _ _ _ (prod18 _ _) up (cols2560 x6) y) ?_
  refine View.allAt_cons_unit _ _ _ _ _ (piece x6 0 2048 _ _ _ _ (prod17 _ _) up (cols2048 x6) y) ?_
  refine View.allAt_cons_unit _ _ _ _ _ (piece x6 0 1536 _ _ _ _ (prod16 _ _) up (cols1536 x6) y) ?_
  refine View.allAt_cons_unit _ _ _ _ _ (piece x6 0 1024 _ _ _ _ (prod15 _ _) up (cols1024 x6) y) ?_
  refine View.allAt_cons_unit _ _ _ _ _ (piece x6 0 512 _ _ _ _ (prod14 _ _) up (cols512 x6) y) ?_
  refine View.allAt_cons_unit _ _ _ _ _ (piece x6 0 0 _ _ _ _ (prod13 _ _) up (cols0 x6) y) ?_
  exact View.allAt_nil _ _

/-- A tile of the gate. -/
theorem left10 (y : S1x512x128.Idx) :
    out0_10 x0 x1 x2 x3 x4 x5 x6 x7 y = against (tileNorm x0 x1 x2 x3 x4 x5 (y 1)) (fun k => x7 (ix2 k (y 2))) := by
  have up := upper_norm_at x0 x1 x2 x3 x4 x5 x6 x7
  have lo := lower_norm_at x0 x1 x2 x3 x4 x5 x6 x7
  have hw : View.ld x7 r0_24 = x7 := funext fun y => congrArg x7 (funext fun a => Fin.ext (by fin_cases a <;> exact (Nat.zero_add _).trans (Nat.one_mul _)))
  unfold out0_10
  refine View.canon_eq_of_allAt _ y _ (cover0_10 _ _ y) ?_
  refine View.allAt_cons_unit _ _ _ _ _ (strip128 256 _ _ _ x7 _ (prod1 _ _) lo hw y) ?_
  refine View.allAt_cons_unit _ _ _ _ _ (strip128 0 _ _ _ x7 _ (prod19 _ _) up hw y) ?_
  exact View.allAt_nil _ _

end

/-- The block of the batch and the block of the sequence at a point. -/
theorem batch_at (t : Fin grid0.N) : (grid0.coords t 0).val = t.val / 8 % 8 := Pipeline.Grid.coords_val t 0 (by decide) rfl
theorem seq_at (t : Fin grid0.N) : (grid0.coords t 1).val = t.val % 8 := by
  have h : (grid0.coords t 1).val = t.val / 1 % 8 := Pipeline.Grid.coords_val t 1 (by decide) rfl
  rw [h, Nat.div_one]

theorem word_batch (t : Fin grid0.N) : (BitVec.ofNat 32 (grid0.coords t 0).val).toNat = t.val / 8 % 8 := by
  rw [batch_at, BitVec.toNat_ofNat]; omega
theorem word_seq (t : Fin grid0.N) : (BitVec.ofNat 32 (grid0.coords t 1).val).toNat = t.val % 8 := by
  rw [seq_at, BitVec.toNat_ofNat]; omega

variable (m : (ℓ : Loc nD τ sig) → Buf (Elt Ideal) ℓ)

/-- What the launch finds: the norm's weight, the matrix's first columns, and the gate's. -/
theorem weight_at (c : Dev nD) : (V m c main_v7 : S1x1024.Idx → EReal) = shapeCast S1x1024 (m ((c : Thread nD τ).loc main_arg4)) shapeCasts_S1024_S1x1024 := by
  unfold V
  after_results
  rfl
theorem matrix_at (c : Dev nD) : (V m c main_v1 : S1024x3072.Idx → EReal)
    = extractStridedSlice S1024x3072 ![0, 0] (m ((c : Thread nD τ).loc main_arg6)) slices_S1024x3088_S1024x3072_0_0 := by
  unfold V
  after_results
  rfl
theorem gate_at (c : Dev nD) : (V m c main_v6 : S1024x128.Idx → EReal)
    = Host.scatter scatter_S1024x128_S1_S1024x16_01_n_1_0 (fun _ b => b) (broadcastInDim S1024x128 ![] bcast_S_S1024x128 (constant (F := Ideal) S_ .bf16 0x0000#16))
        (broadcastInDim S1 ![] bcast_S_S1 (constantI S_ 32 0#32)) (extractStridedSlice S1024x16 ![0, 3072] (m ((c : Thread nD τ).loc main_arg6)) slices_S1024x3088_S1024x16_0_3072) := by
  unfold V
  after_results
  rfl

theorem matrix_apply (c : Dev nD) (k : Fin 1024) (j : Fin 3072) : (V m c main_v1 : S1024x3072.Idx → EReal) (ix2 k j)
    = m ((c : Thread nD τ).loc main_arg6) (ix2 k (mainCol j)) :=
  (congrFun (matrix_at m c) _).trans (by pointwise [mainCol])

theorem gate_apply (c : Dev nD) (k : Fin 1024) (q : Fin 128) : (V m c main_v6 : S1024x128.Idx → EReal) (ix2 k q)
    = if h : q.val < 16 then m ((c : Thread nD τ).loc main_arg6) (ix2 k (⟨3072 + q.val, by omega⟩ : Fin 3088)) else (0 : EReal) := by
  have z : (broadcastInDim S1024x128 ![] bcast_S_S1024x128 (constant (F := Ideal) S_ .bf16 0x0000#16) : S1024x128.Idx → EReal) = fun _ => 0 :=
    funext fun i => by pointwise
  rw [congrFun (gate_at m c) _, z]
  refine (gate_block _ k q).trans ?_
  by_cases h : q.val < 16
  · rw [dif_pos h, dif_pos h]
    exact congrArg (m ((c : Thread nD τ).loc main_arg6)) (funext fun a => Fin.ext (by fin_cases a <;> first | rfl | exact Nat.zero_add _))
  · rw [dif_neg h, dif_neg h]

/-- A row against the gate's columns. -/
theorem gate_row (c : Dev nD) (n : Fin 1024 → EReal) (q : Fin 128) :
    against n (fun k => (V m c main_v6 : S1024x128.Idx → EReal) (ix2 k q)) = gated n (m ((c : Thread nD τ).loc main_arg6)) q := by
  unfold gated
  by_cases h : q.val < 16
  · rw [dif_pos h]
    exact congrArg (against n) (funext fun k => (gate_apply m c k q).trans (dif_pos h))
  · rw [dif_neg h]
    unfold against
    exact Finset.sum_eq_zero fun k _ => (congrArg (n k * ·) ((gate_apply m c k q).trans (dif_neg h))).trans (mul_zero _)

set_option backward.isDefEq.respectTransparency.types false

/-- The tile's rows of the stream. -/
theorem block0_apply (c : Dev nD) (t : Fin cfg0.N) (y : S1x512x1024.Idx) (z : S8x4096x1024.Idx) (h0 : (z 0).val = t.val / 8 % 8) (h1 : (z 1).val = t.val % 8 * 512 + (y 1).val)
    (h2 : (z 2).val = (y 2).val) :
    (iblk m c 0 t : Vec Ideal S1x512x1024 .f32) y = m ((c : Thread nD τ).loc main_arg0) z := by
  have e : (((cfg0.win 0).blk t).view.emb y : S8x4096x1024.Idx) = z := by
    have e0 : win0_0.index t (0 : Fin 3) = t.val / 8 % 8 := word_batch t
    have e1 : win0_0.index t (1 : Fin 3) = t.val % 8 := word_seq t
    have e2 : win0_0.index t (2 : Fin 3) = 0 := rfl
    funext a
    apply Fin.ext
    fin_cases a
    · blk_simp; rw [e0]; exact h0.symm
    · blk_simp; rw [e1]; exact h1.symm
    · blk_simp; rw [e2, Nat.zero_mul, Nat.zero_add]; exact h2.symm
  rw [← e]
  exact congrFun (V_main_arg0 m c) _

/-- The tile's outputs of the two experts. -/
theorem block1_apply (c : Dev nD) (t : Fin cfg0.N) (y : S2x1x512x1024.Idx) (z : S2x8x4096x1024.Idx) (h0 : (z 0).val = (y 0).val) (h1 : (z 1).val = t.val / 8 % 8)
    (h2 : (z 2).val = t.val % 8 * 512 + (y 2).val) (h3 : (z 3).val = (y 3).val) :
    (iblk m c 1 t : Vec Ideal S2x1x512x1024 .bf16) y = m ((c : Thread nD τ).loc main_arg1) z := by
  have e : (((cfg0.win 1).blk t).view.emb y : S2x8x4096x1024.Idx) = z := by
    have e0 : win0_1.index t (0 : Fin 4) = 0 := rfl
    have e1 : win0_1.index t (1 : Fin 4) = t.val / 8 % 8 := word_batch t
    have e2 : win0_1.index t (2 : Fin 4) = t.val % 8 := word_seq t
    have e3 : win0_1.index t (3 : Fin 4) = 0 := rfl
    funext a
    apply Fin.ext
    fin_cases a
    · blk_simp; rw [e0, Nat.zero_mul, Nat.zero_add]; exact h0.symm
    · blk_simp; rw [e1]; exact h1.symm
    · blk_simp; rw [e2]; exact h2.symm
    · blk_simp; rw [e3, Nat.zero_mul, Nat.zero_add]; exact h3.symm
  rw [← e]
  exact congrFun (V_main_arg1 m c) _

/-- The tile's routing. -/
theorem block2_apply (c : Dev nD) (t : Fin cfg0.N) (y : S1x512x128.Idx) (z : S8x4096x128.Idx) (h0 : (z 0).val = t.val / 8 % 8) (h1 : (z 1).val = t.val % 8 * 512 + (y 1).val)
    (h2 : (z 2).val = (y 2).val) :
    (iblk m c 2 t : Vec Ideal S1x512x128 .f32) y = m ((c : Thread nD τ).loc main_arg2) z := by
  have e : (((cfg0.win 2).blk t).view.emb y : S8x4096x128.Idx) = z := by
    have e0 : win0_2.index t (0 : Fin 3) = t.val / 8 % 8 := word_batch t
    have e1 : win0_2.index t (1 : Fin 3) = t.val % 8 := word_seq t
    have e2 : win0_2.index t (2 : Fin 3) = 0 := rfl
    funext a
    apply Fin.ext
    fin_cases a
    · blk_simp; rw [e0]; exact h0.symm
    · blk_simp; rw [e1]; exact h1.symm
    · blk_simp; rw [e2, Nat.zero_mul, Nat.zero_add]; exact h2.symm
  rw [← e]
  exact congrFun (V_main_arg2 m c) _

/-- The batch's modulation, of the layer before. -/
theorem block3_apply (c : Dev nD) (t : Fin cfg0.N) (y : S1x6x1024.Idx) (z : S8x6x1024.Idx) (h0 : (z 0).val = t.val / 8 % 8) (h1 : (z 1).val = (y 1).val)
    (h2 : (z 2).val = (y 2).val) :
    (iblk m c 3 t : Vec Ideal S1x6x1024 .f32) y = m ((c : Thread nD τ).loc main_arg3) z := by
  have e : (((cfg0.win 3).blk t).view.emb y : S8x6x1024.Idx) = z := by
    have e0 : win0_3.index t (0 : Fin 3) = t.val / 8 % 8 := word_batch t
    have e1 : win0_3.index t (1 : Fin 3) = 0 := rfl
    have e2 : win0_3.index t (2 : Fin 3) = 0 := rfl
    funext a
    apply Fin.ext
    fin_cases a
    · blk_simp; rw [e0]; exact h0.symm
    · blk_simp; rw [e1, Nat.zero_mul, Nat.zero_add]; exact h1.symm
    · blk_simp; rw [e2, Nat.zero_mul, Nat.zero_add]; exact h2.symm
  rw [← e]
  exact congrFun (V_main_arg3 m c) _

/-- The norm's weight. -/
theorem block4_apply (c : Dev nD) (t : Fin cfg0.N) (y : S1x1024.Idx) (z : S1x1024.Idx) (h0 : (z 0).val = (y 0).val) (h1 : (z 1).val = (y 1).val) :
    (iblk m c 4 t : Vec Ideal S1x1024 .f32) y = (V m c main_v7 : S1x1024.Idx → EReal) z := by
  have e : (((cfg0.win 4).blk t).view.emb y : S1x1024.Idx) = z := by
    have e0 : win0_4.index t (0 : Fin 2) = 0 := rfl
    have e1 : win0_4.index t (1 : Fin 2) = 0 := rfl
    funext a
    apply Fin.ext
    fin_cases a
    · blk_simp; rw [e0]
    · blk_simp; rw [e1, Nat.zero_mul, Nat.zero_add]; exact h1.symm
  rw [← e]; rfl

/-- The batch's modulation. -/
theorem block5_apply (c : Dev nD) (t : Fin cfg0.N) (y : S1x6x1024.Idx) (z : S8x6x1024.Idx) (h0 : (z 0).val = t.val / 8 % 8) (h1 : (z 1).val = (y 1).val)
    (h2 : (z 2).val = (y 2).val) :
    (iblk m c 5 t : Vec Ideal S1x6x1024 .f32) y = m ((c : Thread nD τ).loc main_arg5) z := by
  have e : (((cfg0.win 5).blk t).view.emb y : S8x6x1024.Idx) = z := by
    have e0 : win0_5.index t (0 : Fin 3) = t.val / 8 % 8 := word_batch t
    have e1 : win0_5.index t (1 : Fin 3) = 0 := rfl
    have e2 : win0_5.index t (2 : Fin 3) = 0 := rfl
    funext a
    apply Fin.ext
    fin_cases a
    · blk_simp; rw [e0]; exact h0.symm
    · blk_simp; rw [e1, Nat.zero_mul, Nat.zero_add]; exact h1.symm
    · blk_simp; rw [e2, Nat.zero_mul, Nat.zero_add]; exact h2.symm
  rw [← e]
  exact congrFun (V_main_arg5 m c) _

/-- The matrix's first columns. -/
theorem block6_apply (c : Dev nD) (t : Fin cfg0.N) (y : S1024x3072.Idx) (z : S1024x3072.Idx) (h0 : (z 0).val = (y 0).val) (h1 : (z 1).val = (y 1).val) :
    (iblk m c 6 t : Vec Ideal S1024x3072 .bf16) y = (V m c main_v1 : S1024x3072.Idx → EReal) z := by
  have e : (((cfg0.win 6).blk t).view.emb y : S1024x3072.Idx) = z := by
    have e0 : win0_6.index t (0 : Fin 2) = 0 := rfl
    have e1 : win0_6.index t (1 : Fin 2) = 0 := rfl
    funext a
    apply Fin.ext
    fin_cases a
    · blk_simp; rw [e0, Nat.zero_mul, Nat.zero_add]; exact h0.symm
    · blk_simp; rw [e1, Nat.zero_mul, Nat.zero_add]; exact h1.symm
  rw [← e]; rfl

/-- The gate's columns. -/
theorem block7_apply (c : Dev nD) (t : Fin cfg0.N) (y : S1024x128.Idx) (z : S1024x128.Idx) (h0 : (z 0).val = (y 0).val) (h1 : (z 1).val = (y 1).val) :
    (iblk m c 7 t : Vec Ideal S1024x128 .bf16) y = (V m c main_v6 : S1024x128.Idx → EReal) z := by
  have e : (((cfg0.win 7).blk t).view.emb y : S1024x128.Idx) = z := by
    have e0 : win0_7.index t (0 : Fin 2) = 0 := rfl
    have e1 : win0_7.index t (1 : Fin 2) = 0 := rfl
    funext a
    apply Fin.ext
    fin_cases a
    · blk_simp; rw [e0, Nat.zero_mul, Nat.zero_add]; exact h0.symm
    · blk_simp; rw [e1, Nat.zero_mul, Nat.zero_add]; exact h1.symm
  rw [← e]; rfl

/-- The row the products read, from the argument arrays. -/
def rowNorm (x : S8x4096x1024.Idx → EReal) (y : S2x8x4096x1024.Idx → EReal) (w : S8x4096x128.Idx → EReal) (md : S8x6x1024.Idx → EReal)
    (g : S1024.Idx → EReal) (ma : S8x6x1024.Idx → EReal) (b : Fin 8) (s : Fin 4096) : Fin 1024 → EReal :=
  shifted (resRow x y w md b s) (fun k => g (ix1 k)) (fun k => ma (ix3 b (1 : Fin 6) k)) (fun k => ma (ix3 b (0 : Fin 6) k))

/-- A row of the residual at a point of the launch. -/
theorem stream_row (c : Dev nD) (t : Fin cfg0.N) (r : Fin 512) (b : Fin 8) (s : Fin 4096)
    (hb : b.val = t.val / 8 % 8) (hs : s.val = t.val % 8 * 512 + r.val) :
    tileStream (iblk m c 0 t) (iblk m c 1 t) (iblk m c 2 t) (iblk m c 3 t) r = resRow (m ((c : Thread nD τ).loc main_arg0)) (m ((c : Thread nD τ).loc main_arg1)) (m ((c : Thread nD τ).loc main_arg2)) (m ((c : Thread nD τ).loc main_arg3)) b s := by
  have x0 : ∀ k : Fin 1024, (iblk m c 0 t : Vec Ideal S1x512x1024 .f32) (ix3 (0 : Fin 1) r k) = m ((c : Thread nD τ).loc main_arg0) (ix3 b s k) :=
    fun k => block0_apply m c t _ _ hb hs rfl
  have x1 : ∀ (e : Fin 2) (k : Fin 1024), (iblk m c 1 t : Vec Ideal S2x1x512x1024 .bf16) (ix4 e (0 : Fin 1) r k) = m ((c : Thread nD τ).loc main_arg1) (ix4 e b s k) :=
    fun e k => block1_apply m c t _ _ rfl hb hs rfl
  have x2 : ∀ k : Fin 128, (iblk m c 2 t : Vec Ideal S1x512x128 .f32) (ix3 (0 : Fin 1) r k) = m ((c : Thread nD τ).loc main_arg2) (ix3 b s k) :=
    fun k => block2_apply m c t _ _ hb hs rfl
  have x3 : ∀ k : Fin 1024, (iblk m c 3 t : Vec Ideal S1x6x1024 .f32) (ix3 (0 : Fin 1) (5 : Fin 6) k) = m ((c : Thread nD τ).loc main_arg3) (ix3 b (5 : Fin 6) k) :=
    fun k => block3_apply m c t _ _ hb rfl rfl
  unfold tileStream resRow
  simp only [x0, x1, x2, x3]

/-- The row the products read at a point of the launch. -/
theorem norm_row (c : Dev nD) (t : Fin cfg0.N) (r : Fin 512) (b : Fin 8) (s : Fin 4096)
    (hb : b.val = t.val / 8 % 8) (hs : s.val = t.val % 8 * 512 + r.val) :
    tileNorm (iblk m c 0 t) (iblk m c 1 t) (iblk m c 2 t) (iblk m c 3 t) (iblk m c 4 t) (iblk m c 5 t) r
      = rowNorm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s := by
  have x4 : ∀ k : Fin 1024, (iblk m c 4 t : Vec Ideal S1x1024 .f32) (ix2 (0 : Fin 1) k) = m ((c : Thread nD τ).loc main_arg4) (ix1 k) := fun k =>
    (block4_apply m c t (ix2 (0 : Fin 1) k) (ix2 (0 : Fin 1) k) rfl rfl).trans ((congrFun (weight_at m c) _).trans (by pointwise))
  have x5 : ∀ (q : Fin 6) (k : Fin 1024), (iblk m c 5 t : Vec Ideal S1x6x1024 .f32) (ix3 (0 : Fin 1) q k) = m ((c : Thread nD τ).loc main_arg5) (ix3 b q k) :=
    fun q k => block5_apply m c t _ _ hb rfl rfl
  unfold tileNorm rowNorm
  rw [stream_row m c t r b s hb hs]
  simp only [x4, x5]

/-- A row of the projection at a point of the launch. -/
theorem proj_row (c : Dev nD) (t : Fin cfg0.N) (r : Fin 512) (j : Fin 3072) (b : Fin 8) (s : Fin 4096)
    (hb : b.val = t.val / 8 % 8) (hs : s.val = t.val % 8 * 512 + r.val) :
    against (tileNorm (iblk m c 0 t) (iblk m c 1 t) (iblk m c 2 t) (iblk m c 3 t) (iblk m c 4 t) (iblk m c 5 t) r) (fun k => (iblk m c 6 t : Vec Ideal S1024x3072 .bf16) (ix2 k j))
      = against (rowNorm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s) (fun k => (m ((c : Thread nD τ).loc main_arg6)) (ix2 k (mainCol j))) := by
  have x6 : ∀ k : Fin 1024, (iblk m c 6 t : Vec Ideal S1024x3072 .bf16) (ix2 k j) = m ((c : Thread nD τ).loc main_arg6) (ix2 k (mainCol j)) := fun k =>
    (block6_apply m c t (ix2 k j) (ix2 k j) rfl rfl).trans (matrix_apply m c k j)
  rw [norm_row m c t r b s hb hs]
  exact congrArg (against _) (funext x6)

/-- A row of the gate at a point of the launch. -/
theorem gate_row_at (c : Dev nD) (t : Fin cfg0.N) (r : Fin 512) (j : Fin 128) (b : Fin 8) (s : Fin 4096)
    (hb : b.val = t.val / 8 % 8) (hs : s.val = t.val % 8 * 512 + r.val) :
    against (tileNorm (iblk m c 0 t) (iblk m c 1 t) (iblk m c 2 t) (iblk m c 3 t) (iblk m c 4 t) (iblk m c 5 t) r) (fun k => (iblk m c 7 t : Vec Ideal S1024x128 .bf16) (ix2 k j))
      = gated (rowNorm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s) (m ((c : Thread nD τ).loc main_arg6)) j := by
  have x7 : ∀ k : Fin 1024, (iblk m c 7 t : Vec Ideal S1024x128 .bf16) (ix2 k j) = (V m c main_v6 : S1024x128.Idx → EReal) (ix2 k j) := fun k =>
    block7_apply m c t (ix2 k j) (ix2 k j) rfl rfl
  rw [norm_row m c t r b s hb hs]
  exact (congrArg (against _) (funext x7)).trans (gate_row m c _ j)

/-- The residual from its rows. -/
def resRows (x : S8x4096x1024.Idx → EReal) (y : S2x8x4096x1024.Idx → EReal) (w : S8x4096x128.Idx → EReal) (md : S8x6x1024.Idx → EReal) :
    S8x4096x1024.Idx → EReal := fun i => resRow x y w md (i 0) (i 1) (i 2)

/-- The projection from its rows. -/
def projRows (x : S8x4096x1024.Idx → EReal) (y : S2x8x4096x1024.Idx → EReal) (w : S8x4096x128.Idx → EReal) (md : S8x6x1024.Idx → EReal)
    (g : S1024.Idx → EReal) (ma : S8x6x1024.Idx → EReal) (W : S1024x3088.Idx → EReal) : S8x4096x3072.Idx → EReal := fun i =>
  against (rowNorm x y w md g ma (i 0) (i 1)) (fun k => W (ix2 k (mainCol (i 2))))

/-- The gate from its rows. -/
def gateRows (x : S8x4096x1024.Idx → EReal) (y : S2x8x4096x1024.Idx → EReal) (w : S8x4096x128.Idx → EReal) (md : S8x6x1024.Idx → EReal)
    (g : S1024.Idx → EReal) (ma : S8x6x1024.Idx → EReal) (W : S1024x3088.Idx → EReal) : S8x4096x128.Idx → EReal := fun i =>
  gated (rowNorm x y w md g ma (i 0) (i 1)) W (i 2)

/-- The points of the launch. -/
theorem points : cfg0.N = 64 := rfl

theorem res_arr (c : Dev nD) : (dats m 0 c).arrAt 8 cfg0.N = resRows (m ((c : Thread nD τ).loc main_arg0)) (m ((c : Thread nD τ).loc main_arg1)) (m ((c : Thread nD τ).loc main_arg2)) (m ((c : Thread nD τ).loc main_arg3)) := by
  refine (dats m 0 c).arrAt_eq_of_emb 8 (resRows (m ((c : Thread nD τ).loc main_arg0)) (m ((c : Thread nD τ).loc main_arg1)) (m ((c : Thread nD τ).loc main_arg2)) (m ((c : Thread nD τ).loc main_arg3))) (fun t hf y => ?_) ?_
  · blk_simp
    rw [after0_8]
    have ht : t.val < 64 := lt_of_lt_of_eq t.isLt points
    let y' : S1x512x1024.Idx := y
    have h0 : (y' 0).val < 1 := (y' 0).isLt
    have h1 : (y' 1).val < 512 := (y' 1).isLt
    have e : (((cfg0.win 8).blk t).view.emb y : S8x4096x1024.Idx)
        = ix3 (⟨t.val / 8 % 8, by omega⟩ : Fin 8) (⟨t.val % 8 * 512 + (y' 1).val, by omega⟩ : Fin 4096) (y' 2) := by
      have e0 : win0_8.index t (0 : Fin 3) = t.val / 8 % 8 := word_batch t
      have e1 : win0_8.index t (1 : Fin 3) = t.val % 8 := word_seq t
      have e2 : win0_8.index t (2 : Fin 3) = 0 := rfl
      funext a
      apply Fin.ext
      fin_cases a
      · blk_simp; rw [e0]; rfl
      · blk_simp; rw [e1]; rfl
      · blk_simp; rw [e2, Nat.zero_mul, Nat.zero_add]; rfl
    exact ((left8 (iblk m c 0 t) (iblk m c 1 t) (iblk m c 2 t) (iblk m c 3 t) (iblk m c 4 t) (iblk m c 5 t) (iblk m c 6 t) (iblk m c 7 t) y').trans
      (congrFun (stream_row m c t (y' 1) _ _ rfl rfl) (y' 2))).trans (congrArg (resRows (m ((c : Thread nD τ).loc main_arg0)) (m ((c : Thread nD τ).loc main_arg1)) (m ((c : Thread nD τ).loc main_arg2)) (m ((c : Thread nD τ).loc main_arg3))) e.symm)
  · intro i
    let i' : S8x4096x1024.Idx := i
    have h0 : (i' 0).val < 8 := (i' 0).isLt
    have h1 : (i' 1).val < 4096 := (i' 1).isLt
    have h2 : (i' 2).val < 1024 := (i' 2).isLt
    let t : Fin cfg0.N := ⟨(i' 0).val * 8 + (i' 1).val / 512, lt_of_lt_of_eq (by omega : (i' 0).val * 8 + (i' 1).val / 512 < 64) points.symm⟩
    refine ⟨t, flush0_8 t, ((cfg0.win 8).emb_mem_blk_iff t i' rfl).mpr fun a => ?_⟩
    have e0 : win0_8.index t (0 : Fin 3) = ((i' 0).val * 8 + (i' 1).val / 512) / 8 % 8 := word_batch t
    have e1 : win0_8.index t (1 : Fin 3) = ((i' 0).val * 8 + (i' 1).val / 512) % 8 := word_seq t
    match a with
    | ⟨0, _⟩ =>
      show win0_8.index t (0 : Fin 3) * 1 ≤ (i' 0).val ∧ (i' 0).val < win0_8.index t (0 : Fin 3) * 1 + 1
      rw [e0]; omega
    | ⟨1, _⟩ =>
      show win0_8.index t (1 : Fin 3) * 512 ≤ (i' 1).val ∧ (i' 1).val < win0_8.index t (1 : Fin 3) * 512 + 512
      rw [e1]; omega
    | ⟨2, _⟩ =>
      show 0 * 1024 ≤ (i' 2).val ∧ (i' 2).val < 0 * 1024 + 1024
      omega

theorem proj_arr (c : Dev nD) : (dats m 0 c).arrAt 9 cfg0.N = projRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_emb 9 (projRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t hf y => ?_) ?_
  · blk_simp
    rw [after0_9]
    have ht : t.val < 64 := lt_of_lt_of_eq t.isLt points
    let y' : S1x512x3072.Idx := y
    have h0 : (y' 0).val < 1 := (y' 0).isLt
    have h1 : (y' 1).val < 512 := (y' 1).isLt
    have e : (((cfg0.win 9).blk t).view.emb y : S8x4096x3072.Idx)
        = ix3 (⟨t.val / 8 % 8, by omega⟩ : Fin 8) (⟨t.val % 8 * 512 + (y' 1).val, by omega⟩ : Fin 4096) (y' 2) := by
      have e0 : win0_9.index t (0 : Fin 3) = t.val / 8 % 8 := word_batch t
      have e1 : win0_9.index t (1 : Fin 3) = t.val % 8 := word_seq t
      have e2 : win0_9.index t (2 : Fin 3) = 0 := rfl
      funext a
      apply Fin.ext
      fin_cases a
      · blk_simp; rw [e0]; rfl
      · blk_simp; rw [e1]; rfl
      · blk_simp; rw [e2, Nat.zero_mul, Nat.zero_add]; rfl
    exact ((left9 (iblk m c 0 t) (iblk m c 1 t) (iblk m c 2 t) (iblk m c 3 t) (iblk m c 4 t) (iblk m c 5 t) (iblk m c 6 t) (iblk m c 7 t) y').trans
      (proj_row m c t (y' 1) (y' 2) _ _ rfl rfl)).trans (congrArg (projRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e.symm)
  · intro i
    let i' : S8x4096x3072.Idx := i
    have h0 : (i' 0).val < 8 := (i' 0).isLt
    have h1 : (i' 1).val < 4096 := (i' 1).isLt
    have h2 : (i' 2).val < 3072 := (i' 2).isLt
    let t : Fin cfg0.N := ⟨(i' 0).val * 8 + (i' 1).val / 512, lt_of_lt_of_eq (by omega : (i' 0).val * 8 + (i' 1).val / 512 < 64) points.symm⟩
    refine ⟨t, flush0_9 t, ((cfg0.win 9).emb_mem_blk_iff t i' rfl).mpr fun a => ?_⟩
    have e0 : win0_9.index t (0 : Fin 3) = ((i' 0).val * 8 + (i' 1).val / 512) / 8 % 8 := word_batch t
    have e1 : win0_9.index t (1 : Fin 3) = ((i' 0).val * 8 + (i' 1).val / 512) % 8 := word_seq t
    match a with
    | ⟨0, _⟩ =>
      show win0_9.index t (0 : Fin 3) * 1 ≤ (i' 0).val ∧ (i' 0).val < win0_9.index t (0 : Fin 3) * 1 + 1
      rw [e0]; omega
    | ⟨1, _⟩ =>
      show win0_9.index t (1 : Fin 3) * 512 ≤ (i' 1).val ∧ (i' 1).val < win0_9.index t (1 : Fin 3) * 512 + 512
      rw [e1]; omega
    | ⟨2, _⟩ =>
      show 0 * 3072 ≤ (i' 2).val ∧ (i' 2).val < 0 * 3072 + 3072
      omega

theorem gate_arr (c : Dev nD) : (dats m 0 c).arrAt 10 cfg0.N = gateRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_emb 10 (gateRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t hf y => ?_) ?_
  · blk_simp
    rw [after0_10]
    have ht : t.val < 64 := lt_of_lt_of_eq t.isLt points
    let y' : S1x512x128.Idx := y
    have h0 : (y' 0).val < 1 := (y' 0).isLt
    have h1 : (y' 1).val < 512 := (y' 1).isLt
    have e : (((cfg0.win 10).blk t).view.emb y : S8x4096x128.Idx)
        = ix3 (⟨t.val / 8 % 8, by omega⟩ : Fin 8) (⟨t.val % 8 * 512 + (y' 1).val, by omega⟩ : Fin 4096) (y' 2) := by
      have e0 : win0_10.index t (0 : Fin 3) = t.val / 8 % 8 := word_batch t
      have e1 : win0_10.index t (1 : Fin 3) = t.val % 8 := word_seq t
      have e2 : win0_10.index t (2 : Fin 3) = 0 := rfl
      funext a
      apply Fin.ext
      fin_cases a
      · blk_simp; rw [e0]; rfl
      · blk_simp; rw [e1]; rfl
      · blk_simp; rw [e2, Nat.zero_mul, Nat.zero_add]; rfl
    exact ((left10 (iblk m c 0 t) (iblk m c 1 t) (iblk m c 2 t) (iblk m c 3 t) (iblk m c 4 t) (iblk m c 5 t) (iblk m c 6 t) (iblk m c 7 t) y').trans
      (gate_row_at m c t (y' 1) (y' 2) _ _ rfl rfl)).trans (congrArg (gateRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e.symm)
  · intro i
    let i' : S8x4096x128.Idx := i
    have h0 : (i' 0).val < 8 := (i' 0).isLt
    have h1 : (i' 1).val < 4096 := (i' 1).isLt
    have h2 : (i' 2).val < 128 := (i' 2).isLt
    let t : Fin cfg0.N := ⟨(i' 0).val * 8 + (i' 1).val / 512, lt_of_lt_of_eq (by omega : (i' 0).val * 8 + (i' 1).val / 512 < 64) points.symm⟩
    refine ⟨t, flush0_10 t, ((cfg0.win 10).emb_mem_blk_iff t i' rfl).mpr fun a => ?_⟩
    have e0 : win0_10.index t (0 : Fin 3) = ((i' 0).val * 8 + (i' 1).val / 512) / 8 % 8 := word_batch t
    have e1 : win0_10.index t (1 : Fin 3) = ((i' 0).val * 8 + (i' 1).val / 512) % 8 := word_seq t
    match a with
    | ⟨0, _⟩ =>
      show win0_10.index t (0 : Fin 3) * 1 ≤ (i' 0).val ∧ (i' 0).val < win0_10.index t (0 : Fin 3) * 1 + 1
      rw [e0]; omega
    | ⟨1, _⟩ =>
      show win0_10.index t (1 : Fin 3) * 512 ≤ (i' 1).val ∧ (i' 1).val < win0_10.index t (1 : Fin 3) * 512 + 512
      rw [e1]; omega
    | ⟨2, _⟩ =>
      show 0 * 128 ≤ (i' 2).val ∧ (i' 2).val < 0 * 128 + 128
      omega

end Cert.Proof.EvenRows
end
-- ==== Proof.FirstReference.lean ====
/-
  What the plain mathematics gives for each row of the first layer's projection and gate, over the extended reals.
-/
module

public import proofs.«01_k».proof.Proof.FirstValue
public import Idealize.ShloMosaic.Lib.KernelVsHost
public import proofs.«01_k».proof.Proof.Gen.FirstProjectReferenceIdeal.Run

@[expose] public section

set_option maxRecDepth 16384

noncomputable section

namespace Cert.Proof.FirstRows

open Cert.FirstProjectReferenceIdeal Cert.FirstProjectReferenceIdeal.Gen
open Cert.Proof.FinalRows (stream normed)
open Cert.Proof.ProjectRows (shifted against resRow)

open Idealize.ShloMosaic Idealize.ShloMosaic.TcCoe Idealize.SL.Sem

/-- An array of sixteen columns put among noughts. -/
theorem padded_apply (X : S8x4096x16.Idx → EReal) (z : S_.Idx → EReal) (hz : ∀ i, z i = 0) (b : Fin 8) (s : Fin 4096) (j : Fin 128) :
    pad S8x4096x128 ![0, 0, 0] ![0, 0, 112] ![0, 0, 0] X z pads_S8x4096x16_S8x4096x128_000_000_01120 h_S_ (ix3 b s j)
      = if h : j.val < 16 then X (ix3 b s (⟨j.val, h⟩ : Fin 16)) else 0 := by
  by_cases h : j.val < 16
  · rw [dif_pos h]
    exact pad_apply_of_inside _ _ _ _ _ _ _ _ (ix3 b s (⟨j.val, h⟩ : Fin 16)) fun a => by
      fin_cases a <;> exact ((Nat.zero_add _).trans (Nat.mul_one _)).symm
  · rw [dif_neg h]
    refine (pad_apply_of_not_inside _ _ _ _ _ _ _ _ (2 : Fin 3) fun hh => h ?_).trans (hz _)
    have e : (j.val - 0) / (0 + 1) < 16 := hh.2.2
    omega

/-- Nought, from the whole number. -/
theorem nought (i : S_.Idx) : (sitofp .f32 (constantI S_ 32 0#32) : FVec Ideal S_ .f32) i = (0 : EReal) := by
  show ((((0#32 : BitVec 32).toInt : ℝ)) : EReal) = 0
  simp

variable (m : (ℓ : Loc nD τ sig) → Buf (Elt Ideal) ℓ)

/-- An array that reads a row at a time as the projection does, and one that does as the gate. -/
theorem proj_of_rows (c : Dev nD) (v : S8x4096x3072.Idx → EReal)
    (h : ∀ (b : Fin 8) (s : Fin 4096) (j : Fin 3072), v (ix3 b s j)
      = against (rowNorm (m ((c.tc : Thread nD τ).loc main_arg0)) (m ((c.tc : Thread nD τ).loc main_arg1)) (m ((c.tc : Thread nD τ).loc main_arg2)) b s) (fun k => (m ((c.tc : Thread nD τ).loc main_arg3)) (ix2 k (mainCol j)))) :
    v = projRows (m ((c.tc : Thread nD τ).loc main_arg0)) (m ((c.tc : Thread nD τ).loc main_arg1)) (m ((c.tc : Thread nD τ).loc main_arg2)) (m ((c.tc : Thread nD τ).loc main_arg3)) :=
  funext fun i => (congrArg v (eq_ix3 i)).trans (h (i 0) (i 1) (i 2))
theorem gate_of_rows (c : Dev nD) (X : S8x4096x16.Idx → EReal) (z : S_.Idx → EReal) (hz : ∀ i, z i = 0)
    (h : ∀ (b : Fin 8) (s : Fin 4096) (j : Fin 16), X (ix3 b s j)
      = against (rowNorm (m ((c.tc : Thread nD τ).loc main_arg0)) (m ((c.tc : Thread nD τ).loc main_arg1)) (m ((c.tc : Thread nD τ).loc main_arg2)) b s) (fun k => (m ((c.tc : Thread nD τ).loc main_arg3)) (ix2 k (⟨3072 + j.val, by omega⟩ : Fin 3088)))) :
    pad S8x4096x128 ![0, 0, 0] ![0, 0, 112] ![0, 0, 0] X z pads_S8x4096x16_S8x4096x128_000_000_01120 h_S_ = gateRows (m ((c.tc : Thread nD τ).loc main_arg0)) (m ((c.tc : Thread nD τ).loc main_arg1)) (m ((c.tc : Thread nD τ).loc main_arg2)) (m ((c.tc : Thread nD τ).loc main_arg3)) :=
  funext fun i => by
    refine (congrArg (pad S8x4096x128 ![0, 0, 0] ![0, 0, 112] ![0, 0, 0] X z pads_S8x4096x16_S8x4096x128_000_000_01120 h_S_) (eq_ix3 i)).trans
      ((padded_apply X z hz (i 0) (i 1) (i 2)).trans ?_)
    unfold gateRows gated
    by_cases hj : (i 2).val < 16
    · rw [dif_pos hj, dif_pos hj]
      exact h (i 0) (i 1) (⟨(i 2).val, hj⟩ : Fin 16)
    · rw [dif_neg hj, dif_neg hj]

set_option maxHeartbeats 1000000 in
/-- The reference's run, its results a row at a time. -/
theorem run_rows (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = projRows (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v29) = gateRows (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (proj_of_rows m c _ fun b s j => by
      pointwise [mainCol, against, rowNorm, shifted, normed]), (h c).2.1.trans (gate_of_rows m c _ _ nought fun b s j => by
      pointwise [against, rowNorm, shifted, normed]), (h c).2.2⟩) (Value.run m ρ)

/-! The rows of arrays that agree. -/

theorem proj_congr {x x' : S8x4096x1024.Idx → EReal} {g g' : S1024.Idx → EReal} {ma ma' : S8x6x1024.Idx → EReal} {W W' : S1024x3088.Idx → EReal}
    (h0 : x = x') (h1 : g = g') (h2 : ma = ma') (h3 : W = W') :
    projRows x g ma W = projRows x' g' ma' W' := by
  subst h0 h1 h2 h3; rfl
theorem gate_congr {x x' : S8x4096x1024.Idx → EReal} {g g' : S1024.Idx → EReal} {ma ma' : S8x6x1024.Idx → EReal} {W W' : S1024x3088.Idx → EReal}
    (h0 : x = x') (h1 : g = g') (h2 : ma = ma') (h3 : W = W') :
    gateRows x g ma W = gateRows x' g' ma' W' := by
  subst h0 h1 h2 h3; rfl

end Cert.Proof.FirstRows
end
-- ==== Proof.EvenReference.lean ====
/-
  What the plain mathematics gives for each row of the third layer's residual, projection and gate, over the extended reals.
-/
module

public import proofs.«01_k».proof.Proof.EvenValue
public import proofs.«01_k».proof.Proof.FirstReference
public import proofs.«01_k».proof.Proof.Gen.EvenProjectReferenceIdeal.Run

@[expose] public section

set_option maxRecDepth 16384

noncomputable section

namespace Cert.Proof.EvenRows

open Cert.EvenProjectReferenceIdeal Cert.EvenProjectReferenceIdeal.Gen
open Cert.Proof.FinalRows (stream normed)
open Cert.Proof.ProjectRows (shifted against resRow)
open Cert.Proof.FirstRows (mainCol gated padded_apply nought)

open Idealize.ShloMosaic Idealize.ShloMosaic.TcCoe Idealize.SL.Sem

variable (m : (ℓ : Loc nD τ sig) → Buf (Elt Ideal) ℓ)

/-- An array that reads a row at a time as `resRow` does. -/
theorem res_of_rows (c : Dev nD) (v : S8x4096x1024.Idx → EReal)
    (h : ∀ (b : Fin 8) (s : Fin 4096) (d : Fin 1024), v (ix3 b s d) = resRow (m ((c.tc : Thread nD τ).loc main_arg0)) (m ((c.tc : Thread nD τ).loc main_arg1)) (m ((c.tc : Thread nD τ).loc main_arg2)) (m ((c.tc : Thread nD τ).loc main_arg3)) b s d) :
    v = resRows (m ((c.tc : Thread nD τ).loc main_arg0)) (m ((c.tc : Thread nD τ).loc main_arg1)) (m ((c.tc : Thread nD τ).loc main_arg2)) (m ((c.tc : Thread nD τ).loc main_arg3)) :=
  funext fun i => (congrArg v (eq_ix3 i)).trans (h (i 0) (i 1) (i 2))

/-- An array that reads a row at a time as the projection does, and one that does as the gate. -/
theorem proj_of_rows (c : Dev nD) (v : S8x4096x3072.Idx → EReal)
    (h : ∀ (b : Fin 8) (s : Fin 4096) (j : Fin 3072), v (ix3 b s j)
      = against (rowNorm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b s) (fun k => (m ((c.tc : Thread nD τ).loc main_arg6)) (ix2 k (mainCol j)))) :
    v = projRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  funext fun i => (congrArg v (eq_ix3 i)).trans (h (i 0) (i 1) (i 2))
theorem gate_of_rows (c : Dev nD) (X : S8x4096x16.Idx → EReal) (z : S_.Idx → EReal) (hz : ∀ i, z i = 0)
    (h : ∀ (b : Fin 8) (s : Fin 4096) (j : Fin 16), X (ix3 b s j)
      = against (rowNorm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b s) (fun k => (m ((c.tc : Thread nD τ).loc main_arg6)) (ix2 k (⟨3072 + j.val, by omega⟩ : Fin 3088)))) :
    pad S8x4096x128 ![0, 0, 0] ![0, 0, 112] ![0, 0, 0] X z pads_S8x4096x16_S8x4096x128_000_000_01120 h_S_ = gateRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  funext fun i => by
    refine (congrArg (pad S8x4096x128 ![0, 0, 0] ![0, 0, 112] ![0, 0, 0] X z pads_S8x4096x16_S8x4096x128_000_000_01120 h_S_) (eq_ix3 i)).trans
      ((padded_apply X z hz (i 0) (i 1) (i 2)).trans ?_)
    unfold gateRows gated
    by_cases hj : (i 2).val < 16
    · rw [dif_pos hj, dif_pos hj]
      exact h (i 0) (i 1) (⟨(i 2).val, hj⟩ : Fin 16)
    · rw [dif_neg hj, dif_neg hj]

set_option maxHeartbeats 1000000 in
theorem proj_eq (c : Dev nD) : (Value.res_out1 m c : S8x4096x3072.Idx → EReal) = projRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  proj_of_rows m c _ fun b s j => by
    pointwise [Value.res_out1, Value.res_main_v50, mainCol, against, rowNorm, shifted, normed, resRow, stream]

set_option maxHeartbeats 1000000 in
theorem gate_eq (c : Dev nD) : (Value.res_out2 m c : S8x4096x128.Idx → EReal) = gateRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Value.res_out2 Value.res_main_v52
  exact gate_of_rows m c _ _ nought fun b s j => by
    pointwise [against, rowNorm, shifted, normed, resRow, stream]

set_option maxHeartbeats 1000000 in
/-- The reference's run, its results a row at a time. -/
theorem run_rows (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = resRows (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v50) = projRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v52) = gateRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (res_of_rows m c _ fun b s d => by
      pointwise [resRow, stream]), (h c).2.1.trans (proj_eq m c), (h c).2.2.1.trans (gate_eq m c), (h c).2.2.2⟩) (Value.run m ρ)

/-! The rows of arrays that agree. -/

theorem res_congr {x x' : S8x4096x1024.Idx → EReal} {y y' : S2x8x4096x1024.Idx → EReal} {w w' : S8x4096x128.Idx → EReal} {md md' : S8x6x1024.Idx → EReal}
    (h0 : x = x') (h1 : y = y') (h2 : w = w') (h3 : md = md') :
    resRows x y w md = resRows x' y' w' md' := by
  subst h0 h1 h2 h3; rfl
theorem proj_congr {x x' : S8x4096x1024.Idx → EReal} {y y' : S2x8x4096x1024.Idx → EReal} {w w' : S8x4096x128.Idx → EReal} {md md' : S8x6x1024.Idx → EReal} {g g' : S1024.Idx → EReal} {ma ma' : S8x6x1024.Idx → EReal} {W W' : S1024x3088.Idx → EReal}
    (h0 : x = x') (h1 : y = y') (h2 : w = w') (h3 : md = md') (h4 : g = g') (h5 : ma = ma') (h6 : W = W') :
    projRows x y w md g ma W = projRows x' y' w' md' g' ma' W' := by
  subst h0 h1 h2 h3 h4 h5 h6; rfl
theorem gate_congr {x x' : S8x4096x1024.Idx → EReal} {y y' : S2x8x4096x1024.Idx → EReal} {w w' : S8x4096x128.Idx → EReal} {md md' : S8x6x1024.Idx → EReal} {g g' : S1024.Idx → EReal} {ma ma' : S8x6x1024.Idx → EReal} {W W' : S1024x3088.Idx → EReal}
    (h0 : x = x') (h1 : y = y') (h2 : w = w') (h3 : md = md') (h4 : g = g') (h5 : ma = ma') (h6 : W = W') :
    gateRows x y w md g ma W = gateRows x' y' w' md' g' ma' W' := by
  subst h0 h1 h2 h3 h4 h5 h6; rfl

end Cert.Proof.EvenRows
end
-- ==== Proof.lean ====
/-
  The certificate. Of the dispatch: every run of the kernel ends with its arguments as they were, every counter at nought
  and the rows twice over in its result, which is what the reference computes. Of the experts: every run ends with its
  arguments as they were, every counter at nought and, over the extended reals, what the reference computes. Of the final
  norm and of the input projections of the odd layers, the third and the first: the same.
-/
module

public import proofs.«01_k».proof.Defs
public import proofs.«01_k».proof.Proof.Gen.Kernel
public import proofs.«01_k».proof.Proof.Gen.Reference.Run
public import proofs.«01_k».proof.Proof.Gen.ReferenceIdeal.Run
public import proofs.«01_k».proof.Proof.Gen.Experts
public import proofs.«01_k».proof.Proof.ExpertReference
public import proofs.«01_k».proof.Proof.Value
public import proofs.«01_k».proof.Proof.Gen.Final
public import proofs.«01_k».proof.Proof.FinalReference
public import proofs.«01_k».proof.Proof.Gen.Project
public import proofs.«01_k».proof.Proof.ProjectReference
public import proofs.«01_k».proof.Proof.Gen.EvenProject
public import proofs.«01_k».proof.Proof.EvenReference
public import proofs.«01_k».proof.Proof.Gen.FirstProject
public import proofs.«01_k».proof.Proof.FirstReference

@[expose] public section

noncomputable section

namespace Cert.Proof

open Idealize.ShloMosaic Idealize.SL.Sem
open Cert.Proof.Dispatch Cert.Proof.Value

/-- The two programs have the same text: a run of one is a run of the other. -/
theorem sig_eq : Cert.Kernel.sig = Cert.KernelIdeal.sig := rfl
set_option maxRecDepth 65536 in
theorem threads_eq : (Cert.Kernel.threads (F := Bits)) = Cert.KernelIdeal.threads (F := Bits) := rfl
set_option maxRecDepth 65536 in
theorem defs_eq : (Cert.Kernel.defs (F := Bits)) = Cert.KernelIdeal.defs (F := Bits) := rfl

/-- The rows twice over. -/
abbrev twice (x : Cert.KernelIdeal.S32768x256.Idx → BitVec 32) : Cert.KernelIdeal.S65536x256.Idx → BitVec 32 :=
  concatenate Cert.KernelIdeal.S65536x256 0 [⟨Cert.KernelIdeal.S32768x256, x⟩, ⟨Cert.KernelIdeal.S32768x256, x⟩]
    Cert.Reference.Gen.concatenates_S32768x256_S32768x256_S65536x256_d0

theorem run_bits (m : (ℓ : Loc Cert.Kernel.nD Cert.Kernel.τ Cert.Kernel.sig) → Buf (Elt Bits) ℓ) (ρ : Dev Cert.Kernel.nD → PrngReg)
    (hY : PreOK (F := Bits) m) :
    θ_run (Cert.Kernel.defs (F := Bits)) (Cert.Kernel.threads (F := Bits)) ⟨m, fun _ => 0, ρ⟩ (QC (F := Bits) m) := by
  rw [threads_eq, defs_eq]
  exact run_main (F := Bits) m ρ hY

theorem frame_k : Cert.quiescent_Kernel := fun m ρ h =>
  (θ_run Cert.Kernel.defs _ _).mono (fun _ h => ⟨fun c => ⟨(h.1 c).1, (h.1 c).2.1⟩, h.2⟩) (run_bits m ρ (preOK m h))
theorem frame_i : Cert.quiescent_KernelIdeal := fun m ρ h =>
  (θ_run Cert.KernelIdeal.defs _ _).mono (fun _ h => ⟨fun c => ⟨(h.1 c).1, (h.1 c).2.1⟩, h.2⟩) (run_main m ρ (preOK m h))
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)
theorem frame_r : Cert.quiescent_Reference := fun m ρ _ =>
  (θ_run Cert.Reference.defs _ _).mono (fun r h => ⟨fun c => (h c).2, sem_eq_zero_of_no_sems (by decide) r.2⟩)
    (Cert.Reference.Value.run m ρ)

theorem algebraic : Cert.algebraic_KernelIdeal_ReferenceIdeal := fun m ρ m' ρ' h hag =>
  ⟨fun c => twice (m (xLoc c)),
    (θ_run Cert.KernelIdeal.defs _ _).mono
      (fun _ h' c => ⟨res_eq m (preOK m h) c _ (h'.1 c).2.2 _, (h'.1 c).1, (h'.1 c).2.1⟩) (run_main m ρ (preOK m h)),
    (θ_run Cert.ReferenceIdeal.defs _ _).mono
      (fun _ h' c => ⟨(h' c).1.trans (congrArg twice (hag c).1), (h' c).2⟩) (Cert.ReferenceIdeal.Value.run m' ρ')⟩

theorem bitexact : Cert.bitexact_Kernel_Reference := fun m ρ m' ρ' h hag =>
  ⟨fun c => twice (m (xLoc c)),
    (θ_run Cert.Kernel.defs _ _).mono
      (fun _ h' c => ⟨res_eq m (preOK m h) c _ (h'.1 c).2.2 _, (h'.1 c).1, (h'.1 c).2.1⟩) (run_bits m ρ (preOK m h)),
    (θ_run Cert.Reference.defs _ _).mono
      (fun _ h' c => ⟨(h' c).1.trans (congrArg twice (hag c).1), (h' c).2⟩) (Cert.Reference.Value.run m' ρ')⟩

/-! ## The experts -/

set_option maxRecDepth 65536 in
theorem experts_body_eq : @Cert.Experts.cc0_grouped_swiglu_experts Bits _ _ = @Cert.ExpertsIdeal.cc0_grouped_swiglu_experts Bits _ _ := (rfl)
set_option maxRecDepth 65536 in
theorem experts_defs0_eq : (Cert.Experts.defs₀ (F := Bits)) = Cert.ExpertsIdeal.defs₀ (F := Bits) := by
  unfold Cert.Experts.defs₀ Cert.ExpertsIdeal.defs₀
  rw [experts_body_eq]
  refine congrArg Defs.onTc (funext fun l => funext fun a => ?_)
  match l, a with
  | 0, (t, s) => rfl
set_option maxRecDepth 65536 in
theorem experts_main_eq : (Cert.Experts.main (F := Bits)) = Cert.ExpertsIdeal.main (F := Bits) := (rfl)
set_option maxRecDepth 65536 in
/-- As with the dispatch, the two programs have the same text. -/
theorem experts_defs_eq : (Cert.Experts.defs (F := Bits)) = Cert.ExpertsIdeal.defs (F := Bits) :=
  congrArg (Pipeline.defs (Cert.ExpertsIdeal.pcfgs (F := Bits))) experts_defs0_eq

theorem run_experts_bits (m : (ℓ : Loc Cert.Experts.nD Cert.Experts.τ Cert.Experts.sig) → Buf (Elt Bits) ℓ) (ρ : Dev Cert.Experts.nD → PrngReg)
    (hO : Experts.Ok (F := Bits) m) :
    θ_run (Cert.Experts.defs (F := Bits)) (onTc (τ := Cert.Experts.τ) (Cert.Experts.main (F := Bits))) ⟨m, fun _ => 0, ρ⟩ (Experts.QE (F := Bits) m hO) := by
  rw [experts_main_eq, experts_defs_eq]
  exact Experts.run_main (F := Bits) m ρ hO

theorem frame_e : Cert.quiescent_Experts := fun m ρ h =>
  (θ_run Cert.Experts.defs _ _).mono
    (fun r h' => ⟨fun c => Experts.kept (F := Bits) m (Experts.ok_of (F := Bits) m h) r h' c, h'.2⟩) (run_experts_bits m ρ (Experts.ok_of (F := Bits) m h))
theorem frame_ei : Cert.quiescent_ExpertsIdeal := fun m ρ h =>
  (θ_run Cert.ExpertsIdeal.defs _ _).mono
    (fun r h' => ⟨fun c => Experts.kept m (Experts.ok_of m h) r h' c, h'.2⟩) (Experts.run_main m ρ (Experts.ok_of m h))
theorem frame_er : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run m ρ)

theorem algebraic_e : Cert.algebraic_ExpertsIdeal_ExpertsReferenceIdeal := fun m ρ m' ρ' h hag =>
  ⟨fun c => ExpertRows.outcome m c,
    (θ_run Cert.ExpertsIdeal.defs _ _).mono
      (fun r h' c => ⟨(h'.1.out_eq c 5).trans (ExpertRows.out_outcome m h c), Experts.kept m (Experts.ok_of m h) r h' c⟩) (Experts.run_main m ρ (Experts.ok_of m h)),
    (θ_run Cert.ExpertsReferenceIdeal.defs _ _).mono
      (fun _ h' c => ⟨(h' c).1.trans ((ExpertRows.res_eq m' c).trans
        (ExpertRows.total_congr (hag c).1 (hag c).2.1 (hag c).2.2.1 (hag c).2.2.2.1 (hag c).2.2.2.2.1 (hag c).2.2.2.2.2.1 (hag c).2.2.2.2.2.2.1 (hag c).2.2.2.2.2.2.2)), (h' c).2⟩)
      (Cert.ExpertsReferenceIdeal.Value.run m' ρ')⟩

/-! ## The final norm -/

set_option maxRecDepth 65536 in
theorem final_body_eq : @Cert.Final.cc0_residual_final_norm Bits _ _ = @Cert.FinalIdeal.cc0_residual_final_norm Bits _ _ := (rfl)
set_option maxRecDepth 65536 in
theorem final_defs0_eq : (Cert.Final.defs₀ (F := Bits)) = Cert.FinalIdeal.defs₀ (F := Bits) := by
  unfold Cert.Final.defs₀ Cert.FinalIdeal.defs₀
  rw [final_body_eq]
  refine congrArg Defs.onTc (funext fun l => funext fun a => ?_)
  match l, a with
  | 0, (t, s) => rfl
set_option maxRecDepth 65536 in
theorem final_main_eq : (Cert.Final.main (F := Bits)) = Cert.FinalIdeal.main (F := Bits) := (rfl)
set_option maxRecDepth 65536 in
/-- As with the experts, the two programs have the same text. -/
theorem final_defs_eq : (Cert.Final.defs (F := Bits)) = Cert.FinalIdeal.defs (F := Bits) :=
  congrArg (Pipeline.defs (Cert.FinalIdeal.pcfgs (F := Bits))) final_defs0_eq

theorem frame_f : Cert.quiescent_Final := fun m ρ _ => by
  rw [final_main_eq, final_defs_eq]
  exact Cert.FinalIdeal.Gen.frame (F := Bits) m ρ
theorem frame_fi : Cert.quiescent_FinalIdeal := fun m ρ _ => Cert.FinalIdeal.Gen.frame m ρ
theorem frame_fr : Cert.quiescent_FinalReferenceIdeal := fun m ρ _ =>
  (θ_run Cert.FinalReferenceIdeal.defs _ _).mono (fun r h => ⟨fun c => (h c).2, sem_eq_zero_of_no_sems (by decide) r.2⟩)
    (Cert.FinalReferenceIdeal.Value.run m ρ)

theorem algebraic_f : Cert.algebraic_FinalIdeal_FinalReferenceIdeal := fun m ρ m' ρ' _ hag =>
  ⟨fun c => FinalRows.outcome m c,
    (θ_run Cert.FinalIdeal.defs _ _).mono
      (fun r h' c => ⟨(h' c).1.trans (FinalRows.out_arr m c), (h' c).2⟩) (Cert.FinalIdeal.Value.run_blocks m ρ),
    (θ_run Cert.FinalReferenceIdeal.defs _ _).mono
      (fun _ h' c => ⟨(h' c).1.trans ((FinalRows.res_eq m' c).trans
        (FinalRows.rows_congr (hag c).1 (hag c).2.1 (hag c).2.2.1 (hag c).2.2.2.1 (hag c).2.2.2.2)), (h' c).2⟩)
      (Cert.FinalReferenceIdeal.Value.run m' ρ')⟩

/-! ## The odd layers' input projection -/

set_option maxRecDepth 65536 in
theorem project_body_eq : @Cert.Project.cc0_norm_mod_in_projection Bits _ _ = @Cert.ProjectIdeal.cc0_norm_mod_in_projection Bits _ _ := (rfl)
set_option maxRecDepth 65536 in
theorem project_defs0_eq : (Cert.Project.defs₀ (F := Bits)) = Cert.ProjectIdeal.defs₀ (F := Bits) := by
  unfold Cert.Project.defs₀ Cert.ProjectIdeal.defs₀
  rw [project_body_eq]
  refine congrArg Defs.onTc (funext fun l => funext fun a => ?_)
  match l, a with
  | 0, (t, s) => rfl
set_option maxRecDepth 65536 in
theorem project_main_eq : (Cert.Project.main (F := Bits)) = Cert.ProjectIdeal.main (F := Bits) := (rfl)
set_option maxRecDepth 65536 in
/-- Again the two programs have the same text. -/
theorem project_defs_eq : (Cert.Project.defs (F := Bits)) = Cert.ProjectIdeal.defs (F := Bits) :=
  congrArg (Pipeline.defs (Cert.ProjectIdeal.pcfgs (F := Bits))) project_defs0_eq

theorem frame_p : Cert.quiescent_Project := fun m ρ _ => by
  rw [project_main_eq, project_defs_eq]
  exact Cert.ProjectIdeal.Gen.frame (F := Bits) m ρ
theorem frame_pi : Cert.quiescent_ProjectIdeal := fun m ρ _ => Cert.ProjectIdeal.Gen.frame m ρ
theorem frame_pr : Cert.quiescent_ProjectReferenceIdeal := fun m ρ _ =>
  (θ_run Cert.ProjectReferenceIdeal.defs _ _).mono (fun r h => ⟨fun c => (h c).2.2, sem_eq_zero_of_no_sems (by decide) r.2⟩)
    (Cert.ProjectReferenceIdeal.Value.run m ρ)

theorem algebraic_p : Cert.algebraic_ProjectIdeal_ProjectReferenceIdeal := fun m ρ m' ρ' _ hag =>
  ⟨fun c => ProjectRows.resOutcome m c, fun c => ProjectRows.projOutcome m c,
    (θ_run Cert.ProjectIdeal.defs _ _).mono
      (fun r h' c => ⟨(h' c).1.trans (ProjectRows.res_arr m c), (h' c).2.1.trans (ProjectRows.proj_arr m c), (h' c).2.2⟩)
      (Cert.ProjectIdeal.Value.run_blocks m ρ),
    (θ_run Cert.ProjectReferenceIdeal.defs _ _).mono
      (fun _ h' c => ⟨(h' c).1.trans (ProjectRows.res_congr (hag c).1 (hag c).2.1 (hag c).2.2.1 (hag c).2.2.2.1),
        (h' c).2.1.trans (ProjectRows.proj_congr (hag c).1 (hag c).2.1 (hag c).2.2.1 (hag c).2.2.2.1 (hag c).2.2.2.2.1 (hag c).2.2.2.2.2.1 (hag c).2.2.2.2.2.2),
        (h' c).2.2⟩)
      (ProjectRows.run_rows m' ρ')⟩

/-! ## The third layer's input projection -/

set_option maxRecDepth 65536 in
theorem even_body_eq : @Cert.EvenProject.cc0_norm_mod_in_projection Bits _ _ = @Cert.EvenProjectIdeal.cc0_norm_mod_in_projection Bits _ _ := (rfl)
set_option maxRecDepth 65536 in
theorem even_defs0_eq : (Cert.EvenProject.defs₀ (F := Bits)) = Cert.EvenProjectIdeal.defs₀ (F := Bits) := by
  unfold Cert.EvenProject.defs₀ Cert.EvenProjectIdeal.defs₀
  rw [even_body_eq]
  refine congrArg Defs.onTc (funext fun l => funext fun a => ?_)
  match l, a with
  | 0, (t, s) => rfl
set_option maxRecDepth 65536 in
theorem even_main_eq : (Cert.EvenProject.main (F := Bits)) = Cert.EvenProjectIdeal.main (F := Bits) := (rfl)
set_option maxRecDepth 65536 in
theorem even_defs_eq : (Cert.EvenProject.defs (F := Bits)) = Cert.EvenProjectIdeal.defs (F := Bits) :=
  congrArg (Pipeline.defs (Cert.EvenProjectIdeal.pcfgs (F := Bits))) even_defs0_eq

theorem even_frame : Cert.quiescent_EvenProject := fun m ρ _ => by
  rw [even_main_eq, even_defs_eq]
  exact Cert.EvenProjectIdeal.Gen.frame (F := Bits) m ρ
theorem even_frame_i : Cert.quiescent_EvenProjectIdeal := fun m ρ _ => Cert.EvenProjectIdeal.Gen.frame m ρ
theorem even_frame_r : Cert.quiescent_EvenProjectReferenceIdeal := fun m ρ _ =>
  (θ_run Cert.EvenProjectReferenceIdeal.defs _ _).mono (fun r h => ⟨fun c => (h c).2.2.2, sem_eq_zero_of_no_sems (by decide) r.2⟩)
    (Cert.EvenProjectReferenceIdeal.Value.run m ρ)

theorem even_algebraic : Cert.algebraic_EvenProjectIdeal_EvenProjectReferenceIdeal := fun m ρ m' ρ' _ hag =>
  ⟨fun c => EvenRows.resRows (m ((c.tc : Thread Cert.EvenProjectIdeal.nD Cert.EvenProjectIdeal.τ).loc Cert.EvenProjectIdeal.main_arg0)) (m ((c.tc : Thread Cert.EvenProjectIdeal.nD Cert.EvenProjectIdeal.τ).loc Cert.EvenProjectIdeal.main_arg1)) (m ((c.tc : Thread Cert.EvenProjectIdeal.nD Cert.EvenProjectIdeal.τ).loc Cert.EvenProjectIdeal.main_arg2)) (m ((c.tc : Thread Cert.EvenProjectIdeal.nD Cert.EvenProjectIdeal.τ).loc Cert.EvenProjectIdeal.main_arg3)), fun c => EvenRows.projRows (m ((c.tc : Thread Cert.EvenProjectIdeal.nD Cert.EvenProjectIdeal.τ).loc Cert.EvenProjectIdeal.main_arg0)) (m ((c.tc : Thread Cert.EvenProjectIdeal.nD Cert.EvenProjectIdeal.τ).loc Cert.EvenProjectIdeal.main_arg1)) (m ((c.tc : Thread Cert.EvenProjectIdeal.nD Cert.EvenProjectIdeal.τ).loc Cert.EvenProjectIdeal.main_arg2)) (m ((c.tc : Thread Cert.EvenProjectIdeal.nD Cert.EvenProjectIdeal.τ).loc Cert.EvenProjectIdeal.main_arg3)) (m ((c.tc : Thread Cert.EvenProjectIdeal.nD Cert.EvenProjectIdeal.τ).loc Cert.EvenProjectIdeal.main_arg4)) (m ((c.tc : Thread Cert.EvenProjectIdeal.nD Cert.EvenProjectIdeal.τ).loc Cert.EvenProjectIdeal.main_arg5)) (m ((c.tc : Thread Cert.EvenProjectIdeal.nD Cert.EvenProjectIdeal.τ).loc Cert.EvenProjectIdeal.main_arg6)), fun c => EvenRows.gateRows (m ((c.tc : Thread Cert.EvenProjectIdeal.nD Cert.EvenProjectIdeal.τ).loc Cert.EvenProjectIdeal.main_arg0)) (m ((c.tc : Thread Cert.EvenProjectIdeal.nD Cert.EvenProjectIdeal.τ).loc Cert.EvenProjectIdeal.main_arg1)) (m ((c.tc : Thread Cert.EvenProjectIdeal.nD Cert.EvenProjectIdeal.τ).loc Cert.EvenProjectIdeal.main_arg2)) (m ((c.tc : Thread Cert.EvenProjectIdeal.nD Cert.EvenProjectIdeal.τ).loc Cert.EvenProjectIdeal.main_arg3)) (m ((c.tc : Thread Cert.EvenProjectIdeal.nD Cert.EvenProjectIdeal.τ).loc Cert.EvenProjectIdeal.main_arg4)) (m ((c.tc : Thread Cert.EvenProjectIdeal.nD Cert.EvenProjectIdeal.τ).loc Cert.EvenProjectIdeal.main_arg5)) (m ((c.tc : Thread Cert.EvenProjectIdeal.nD Cert.EvenProjectIdeal.τ).loc Cert.EvenProjectIdeal.main_arg6)),
    (θ_run Cert.EvenProjectIdeal.defs _ _).mono
      (fun r h' c => ⟨(h' c).1.trans (EvenRows.res_arr m c), (h' c).2.1.trans (EvenRows.proj_arr m c), (h' c).2.2.1.trans (EvenRows.gate_arr m c), (h' c).2.2.2⟩)
      (Cert.EvenProjectIdeal.Value.run_blocks m ρ),
    (θ_run Cert.EvenProjectReferenceIdeal.defs _ _).mono
      (fun _ h' c => ⟨(h' c).1.trans (EvenRows.res_congr (hag c).1 (hag c).2.1 (hag c).2.2.1 (hag c).2.2.2.1), (h' c).2.1.trans (EvenRows.proj_congr (hag c).1 (hag c).2.1 (hag c).2.2.1 (hag c).2.2.2.1 (hag c).2.2.2.2.1 (hag c).2.2.2.2.2.1 (hag c).2.2.2.2.2.2), (h' c).2.2.1.trans (EvenRows.gate_congr (hag c).1 (hag c).2.1 (hag c).2.2.1 (hag c).2.2.2.1 (hag c).2.2.2.2.1 (hag c).2.2.2.2.2.1 (hag c).2.2.2.2.2.2), (h' c).2.2.2⟩)
      (EvenRows.run_rows m' ρ')⟩

/-! ## The first layer's input projection -/

set_option maxRecDepth 65536 in
theorem first_body_eq : @Cert.FirstProject.cc0_norm_mod_in_projection Bits _ _ = @Cert.FirstProjectIdeal.cc0_norm_mod_in_projection Bits _ _ := (rfl)
set_option maxRecDepth 65536 in
theorem first_defs0_eq : (Cert.FirstProject.defs₀ (F := Bits)) = Cert.FirstProjectIdeal.defs₀ (F := Bits) := by
  unfold Cert.FirstProject.defs₀ Cert.FirstProjectIdeal.defs₀
  rw [first_body_eq]
  refine congrArg Defs.onTc (funext fun l => funext fun a => ?_)
  match l, a with
  | 0, (t, s) => rfl
set_option maxRecDepth 65536 in
theorem first_main_eq : (Cert.FirstProject.main (F := Bits)) = Cert.FirstProjectIdeal.main (F := Bits) := (rfl)
set_option maxRecDepth 65536 in
theorem first_defs_eq : (Cert.FirstProject.defs (F := Bits)) = Cert.FirstProjectIdeal.defs (F := Bits) :=
  congrArg (Pipeline.defs (Cert.FirstProjectIdeal.pcfgs (F := Bits))) first_defs0_eq

theorem first_frame : Cert.quiescent_FirstProject := fun m ρ _ => by
  rw [first_main_eq, first_defs_eq]
  exact Cert.FirstProjectIdeal.Gen.frame (F := Bits) m ρ
theorem first_frame_i : Cert.quiescent_FirstProjectIdeal := fun m ρ _ => Cert.FirstProjectIdeal.Gen.frame m ρ
theorem first_frame_r : Cert.quiescent_FirstProjectReferenceIdeal := fun m ρ _ =>
  (θ_run Cert.FirstProjectReferenceIdeal.defs _ _).mono (fun r h => ⟨fun c => (h c).2.2, sem_eq_zero_of_no_sems (by decide) r.2⟩)
    (Cert.FirstProjectReferenceIdeal.Value.run m ρ)

theorem first_algebraic : Cert.algebraic_FirstProjectIdeal_FirstProjectReferenceIdeal := fun m ρ m' ρ' _ hag =>
  ⟨fun c => FirstRows.projRows (m ((c.tc : Thread Cert.FirstProjectIdeal.nD Cert.FirstProjectIdeal.τ).loc Cert.FirstProjectIdeal.main_arg0)) (m ((c.tc : Thread Cert.FirstProjectIdeal.nD Cert.FirstProjectIdeal.τ).loc Cert.FirstProjectIdeal.main_arg1)) (m ((c.tc : Thread Cert.FirstProjectIdeal.nD Cert.FirstProjectIdeal.τ).loc Cert.FirstProjectIdeal.main_arg2)) (m ((c.tc : Thread Cert.FirstProjectIdeal.nD Cert.FirstProjectIdeal.τ).loc Cert.FirstProjectIdeal.main_arg3)), fun c => FirstRows.gateRows (m ((c.tc : Thread Cert.FirstProjectIdeal.nD Cert.FirstProjectIdeal.τ).loc Cert.FirstProjectIdeal.main_arg0)) (m ((c.tc : Thread Cert.FirstProjectIdeal.nD Cert.FirstProjectIdeal.τ).loc Cert.FirstProjectIdeal.main_arg1)) (m ((c.tc : Thread Cert.FirstProjectIdeal.nD Cert.FirstProjectIdeal.τ).loc Cert.FirstProjectIdeal.main_arg2)) (m ((c.tc : Thread Cert.FirstProjectIdeal.nD Cert.FirstProjectIdeal.τ).loc Cert.FirstProjectIdeal.main_arg3)),
    (θ_run Cert.FirstProjectIdeal.defs _ _).mono
      (fun r h' c => ⟨(h' c).1.trans (FirstRows.proj_arr m c), (h' c).2.1.trans (FirstRows.gate_arr m c), (h' c).2.2⟩)
      (Cert.FirstProjectIdeal.Value.run_blocks m ρ),
    (θ_run Cert.FirstProjectReferenceIdeal.defs _ _).mono
      (fun _ h' c => ⟨(h' c).1.trans (FirstRows.proj_congr (hag c).1 (hag c).2.1 (hag c).2.2.1 (hag c).2.2.2), (h' c).2.1.trans (FirstRows.gate_congr (hag c).1 (hag c).2.1 (hag c).2.2.1 (hag c).2.2.2), (h' c).2.2⟩)
      (FirstRows.run_rows m' ρ')⟩

theorem claim : Cert.Claim :=
  ⟨Cert.Kernel.Gen.facts, Cert.KernelIdeal.Gen.facts, Cert.ReferenceIdeal.Gen.facts, Cert.Reference.Gen.facts, Cert.Experts.Gen.facts,
    Cert.ExpertsIdeal.Gen.facts, Cert.ExpertsReferenceIdeal.Gen.facts, Cert.Final.Gen.facts, Cert.FinalIdeal.Gen.facts, Cert.FinalReferenceIdeal.Gen.facts,
    Cert.Project.Gen.facts, Cert.ProjectIdeal.Gen.facts, Cert.ProjectReferenceIdeal.Gen.facts,
    Cert.EvenProject.Gen.facts, Cert.EvenProjectIdeal.Gen.facts, Cert.EvenProjectReferenceIdeal.Gen.facts,
    Cert.FirstProject.Gen.facts, Cert.FirstProjectIdeal.Gen.facts, Cert.FirstProjectReferenceIdeal.Gen.facts,
    Cert.Pre_distinct_slots.Gen.facts, Cert.Pre_expert_tables.Gen.facts,
    frame_k, frame_i, frame_ri, fun m ρ _ => frame_ri m ρ trivial, frame_r, frame_e, frame_ei, frame_er,
    frame_f, frame_fi, frame_fr, frame_p, frame_pi, frame_pr,
    even_frame, even_frame_i, even_frame_r, first_frame, first_frame_i, first_frame_r, trivial, algebraic, bitexact,
    trivial, algebraic_e, trivial, algebraic_f, trivial, algebraic_p, trivial, even_algebraic, trivial, first_algebraic⟩

end Cert.Proof

end
